-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_HgrnInDx (m : (ℓ : Loc Cert.HgrnInDx.nD Cert.HgrnInDx.τ Cert.HgrnInDx.sig) → Buf (Elt Bits) ℓ) : Prop :=
  True

def Pre_HgrnInDxIdeal (m : (ℓ : Loc Cert.HgrnInDxIdeal.nD Cert.HgrnInDxIdeal.τ Cert.HgrnInDxIdeal.sig) → Buf (Elt Ideal) ℓ) : Prop :=
  True

def Pre_HgrnInDxRefIdeal (m : (ℓ : Loc Cert.HgrnInDxRefIdeal.nD Cert.HgrnInDxRefIdeal.τ Cert.HgrnInDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_AdamQNorm (m : (ℓ : Loc Cert.AdamQNorm.nD Cert.AdamQNorm.τ Cert.AdamQNorm.sig) → Buf (Elt Bits) ℓ) : Prop :=
  True

def Pre_AdamQNormIdeal (m : (ℓ : Loc Cert.AdamQNormIdeal.nD Cert.AdamQNormIdeal.τ Cert.AdamQNormIdeal.sig) → Buf (Elt Ideal) ℓ) : Prop :=
  True

def Pre_AdamQNormRefIdeal (m : (ℓ : Loc Cert.AdamQNormRefIdeal.nD Cert.AdamQNormRefIdeal.τ Cert.AdamQNormRefIdeal.sig) → Buf (Elt Ideal) ℓ) : Prop :=
  True

def Pre_AdamKvNorm (m : (ℓ : Loc Cert.AdamKvNorm.nD Cert.AdamKvNorm.τ Cert.AdamKvNorm.sig) → Buf (Elt Bits) ℓ) : Prop :=
  True

def Pre_AdamKvNormIdeal (m : (ℓ : Loc Cert.AdamKvNormIdeal.nD Cert.AdamKvNormIdeal.τ Cert.AdamKvNormIdeal.sig) → Buf (Elt Ideal) ℓ) : Prop :=
  True

def Pre_AdamKvNormRefIdeal (m : (ℓ : Loc Cert.AdamKvNormRefIdeal.nD Cert.AdamKvNormRefIdeal.τ Cert.AdamKvNormRefIdeal.sig) → Buf (Elt Ideal) ℓ) : Prop :=
  True

def Pre_AdamGNorm (m : (ℓ : Loc Cert.AdamGNorm.nD Cert.AdamGNorm.τ Cert.AdamGNorm.sig) → Buf (Elt Bits) ℓ) : Prop :=
  True

def Pre_AdamGNormIdeal (m : (ℓ : Loc Cert.AdamGNormIdeal.nD Cert.AdamGNormIdeal.τ Cert.AdamGNormIdeal.sig) → Buf (Elt Ideal) ℓ) : Prop :=
  True

def Pre_AdamGNormRefIdeal (m : (ℓ : Loc Cert.AdamGNormRefIdeal.nD Cert.AdamGNormRefIdeal.τ Cert.AdamGNormRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamMlaIn (m : (ℓ : Loc Cert.AdamMlaIn.nD Cert.AdamMlaIn.τ Cert.AdamMlaIn.sig) → Buf (Elt Bits) ℓ) : Prop :=
  True

def Pre_AdamMlaInIdeal (m : (ℓ : Loc Cert.AdamMlaInIdeal.nD Cert.AdamMlaInIdeal.τ Cert.AdamMlaInIdeal.sig) → Buf (Elt Ideal) ℓ) : Prop :=
  True

def Pre_AdamMlaInRefIdeal (m : (ℓ : Loc Cert.AdamMlaInRefIdeal.nD Cert.AdamMlaInRefIdeal.τ Cert.AdamMlaInRefIdeal.sig) → Buf (Elt Ideal) ℓ) : Prop :=
  True

def Pre_AdamMlaQ (m : (ℓ : Loc Cert.AdamMlaQ.nD Cert.AdamMlaQ.τ Cert.AdamMlaQ.sig) → Buf (Elt Bits) ℓ) : Prop :=
  True

def Pre_AdamMlaQIdeal (m : (ℓ : Loc Cert.AdamMlaQIdeal.nD Cert.AdamMlaQIdeal.τ Cert.AdamMlaQIdeal.sig) → Buf (Elt Ideal) ℓ) : Prop :=
  True

def Pre_AdamMlaQRefIdeal (m : (ℓ : Loc Cert.AdamMlaQRefIdeal.nD Cert.AdamMlaQRefIdeal.τ Cert.AdamMlaQRefIdeal.sig) → Buf (Elt Ideal) ℓ) : Prop :=
  True

def Pre_AdamMlaKv (m : (ℓ : Loc Cert.AdamMlaKv.nD Cert.AdamMlaKv.τ Cert.AdamMlaKv.sig) → Buf (Elt Bits) ℓ) : Prop :=
  True

def Pre_AdamMlaKvIdeal (m : (ℓ : Loc Cert.AdamMlaKvIdeal.nD Cert.AdamMlaKvIdeal.τ Cert.AdamMlaKvIdeal.sig) → Buf (Elt Ideal) ℓ) : Prop :=
  True

def Pre_AdamMlaKvRefIdeal (m : (ℓ : Loc Cert.AdamMlaKvRefIdeal.nD Cert.AdamMlaKvRefIdeal.τ Cert.AdamMlaKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamHgrnIn (m : (ℓ : Loc Cert.AdamHgrnIn.nD Cert.AdamHgrnIn.τ Cert.AdamHgrnIn.sig) → Buf (Elt Bits) ℓ) : Prop :=
  True

def Pre_AdamHgrnInIdeal (m : (ℓ : Loc Cert.AdamHgrnInIdeal.nD Cert.AdamHgrnInIdeal.τ Cert.AdamHgrnInIdeal.sig) → Buf (Elt Ideal) ℓ) : Prop :=
  True

def Pre_AdamHgrnInRefIdeal (m : (ℓ : Loc Cert.AdamHgrnInRefIdeal.nD Cert.AdamHgrnInRefIdeal.τ Cert.AdamHgrnInRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_ModFirst (m : (ℓ : Loc Cert.ModFirst.nD Cert.ModFirst.τ Cert.ModFirst.sig) → Buf (Elt Bits) ℓ) : Prop :=
  True

def Pre_ModFirstIdeal (m : (ℓ : Loc Cert.ModFirstIdeal.nD Cert.ModFirstIdeal.τ Cert.ModFirstIdeal.sig) → Buf (Elt Ideal) ℓ) : Prop :=
  True

def Pre_ModFirstRefIdeal (m : (ℓ : Loc Cert.ModFirstRefIdeal.nD Cert.ModFirstRefIdeal.τ Cert.ModFirstRefIdeal.sig) → Buf (Elt Ideal) ℓ) : Prop :=
  True

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossRefIdeal (m : (ℓ : Loc Cert.LnLossRefIdeal.nD Cert.LnLossRefIdeal.τ Cert.LnLossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2)
      ∧ r.2.mem ((c.tc : Thread Cert.FfnOutDx.nD Cert.FfnOutDx.τ).loc Cert.FfnOutDx.main_arg3) = m ((c.tc : Thread Cert.FfnOutDx.nD Cert.FfnOutDx.τ).loc Cert.FfnOutDx.main_arg3))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2)
      ∧ r.2.mem ((c.tc : Thread Cert.FfnOutDxIdeal.nD Cert.FfnOutDxIdeal.τ).loc Cert.FfnOutDxIdeal.main_arg3) = m ((c.tc : Thread Cert.FfnOutDxIdeal.nD Cert.FfnOutDxIdeal.τ).loc Cert.FfnOutDxIdeal.main_arg3))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2)
      ∧ r.2.mem ((c.tc : Thread Cert.FfnOutDxRefIdeal.nD Cert.FfnOutDxRefIdeal.τ).loc Cert.FfnOutDxRefIdeal.main_arg3) = m ((c.tc : Thread Cert.FfnOutDxRefIdeal.nD Cert.FfnOutDxRefIdeal.τ).loc Cert.FfnOutDxRefIdeal.main_arg3))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1))
      ∧ r.2.sem = fun _ => 0)

def quiescent_HgrnInDx [hHgrnInDx : Cert.HgrnInDx.Facts] : Prop :=
  ∀ (m : (ℓ : Loc Cert.HgrnInDx.nD Cert.HgrnInDx.τ Cert.HgrnInDx.sig) → Buf (Elt Bits) ℓ) (g : Dev Cert.HgrnInDx.nD → PrngReg), Pre_HgrnInDx m →
    θ_run (Cert.HgrnInDx.defs (F := Bits)) (onTc (τ := Cert.HgrnInDx.τ) (Cert.HgrnInDx.main (F := Bits))) ⟨m, fun _ => 0, g⟩ (fun r => (∀ c : Dev Cert.HgrnInDx.nD,
      r.2.mem ((c.tc : Thread Cert.HgrnInDx.nD Cert.HgrnInDx.τ).loc Cert.HgrnInDx.main_arg0) = m ((c.tc : Thread Cert.HgrnInDx.nD Cert.HgrnInDx.τ).loc Cert.HgrnInDx.main_arg0)
      ∧ r.2.mem ((c.tc : Thread Cert.HgrnInDx.nD Cert.HgrnInDx.τ).loc Cert.HgrnInDx.main_arg1) = m ((c.tc : Thread Cert.HgrnInDx.nD Cert.HgrnInDx.τ).loc Cert.HgrnInDx.main_arg1)
      ∧ r.2.mem ((c.tc : Thread Cert.HgrnInDx.nD Cert.HgrnInDx.τ).loc Cert.HgrnInDx.main_arg2) = m ((c.tc : Thread Cert.HgrnInDx.nD Cert.HgrnInDx.τ).loc Cert.HgrnInDx.main_arg2)
      ∧ r.2.mem ((c.tc : Thread Cert.HgrnInDx.nD Cert.HgrnInDx.τ).loc Cert.HgrnInDx.main_arg3) = m ((c.tc : Thread Cert.HgrnInDx.nD Cert.HgrnInDx.τ).loc Cert.HgrnInDx.main_arg3)
      ∧ r.2.mem ((c.tc : Thread Cert.HgrnInDx.nD Cert.HgrnInDx.τ).loc Cert.HgrnInDx.main_arg4) = m ((c.tc : Thread Cert.HgrnInDx.nD Cert.HgrnInDx.τ).loc Cert.HgrnInDx.main_arg4))
      ∧ r.2.sem = fun _ => 0)

def quiescent_HgrnInDxIdeal [hHgrnInDxIdeal : Cert.HgrnInDxIdeal.Facts] : Prop :=
  ∀ (m : (ℓ : Loc Cert.HgrnInDxIdeal.nD Cert.HgrnInDxIdeal.τ Cert.HgrnInDxIdeal.sig) → Buf (Elt Ideal) ℓ) (g : Dev Cert.HgrnInDxIdeal.nD → PrngReg), Pre_HgrnInDxIdeal m →
    θ_run (Cert.HgrnInDxIdeal.defs (F := Ideal)) (onTc (τ := Cert.HgrnInDxIdeal.τ) (Cert.HgrnInDxIdeal.main (F := Ideal))) ⟨m, fun _ => 0, g⟩ (fun r => (∀ c : Dev Cert.HgrnInDxIdeal.nD,
      r.2.mem ((c.tc : Thread Cert.HgrnInDxIdeal.nD Cert.HgrnInDxIdeal.τ).loc Cert.HgrnInDxIdeal.main_arg0) = m ((c.tc : Thread Cert.HgrnInDxIdeal.nD Cert.HgrnInDxIdeal.τ).loc Cert.HgrnInDxIdeal.main_arg0)
      ∧ r.2.mem ((c.tc : Thread Cert.HgrnInDxIdeal.nD Cert.HgrnInDxIdeal.τ).loc Cert.HgrnInDxIdeal.main_arg1) = m ((c.tc : Thread Cert.HgrnInDxIdeal.nD Cert.HgrnInDxIdeal.τ).loc Cert.HgrnInDxIdeal.main_arg1)
      ∧ r.2.mem ((c.tc : Thread Cert.HgrnInDxIdeal.nD Cert.HgrnInDxIdeal.τ).loc Cert.HgrnInDxIdeal.main_arg2) = m ((c.tc : Thread Cert.HgrnInDxIdeal.nD Cert.HgrnInDxIdeal.τ).loc Cert.HgrnInDxIdeal.main_arg2)
      ∧ r.2.mem ((c.tc : Thread Cert.HgrnInDxIdeal.nD Cert.HgrnInDxIdeal.τ).loc Cert.HgrnInDxIdeal.main_arg3) = m ((c.tc : Thread Cert.HgrnInDxIdeal.nD Cert.HgrnInDxIdeal.τ).loc Cert.HgrnInDxIdeal.main_arg3)
      ∧ r.2.mem ((c.tc : Thread Cert.HgrnInDxIdeal.nD Cert.HgrnInDxIdeal.τ).loc Cert.HgrnInDxIdeal.main_arg4) = m ((c.tc : Thread Cert.HgrnInDxIdeal.nD Cert.HgrnInDxIdeal.τ).loc Cert.HgrnInDxIdeal.main_arg4))
      ∧ r.2.sem = fun _ => 0)

def quiescent_HgrnInDxRefIdeal [hHgrnInDxRefIdeal : Cert.HgrnInDxRefIdeal.Facts] : Prop :=
  ∀ (m : (ℓ : Loc Cert.HgrnInDxRefIdeal.nD Cert.HgrnInDxRefIdeal.τ Cert.HgrnInDxRefIdeal.sig) → Buf (Elt Ideal) ℓ) (g : Dev Cert.HgrnInDxRefIdeal.nD → PrngReg), Pre_HgrnInDxRefIdeal m →
    θ_run (Cert.HgrnInDxRefIdeal.defs (F := Ideal)) (onTc (τ := Cert.HgrnInDxRefIdeal.τ) (Cert.HgrnInDxRefIdeal.main (F := Ideal))) ⟨m, fun _ => 0, g⟩ (fun r => (∀ c : Dev Cert.HgrnInDxRefIdeal.nD,
      r.2.mem ((c.tc : Thread Cert.HgrnInDxRefIdeal.nD Cert.HgrnInDxRefIdeal.τ).loc Cert.HgrnInDxRefIdeal.main_arg0) = m ((c.tc : Thread Cert.HgrnInDxRefIdeal.nD Cert.HgrnInDxRefIdeal.τ).loc Cert.HgrnInDxRefIdeal.main_arg0)
      ∧ r.2.mem ((c.tc : Thread Cert.HgrnInDxRefIdeal.nD Cert.HgrnInDxRefIdeal.τ).loc Cert.HgrnInDxRefIdeal.main_arg1) = m ((c.tc : Thread Cert.HgrnInDxRefIdeal.nD Cert.HgrnInDxRefIdeal.τ).loc Cert.HgrnInDxRefIdeal.main_arg1)
      ∧ r.2.mem ((c.tc : Thread Cert.HgrnInDxRefIdeal.nD Cert.HgrnInDxRefIdeal.τ).loc Cert.HgrnInDxRefIdeal.main_arg2) = m ((c.tc : Thread Cert.HgrnInDxRefIdeal.nD Cert.HgrnInDxRefIdeal.τ).loc Cert.HgrnInDxRefIdeal.main_arg2)
      ∧ r.2.mem ((c.tc : Thread Cert.HgrnInDxRefIdeal.nD Cert.HgrnInDxRefIdeal.τ).loc Cert.HgrnInDxRefIdeal.main_arg3) = m ((c.tc : Thread Cert.HgrnInDxRefIdeal.nD Cert.HgrnInDxRefIdeal.τ).loc Cert.HgrnInDxRefIdeal.main_arg3)
      ∧ r.2.mem ((c.tc : Thread Cert.HgrnInDxRefIdeal.nD Cert.HgrnInDxRefIdeal.τ).loc Cert.HgrnInDxRefIdeal.main_arg4) = m ((c.tc : Thread Cert.HgrnInDxRefIdeal.nD Cert.HgrnInDxRefIdeal.τ).loc Cert.HgrnInDxRefIdeal.main_arg4))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_AdamQNorm [hAdamQNorm : Cert.AdamQNorm.Facts] : Prop :=
  ∀ (m : (ℓ : Loc Cert.AdamQNorm.nD Cert.AdamQNorm.τ Cert.AdamQNorm.sig) → Buf (Elt Bits) ℓ) (g : Dev Cert.AdamQNorm.nD → PrngReg), Pre_AdamQNorm m →
    θ_run (Cert.AdamQNorm.defs (F := Bits)) (onTc (τ := Cert.AdamQNorm.τ) (Cert.AdamQNorm.main (F := Bits))) ⟨m, fun _ => 0, g⟩ (fun r => (∀ c : Dev Cert.AdamQNorm.nD,
      r.2.mem ((c.tc : Thread Cert.AdamQNorm.nD Cert.AdamQNorm.τ).loc Cert.AdamQNorm.main_arg0) = m ((c.tc : Thread Cert.AdamQNorm.nD Cert.AdamQNorm.τ).loc Cert.AdamQNorm.main_arg0)
      ∧ r.2.mem ((c.tc : Thread Cert.AdamQNorm.nD Cert.AdamQNorm.τ).loc Cert.AdamQNorm.main_arg1) = m ((c.tc : Thread Cert.AdamQNorm.nD Cert.AdamQNorm.τ).loc Cert.AdamQNorm.main_arg1)
      ∧ r.2.mem ((c.tc : Thread Cert.AdamQNorm.nD Cert.AdamQNorm.τ).loc Cert.AdamQNorm.main_arg2) = m ((c.tc : Thread Cert.AdamQNorm.nD Cert.AdamQNorm.τ).loc Cert.AdamQNorm.main_arg2)
      ∧ r.2.mem ((c.tc : Thread Cert.AdamQNorm.nD Cert.AdamQNorm.τ).loc Cert.AdamQNorm.main_arg3) = m ((c.tc : Thread Cert.AdamQNorm.nD Cert.AdamQNorm.τ).loc Cert.AdamQNorm.main_arg3))
      ∧ r.2.sem = fun _ => 0)

def quiescent_AdamQNormIdeal [hAdamQNormIdeal : Cert.AdamQNormIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg), Pre_AdamQNormIdeal m →
    θ_run (Cert.AdamQNormIdeal.defs (F := Ideal)) (onTc (τ := Cert.AdamQNormIdeal.τ) (Cert.AdamQNormIdeal.main (F := Ideal))) ⟨m, fun _ => 0, g⟩ (fun r => (∀ c : Dev Cert.AdamQNormIdeal.nD,
      r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
      ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
      ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
      ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ r.2.sem = fun _ => 0)

def quiescent_AdamQNormRefIdeal [hAdamQNormRefIdeal : Cert.AdamQNormRefIdeal.Facts] : Prop :=
  ∀ (m : (ℓ : Loc Cert.AdamQNormRefIdeal.nD Cert.AdamQNormRefIdeal.τ Cert.AdamQNormRefIdeal.sig) → Buf (Elt Ideal) ℓ) (g : Dev Cert.AdamQNormRefIdeal.nD → PrngReg), Pre_AdamQNormRefIdeal m →
    θ_run (Cert.AdamQNormRefIdeal.defs (F := Ideal)) (onTc (τ := Cert.AdamQNormRefIdeal.τ) (Cert.AdamQNormRefIdeal.main (F := Ideal))) ⟨m, fun _ => 0, g⟩ (fun r => (∀ c : Dev Cert.AdamQNormRefIdeal.nD,
      r.2.mem ((c.tc : Thread Cert.AdamQNormRefIdeal.nD Cert.AdamQNormRefIdeal.τ).loc Cert.AdamQNormRefIdeal.main_arg0) = m ((c.tc : Thread Cert.AdamQNormRefIdeal.nD Cert.AdamQNormRefIdeal.τ).loc Cert.AdamQNormRefIdeal.main_arg0)
      ∧ r.2.mem ((c.tc : Thread Cert.AdamQNormRefIdeal.nD Cert.AdamQNormRefIdeal.τ).loc Cert.AdamQNormRefIdeal.main_arg1) = m ((c.tc : Thread Cert.AdamQNormRefIdeal.nD Cert.AdamQNormRefIdeal.τ).loc Cert.AdamQNormRefIdeal.main_arg1)
      ∧ r.2.mem ((c.tc : Thread Cert.AdamQNormRefIdeal.nD Cert.AdamQNormRefIdeal.τ).loc Cert.AdamQNormRefIdeal.main_arg2) = m ((c.tc : Thread Cert.AdamQNormRefIdeal.nD Cert.AdamQNormRefIdeal.τ).loc Cert.AdamQNormRefIdeal.main_arg2)
      ∧ r.2.mem ((c.tc : Thread Cert.AdamQNormRefIdeal.nD Cert.AdamQNormRefIdeal.τ).loc Cert.AdamQNormRefIdeal.main_arg3) = m ((c.tc : Thread Cert.AdamQNormRefIdeal.nD Cert.AdamQNormRefIdeal.τ).loc Cert.AdamQNormRefIdeal.main_arg3))
      ∧ r.2.sem = fun _ => 0)

def quiescent_AdamKvNorm [hAdamKvNorm : Cert.AdamKvNorm.Facts] : Prop :=
  ∀ (m : (ℓ : Loc Cert.AdamKvNorm.nD Cert.AdamKvNorm.τ Cert.AdamKvNorm.sig) → Buf (Elt Bits) ℓ) (g : Dev Cert.AdamKvNorm.nD → PrngReg), Pre_AdamKvNorm m →
    θ_run (Cert.AdamKvNorm.defs (F := Bits)) (onTc (τ := Cert.AdamKvNorm.τ) (Cert.AdamKvNorm.main (F := Bits))) ⟨m, fun _ => 0, g⟩ (fun r => (∀ c : Dev Cert.AdamKvNorm.nD,
      r.2.mem ((c.tc : Thread Cert.AdamKvNorm.nD Cert.AdamKvNorm.τ).loc Cert.AdamKvNorm.main_arg0) = m ((c.tc : Thread Cert.AdamKvNorm.nD Cert.AdamKvNorm.τ).loc Cert.AdamKvNorm.main_arg0)
      ∧ r.2.mem ((c.tc : Thread Cert.AdamKvNorm.nD Cert.AdamKvNorm.τ).loc Cert.AdamKvNorm.main_arg1) = m ((c.tc : Thread Cert.AdamKvNorm.nD Cert.AdamKvNorm.τ).loc Cert.AdamKvNorm.main_arg1)
      ∧ r.2.mem ((c.tc : Thread Cert.AdamKvNorm.nD Cert.AdamKvNorm.τ).loc Cert.AdamKvNorm.main_arg2) = m ((c.tc : Thread Cert.AdamKvNorm.nD Cert.AdamKvNorm.τ).loc Cert.AdamKvNorm.main_arg2)
      ∧ r.2.mem ((c.tc : Thread Cert.AdamKvNorm.nD Cert.AdamKvNorm.τ).loc Cert.AdamKvNorm.main_arg3) = m ((c.tc : Thread Cert.AdamKvNorm.nD Cert.AdamKvNorm.τ).loc Cert.AdamKvNorm.main_arg3))
      ∧ r.2.sem = fun _ => 0)

def quiescent_AdamKvNormIdeal [hAdamKvNormIdeal : Cert.AdamKvNormIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg), Pre_AdamKvNormIdeal m →
    θ_run (Cert.AdamKvNormIdeal.defs (F := Ideal)) (onTc (τ := Cert.AdamKvNormIdeal.τ) (Cert.AdamKvNormIdeal.main (F := Ideal))) ⟨m, fun _ => 0, g⟩ (fun r => (∀ c : Dev Cert.AdamKvNormIdeal.nD,
      r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
      ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
      ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
      ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ r.2.sem = fun _ => 0)

def quiescent_AdamKvNormRefIdeal [hAdamKvNormRefIdeal : Cert.AdamKvNormRefIdeal.Facts] : Prop :=
  ∀ (m : (ℓ : Loc Cert.AdamKvNormRefIdeal.nD Cert.AdamKvNormRefIdeal.τ Cert.AdamKvNormRefIdeal.sig) → Buf (Elt Ideal) ℓ) (g : Dev Cert.AdamKvNormRefIdeal.nD → PrngReg), Pre_AdamKvNormRefIdeal m →
    θ_run (Cert.AdamKvNormRefIdeal.defs (F := Ideal)) (onTc (τ := Cert.AdamKvNormRefIdeal.τ) (Cert.AdamKvNormRefIdeal.main (F := Ideal))) ⟨m, fun _ => 0, g⟩ (fun r => (∀ c : Dev Cert.AdamKvNormRefIdeal.nD,
      r.2.mem ((c.tc : Thread Cert.AdamKvNormRefIdeal.nD Cert.AdamKvNormRefIdeal.τ).loc Cert.AdamKvNormRefIdeal.main_arg0) = m ((c.tc : Thread Cert.AdamKvNormRefIdeal.nD Cert.AdamKvNormRefIdeal.τ).loc Cert.AdamKvNormRefIdeal.main_arg0)
      ∧ r.2.mem ((c.tc : Thread Cert.AdamKvNormRefIdeal.nD Cert.AdamKvNormRefIdeal.τ).loc Cert.AdamKvNormRefIdeal.main_arg1) = m ((c.tc : Thread Cert.AdamKvNormRefIdeal.nD Cert.AdamKvNormRefIdeal.τ).loc Cert.AdamKvNormRefIdeal.main_arg1)
      ∧ r.2.mem ((c.tc : Thread Cert.AdamKvNormRefIdeal.nD Cert.AdamKvNormRefIdeal.τ).loc Cert.AdamKvNormRefIdeal.main_arg2) = m ((c.tc : Thread Cert.AdamKvNormRefIdeal.nD Cert.AdamKvNormRefIdeal.τ).loc Cert.AdamKvNormRefIdeal.main_arg2)
      ∧ r.2.mem ((c.tc : Thread Cert.AdamKvNormRefIdeal.nD Cert.AdamKvNormRefIdeal.τ).loc Cert.AdamKvNormRefIdeal.main_arg3) = m ((c.tc : Thread Cert.AdamKvNormRefIdeal.nD Cert.AdamKvNormRefIdeal.τ).loc Cert.AdamKvNormRefIdeal.main_arg3))
      ∧ r.2.sem = fun _ => 0)

def quiescent_AdamGNorm [hAdamGNorm : Cert.AdamGNorm.Facts] : Prop :=
  ∀ (m : (ℓ : Loc Cert.AdamGNorm.nD Cert.AdamGNorm.τ Cert.AdamGNorm.sig) → Buf (Elt Bits) ℓ) (g : Dev Cert.AdamGNorm.nD → PrngReg), Pre_AdamGNorm m →
    θ_run (Cert.AdamGNorm.defs (F := Bits)) (onTc (τ := Cert.AdamGNorm.τ) (Cert.AdamGNorm.main (F := Bits))) ⟨m, fun _ => 0, g⟩ (fun r => (∀ c : Dev Cert.AdamGNorm.nD,
      r.2.mem ((c.tc : Thread Cert.AdamGNorm.nD Cert.AdamGNorm.τ).loc Cert.AdamGNorm.main_arg0) = m ((c.tc : Thread Cert.AdamGNorm.nD Cert.AdamGNorm.τ).loc Cert.AdamGNorm.main_arg0)
      ∧ r.2.mem ((c.tc : Thread Cert.AdamGNorm.nD Cert.AdamGNorm.τ).loc Cert.AdamGNorm.main_arg1) = m ((c.tc : Thread Cert.AdamGNorm.nD Cert.AdamGNorm.τ).loc Cert.AdamGNorm.main_arg1)
      ∧ r.2.mem ((c.tc : Thread Cert.AdamGNorm.nD Cert.AdamGNorm.τ).loc Cert.AdamGNorm.main_arg2) = m ((c.tc : Thread Cert.AdamGNorm.nD Cert.AdamGNorm.τ).loc Cert.AdamGNorm.main_arg2)
      ∧ r.2.mem ((c.tc : Thread Cert.AdamGNorm.nD Cert.AdamGNorm.τ).loc Cert.AdamGNorm.main_arg3) = m ((c.tc : Thread Cert.AdamGNorm.nD Cert.AdamGNorm.τ).loc Cert.AdamGNorm.main_arg3))
      ∧ r.2.sem = fun _ => 0)

def quiescent_AdamGNormIdeal [hAdamGNormIdeal : Cert.AdamGNormIdeal.Facts] : Prop :=
  ∀ (m : (ℓ : Loc Cert.AdamGNormIdeal.nD Cert.AdamGNormIdeal.τ Cert.AdamGNormIdeal.sig) → Buf (Elt Ideal) ℓ) (g : Dev Cert.AdamGNormIdeal.nD → PrngReg), Pre_AdamGNormIdeal m →
    θ_run (Cert.AdamGNormIdeal.defs (F := Ideal)) (onTc (τ := Cert.AdamGNormIdeal.τ) (Cert.AdamGNormIdeal.main (F := Ideal))) ⟨m, fun _ => 0, g⟩ (fun r => (∀ c : Dev Cert.AdamGNormIdeal.nD,
      r.2.mem ((c.tc : Thread Cert.AdamGNormIdeal.nD Cert.AdamGNormIdeal.τ).loc Cert.AdamGNormIdeal.main_arg0) = m ((c.tc : Thread Cert.AdamGNormIdeal.nD Cert.AdamGNormIdeal.τ).loc Cert.AdamGNormIdeal.main_arg0)
      ∧ r.2.mem ((c.tc : Thread Cert.AdamGNormIdeal.nD Cert.AdamGNormIdeal.τ).loc Cert.AdamGNormIdeal.main_arg1) = m ((c.tc : Thread Cert.AdamGNormIdeal.nD Cert.AdamGNormIdeal.τ).loc Cert.AdamGNormIdeal.main_arg1)
      ∧ r.2.mem ((c.tc : Thread Cert.AdamGNormIdeal.nD Cert.AdamGNormIdeal.τ).loc Cert.AdamGNormIdeal.main_arg2) = m ((c.tc : Thread Cert.AdamGNormIdeal.nD Cert.AdamGNormIdeal.τ).loc Cert.AdamGNormIdeal.main_arg2)
      ∧ r.2.mem ((c.tc : Thread Cert.AdamGNormIdeal.nD Cert.AdamGNormIdeal.τ).loc Cert.AdamGNormIdeal.main_arg3) = m ((c.tc : Thread Cert.AdamGNormIdeal.nD Cert.AdamGNormIdeal.τ).loc Cert.AdamGNormIdeal.main_arg3))
      ∧ r.2.sem = fun _ => 0)

def quiescent_AdamGNormRefIdeal [hAdamGNormRefIdeal : Cert.AdamGNormRefIdeal.Facts] : Prop :=
  ∀ (m : (ℓ : Loc Cert.AdamGNormRefIdeal.nD Cert.AdamGNormRefIdeal.τ Cert.AdamGNormRefIdeal.sig) → Buf (Elt Ideal) ℓ) (g : Dev Cert.AdamGNormRefIdeal.nD → PrngReg), Pre_AdamGNormRefIdeal m →
    θ_run (Cert.AdamGNormRefIdeal.defs (F := Ideal)) (onTc (τ := Cert.AdamGNormRefIdeal.τ) (Cert.AdamGNormRefIdeal.main (F := Ideal))) ⟨m, fun _ => 0, g⟩ (fun r => (∀ c : Dev Cert.AdamGNormRefIdeal.nD,
      r.2.mem ((c.tc : Thread Cert.AdamGNormRefIdeal.nD Cert.AdamGNormRefIdeal.τ).loc Cert.AdamGNormRefIdeal.main_arg0) = m ((c.tc : Thread Cert.AdamGNormRefIdeal.nD Cert.AdamGNormRefIdeal.τ).loc Cert.AdamGNormRefIdeal.main_arg0)
      ∧ r.2.mem ((c.tc : Thread Cert.AdamGNormRefIdeal.nD Cert.AdamGNormRefIdeal.τ).loc Cert.AdamGNormRefIdeal.main_arg1) = m ((c.tc : Thread Cert.AdamGNormRefIdeal.nD Cert.AdamGNormRefIdeal.τ).loc Cert.AdamGNormRefIdeal.main_arg1)
      ∧ r.2.mem ((c.tc : Thread Cert.AdamGNormRefIdeal.nD Cert.AdamGNormRefIdeal.τ).loc Cert.AdamGNormRefIdeal.main_arg2) = m ((c.tc : Thread Cert.AdamGNormRefIdeal.nD Cert.AdamGNormRefIdeal.τ).loc Cert.AdamGNormRefIdeal.main_arg2)
      ∧ r.2.mem ((c.tc : Thread Cert.AdamGNormRefIdeal.nD Cert.AdamGNormRefIdeal.τ).loc Cert.AdamGNormRefIdeal.main_arg3) = m ((c.tc : Thread Cert.AdamGNormRefIdeal.nD Cert.AdamGNormRefIdeal.τ).loc Cert.AdamGNormRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamMlaIn [hAdamMlaIn : Cert.AdamMlaIn.Facts] : Prop :=
  ∀ (m : (ℓ : Loc Cert.AdamMlaIn.nD Cert.AdamMlaIn.τ Cert.AdamMlaIn.sig) → Buf (Elt Bits) ℓ) (g : Dev Cert.AdamMlaIn.nD → PrngReg), Pre_AdamMlaIn m →
    θ_run (Cert.AdamMlaIn.defs (F := Bits)) (onTc (τ := Cert.AdamMlaIn.τ) (Cert.AdamMlaIn.main (F := Bits))) ⟨m, fun _ => 0, g⟩ (fun r => (∀ c : Dev Cert.AdamMlaIn.nD,
      r.2.mem ((c.tc : Thread Cert.AdamMlaIn.nD Cert.AdamMlaIn.τ).loc Cert.AdamMlaIn.main_arg0) = m ((c.tc : Thread Cert.AdamMlaIn.nD Cert.AdamMlaIn.τ).loc Cert.AdamMlaIn.main_arg0)
      ∧ r.2.mem ((c.tc : Thread Cert.AdamMlaIn.nD Cert.AdamMlaIn.τ).loc Cert.AdamMlaIn.main_arg1) = m ((c.tc : Thread Cert.AdamMlaIn.nD Cert.AdamMlaIn.τ).loc Cert.AdamMlaIn.main_arg1)
      ∧ r.2.mem ((c.tc : Thread Cert.AdamMlaIn.nD Cert.AdamMlaIn.τ).loc Cert.AdamMlaIn.main_arg2) = m ((c.tc : Thread Cert.AdamMlaIn.nD Cert.AdamMlaIn.τ).loc Cert.AdamMlaIn.main_arg2)
      ∧ r.2.mem ((c.tc : Thread Cert.AdamMlaIn.nD Cert.AdamMlaIn.τ).loc Cert.AdamMlaIn.main_arg3) = m ((c.tc : Thread Cert.AdamMlaIn.nD Cert.AdamMlaIn.τ).loc Cert.AdamMlaIn.main_arg3)
      ∧ r.2.mem ((c.tc : Thread Cert.AdamMlaIn.nD Cert.AdamMlaIn.τ).loc Cert.AdamMlaIn.main_arg4) = m ((c.tc : Thread Cert.AdamMlaIn.nD Cert.AdamMlaIn.τ).loc Cert.AdamMlaIn.main_arg4))
      ∧ r.2.sem = fun _ => 0)

def quiescent_AdamMlaInIdeal [hAdamMlaInIdeal : Cert.AdamMlaInIdeal.Facts] : Prop :=
  ∀ (m : (ℓ : Loc Cert.AdamMlaInIdeal.nD Cert.AdamMlaInIdeal.τ Cert.AdamMlaInIdeal.sig) → Buf (Elt Ideal) ℓ) (g : Dev Cert.AdamMlaInIdeal.nD → PrngReg), Pre_AdamMlaInIdeal m →
    θ_run (Cert.AdamMlaInIdeal.defs (F := Ideal)) (onTc (τ := Cert.AdamMlaInIdeal.τ) (Cert.AdamMlaInIdeal.main (F := Ideal))) ⟨m, fun _ => 0, g⟩ (fun r => (∀ c : Dev Cert.AdamMlaInIdeal.nD,
      r.2.mem ((c.tc : Thread Cert.AdamMlaInIdeal.nD Cert.AdamMlaInIdeal.τ).loc Cert.AdamMlaInIdeal.main_arg0) = m ((c.tc : Thread Cert.AdamMlaInIdeal.nD Cert.AdamMlaInIdeal.τ).loc Cert.AdamMlaInIdeal.main_arg0)
      ∧ r.2.mem ((c.tc : Thread Cert.AdamMlaInIdeal.nD Cert.AdamMlaInIdeal.τ).loc Cert.AdamMlaInIdeal.main_arg1) = m ((c.tc : Thread Cert.AdamMlaInIdeal.nD Cert.AdamMlaInIdeal.τ).loc Cert.AdamMlaInIdeal.main_arg1)
      ∧ r.2.mem ((c.tc : Thread Cert.AdamMlaInIdeal.nD Cert.AdamMlaInIdeal.τ).loc Cert.AdamMlaInIdeal.main_arg2) = m ((c.tc : Thread Cert.AdamMlaInIdeal.nD Cert.AdamMlaInIdeal.τ).loc Cert.AdamMlaInIdeal.main_arg2)
      ∧ r.2.mem ((c.tc : Thread Cert.AdamMlaInIdeal.nD Cert.AdamMlaInIdeal.τ).loc Cert.AdamMlaInIdeal.main_arg3) = m ((c.tc : Thread Cert.AdamMlaInIdeal.nD Cert.AdamMlaInIdeal.τ).loc Cert.AdamMlaInIdeal.main_arg3)
      ∧ r.2.mem ((c.tc : Thread Cert.AdamMlaInIdeal.nD Cert.AdamMlaInIdeal.τ).loc Cert.AdamMlaInIdeal.main_arg4) = m ((c.tc : Thread Cert.AdamMlaInIdeal.nD Cert.AdamMlaInIdeal.τ).loc Cert.AdamMlaInIdeal.main_arg4))
      ∧ r.2.sem = fun _ => 0)

def quiescent_AdamMlaInRefIdeal [hAdamMlaInRefIdeal : Cert.AdamMlaInRefIdeal.Facts] : Prop :=
  ∀ (m : (ℓ : Loc Cert.AdamMlaInRefIdeal.nD Cert.AdamMlaInRefIdeal.τ Cert.AdamMlaInRefIdeal.sig) → Buf (Elt Ideal) ℓ) (g : Dev Cert.AdamMlaInRefIdeal.nD → PrngReg), Pre_AdamMlaInRefIdeal m →
    θ_run (Cert.AdamMlaInRefIdeal.defs (F := Ideal)) (onTc (τ := Cert.AdamMlaInRefIdeal.τ) (Cert.AdamMlaInRefIdeal.main (F := Ideal))) ⟨m, fun _ => 0, g⟩ (fun r => (∀ c : Dev Cert.AdamMlaInRefIdeal.nD,
      r.2.mem ((c.tc : Thread Cert.AdamMlaInRefIdeal.nD Cert.AdamMlaInRefIdeal.τ).loc Cert.AdamMlaInRefIdeal.main_arg0) = m ((c.tc : Thread Cert.AdamMlaInRefIdeal.nD Cert.AdamMlaInRefIdeal.τ).loc Cert.AdamMlaInRefIdeal.main_arg0)
      ∧ r.2.mem ((c.tc : Thread Cert.AdamMlaInRefIdeal.nD Cert.AdamMlaInRefIdeal.τ).loc Cert.AdamMlaInRefIdeal.main_arg1) = m ((c.tc : Thread Cert.AdamMlaInRefIdeal.nD Cert.AdamMlaInRefIdeal.τ).loc Cert.AdamMlaInRefIdeal.main_arg1)
      ∧ r.2.mem ((c.tc : Thread Cert.AdamMlaInRefIdeal.nD Cert.AdamMlaInRefIdeal.τ).loc Cert.AdamMlaInRefIdeal.main_arg2) = m ((c.tc : Thread Cert.AdamMlaInRefIdeal.nD Cert.AdamMlaInRefIdeal.τ).loc Cert.AdamMlaInRefIdeal.main_arg2)
      ∧ r.2.mem ((c.tc : Thread Cert.AdamMlaInRefIdeal.nD Cert.AdamMlaInRefIdeal.τ).loc Cert.AdamMlaInRefIdeal.main_arg3) = m ((c.tc : Thread Cert.AdamMlaInRefIdeal.nD Cert.AdamMlaInRefIdeal.τ).loc Cert.AdamMlaInRefIdeal.main_arg3)
      ∧ r.2.mem ((c.tc : Thread Cert.AdamMlaInRefIdeal.nD Cert.AdamMlaInRefIdeal.τ).loc Cert.AdamMlaInRefIdeal.main_arg4) = m ((c.tc : Thread Cert.AdamMlaInRefIdeal.nD Cert.AdamMlaInRefIdeal.τ).loc Cert.AdamMlaInRefIdeal.main_arg4))
      ∧ r.2.sem = fun _ => 0)

def quiescent_AdamMlaQ [hAdamMlaQ : Cert.AdamMlaQ.Facts] : Prop :=
  ∀ (m : (ℓ : Loc Cert.AdamMlaQ.nD Cert.AdamMlaQ.τ Cert.AdamMlaQ.sig) → Buf (Elt Bits) ℓ) (g : Dev Cert.AdamMlaQ.nD → PrngReg), Pre_AdamMlaQ m →
    θ_run (Cert.AdamMlaQ.defs (F := Bits)) (onTc (τ := Cert.AdamMlaQ.τ) (Cert.AdamMlaQ.main (F := Bits))) ⟨m, fun _ => 0, g⟩ (fun r => (∀ c : Dev Cert.AdamMlaQ.nD,
      r.2.mem ((c.tc : Thread Cert.AdamMlaQ.nD Cert.AdamMlaQ.τ).loc Cert.AdamMlaQ.main_arg0) = m ((c.tc : Thread Cert.AdamMlaQ.nD Cert.AdamMlaQ.τ).loc Cert.AdamMlaQ.main_arg0)
      ∧ r.2.mem ((c.tc : Thread Cert.AdamMlaQ.nD Cert.AdamMlaQ.τ).loc Cert.AdamMlaQ.main_arg1) = m ((c.tc : Thread Cert.AdamMlaQ.nD Cert.AdamMlaQ.τ).loc Cert.AdamMlaQ.main_arg1)
      ∧ r.2.mem ((c.tc : Thread Cert.AdamMlaQ.nD Cert.AdamMlaQ.τ).loc Cert.AdamMlaQ.main_arg2) = m ((c.tc : Thread Cert.AdamMlaQ.nD Cert.AdamMlaQ.τ).loc Cert.AdamMlaQ.main_arg2)
      ∧ r.2.mem ((c.tc : Thread Cert.AdamMlaQ.nD Cert.AdamMlaQ.τ).loc Cert.AdamMlaQ.main_arg3) = m ((c.tc : Thread Cert.AdamMlaQ.nD Cert.AdamMlaQ.τ).loc Cert.AdamMlaQ.main_arg3)
      ∧ r.2.mem ((c.tc : Thread Cert.AdamMlaQ.nD Cert.AdamMlaQ.τ).loc Cert.AdamMlaQ.main_arg4) = m ((c.tc : Thread Cert.AdamMlaQ.nD Cert.AdamMlaQ.τ).loc Cert.AdamMlaQ.main_arg4))
      ∧ r.2.sem = fun _ => 0)

def quiescent_AdamMlaQIdeal [hAdamMlaQIdeal : Cert.AdamMlaQIdeal.Facts] : Prop :=
  ∀ (m : (ℓ : Loc Cert.AdamMlaQIdeal.nD Cert.AdamMlaQIdeal.τ Cert.AdamMlaQIdeal.sig) → Buf (Elt Ideal) ℓ) (g : Dev Cert.AdamMlaQIdeal.nD → PrngReg), Pre_AdamMlaQIdeal m →
    θ_run (Cert.AdamMlaQIdeal.defs (F := Ideal)) (onTc (τ := Cert.AdamMlaQIdeal.τ) (Cert.AdamMlaQIdeal.main (F := Ideal))) ⟨m, fun _ => 0, g⟩ (fun r => (∀ c : Dev Cert.AdamMlaQIdeal.nD,
      r.2.mem ((c.tc : Thread Cert.AdamMlaQIdeal.nD Cert.AdamMlaQIdeal.τ).loc Cert.AdamMlaQIdeal.main_arg0) = m ((c.tc : Thread Cert.AdamMlaQIdeal.nD Cert.AdamMlaQIdeal.τ).loc Cert.AdamMlaQIdeal.main_arg0)
      ∧ r.2.mem ((c.tc : Thread Cert.AdamMlaQIdeal.nD Cert.AdamMlaQIdeal.τ).loc Cert.AdamMlaQIdeal.main_arg1) = m ((c.tc : Thread Cert.AdamMlaQIdeal.nD Cert.AdamMlaQIdeal.τ).loc Cert.AdamMlaQIdeal.main_arg1)
      ∧ r.2.mem ((c.tc : Thread Cert.AdamMlaQIdeal.nD Cert.AdamMlaQIdeal.τ).loc Cert.AdamMlaQIdeal.main_arg2) = m ((c.tc : Thread Cert.AdamMlaQIdeal.nD Cert.AdamMlaQIdeal.τ).loc Cert.AdamMlaQIdeal.main_arg2)
      ∧ r.2.mem ((c.tc : Thread Cert.AdamMlaQIdeal.nD Cert.AdamMlaQIdeal.τ).loc Cert.AdamMlaQIdeal.main_arg3) = m ((c.tc : Thread Cert.AdamMlaQIdeal.nD Cert.AdamMlaQIdeal.τ).loc Cert.AdamMlaQIdeal.main_arg3)
      ∧ r.2.mem ((c.tc : Thread Cert.AdamMlaQIdeal.nD Cert.AdamMlaQIdeal.τ).loc Cert.AdamMlaQIdeal.main_arg4) = m ((c.tc : Thread Cert.AdamMlaQIdeal.nD Cert.AdamMlaQIdeal.τ).loc Cert.AdamMlaQIdeal.main_arg4))
      ∧ r.2.sem = fun _ => 0)

def quiescent_AdamMlaQRefIdeal [hAdamMlaQRefIdeal : Cert.AdamMlaQRefIdeal.Facts] : Prop :=
  ∀ (m : (ℓ : Loc Cert.AdamMlaQRefIdeal.nD Cert.AdamMlaQRefIdeal.τ Cert.AdamMlaQRefIdeal.sig) → Buf (Elt Ideal) ℓ) (g : Dev Cert.AdamMlaQRefIdeal.nD → PrngReg), Pre_AdamMlaQRefIdeal m →
    θ_run (Cert.AdamMlaQRefIdeal.defs (F := Ideal)) (onTc (τ := Cert.AdamMlaQRefIdeal.τ) (Cert.AdamMlaQRefIdeal.main (F := Ideal))) ⟨m, fun _ => 0, g⟩ (fun r => (∀ c : Dev Cert.AdamMlaQRefIdeal.nD,
      r.2.mem ((c.tc : Thread Cert.AdamMlaQRefIdeal.nD Cert.AdamMlaQRefIdeal.τ).loc Cert.AdamMlaQRefIdeal.main_arg0) = m ((c.tc : Thread Cert.AdamMlaQRefIdeal.nD Cert.AdamMlaQRefIdeal.τ).loc Cert.AdamMlaQRefIdeal.main_arg0)
      ∧ r.2.mem ((c.tc : Thread Cert.AdamMlaQRefIdeal.nD Cert.AdamMlaQRefIdeal.τ).loc Cert.AdamMlaQRefIdeal.main_arg1) = m ((c.tc : Thread Cert.AdamMlaQRefIdeal.nD Cert.AdamMlaQRefIdeal.τ).loc Cert.AdamMlaQRefIdeal.main_arg1)
      ∧ r.2.mem ((c.tc : Thread Cert.AdamMlaQRefIdeal.nD Cert.AdamMlaQRefIdeal.τ).loc Cert.AdamMlaQRefIdeal.main_arg2) = m ((c.tc : Thread Cert.AdamMlaQRefIdeal.nD Cert.AdamMlaQRefIdeal.τ).loc Cert.AdamMlaQRefIdeal.main_arg2)
      ∧ r.2.mem ((c.tc : Thread Cert.AdamMlaQRefIdeal.nD Cert.AdamMlaQRefIdeal.τ).loc Cert.AdamMlaQRefIdeal.main_arg3) = m ((c.tc : Thread Cert.AdamMlaQRefIdeal.nD Cert.AdamMlaQRefIdeal.τ).loc Cert.AdamMlaQRefIdeal.main_arg3)
      ∧ r.2.mem ((c.tc : Thread Cert.AdamMlaQRefIdeal.nD Cert.AdamMlaQRefIdeal.τ).loc Cert.AdamMlaQRefIdeal.main_arg4) = m ((c.tc : Thread Cert.AdamMlaQRefIdeal.nD Cert.AdamMlaQRefIdeal.τ).loc Cert.AdamMlaQRefIdeal.main_arg4))
      ∧ r.2.sem = fun _ => 0)

def quiescent_AdamMlaKv [hAdamMlaKv : Cert.AdamMlaKv.Facts] : Prop :=
  ∀ (m : (ℓ : Loc Cert.AdamMlaKv.nD Cert.AdamMlaKv.τ Cert.AdamMlaKv.sig) → Buf (Elt Bits) ℓ) (g : Dev Cert.AdamMlaKv.nD → PrngReg), Pre_AdamMlaKv m →
    θ_run (Cert.AdamMlaKv.defs (F := Bits)) (onTc (τ := Cert.AdamMlaKv.τ) (Cert.AdamMlaKv.main (F := Bits))) ⟨m, fun _ => 0, g⟩ (fun r => (∀ c : Dev Cert.AdamMlaKv.nD,
      r.2.mem ((c.tc : Thread Cert.AdamMlaKv.nD Cert.AdamMlaKv.τ).loc Cert.AdamMlaKv.main_arg0) = m ((c.tc : Thread Cert.AdamMlaKv.nD Cert.AdamMlaKv.τ).loc Cert.AdamMlaKv.main_arg0)
      ∧ r.2.mem ((c.tc : Thread Cert.AdamMlaKv.nD Cert.AdamMlaKv.τ).loc Cert.AdamMlaKv.main_arg1) = m ((c.tc : Thread Cert.AdamMlaKv.nD Cert.AdamMlaKv.τ).loc Cert.AdamMlaKv.main_arg1)
      ∧ r.2.mem ((c.tc : Thread Cert.AdamMlaKv.nD Cert.AdamMlaKv.τ).loc Cert.AdamMlaKv.main_arg2) = m ((c.tc : Thread Cert.AdamMlaKv.nD Cert.AdamMlaKv.τ).loc Cert.AdamMlaKv.main_arg2)
      ∧ r.2.mem ((c.tc : Thread Cert.AdamMlaKv.nD Cert.AdamMlaKv.τ).loc Cert.AdamMlaKv.main_arg3) = m ((c.tc : Thread Cert.AdamMlaKv.nD Cert.AdamMlaKv.τ).loc Cert.AdamMlaKv.main_arg3)
      ∧ r.2.mem ((c.tc : Thread Cert.AdamMlaKv.nD Cert.AdamMlaKv.τ).loc Cert.AdamMlaKv.main_arg4) = m ((c.tc : Thread Cert.AdamMlaKv.nD Cert.AdamMlaKv.τ).loc Cert.AdamMlaKv.main_arg4))
      ∧ r.2.sem = fun _ => 0)

def quiescent_AdamMlaKvIdeal [hAdamMlaKvIdeal : Cert.AdamMlaKvIdeal.Facts] : Prop :=
  ∀ (m : (ℓ : Loc Cert.AdamMlaKvIdeal.nD Cert.AdamMlaKvIdeal.τ Cert.AdamMlaKvIdeal.sig) → Buf (Elt Ideal) ℓ) (g : Dev Cert.AdamMlaKvIdeal.nD → PrngReg), Pre_AdamMlaKvIdeal m →
    θ_run (Cert.AdamMlaKvIdeal.defs (F := Ideal)) (onTc (τ := Cert.AdamMlaKvIdeal.τ) (Cert.AdamMlaKvIdeal.main (F := Ideal))) ⟨m, fun _ => 0, g⟩ (fun r => (∀ c : Dev Cert.AdamMlaKvIdeal.nD,
      r.2.mem ((c.tc : Thread Cert.AdamMlaKvIdeal.nD Cert.AdamMlaKvIdeal.τ).loc Cert.AdamMlaKvIdeal.main_arg0) = m ((c.tc : Thread Cert.AdamMlaKvIdeal.nD Cert.AdamMlaKvIdeal.τ).loc Cert.AdamMlaKvIdeal.main_arg0)
      ∧ r.2.mem ((c.tc : Thread Cert.AdamMlaKvIdeal.nD Cert.AdamMlaKvIdeal.τ).loc Cert.AdamMlaKvIdeal.main_arg1) = m ((c.tc : Thread Cert.AdamMlaKvIdeal.nD Cert.AdamMlaKvIdeal.τ).loc Cert.AdamMlaKvIdeal.main_arg1)
      ∧ r.2.mem ((c.tc : Thread Cert.AdamMlaKvIdeal.nD Cert.AdamMlaKvIdeal.τ).loc Cert.AdamMlaKvIdeal.main_arg2) = m ((c.tc : Thread Cert.AdamMlaKvIdeal.nD Cert.AdamMlaKvIdeal.τ).loc Cert.AdamMlaKvIdeal.main_arg2)
      ∧ r.2.mem ((c.tc : Thread Cert.AdamMlaKvIdeal.nD Cert.AdamMlaKvIdeal.τ).loc Cert.AdamMlaKvIdeal.main_arg3) = m ((c.tc : Thread Cert.AdamMlaKvIdeal.nD Cert.AdamMlaKvIdeal.τ).loc Cert.AdamMlaKvIdeal.main_arg3)
      ∧ r.2.mem ((c.tc : Thread Cert.AdamMlaKvIdeal.nD Cert.AdamMlaKvIdeal.τ).loc Cert.AdamMlaKvIdeal.main_arg4) = m ((c.tc : Thread Cert.AdamMlaKvIdeal.nD Cert.AdamMlaKvIdeal.τ).loc Cert.AdamMlaKvIdeal.main_arg4))
      ∧ r.2.sem = fun _ => 0)

def quiescent_AdamMlaKvRefIdeal [hAdamMlaKvRefIdeal : Cert.AdamMlaKvRefIdeal.Facts] : Prop :=
  ∀ (m : (ℓ : Loc Cert.AdamMlaKvRefIdeal.nD Cert.AdamMlaKvRefIdeal.τ Cert.AdamMlaKvRefIdeal.sig) → Buf (Elt Ideal) ℓ) (g : Dev Cert.AdamMlaKvRefIdeal.nD → PrngReg), Pre_AdamMlaKvRefIdeal m →
    θ_run (Cert.AdamMlaKvRefIdeal.defs (F := Ideal)) (onTc (τ := Cert.AdamMlaKvRefIdeal.τ) (Cert.AdamMlaKvRefIdeal.main (F := Ideal))) ⟨m, fun _ => 0, g⟩ (fun r => (∀ c : Dev Cert.AdamMlaKvRefIdeal.nD,
      r.2.mem ((c.tc : Thread Cert.AdamMlaKvRefIdeal.nD Cert.AdamMlaKvRefIdeal.τ).loc Cert.AdamMlaKvRefIdeal.main_arg0) = m ((c.tc : Thread Cert.AdamMlaKvRefIdeal.nD Cert.AdamMlaKvRefIdeal.τ).loc Cert.AdamMlaKvRefIdeal.main_arg0)
      ∧ r.2.mem ((c.tc : Thread Cert.AdamMlaKvRefIdeal.nD Cert.AdamMlaKvRefIdeal.τ).loc Cert.AdamMlaKvRefIdeal.main_arg1) = m ((c.tc : Thread Cert.AdamMlaKvRefIdeal.nD Cert.AdamMlaKvRefIdeal.τ).loc Cert.AdamMlaKvRefIdeal.main_arg1)
      ∧ r.2.mem ((c.tc : Thread Cert.AdamMlaKvRefIdeal.nD Cert.AdamMlaKvRefIdeal.τ).loc Cert.AdamMlaKvRefIdeal.main_arg2) = m ((c.tc : Thread Cert.AdamMlaKvRefIdeal.nD Cert.AdamMlaKvRefIdeal.τ).loc Cert.AdamMlaKvRefIdeal.main_arg2)
      ∧ r.2.mem ((c.tc : Thread Cert.AdamMlaKvRefIdeal.nD Cert.AdamMlaKvRefIdeal.τ).loc Cert.AdamMlaKvRefIdeal.main_arg3) = m ((c.tc : Thread Cert.AdamMlaKvRefIdeal.nD Cert.AdamMlaKvRefIdeal.τ).loc Cert.AdamMlaKvRefIdeal.main_arg3)
      ∧ r.2.mem ((c.tc : Thread Cert.AdamMlaKvRefIdeal.nD Cert.AdamMlaKvRefIdeal.τ).loc Cert.AdamMlaKvRefIdeal.main_arg4) = m ((c.tc : Thread Cert.AdamMlaKvRefIdeal.nD Cert.AdamMlaKvRefIdeal.τ).loc Cert.AdamMlaKvRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamHgrnIn [hAdamHgrnIn : Cert.AdamHgrnIn.Facts] : Prop :=
  ∀ (m : (ℓ : Loc Cert.AdamHgrnIn.nD Cert.AdamHgrnIn.τ Cert.AdamHgrnIn.sig) → Buf (Elt Bits) ℓ) (g : Dev Cert.AdamHgrnIn.nD → PrngReg), Pre_AdamHgrnIn m →
    θ_run (Cert.AdamHgrnIn.defs (F := Bits)) (onTc (τ := Cert.AdamHgrnIn.τ) (Cert.AdamHgrnIn.main (F := Bits))) ⟨m, fun _ => 0, g⟩ (fun r => (∀ c : Dev Cert.AdamHgrnIn.nD,
      r.2.mem ((c.tc : Thread Cert.AdamHgrnIn.nD Cert.AdamHgrnIn.τ).loc Cert.AdamHgrnIn.main_arg0) = m ((c.tc : Thread Cert.AdamHgrnIn.nD Cert.AdamHgrnIn.τ).loc Cert.AdamHgrnIn.main_arg0)
      ∧ r.2.mem ((c.tc : Thread Cert.AdamHgrnIn.nD Cert.AdamHgrnIn.τ).loc Cert.AdamHgrnIn.main_arg1) = m ((c.tc : Thread Cert.AdamHgrnIn.nD Cert.AdamHgrnIn.τ).loc Cert.AdamHgrnIn.main_arg1)
      ∧ r.2.mem ((c.tc : Thread Cert.AdamHgrnIn.nD Cert.AdamHgrnIn.τ).loc Cert.AdamHgrnIn.main_arg2) = m ((c.tc : Thread Cert.AdamHgrnIn.nD Cert.AdamHgrnIn.τ).loc Cert.AdamHgrnIn.main_arg2)
      ∧ r.2.mem ((c.tc : Thread Cert.AdamHgrnIn.nD Cert.AdamHgrnIn.τ).loc Cert.AdamHgrnIn.main_arg3) = m ((c.tc : Thread Cert.AdamHgrnIn.nD Cert.AdamHgrnIn.τ).loc Cert.AdamHgrnIn.main_arg3)
      ∧ r.2.mem ((c.tc : Thread Cert.AdamHgrnIn.nD Cert.AdamHgrnIn.τ).loc Cert.AdamHgrnIn.main_arg4) = m ((c.tc : Thread Cert.AdamHgrnIn.nD Cert.AdamHgrnIn.τ).loc Cert.AdamHgrnIn.main_arg4))
      ∧ r.2.sem = fun _ => 0)

def quiescent_AdamHgrnInIdeal [hAdamHgrnInIdeal : Cert.AdamHgrnInIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg), Pre_AdamHgrnInIdeal m →
    θ_run (Cert.AdamHgrnInIdeal.defs (F := Ideal)) (onTc (τ := Cert.AdamHgrnInIdeal.τ) (Cert.AdamHgrnInIdeal.main (F := Ideal))) ⟨m, fun _ => 0, g⟩ (fun r => (∀ c : Dev Cert.AdamHgrnInIdeal.nD,
      r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
      ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
      ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
      ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3)
      ∧ r.2.mem ((c.tc : Thread Cert.AdamHgrnInIdeal.nD Cert.AdamHgrnInIdeal.τ).loc Cert.AdamHgrnInIdeal.main_arg4) = m ((c.tc : Thread Cert.AdamHgrnInIdeal.nD Cert.AdamHgrnInIdeal.τ).loc Cert.AdamHgrnInIdeal.main_arg4))
      ∧ r.2.sem = fun _ => 0)

def quiescent_AdamHgrnInRefIdeal [hAdamHgrnInRefIdeal : Cert.AdamHgrnInRefIdeal.Facts] : Prop :=
  ∀ (m : (ℓ : Loc Cert.AdamHgrnInRefIdeal.nD Cert.AdamHgrnInRefIdeal.τ Cert.AdamHgrnInRefIdeal.sig) → Buf (Elt Ideal) ℓ) (g : Dev Cert.AdamHgrnInRefIdeal.nD → PrngReg), Pre_AdamHgrnInRefIdeal m →
    θ_run (Cert.AdamHgrnInRefIdeal.defs (F := Ideal)) (onTc (τ := Cert.AdamHgrnInRefIdeal.τ) (Cert.AdamHgrnInRefIdeal.main (F := Ideal))) ⟨m, fun _ => 0, g⟩ (fun r => (∀ c : Dev Cert.AdamHgrnInRefIdeal.nD,
      r.2.mem ((c.tc : Thread Cert.AdamHgrnInRefIdeal.nD Cert.AdamHgrnInRefIdeal.τ).loc Cert.AdamHgrnInRefIdeal.main_arg0) = m ((c.tc : Thread Cert.AdamHgrnInRefIdeal.nD Cert.AdamHgrnInRefIdeal.τ).loc Cert.AdamHgrnInRefIdeal.main_arg0)
      ∧ r.2.mem ((c.tc : Thread Cert.AdamHgrnInRefIdeal.nD Cert.AdamHgrnInRefIdeal.τ).loc Cert.AdamHgrnInRefIdeal.main_arg1) = m ((c.tc : Thread Cert.AdamHgrnInRefIdeal.nD Cert.AdamHgrnInRefIdeal.τ).loc Cert.AdamHgrnInRefIdeal.main_arg1)
      ∧ r.2.mem ((c.tc : Thread Cert.AdamHgrnInRefIdeal.nD Cert.AdamHgrnInRefIdeal.τ).loc Cert.AdamHgrnInRefIdeal.main_arg2) = m ((c.tc : Thread Cert.AdamHgrnInRefIdeal.nD Cert.AdamHgrnInRefIdeal.τ).loc Cert.AdamHgrnInRefIdeal.main_arg2)
      ∧ r.2.mem ((c.tc : Thread Cert.AdamHgrnInRefIdeal.nD Cert.AdamHgrnInRefIdeal.τ).loc Cert.AdamHgrnInRefIdeal.main_arg3) = m ((c.tc : Thread Cert.AdamHgrnInRefIdeal.nD Cert.AdamHgrnInRefIdeal.τ).loc Cert.AdamHgrnInRefIdeal.main_arg3)
      ∧ r.2.mem ((c.tc : Thread Cert.AdamHgrnInRefIdeal.nD Cert.AdamHgrnInRefIdeal.τ).loc Cert.AdamHgrnInRefIdeal.main_arg4) = m ((c.tc : Thread Cert.AdamHgrnInRefIdeal.nD Cert.AdamHgrnInRefIdeal.τ).loc Cert.AdamHgrnInRefIdeal.main_arg4))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4)
      ∧ r.2.mem ((c.tc : Thread Cert.AdamFfnIn.nD Cert.AdamFfnIn.τ).loc Cert.AdamFfnIn.main_arg5) = m ((c.tc : Thread Cert.AdamFfnIn.nD Cert.AdamFfnIn.τ).loc Cert.AdamFfnIn.main_arg5)
      ∧ r.2.mem ((c.tc : Thread Cert.AdamFfnIn.nD Cert.AdamFfnIn.τ).loc Cert.AdamFfnIn.main_arg6) = m ((c.tc : Thread Cert.AdamFfnIn.nD Cert.AdamFfnIn.τ).loc Cert.AdamFfnIn.main_arg6))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
      ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
      ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4)
      ∧ r.2.mem ((c.tc : Thread Cert.AdamFfnInRefIdeal.nD Cert.AdamFfnInRefIdeal.τ).loc Cert.AdamFfnInRefIdeal.main_arg5) = m ((c.tc : Thread Cert.AdamFfnInRefIdeal.nD Cert.AdamFfnInRefIdeal.τ).loc Cert.AdamFfnInRefIdeal.main_arg5)
      ∧ r.2.mem ((c.tc : Thread Cert.AdamFfnInRefIdeal.nD Cert.AdamFfnInRefIdeal.τ).loc Cert.AdamFfnInRefIdeal.main_arg6) = m ((c.tc : Thread Cert.AdamFfnInRefIdeal.nD Cert.AdamFfnInRefIdeal.τ).loc Cert.AdamFfnInRefIdeal.main_arg6))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4)
      ∧ r.2.mem ((c.tc : Thread Cert.AdamFfnOut.nD Cert.AdamFfnOut.τ).loc Cert.AdamFfnOut.main_arg5) = m ((c.tc : Thread Cert.AdamFfnOut.nD Cert.AdamFfnOut.τ).loc Cert.AdamFfnOut.main_arg5)
      ∧ r.2.mem ((c.tc : Thread Cert.AdamFfnOut.nD Cert.AdamFfnOut.τ).loc Cert.AdamFfnOut.main_arg6) = m ((c.tc : Thread Cert.AdamFfnOut.nD Cert.AdamFfnOut.τ).loc Cert.AdamFfnOut.main_arg6))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
      ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
      ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4)
      ∧ r.2.mem ((c.tc : Thread Cert.AdamFfnOutRefIdeal.nD Cert.AdamFfnOutRefIdeal.τ).loc Cert.AdamFfnOutRefIdeal.main_arg5) = m ((c.tc : Thread Cert.AdamFfnOutRefIdeal.nD Cert.AdamFfnOutRefIdeal.τ).loc Cert.AdamFfnOutRefIdeal.main_arg5)
      ∧ r.2.mem ((c.tc : Thread Cert.AdamFfnOutRefIdeal.nD Cert.AdamFfnOutRefIdeal.τ).loc Cert.AdamFfnOutRefIdeal.main_arg6) = m ((c.tc : Thread Cert.AdamFfnOutRefIdeal.nD Cert.AdamFfnOutRefIdeal.τ).loc Cert.AdamFfnOutRefIdeal.main_arg6))
      ∧ r.2.sem = fun _ => 0)

def quiescent_ModFirst [hModFirst : Cert.ModFirst.Facts] : Prop :=
  ∀ (m : (ℓ : Loc Cert.ModFirst.nD Cert.ModFirst.τ Cert.ModFirst.sig) → Buf (Elt Bits) ℓ) (g : Dev Cert.ModFirst.nD → PrngReg), Pre_ModFirst m →
    θ_run (Cert.ModFirst.defs (F := Bits)) (onTc (τ := Cert.ModFirst.τ) (Cert.ModFirst.main (F := Bits))) ⟨m, fun _ => 0, g⟩ (fun r => (∀ c : Dev Cert.ModFirst.nD,
      r.2.mem ((c.tc : Thread Cert.ModFirst.nD Cert.ModFirst.τ).loc Cert.ModFirst.main_arg0) = m ((c.tc : Thread Cert.ModFirst.nD Cert.ModFirst.τ).loc Cert.ModFirst.main_arg0)
      ∧ r.2.mem ((c.tc : Thread Cert.ModFirst.nD Cert.ModFirst.τ).loc Cert.ModFirst.main_arg1) = m ((c.tc : Thread Cert.ModFirst.nD Cert.ModFirst.τ).loc Cert.ModFirst.main_arg1)
      ∧ r.2.mem ((c.tc : Thread Cert.ModFirst.nD Cert.ModFirst.τ).loc Cert.ModFirst.main_arg2) = m ((c.tc : Thread Cert.ModFirst.nD Cert.ModFirst.τ).loc Cert.ModFirst.main_arg2)
      ∧ r.2.mem ((c.tc : Thread Cert.ModFirst.nD Cert.ModFirst.τ).loc Cert.ModFirst.main_arg3) = m ((c.tc : Thread Cert.ModFirst.nD Cert.ModFirst.τ).loc Cert.ModFirst.main_arg3)
      ∧ r.2.mem ((c.tc : Thread Cert.ModFirst.nD Cert.ModFirst.τ).loc Cert.ModFirst.main_arg4) = m ((c.tc : Thread Cert.ModFirst.nD Cert.ModFirst.τ).loc Cert.ModFirst.main_arg4))
      ∧ r.2.sem = fun _ => 0)

def quiescent_ModFirstIdeal [hModFirstIdeal : Cert.ModFirstIdeal.Facts] : Prop :=
  ∀ (m : (ℓ : Loc Cert.ModFirstIdeal.nD Cert.ModFirstIdeal.τ Cert.ModFirstIdeal.sig) → Buf (Elt Ideal) ℓ) (g : Dev Cert.ModFirstIdeal.nD → PrngReg), Pre_ModFirstIdeal m →
    θ_run (Cert.ModFirstIdeal.defs (F := Ideal)) (onTc (τ := Cert.ModFirstIdeal.τ) (Cert.ModFirstIdeal.main (F := Ideal))) ⟨m, fun _ => 0, g⟩ (fun r => (∀ c : Dev Cert.ModFirstIdeal.nD,
      r.2.mem ((c.tc : Thread Cert.ModFirstIdeal.nD Cert.ModFirstIdeal.τ).loc Cert.ModFirstIdeal.main_arg0) = m ((c.tc : Thread Cert.ModFirstIdeal.nD Cert.ModFirstIdeal.τ).loc Cert.ModFirstIdeal.main_arg0)
      ∧ r.2.mem ((c.tc : Thread Cert.ModFirstIdeal.nD Cert.ModFirstIdeal.τ).loc Cert.ModFirstIdeal.main_arg1) = m ((c.tc : Thread Cert.ModFirstIdeal.nD Cert.ModFirstIdeal.τ).loc Cert.ModFirstIdeal.main_arg1)
      ∧ r.2.mem ((c.tc : Thread Cert.ModFirstIdeal.nD Cert.ModFirstIdeal.τ).loc Cert.ModFirstIdeal.main_arg2) = m ((c.tc : Thread Cert.ModFirstIdeal.nD Cert.ModFirstIdeal.τ).loc Cert.ModFirstIdeal.main_arg2)
      ∧ r.2.mem ((c.tc : Thread Cert.ModFirstIdeal.nD Cert.ModFirstIdeal.τ).loc Cert.ModFirstIdeal.main_arg3) = m ((c.tc : Thread Cert.ModFirstIdeal.nD Cert.ModFirstIdeal.τ).loc Cert.ModFirstIdeal.main_arg3)
      ∧ r.2.mem ((c.tc : Thread Cert.ModFirstIdeal.nD Cert.ModFirstIdeal.τ).loc Cert.ModFirstIdeal.main_arg4) = m ((c.tc : Thread Cert.ModFirstIdeal.nD Cert.ModFirstIdeal.τ).loc Cert.ModFirstIdeal.main_arg4))
      ∧ r.2.sem = fun _ => 0)

def quiescent_ModFirstRefIdeal [hModFirstRefIdeal : Cert.ModFirstRefIdeal.Facts] : Prop :=
  ∀ (m : (ℓ : Loc Cert.ModFirstRefIdeal.nD Cert.ModFirstRefIdeal.τ Cert.ModFirstRefIdeal.sig) → Buf (Elt Ideal) ℓ) (g : Dev Cert.ModFirstRefIdeal.nD → PrngReg), Pre_ModFirstRefIdeal m →
    θ_run (Cert.ModFirstRefIdeal.defs (F := Ideal)) (onTc (τ := Cert.ModFirstRefIdeal.τ) (Cert.ModFirstRefIdeal.main (F := Ideal))) ⟨m, fun _ => 0, g⟩ (fun r => (∀ c : Dev Cert.ModFirstRefIdeal.nD,
      r.2.mem ((c.tc : Thread Cert.ModFirstRefIdeal.nD Cert.ModFirstRefIdeal.τ).loc Cert.ModFirstRefIdeal.main_arg0) = m ((c.tc : Thread Cert.ModFirstRefIdeal.nD Cert.ModFirstRefIdeal.τ).loc Cert.ModFirstRefIdeal.main_arg0)
      ∧ r.2.mem ((c.tc : Thread Cert.ModFirstRefIdeal.nD Cert.ModFirstRefIdeal.τ).loc Cert.ModFirstRefIdeal.main_arg1) = m ((c.tc : Thread Cert.ModFirstRefIdeal.nD Cert.ModFirstRefIdeal.τ).loc Cert.ModFirstRefIdeal.main_arg1)
      ∧ r.2.mem ((c.tc : Thread Cert.ModFirstRefIdeal.nD Cert.ModFirstRefIdeal.τ).loc Cert.ModFirstRefIdeal.main_arg2) = m ((c.tc : Thread Cert.ModFirstRefIdeal.nD Cert.ModFirstRefIdeal.τ).loc Cert.ModFirstRefIdeal.main_arg2)
      ∧ r.2.mem ((c.tc : Thread Cert.ModFirstRefIdeal.nD Cert.ModFirstRefIdeal.τ).loc Cert.ModFirstRefIdeal.main_arg3) = m ((c.tc : Thread Cert.ModFirstRefIdeal.nD Cert.ModFirstRefIdeal.τ).loc Cert.ModFirstRefIdeal.main_arg3)
      ∧ r.2.mem ((c.tc : Thread Cert.ModFirstRefIdeal.nD Cert.ModFirstRefIdeal.τ).loc Cert.ModFirstRefIdeal.main_arg4) = m ((c.tc : Thread Cert.ModFirstRefIdeal.nD Cert.ModFirstRefIdeal.τ).loc Cert.ModFirstRefIdeal.main_arg4))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4)
      ∧ r.2.mem ((c.tc : Thread Cert.LnLoss.nD Cert.LnLoss.τ).loc Cert.LnLoss.main_arg5) = m ((c.tc : Thread Cert.LnLoss.nD Cert.LnLoss.τ).loc Cert.LnLoss.main_arg5))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
      ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4)
      ∧ r.2.mem ((c.tc : Thread Cert.LnLossRefIdeal.nD Cert.LnLossRefIdeal.τ).loc Cert.LnLossRefIdeal.main_arg5) = m ((c.tc : Thread Cert.LnLossRefIdeal.nD Cert.LnLossRefIdeal.τ).loc Cert.LnLossRefIdeal.main_arg5))
      ∧ r.2.sem = fun _ => 0)

def preserves_Kernel_KernelIdeal : Prop :=
  IdealRules.named_const.Statement Cert.KernelIdeal.κ "neg" .f32 0xFF61B1E6#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v8) = v1 c
          ∧ r.2.mem ((c.tc : Thread Cert.FfnInRefIdeal.nD Cert.FfnInRefIdeal.τ).loc Cert.FfnInRefIdeal.main_v9) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v6) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)
      ∧ m' ((c.tc : Thread Cert.FfnOutDxRefIdeal.nD Cert.FfnOutDxRefIdeal.τ).loc Cert.FfnOutDxRefIdeal.main_arg2) = m ((c.tc : Thread Cert.FfnOutDxIdeal.nD Cert.FfnOutDxIdeal.τ).loc Cert.FfnOutDxIdeal.main_arg2)
      ∧ m' ((c.tc : Thread Cert.FfnOutDxRefIdeal.nD Cert.FfnOutDxRefIdeal.τ).loc Cert.FfnOutDxRefIdeal.main_arg3) = m ((c.tc : Thread Cert.FfnOutDxIdeal.nD Cert.FfnOutDxIdeal.τ).loc Cert.FfnOutDxIdeal.main_arg3)) →
    ∃ (v0 : (c : Dev Cert.FfnOutDxIdeal.nD) → Buf (Elt Ideal) ((c.tc : Thread Cert.FfnOutDxIdeal.nD Cert.FfnOutDxIdeal.τ).loc Cert.FfnOutDxIdeal.main_v0_0)) (v1 : (c : Dev Cert.FfnOutDxIdeal.nD) → Buf (Elt Ideal) ((c.tc : Thread Cert.FfnOutDxIdeal.nD Cert.FfnOutDxIdeal.τ).loc Cert.FfnOutDxIdeal.main_v0_1)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0_0) = v0 c
          ∧ r.2.mem ((c.tc : Thread Cert.FfnOutDxIdeal.nD Cert.FfnOutDxIdeal.τ).loc Cert.FfnOutDxIdeal.main_v0_1) = v1 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2)
          ∧ r.2.mem ((c.tc : Thread Cert.FfnOutDxIdeal.nD Cert.FfnOutDxIdeal.τ).loc Cert.FfnOutDxIdeal.main_arg3) = m ((c.tc : Thread Cert.FfnOutDxIdeal.nD Cert.FfnOutDxIdeal.τ).loc Cert.FfnOutDxIdeal.main_arg3))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v11) = v0 c
          ∧ r.2.mem ((c.tc : Thread Cert.FfnOutDxRefIdeal.nD Cert.FfnOutDxRefIdeal.τ).loc Cert.FfnOutDxRefIdeal.main_v12) = v1 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1)
          ∧ r.2.mem ((c.tc : Thread Cert.FfnOutDxRefIdeal.nD Cert.FfnOutDxRefIdeal.τ).loc Cert.FfnOutDxRefIdeal.main_arg2) = m' ((c.tc : Thread Cert.FfnOutDxRefIdeal.nD Cert.FfnOutDxRefIdeal.τ).loc Cert.FfnOutDxRefIdeal.main_arg2)
          ∧ r.2.mem ((c.tc : Thread Cert.FfnOutDxRefIdeal.nD Cert.FfnOutDxRefIdeal.τ).loc Cert.FfnOutDxRefIdeal.main_arg3) = m' ((c.tc : Thread Cert.FfnOutDxRefIdeal.nD Cert.FfnOutDxRefIdeal.τ).loc Cert.FfnOutDxRefIdeal.main_arg3))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v6) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v8) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v0)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v0) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v2) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1))

def preserves_HgrnInDx_HgrnInDxIdeal : Prop :=
  True

def algebraic_HgrnInDxIdeal_HgrnInDxRefIdeal [hHgrnInDxIdeal : Cert.HgrnInDxIdeal.Facts] [hHgrnInDxRefIdeal : Cert.HgrnInDxRefIdeal.Facts] : Prop :=
  ∀ (m : (ℓ : Loc Cert.HgrnInDxIdeal.nD Cert.HgrnInDxIdeal.τ Cert.HgrnInDxIdeal.sig) → Buf (Elt Ideal) ℓ) (g : Dev Cert.HgrnInDxIdeal.nD → PrngReg)
    (m' : (ℓ : Loc Cert.HgrnInDxRefIdeal.nD Cert.HgrnInDxRefIdeal.τ Cert.HgrnInDxRefIdeal.sig) → Buf (Elt Ideal) ℓ) (g' : Dev Cert.HgrnInDxRefIdeal.nD → PrngReg), Pre_HgrnInDxIdeal m →
    (∀ c : Dev Cert.HgrnInDxIdeal.nD,
      m' ((c.tc : Thread Cert.HgrnInDxRefIdeal.nD Cert.HgrnInDxRefIdeal.τ).loc Cert.HgrnInDxRefIdeal.main_arg0) = m ((c.tc : Thread Cert.HgrnInDxIdeal.nD Cert.HgrnInDxIdeal.τ).loc Cert.HgrnInDxIdeal.main_arg0)
      ∧ m' ((c.tc : Thread Cert.HgrnInDxRefIdeal.nD Cert.HgrnInDxRefIdeal.τ).loc Cert.HgrnInDxRefIdeal.main_arg1) = m ((c.tc : Thread Cert.HgrnInDxIdeal.nD Cert.HgrnInDxIdeal.τ).loc Cert.HgrnInDxIdeal.main_arg1)
      ∧ m' ((c.tc : Thread Cert.HgrnInDxRefIdeal.nD Cert.HgrnInDxRefIdeal.τ).loc Cert.HgrnInDxRefIdeal.main_arg2) = m ((c.tc : Thread Cert.HgrnInDxIdeal.nD Cert.HgrnInDxIdeal.τ).loc Cert.HgrnInDxIdeal.main_arg2)
      ∧ m' ((c.tc : Thread Cert.HgrnInDxRefIdeal.nD Cert.HgrnInDxRefIdeal.τ).loc Cert.HgrnInDxRefIdeal.main_arg3) = m ((c.tc : Thread Cert.HgrnInDxIdeal.nD Cert.HgrnInDxIdeal.τ).loc Cert.HgrnInDxIdeal.main_arg3)
      ∧ m' ((c.tc : Thread Cert.HgrnInDxRefIdeal.nD Cert.HgrnInDxRefIdeal.τ).loc Cert.HgrnInDxRefIdeal.main_arg4) = m ((c.tc : Thread Cert.HgrnInDxIdeal.nD Cert.HgrnInDxIdeal.τ).loc Cert.HgrnInDxIdeal.main_arg4)) →
    ∃ (v0 : (c : Dev Cert.HgrnInDxIdeal.nD) → Buf (Elt Ideal) ((c.tc : Thread Cert.HgrnInDxIdeal.nD Cert.HgrnInDxIdeal.τ).loc Cert.HgrnInDxIdeal.main_v0)),
      θ_run (Cert.HgrnInDxIdeal.defs (F := Ideal)) (onTc (τ := Cert.HgrnInDxIdeal.τ) (Cert.HgrnInDxIdeal.main (F := Ideal))) ⟨m, fun _ => 0, g⟩ (fun r => ∀ c : Dev Cert.HgrnInDxIdeal.nD,
          r.2.mem ((c.tc : Thread Cert.HgrnInDxIdeal.nD Cert.HgrnInDxIdeal.τ).loc Cert.HgrnInDxIdeal.main_v0) = v0 c
          ∧ r.2.mem ((c.tc : Thread Cert.HgrnInDxIdeal.nD Cert.HgrnInDxIdeal.τ).loc Cert.HgrnInDxIdeal.main_arg0) = m ((c.tc : Thread Cert.HgrnInDxIdeal.nD Cert.HgrnInDxIdeal.τ).loc Cert.HgrnInDxIdeal.main_arg0)
          ∧ r.2.mem ((c.tc : Thread Cert.HgrnInDxIdeal.nD Cert.HgrnInDxIdeal.τ).loc Cert.HgrnInDxIdeal.main_arg1) = m ((c.tc : Thread Cert.HgrnInDxIdeal.nD Cert.HgrnInDxIdeal.τ).loc Cert.HgrnInDxIdeal.main_arg1)
          ∧ r.2.mem ((c.tc : Thread Cert.HgrnInDxIdeal.nD Cert.HgrnInDxIdeal.τ).loc Cert.HgrnInDxIdeal.main_arg2) = m ((c.tc : Thread Cert.HgrnInDxIdeal.nD Cert.HgrnInDxIdeal.τ).loc Cert.HgrnInDxIdeal.main_arg2)
          ∧ r.2.mem ((c.tc : Thread Cert.HgrnInDxIdeal.nD Cert.HgrnInDxIdeal.τ).loc Cert.HgrnInDxIdeal.main_arg3) = m ((c.tc : Thread Cert.HgrnInDxIdeal.nD Cert.HgrnInDxIdeal.τ).loc Cert.HgrnInDxIdeal.main_arg3)
          ∧ r.2.mem ((c.tc : Thread Cert.HgrnInDxIdeal.nD Cert.HgrnInDxIdeal.τ).loc Cert.HgrnInDxIdeal.main_arg4) = m ((c.tc : Thread Cert.HgrnInDxIdeal.nD Cert.HgrnInDxIdeal.τ).loc Cert.HgrnInDxIdeal.main_arg4))
      ∧ θ_run (Cert.HgrnInDxRefIdeal.defs (F := Ideal)) (onTc (τ := Cert.HgrnInDxRefIdeal.τ) (Cert.HgrnInDxRefIdeal.main (F := Ideal))) ⟨m', fun _ => 0, g'⟩ (fun r => ∀ c : Dev Cert.HgrnInDxRefIdeal.nD,
          r.2.mem ((c.tc : Thread Cert.HgrnInDxRefIdeal.nD Cert.HgrnInDxRefIdeal.τ).loc Cert.HgrnInDxRefIdeal.main_v12) = v0 c
          ∧ r.2.mem ((c.tc : Thread Cert.HgrnInDxRefIdeal.nD Cert.HgrnInDxRefIdeal.τ).loc Cert.HgrnInDxRefIdeal.main_arg0) = m' ((c.tc : Thread Cert.HgrnInDxRefIdeal.nD Cert.HgrnInDxRefIdeal.τ).loc Cert.HgrnInDxRefIdeal.main_arg0)
          ∧ r.2.mem ((c.tc : Thread Cert.HgrnInDxRefIdeal.nD Cert.HgrnInDxRefIdeal.τ).loc Cert.HgrnInDxRefIdeal.main_arg1) = m' ((c.tc : Thread Cert.HgrnInDxRefIdeal.nD Cert.HgrnInDxRefIdeal.τ).loc Cert.HgrnInDxRefIdeal.main_arg1)
          ∧ r.2.mem ((c.tc : Thread Cert.HgrnInDxRefIdeal.nD Cert.HgrnInDxRefIdeal.τ).loc Cert.HgrnInDxRefIdeal.main_arg2) = m' ((c.tc : Thread Cert.HgrnInDxRefIdeal.nD Cert.HgrnInDxRefIdeal.τ).loc Cert.HgrnInDxRefIdeal.main_arg2)
          ∧ r.2.mem ((c.tc : Thread Cert.HgrnInDxRefIdeal.nD Cert.HgrnInDxRefIdeal.τ).loc Cert.HgrnInDxRefIdeal.main_arg3) = m' ((c.tc : Thread Cert.HgrnInDxRefIdeal.nD Cert.HgrnInDxRefIdeal.τ).loc Cert.HgrnInDxRefIdeal.main_arg3)
          ∧ r.2.mem ((c.tc : Thread Cert.HgrnInDxRefIdeal.nD Cert.HgrnInDxRefIdeal.τ).loc Cert.HgrnInDxRefIdeal.main_arg4) = m' ((c.tc : Thread Cert.HgrnInDxRefIdeal.nD Cert.HgrnInDxRefIdeal.τ).loc Cert.HgrnInDxRefIdeal.main_arg4))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v6) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_AdamQNorm_AdamQNormIdeal : Prop :=
  True

def algebraic_AdamQNormIdeal_AdamQNormRefIdeal [hAdamQNormIdeal : Cert.AdamQNormIdeal.Facts] [hAdamQNormRefIdeal : Cert.AdamQNormRefIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg)
    (m' : (ℓ : Loc Cert.AdamQNormRefIdeal.nD Cert.AdamQNormRefIdeal.τ Cert.AdamQNormRefIdeal.sig) → Buf (Elt Ideal) ℓ) (g' : Dev Cert.AdamQNormRefIdeal.nD → PrngReg), Pre_AdamQNormIdeal m →
    (∀ c : Dev Cert.AdamQNormIdeal.nD,
      m' ((c.tc : Thread Cert.AdamQNormRefIdeal.nD Cert.AdamQNormRefIdeal.τ).loc Cert.AdamQNormRefIdeal.main_arg0) = m ((c.tc : Thread Cert.AdamQNormIdeal.nD Cert.AdamQNormIdeal.τ).loc Cert.AdamQNormIdeal.main_arg0)
      ∧ m' ((c.tc : Thread Cert.AdamQNormRefIdeal.nD Cert.AdamQNormRefIdeal.τ).loc Cert.AdamQNormRefIdeal.main_arg1) = m ((c.tc : Thread Cert.AdamQNormIdeal.nD Cert.AdamQNormIdeal.τ).loc Cert.AdamQNormIdeal.main_arg1)
      ∧ m' ((c.tc : Thread Cert.AdamQNormRefIdeal.nD Cert.AdamQNormRefIdeal.τ).loc Cert.AdamQNormRefIdeal.main_arg2) = m ((c.tc : Thread Cert.AdamQNormIdeal.nD Cert.AdamQNormIdeal.τ).loc Cert.AdamQNormIdeal.main_arg2)
      ∧ m' ((c.tc : Thread Cert.AdamQNormRefIdeal.nD Cert.AdamQNormRefIdeal.τ).loc Cert.AdamQNormRefIdeal.main_arg3) = m ((c.tc : Thread Cert.AdamQNormIdeal.nD Cert.AdamQNormIdeal.τ).loc Cert.AdamQNormIdeal.main_arg3)) →
    ∃ (v0 : (c : Dev Cert.AdamQNormIdeal.nD) → Buf (Elt Ideal) ((c.tc : Thread Cert.AdamQNormIdeal.nD Cert.AdamQNormIdeal.τ).loc Cert.AdamQNormIdeal.main_v0_0)) (v1 : (c : Dev Cert.AdamQNormIdeal.nD) → Buf (Elt Ideal) ((c.tc : Thread Cert.AdamQNormIdeal.nD Cert.AdamQNormIdeal.τ).loc Cert.AdamQNormIdeal.main_v0_1)) (v2 : (c : Dev Cert.AdamQNormIdeal.nD) → Buf (Elt Ideal) ((c.tc : Thread Cert.AdamQNormIdeal.nD Cert.AdamQNormIdeal.τ).loc Cert.AdamQNormIdeal.main_v0_2)) (v3 : (c : Dev Cert.AdamQNormIdeal.nD) → Buf (Elt Ideal) ((c.tc : Thread Cert.AdamQNormIdeal.nD Cert.AdamQNormIdeal.τ).loc Cert.AdamQNormIdeal.main_v0_3)),
      θ_run (Cert.AdamQNormIdeal.defs (F := Ideal)) (onTc (τ := Cert.AdamQNormIdeal.τ) (Cert.AdamQNormIdeal.main (F := Ideal))) ⟨m, fun _ => 0, g⟩ (fun r => ∀ c : Dev Cert.AdamQNormIdeal.nD,
          r.2.mem ((c.tc : Thread Cert.AdamQNormIdeal.nD Cert.AdamQNormIdeal.τ).loc Cert.AdamQNormIdeal.main_v0_0) = v0 c
          ∧ r.2.mem ((c.tc : Thread Cert.AdamQNormIdeal.nD Cert.AdamQNormIdeal.τ).loc Cert.AdamQNormIdeal.main_v0_1) = v1 c
          ∧ r.2.mem ((c.tc : Thread Cert.AdamQNormIdeal.nD Cert.AdamQNormIdeal.τ).loc Cert.AdamQNormIdeal.main_v0_2) = v2 c
          ∧ r.2.mem ((c.tc : Thread Cert.AdamQNormIdeal.nD Cert.AdamQNormIdeal.τ).loc Cert.AdamQNormIdeal.main_v0_3) = v3 c
          ∧ r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
          ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
          ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
          ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ θ_run (Cert.AdamQNormRefIdeal.defs (F := Ideal)) (onTc (τ := Cert.AdamQNormRefIdeal.τ) (Cert.AdamQNormRefIdeal.main (F := Ideal))) ⟨m', fun _ => 0, g'⟩ (fun r => ∀ c : Dev Cert.AdamQNormRefIdeal.nD,
          r.2.mem ((c.tc : Thread Cert.AdamQNormRefIdeal.nD Cert.AdamQNormRefIdeal.τ).loc Cert.AdamQNormRefIdeal.main_v0) = v0 c
          ∧ r.2.mem ((c.tc : Thread Cert.AdamQNormRefIdeal.nD Cert.AdamQNormRefIdeal.τ).loc Cert.AdamQNormRefIdeal.main_v24) = v1 c
          ∧ r.2.mem ((c.tc : Thread Cert.AdamQNormRefIdeal.nD Cert.AdamQNormRefIdeal.τ).loc Cert.AdamQNormRefIdeal.main_v5) = v2 c
          ∧ r.2.mem ((c.tc : Thread Cert.AdamQNormRefIdeal.nD Cert.AdamQNormRefIdeal.τ).loc Cert.AdamQNormRefIdeal.main_v11) = v3 c
          ∧ r.2.mem ((c.tc : Thread Cert.AdamQNormRefIdeal.nD Cert.AdamQNormRefIdeal.τ).loc Cert.AdamQNormRefIdeal.main_arg0) = m' ((c.tc : Thread Cert.AdamQNormRefIdeal.nD Cert.AdamQNormRefIdeal.τ).loc Cert.AdamQNormRefIdeal.main_arg0)
          ∧ r.2.mem ((c.tc : Thread Cert.AdamQNormRefIdeal.nD Cert.AdamQNormRefIdeal.τ).loc Cert.AdamQNormRefIdeal.main_arg1) = m' ((c.tc : Thread Cert.AdamQNormRefIdeal.nD Cert.AdamQNormRefIdeal.τ).loc Cert.AdamQNormRefIdeal.main_arg1)
          ∧ r.2.mem ((c.tc : Thread Cert.AdamQNormRefIdeal.nD Cert.AdamQNormRefIdeal.τ).loc Cert.AdamQNormRefIdeal.main_arg2) = m' ((c.tc : Thread Cert.AdamQNormRefIdeal.nD Cert.AdamQNormRefIdeal.τ).loc Cert.AdamQNormRefIdeal.main_arg2)
          ∧ r.2.mem ((c.tc : Thread Cert.AdamQNormRefIdeal.nD Cert.AdamQNormRefIdeal.τ).loc Cert.AdamQNormRefIdeal.main_arg3) = m' ((c.tc : Thread Cert.AdamQNormRefIdeal.nD Cert.AdamQNormRefIdeal.τ).loc Cert.AdamQNormRefIdeal.main_arg3))

def preserves_AdamKvNorm_AdamKvNormIdeal : Prop :=
  True

def algebraic_AdamKvNormIdeal_AdamKvNormRefIdeal [hAdamKvNormIdeal : Cert.AdamKvNormIdeal.Facts] [hAdamKvNormRefIdeal : Cert.AdamKvNormRefIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg)
    (m' : (ℓ : Loc Cert.AdamKvNormRefIdeal.nD Cert.AdamKvNormRefIdeal.τ Cert.AdamKvNormRefIdeal.sig) → Buf (Elt Ideal) ℓ) (g' : Dev Cert.AdamKvNormRefIdeal.nD → PrngReg), Pre_AdamKvNormIdeal m →
    (∀ c : Dev Cert.AdamKvNormIdeal.nD,
      m' ((c.tc : Thread Cert.AdamKvNormRefIdeal.nD Cert.AdamKvNormRefIdeal.τ).loc Cert.AdamKvNormRefIdeal.main_arg0) = m ((c.tc : Thread Cert.AdamKvNormIdeal.nD Cert.AdamKvNormIdeal.τ).loc Cert.AdamKvNormIdeal.main_arg0)
      ∧ m' ((c.tc : Thread Cert.AdamKvNormRefIdeal.nD Cert.AdamKvNormRefIdeal.τ).loc Cert.AdamKvNormRefIdeal.main_arg1) = m ((c.tc : Thread Cert.AdamKvNormIdeal.nD Cert.AdamKvNormIdeal.τ).loc Cert.AdamKvNormIdeal.main_arg1)
      ∧ m' ((c.tc : Thread Cert.AdamKvNormRefIdeal.nD Cert.AdamKvNormRefIdeal.τ).loc Cert.AdamKvNormRefIdeal.main_arg2) = m ((c.tc : Thread Cert.AdamKvNormIdeal.nD Cert.AdamKvNormIdeal.τ).loc Cert.AdamKvNormIdeal.main_arg2)
      ∧ m' ((c.tc : Thread Cert.AdamKvNormRefIdeal.nD Cert.AdamKvNormRefIdeal.τ).loc Cert.AdamKvNormRefIdeal.main_arg3) = m ((c.tc : Thread Cert.AdamKvNormIdeal.nD Cert.AdamKvNormIdeal.τ).loc Cert.AdamKvNormIdeal.main_arg3)) →
    ∃ (v0 : (c : Dev Cert.AdamKvNormIdeal.nD) → Buf (Elt Ideal) ((c.tc : Thread Cert.AdamKvNormIdeal.nD Cert.AdamKvNormIdeal.τ).loc Cert.AdamKvNormIdeal.main_v0_0)) (v1 : (c : Dev Cert.AdamKvNormIdeal.nD) → Buf (Elt Ideal) ((c.tc : Thread Cert.AdamKvNormIdeal.nD Cert.AdamKvNormIdeal.τ).loc Cert.AdamKvNormIdeal.main_v0_1)) (v2 : (c : Dev Cert.AdamKvNormIdeal.nD) → Buf (Elt Ideal) ((c.tc : Thread Cert.AdamKvNormIdeal.nD Cert.AdamKvNormIdeal.τ).loc Cert.AdamKvNormIdeal.main_v0_2)) (v3 : (c : Dev Cert.AdamKvNormIdeal.nD) → Buf (Elt Ideal) ((c.tc : Thread Cert.AdamKvNormIdeal.nD Cert.AdamKvNormIdeal.τ).loc Cert.AdamKvNormIdeal.main_v0_3)),
      θ_run (Cert.AdamKvNormIdeal.defs (F := Ideal)) (onTc (τ := Cert.AdamKvNormIdeal.τ) (Cert.AdamKvNormIdeal.main (F := Ideal))) ⟨m, fun _ => 0, g⟩ (fun r => ∀ c : Dev Cert.AdamKvNormIdeal.nD,
          r.2.mem ((c.tc : Thread Cert.AdamKvNormIdeal.nD Cert.AdamKvNormIdeal.τ).loc Cert.AdamKvNormIdeal.main_v0_0) = v0 c
          ∧ r.2.mem ((c.tc : Thread Cert.AdamKvNormIdeal.nD Cert.AdamKvNormIdeal.τ).loc Cert.AdamKvNormIdeal.main_v0_1) = v1 c
          ∧ r.2.mem ((c.tc : Thread Cert.AdamKvNormIdeal.nD Cert.AdamKvNormIdeal.τ).loc Cert.AdamKvNormIdeal.main_v0_2) = v2 c
          ∧ r.2.mem ((c.tc : Thread Cert.AdamKvNormIdeal.nD Cert.AdamKvNormIdeal.τ).loc Cert.AdamKvNormIdeal.main_v0_3) = v3 c
          ∧ r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
          ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
          ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
          ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ θ_run (Cert.AdamKvNormRefIdeal.defs (F := Ideal)) (onTc (τ := Cert.AdamKvNormRefIdeal.τ) (Cert.AdamKvNormRefIdeal.main (F := Ideal))) ⟨m', fun _ => 0, g'⟩ (fun r => ∀ c : Dev Cert.AdamKvNormRefIdeal.nD,
          r.2.mem ((c.tc : Thread Cert.AdamKvNormRefIdeal.nD Cert.AdamKvNormRefIdeal.τ).loc Cert.AdamKvNormRefIdeal.main_v0) = v0 c
          ∧ r.2.mem ((c.tc : Thread Cert.AdamKvNormRefIdeal.nD Cert.AdamKvNormRefIdeal.τ).loc Cert.AdamKvNormRefIdeal.main_v24) = v1 c
          ∧ r.2.mem ((c.tc : Thread Cert.AdamKvNormRefIdeal.nD Cert.AdamKvNormRefIdeal.τ).loc Cert.AdamKvNormRefIdeal.main_v5) = v2 c
          ∧ r.2.mem ((c.tc : Thread Cert.AdamKvNormRefIdeal.nD Cert.AdamKvNormRefIdeal.τ).loc Cert.AdamKvNormRefIdeal.main_v11) = v3 c
          ∧ r.2.mem ((c.tc : Thread Cert.AdamKvNormRefIdeal.nD Cert.AdamKvNormRefIdeal.τ).loc Cert.AdamKvNormRefIdeal.main_arg0) = m' ((c.tc : Thread Cert.AdamKvNormRefIdeal.nD Cert.AdamKvNormRefIdeal.τ).loc Cert.AdamKvNormRefIdeal.main_arg0)
          ∧ r.2.mem ((c.tc : Thread Cert.AdamKvNormRefIdeal.nD Cert.AdamKvNormRefIdeal.τ).loc Cert.AdamKvNormRefIdeal.main_arg1) = m' ((c.tc : Thread Cert.AdamKvNormRefIdeal.nD Cert.AdamKvNormRefIdeal.τ).loc Cert.AdamKvNormRefIdeal.main_arg1)
          ∧ r.2.mem ((c.tc : Thread Cert.AdamKvNormRefIdeal.nD Cert.AdamKvNormRefIdeal.τ).loc Cert.AdamKvNormRefIdeal.main_arg2) = m' ((c.tc : Thread Cert.AdamKvNormRefIdeal.nD Cert.AdamKvNormRefIdeal.τ).loc Cert.AdamKvNormRefIdeal.main_arg2)
          ∧ r.2.mem ((c.tc : Thread Cert.AdamKvNormRefIdeal.nD Cert.AdamKvNormRefIdeal.τ).loc Cert.AdamKvNormRefIdeal.main_arg3) = m' ((c.tc : Thread Cert.AdamKvNormRefIdeal.nD Cert.AdamKvNormRefIdeal.τ).loc Cert.AdamKvNormRefIdeal.main_arg3))

def preserves_AdamGNorm_AdamGNormIdeal : Prop :=
  True

def algebraic_AdamGNormIdeal_AdamGNormRefIdeal [hAdamGNormIdeal : Cert.AdamGNormIdeal.Facts] [hAdamGNormRefIdeal : Cert.AdamGNormRefIdeal.Facts] : Prop :=
  ∀ (m : (ℓ : Loc Cert.AdamGNormIdeal.nD Cert.AdamGNormIdeal.τ Cert.AdamGNormIdeal.sig) → Buf (Elt Ideal) ℓ) (g : Dev Cert.AdamGNormIdeal.nD → PrngReg)
    (m' : (ℓ : Loc Cert.AdamGNormRefIdeal.nD Cert.AdamGNormRefIdeal.τ Cert.AdamGNormRefIdeal.sig) → Buf (Elt Ideal) ℓ) (g' : Dev Cert.AdamGNormRefIdeal.nD → PrngReg), Pre_AdamGNormIdeal m →
    (∀ c : Dev Cert.AdamGNormIdeal.nD,
      m' ((c.tc : Thread Cert.AdamGNormRefIdeal.nD Cert.AdamGNormRefIdeal.τ).loc Cert.AdamGNormRefIdeal.main_arg0) = m ((c.tc : Thread Cert.AdamGNormIdeal.nD Cert.AdamGNormIdeal.τ).loc Cert.AdamGNormIdeal.main_arg0)
      ∧ m' ((c.tc : Thread Cert.AdamGNormRefIdeal.nD Cert.AdamGNormRefIdeal.τ).loc Cert.AdamGNormRefIdeal.main_arg1) = m ((c.tc : Thread Cert.AdamGNormIdeal.nD Cert.AdamGNormIdeal.τ).loc Cert.AdamGNormIdeal.main_arg1)
      ∧ m' ((c.tc : Thread Cert.AdamGNormRefIdeal.nD Cert.AdamGNormRefIdeal.τ).loc Cert.AdamGNormRefIdeal.main_arg2) = m ((c.tc : Thread Cert.AdamGNormIdeal.nD Cert.AdamGNormIdeal.τ).loc Cert.AdamGNormIdeal.main_arg2)
      ∧ m' ((c.tc : Thread Cert.AdamGNormRefIdeal.nD Cert.AdamGNormRefIdeal.τ).loc Cert.AdamGNormRefIdeal.main_arg3) = m ((c.tc : Thread Cert.AdamGNormIdeal.nD Cert.AdamGNormIdeal.τ).loc Cert.AdamGNormIdeal.main_arg3)) →
    ∃ (v0 : (c : Dev Cert.AdamGNormIdeal.nD) → Buf (Elt Ideal) ((c.tc : Thread Cert.AdamGNormIdeal.nD Cert.AdamGNormIdeal.τ).loc Cert.AdamGNormIdeal.main_v0_0)) (v1 : (c : Dev Cert.AdamGNormIdeal.nD) → Buf (Elt Ideal) ((c.tc : Thread Cert.AdamGNormIdeal.nD Cert.AdamGNormIdeal.τ).loc Cert.AdamGNormIdeal.main_v0_1)) (v2 : (c : Dev Cert.AdamGNormIdeal.nD) → Buf (Elt Ideal) ((c.tc : Thread Cert.AdamGNormIdeal.nD Cert.AdamGNormIdeal.τ).loc Cert.AdamGNormIdeal.main_v0_2)) (v3 : (c : Dev Cert.AdamGNormIdeal.nD) → Buf (Elt Ideal) ((c.tc : Thread Cert.AdamGNormIdeal.nD Cert.AdamGNormIdeal.τ).loc Cert.AdamGNormIdeal.main_v0_3)),
      θ_run (Cert.AdamGNormIdeal.defs (F := Ideal)) (onTc (τ := Cert.AdamGNormIdeal.τ) (Cert.AdamGNormIdeal.main (F := Ideal))) ⟨m, fun _ => 0, g⟩ (fun r => ∀ c : Dev Cert.AdamGNormIdeal.nD,
          r.2.mem ((c.tc : Thread Cert.AdamGNormIdeal.nD Cert.AdamGNormIdeal.τ).loc Cert.AdamGNormIdeal.main_v0_0) = v0 c
          ∧ r.2.mem ((c.tc : Thread Cert.AdamGNormIdeal.nD Cert.AdamGNormIdeal.τ).loc Cert.AdamGNormIdeal.main_v0_1) = v1 c
          ∧ r.2.mem ((c.tc : Thread Cert.AdamGNormIdeal.nD Cert.AdamGNormIdeal.τ).loc Cert.AdamGNormIdeal.main_v0_2) = v2 c
          ∧ r.2.mem ((c.tc : Thread Cert.AdamGNormIdeal.nD Cert.AdamGNormIdeal.τ).loc Cert.AdamGNormIdeal.main_v0_3) = v3 c
          ∧ r.2.mem ((c.tc : Thread Cert.AdamGNormIdeal.nD Cert.AdamGNormIdeal.τ).loc Cert.AdamGNormIdeal.main_arg0) = m ((c.tc : Thread Cert.AdamGNormIdeal.nD Cert.AdamGNormIdeal.τ).loc Cert.AdamGNormIdeal.main_arg0)
          ∧ r.2.mem ((c.tc : Thread Cert.AdamGNormIdeal.nD Cert.AdamGNormIdeal.τ).loc Cert.AdamGNormIdeal.main_arg1) = m ((c.tc : Thread Cert.AdamGNormIdeal.nD Cert.AdamGNormIdeal.τ).loc Cert.AdamGNormIdeal.main_arg1)
          ∧ r.2.mem ((c.tc : Thread Cert.AdamGNormIdeal.nD Cert.AdamGNormIdeal.τ).loc Cert.AdamGNormIdeal.main_arg2) = m ((c.tc : Thread Cert.AdamGNormIdeal.nD Cert.AdamGNormIdeal.τ).loc Cert.AdamGNormIdeal.main_arg2)
          ∧ r.2.mem ((c.tc : Thread Cert.AdamGNormIdeal.nD Cert.AdamGNormIdeal.τ).loc Cert.AdamGNormIdeal.main_arg3) = m ((c.tc : Thread Cert.AdamGNormIdeal.nD Cert.AdamGNormIdeal.τ).loc Cert.AdamGNormIdeal.main_arg3))
      ∧ θ_run (Cert.AdamGNormRefIdeal.defs (F := Ideal)) (onTc (τ := Cert.AdamGNormRefIdeal.τ) (Cert.AdamGNormRefIdeal.main (F := Ideal))) ⟨m', fun _ => 0, g'⟩ (fun r => ∀ c : Dev Cert.AdamGNormRefIdeal.nD,
          r.2.mem ((c.tc : Thread Cert.AdamGNormRefIdeal.nD Cert.AdamGNormRefIdeal.τ).loc Cert.AdamGNormRefIdeal.main_v0) = v0 c
          ∧ r.2.mem ((c.tc : Thread Cert.AdamGNormRefIdeal.nD Cert.AdamGNormRefIdeal.τ).loc Cert.AdamGNormRefIdeal.main_v24) = v1 c
          ∧ r.2.mem ((c.tc : Thread Cert.AdamGNormRefIdeal.nD Cert.AdamGNormRefIdeal.τ).loc Cert.AdamGNormRefIdeal.main_v5) = v2 c
          ∧ r.2.mem ((c.tc : Thread Cert.AdamGNormRefIdeal.nD Cert.AdamGNormRefIdeal.τ).loc Cert.AdamGNormRefIdeal.main_v11) = v3 c
          ∧ r.2.mem ((c.tc : Thread Cert.AdamGNormRefIdeal.nD Cert.AdamGNormRefIdeal.τ).loc Cert.AdamGNormRefIdeal.main_arg0) = m' ((c.tc : Thread Cert.AdamGNormRefIdeal.nD Cert.AdamGNormRefIdeal.τ).loc Cert.AdamGNormRefIdeal.main_arg0)
          ∧ r.2.mem ((c.tc : Thread Cert.AdamGNormRefIdeal.nD Cert.AdamGNormRefIdeal.τ).loc Cert.AdamGNormRefIdeal.main_arg1) = m' ((c.tc : Thread Cert.AdamGNormRefIdeal.nD Cert.AdamGNormRefIdeal.τ).loc Cert.AdamGNormRefIdeal.main_arg1)
          ∧ r.2.mem ((c.tc : Thread Cert.AdamGNormRefIdeal.nD Cert.AdamGNormRefIdeal.τ).loc Cert.AdamGNormRefIdeal.main_arg2) = m' ((c.tc : Thread Cert.AdamGNormRefIdeal.nD Cert.AdamGNormRefIdeal.τ).loc Cert.AdamGNormRefIdeal.main_arg2)
          ∧ r.2.mem ((c.tc : Thread Cert.AdamGNormRefIdeal.nD Cert.AdamGNormRefIdeal.τ).loc Cert.AdamGNormRefIdeal.main_arg3) = m' ((c.tc : Thread Cert.AdamGNormRefIdeal.nD Cert.AdamGNormRefIdeal.τ).loc Cert.AdamGNormRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v0) = v0 c
          ∧ r.2.mem ((c.tc : Thread Cert.AdamNormRefIdeal.nD Cert.AdamNormRefIdeal.τ).loc Cert.AdamNormRefIdeal.main_v24) = v1 c
          ∧ r.2.mem ((c.tc : Thread Cert.AdamNormRefIdeal.nD Cert.AdamNormRefIdeal.τ).loc Cert.AdamNormRefIdeal.main_v5) = v2 c
          ∧ r.2.mem ((c.tc : Thread Cert.AdamNormRefIdeal.nD Cert.AdamNormRefIdeal.τ).loc Cert.AdamNormRefIdeal.main_v11) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v0_0)) (v1 : (c : Dev Cert.AdamAdaWIdeal.nD) → Buf (Elt Ideal) ((c.tc : Thread Cert.AdamAdaWIdeal.nD Cert.AdamAdaWIdeal.τ).loc Cert.AdamAdaWIdeal.main_v0_1)) (v2 : (c : Dev Cert.AdamAdaWIdeal.nD) → Buf (Elt Ideal) ((c.tc : Thread Cert.AdamAdaWIdeal.nD Cert.AdamAdaWIdeal.τ).loc Cert.AdamAdaWIdeal.main_v0_2)) (v3 : (c : Dev Cert.AdamAdaWIdeal.nD) → Buf (Elt Ideal) ((c.tc : Thread Cert.AdamAdaWIdeal.nD Cert.AdamAdaWIdeal.τ).loc Cert.AdamAdaWIdeal.main_v0_3)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v0_0) = v0 c
          ∧ r.2.mem ((c.tc : Thread Cert.AdamAdaWIdeal.nD Cert.AdamAdaWIdeal.τ).loc Cert.AdamAdaWIdeal.main_v0_1) = v1 c
          ∧ r.2.mem ((c.tc : Thread Cert.AdamAdaWIdeal.nD Cert.AdamAdaWIdeal.τ).loc Cert.AdamAdaWIdeal.main_v0_2) = v2 c
          ∧ r.2.mem ((c.tc : Thread Cert.AdamAdaWIdeal.nD Cert.AdamAdaWIdeal.τ).loc Cert.AdamAdaWIdeal.main_v0_3) = v3 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_v0) = v0 c
          ∧ r.2.mem ((c.tc : Thread Cert.AdamAdaWRefIdeal.nD Cert.AdamAdaWRefIdeal.τ).loc Cert.AdamAdaWRefIdeal.main_v24) = v1 c
          ∧ r.2.mem ((c.tc : Thread Cert.AdamAdaWRefIdeal.nD Cert.AdamAdaWRefIdeal.τ).loc Cert.AdamAdaWRefIdeal.main_v5) = v2 c
          ∧ r.2.mem ((c.tc : Thread Cert.AdamAdaWRefIdeal.nD Cert.AdamAdaWRefIdeal.τ).loc Cert.AdamAdaWRefIdeal.main_v11) = v3 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)) (v3 : (c : Dev Cert.AdamAdaBIdeal.nD) → Buf (Elt Ideal) ((c.tc : Thread Cert.AdamAdaBIdeal.nD Cert.AdamAdaBIdeal.τ).loc Cert.AdamAdaBIdeal.main_v0_3)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_v0_3) = v3 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v0) = v0 c
          ∧ r.2.mem ((c.tc : Thread Cert.AdamAdaBRefIdeal.nD Cert.AdamAdaBRefIdeal.τ).loc Cert.AdamAdaBRefIdeal.main_v24) = v1 c
          ∧ r.2.mem ((c.tc : Thread Cert.AdamAdaBRefIdeal.nD Cert.AdamAdaBRefIdeal.τ).loc Cert.AdamAdaBRefIdeal.main_v5) = v2 c
          ∧ r.2.mem ((c.tc : Thread Cert.AdamAdaBRefIdeal.nD Cert.AdamAdaBRefIdeal.τ).loc Cert.AdamAdaBRefIdeal.main_v11) = v3 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamMlaIn_AdamMlaInIdeal : Prop :=
  True

def algebraic_AdamMlaInIdeal_AdamMlaInRefIdeal [hAdamMlaInIdeal : Cert.AdamMlaInIdeal.Facts] [hAdamMlaInRefIdeal : Cert.AdamMlaInRefIdeal.Facts] : Prop :=
  ∀ (m : (ℓ : Loc Cert.AdamMlaInIdeal.nD Cert.AdamMlaInIdeal.τ Cert.AdamMlaInIdeal.sig) → Buf (Elt Ideal) ℓ) (g : Dev Cert.AdamMlaInIdeal.nD → PrngReg)
    (m' : (ℓ : Loc Cert.AdamMlaInRefIdeal.nD Cert.AdamMlaInRefIdeal.τ Cert.AdamMlaInRefIdeal.sig) → Buf (Elt Ideal) ℓ) (g' : Dev Cert.AdamMlaInRefIdeal.nD → PrngReg), Pre_AdamMlaInIdeal m →
    (∀ c : Dev Cert.AdamMlaInIdeal.nD,
      m' ((c.tc : Thread Cert.AdamMlaInRefIdeal.nD Cert.AdamMlaInRefIdeal.τ).loc Cert.AdamMlaInRefIdeal.main_arg0) = m ((c.tc : Thread Cert.AdamMlaInIdeal.nD Cert.AdamMlaInIdeal.τ).loc Cert.AdamMlaInIdeal.main_arg0)
      ∧ m' ((c.tc : Thread Cert.AdamMlaInRefIdeal.nD Cert.AdamMlaInRefIdeal.τ).loc Cert.AdamMlaInRefIdeal.main_arg1) = m ((c.tc : Thread Cert.AdamMlaInIdeal.nD Cert.AdamMlaInIdeal.τ).loc Cert.AdamMlaInIdeal.main_arg1)
      ∧ m' ((c.tc : Thread Cert.AdamMlaInRefIdeal.nD Cert.AdamMlaInRefIdeal.τ).loc Cert.AdamMlaInRefIdeal.main_arg2) = m ((c.tc : Thread Cert.AdamMlaInIdeal.nD Cert.AdamMlaInIdeal.τ).loc Cert.AdamMlaInIdeal.main_arg2)
      ∧ m' ((c.tc : Thread Cert.AdamMlaInRefIdeal.nD Cert.AdamMlaInRefIdeal.τ).loc Cert.AdamMlaInRefIdeal.main_arg3) = m ((c.tc : Thread Cert.AdamMlaInIdeal.nD Cert.AdamMlaInIdeal.τ).loc Cert.AdamMlaInIdeal.main_arg3)
      ∧ m' ((c.tc : Thread Cert.AdamMlaInRefIdeal.nD Cert.AdamMlaInRefIdeal.τ).loc Cert.AdamMlaInRefIdeal.main_arg4) = m ((c.tc : Thread Cert.AdamMlaInIdeal.nD Cert.AdamMlaInIdeal.τ).loc Cert.AdamMlaInIdeal.main_arg4)) →
    ∃ (v0 : (c : Dev Cert.AdamMlaInIdeal.nD) → Buf (Elt Ideal) ((c.tc : Thread Cert.AdamMlaInIdeal.nD Cert.AdamMlaInIdeal.τ).loc Cert.AdamMlaInIdeal.main_v0_0)) (v1 : (c : Dev Cert.AdamMlaInIdeal.nD) → Buf (Elt Ideal) ((c.tc : Thread Cert.AdamMlaInIdeal.nD Cert.AdamMlaInIdeal.τ).loc Cert.AdamMlaInIdeal.main_v0_1)) (v2 : (c : Dev Cert.AdamMlaInIdeal.nD) → Buf (Elt Ideal) ((c.tc : Thread Cert.AdamMlaInIdeal.nD Cert.AdamMlaInIdeal.τ).loc Cert.AdamMlaInIdeal.main_v0_2)) (v3 : (c : Dev Cert.AdamMlaInIdeal.nD) → Buf (Elt Ideal) ((c.tc : Thread Cert.AdamMlaInIdeal.nD Cert.AdamMlaInIdeal.τ).loc Cert.AdamMlaInIdeal.main_v0_3)),
      θ_run (Cert.AdamMlaInIdeal.defs (F := Ideal)) (onTc (τ := Cert.AdamMlaInIdeal.τ) (Cert.AdamMlaInIdeal.main (F := Ideal))) ⟨m, fun _ => 0, g⟩ (fun r => ∀ c : Dev Cert.AdamMlaInIdeal.nD,
          r.2.mem ((c.tc : Thread Cert.AdamMlaInIdeal.nD Cert.AdamMlaInIdeal.τ).loc Cert.AdamMlaInIdeal.main_v0_0) = v0 c
          ∧ r.2.mem ((c.tc : Thread Cert.AdamMlaInIdeal.nD Cert.AdamMlaInIdeal.τ).loc Cert.AdamMlaInIdeal.main_v0_1) = v1 c
          ∧ r.2.mem ((c.tc : Thread Cert.AdamMlaInIdeal.nD Cert.AdamMlaInIdeal.τ).loc Cert.AdamMlaInIdeal.main_v0_2) = v2 c
          ∧ r.2.mem ((c.tc : Thread Cert.AdamMlaInIdeal.nD Cert.AdamMlaInIdeal.τ).loc Cert.AdamMlaInIdeal.main_v0_3) = v3 c
          ∧ r.2.mem ((c.tc : Thread Cert.AdamMlaInIdeal.nD Cert.AdamMlaInIdeal.τ).loc Cert.AdamMlaInIdeal.main_arg0) = m ((c.tc : Thread Cert.AdamMlaInIdeal.nD Cert.AdamMlaInIdeal.τ).loc Cert.AdamMlaInIdeal.main_arg0)
          ∧ r.2.mem ((c.tc : Thread Cert.AdamMlaInIdeal.nD Cert.AdamMlaInIdeal.τ).loc Cert.AdamMlaInIdeal.main_arg1) = m ((c.tc : Thread Cert.AdamMlaInIdeal.nD Cert.AdamMlaInIdeal.τ).loc Cert.AdamMlaInIdeal.main_arg1)
          ∧ r.2.mem ((c.tc : Thread Cert.AdamMlaInIdeal.nD Cert.AdamMlaInIdeal.τ).loc Cert.AdamMlaInIdeal.main_arg2) = m ((c.tc : Thread Cert.AdamMlaInIdeal.nD Cert.AdamMlaInIdeal.τ).loc Cert.AdamMlaInIdeal.main_arg2)
          ∧ r.2.mem ((c.tc : Thread Cert.AdamMlaInIdeal.nD Cert.AdamMlaInIdeal.τ).loc Cert.AdamMlaInIdeal.main_arg3) = m ((c.tc : Thread Cert.AdamMlaInIdeal.nD Cert.AdamMlaInIdeal.τ).loc Cert.AdamMlaInIdeal.main_arg3)
          ∧ r.2.mem ((c.tc : Thread Cert.AdamMlaInIdeal.nD Cert.AdamMlaInIdeal.τ).loc Cert.AdamMlaInIdeal.main_arg4) = m ((c.tc : Thread Cert.AdamMlaInIdeal.nD Cert.AdamMlaInIdeal.τ).loc Cert.AdamMlaInIdeal.main_arg4))
      ∧ θ_run (Cert.AdamMlaInRefIdeal.defs (F := Ideal)) (onTc (τ := Cert.AdamMlaInRefIdeal.τ) (Cert.AdamMlaInRefIdeal.main (F := Ideal))) ⟨m', fun _ => 0, g'⟩ (fun r => ∀ c : Dev Cert.AdamMlaInRefIdeal.nD,
          r.2.mem ((c.tc : Thread Cert.AdamMlaInRefIdeal.nD Cert.AdamMlaInRefIdeal.τ).loc Cert.AdamMlaInRefIdeal.main_v4) = v0 c
          ∧ r.2.mem ((c.tc : Thread Cert.AdamMlaInRefIdeal.nD Cert.AdamMlaInRefIdeal.τ).loc Cert.AdamMlaInRefIdeal.main_v28) = v1 c
          ∧ r.2.mem ((c.tc : Thread Cert.AdamMlaInRefIdeal.nD Cert.AdamMlaInRefIdeal.τ).loc Cert.AdamMlaInRefIdeal.main_v9) = v2 c
          ∧ r.2.mem ((c.tc : Thread Cert.AdamMlaInRefIdeal.nD Cert.AdamMlaInRefIdeal.τ).loc Cert.AdamMlaInRefIdeal.main_v15) = v3 c
          ∧ r.2.mem ((c.tc : Thread Cert.AdamMlaInRefIdeal.nD Cert.AdamMlaInRefIdeal.τ).loc Cert.AdamMlaInRefIdeal.main_arg0) = m' ((c.tc : Thread Cert.AdamMlaInRefIdeal.nD Cert.AdamMlaInRefIdeal.τ).loc Cert.AdamMlaInRefIdeal.main_arg0)
          ∧ r.2.mem ((c.tc : Thread Cert.AdamMlaInRefIdeal.nD Cert.AdamMlaInRefIdeal.τ).loc Cert.AdamMlaInRefIdeal.main_arg1) = m' ((c.tc : Thread Cert.AdamMlaInRefIdeal.nD Cert.AdamMlaInRefIdeal.τ).loc Cert.AdamMlaInRefIdeal.main_arg1)
          ∧ r.2.mem ((c.tc : Thread Cert.AdamMlaInRefIdeal.nD Cert.AdamMlaInRefIdeal.τ).loc Cert.AdamMlaInRefIdeal.main_arg2) = m' ((c.tc : Thread Cert.AdamMlaInRefIdeal.nD Cert.AdamMlaInRefIdeal.τ).loc Cert.AdamMlaInRefIdeal.main_arg2)
          ∧ r.2.mem ((c.tc : Thread Cert.AdamMlaInRefIdeal.nD Cert.AdamMlaInRefIdeal.τ).loc Cert.AdamMlaInRefIdeal.main_arg3) = m' ((c.tc : Thread Cert.AdamMlaInRefIdeal.nD Cert.AdamMlaInRefIdeal.τ).loc Cert.AdamMlaInRefIdeal.main_arg3)
          ∧ r.2.mem ((c.tc : Thread Cert.AdamMlaInRefIdeal.nD Cert.AdamMlaInRefIdeal.τ).loc Cert.AdamMlaInRefIdeal.main_arg4) = m' ((c.tc : Thread Cert.AdamMlaInRefIdeal.nD Cert.AdamMlaInRefIdeal.τ).loc Cert.AdamMlaInRefIdeal.main_arg4))

def preserves_AdamMlaQ_AdamMlaQIdeal : Prop :=
  True

def algebraic_AdamMlaQIdeal_AdamMlaQRefIdeal [hAdamMlaQIdeal : Cert.AdamMlaQIdeal.Facts] [hAdamMlaQRefIdeal : Cert.AdamMlaQRefIdeal.Facts] : Prop :=
  ∀ (m : (ℓ : Loc Cert.AdamMlaQIdeal.nD Cert.AdamMlaQIdeal.τ Cert.AdamMlaQIdeal.sig) → Buf (Elt Ideal) ℓ) (g : Dev Cert.AdamMlaQIdeal.nD → PrngReg)
    (m' : (ℓ : Loc Cert.AdamMlaQRefIdeal.nD Cert.AdamMlaQRefIdeal.τ Cert.AdamMlaQRefIdeal.sig) → Buf (Elt Ideal) ℓ) (g' : Dev Cert.AdamMlaQRefIdeal.nD → PrngReg), Pre_AdamMlaQIdeal m →
    (∀ c : Dev Cert.AdamMlaQIdeal.nD,
      m' ((c.tc : Thread Cert.AdamMlaQRefIdeal.nD Cert.AdamMlaQRefIdeal.τ).loc Cert.AdamMlaQRefIdeal.main_arg0) = m ((c.tc : Thread Cert.AdamMlaQIdeal.nD Cert.AdamMlaQIdeal.τ).loc Cert.AdamMlaQIdeal.main_arg0)
      ∧ m' ((c.tc : Thread Cert.AdamMlaQRefIdeal.nD Cert.AdamMlaQRefIdeal.τ).loc Cert.AdamMlaQRefIdeal.main_arg1) = m ((c.tc : Thread Cert.AdamMlaQIdeal.nD Cert.AdamMlaQIdeal.τ).loc Cert.AdamMlaQIdeal.main_arg1)
      ∧ m' ((c.tc : Thread Cert.AdamMlaQRefIdeal.nD Cert.AdamMlaQRefIdeal.τ).loc Cert.AdamMlaQRefIdeal.main_arg2) = m ((c.tc : Thread Cert.AdamMlaQIdeal.nD Cert.AdamMlaQIdeal.τ).loc Cert.AdamMlaQIdeal.main_arg2)
      ∧ m' ((c.tc : Thread Cert.AdamMlaQRefIdeal.nD Cert.AdamMlaQRefIdeal.τ).loc Cert.AdamMlaQRefIdeal.main_arg3) = m ((c.tc : Thread Cert.AdamMlaQIdeal.nD Cert.AdamMlaQIdeal.τ).loc Cert.AdamMlaQIdeal.main_arg3)
      ∧ m' ((c.tc : Thread Cert.AdamMlaQRefIdeal.nD Cert.AdamMlaQRefIdeal.τ).loc Cert.AdamMlaQRefIdeal.main_arg4) = m ((c.tc : Thread Cert.AdamMlaQIdeal.nD Cert.AdamMlaQIdeal.τ).loc Cert.AdamMlaQIdeal.main_arg4)) →
    ∃ (v0 : (c : Dev Cert.AdamMlaQIdeal.nD) → Buf (Elt Ideal) ((c.tc : Thread Cert.AdamMlaQIdeal.nD Cert.AdamMlaQIdeal.τ).loc Cert.AdamMlaQIdeal.main_v0_0)) (v1 : (c : Dev Cert.AdamMlaQIdeal.nD) → Buf (Elt Ideal) ((c.tc : Thread Cert.AdamMlaQIdeal.nD Cert.AdamMlaQIdeal.τ).loc Cert.AdamMlaQIdeal.main_v0_1)) (v2 : (c : Dev Cert.AdamMlaQIdeal.nD) → Buf (Elt Ideal) ((c.tc : Thread Cert.AdamMlaQIdeal.nD Cert.AdamMlaQIdeal.τ).loc Cert.AdamMlaQIdeal.main_v0_2)) (v3 : (c : Dev Cert.AdamMlaQIdeal.nD) → Buf (Elt Ideal) ((c.tc : Thread Cert.AdamMlaQIdeal.nD Cert.AdamMlaQIdeal.τ).loc Cert.AdamMlaQIdeal.main_v0_3)),
      θ_run (Cert.AdamMlaQIdeal.defs (F := Ideal)) (onTc (τ := Cert.AdamMlaQIdeal.τ) (Cert.AdamMlaQIdeal.main (F := Ideal))) ⟨m, fun _ => 0, g⟩ (fun r => ∀ c : Dev Cert.AdamMlaQIdeal.nD,
          r.2.mem ((c.tc : Thread Cert.AdamMlaQIdeal.nD Cert.AdamMlaQIdeal.τ).loc Cert.AdamMlaQIdeal.main_v0_0) = v0 c
          ∧ r.2.mem ((c.tc : Thread Cert.AdamMlaQIdeal.nD Cert.AdamMlaQIdeal.τ).loc Cert.AdamMlaQIdeal.main_v0_1) = v1 c
          ∧ r.2.mem ((c.tc : Thread Cert.AdamMlaQIdeal.nD Cert.AdamMlaQIdeal.τ).loc Cert.AdamMlaQIdeal.main_v0_2) = v2 c
          ∧ r.2.mem ((c.tc : Thread Cert.AdamMlaQIdeal.nD Cert.AdamMlaQIdeal.τ).loc Cert.AdamMlaQIdeal.main_v0_3) = v3 c
          ∧ r.2.mem ((c.tc : Thread Cert.AdamMlaQIdeal.nD Cert.AdamMlaQIdeal.τ).loc Cert.AdamMlaQIdeal.main_arg0) = m ((c.tc : Thread Cert.AdamMlaQIdeal.nD Cert.AdamMlaQIdeal.τ).loc Cert.AdamMlaQIdeal.main_arg0)
          ∧ r.2.mem ((c.tc : Thread Cert.AdamMlaQIdeal.nD Cert.AdamMlaQIdeal.τ).loc Cert.AdamMlaQIdeal.main_arg1) = m ((c.tc : Thread Cert.AdamMlaQIdeal.nD Cert.AdamMlaQIdeal.τ).loc Cert.AdamMlaQIdeal.main_arg1)
          ∧ r.2.mem ((c.tc : Thread Cert.AdamMlaQIdeal.nD Cert.AdamMlaQIdeal.τ).loc Cert.AdamMlaQIdeal.main_arg2) = m ((c.tc : Thread Cert.AdamMlaQIdeal.nD Cert.AdamMlaQIdeal.τ).loc Cert.AdamMlaQIdeal.main_arg2)
          ∧ r.2.mem ((c.tc : Thread Cert.AdamMlaQIdeal.nD Cert.AdamMlaQIdeal.τ).loc Cert.AdamMlaQIdeal.main_arg3) = m ((c.tc : Thread Cert.AdamMlaQIdeal.nD Cert.AdamMlaQIdeal.τ).loc Cert.AdamMlaQIdeal.main_arg3)
          ∧ r.2.mem ((c.tc : Thread Cert.AdamMlaQIdeal.nD Cert.AdamMlaQIdeal.τ).loc Cert.AdamMlaQIdeal.main_arg4) = m ((c.tc : Thread Cert.AdamMlaQIdeal.nD Cert.AdamMlaQIdeal.τ).loc Cert.AdamMlaQIdeal.main_arg4))
      ∧ θ_run (Cert.AdamMlaQRefIdeal.defs (F := Ideal)) (onTc (τ := Cert.AdamMlaQRefIdeal.τ) (Cert.AdamMlaQRefIdeal.main (F := Ideal))) ⟨m', fun _ => 0, g'⟩ (fun r => ∀ c : Dev Cert.AdamMlaQRefIdeal.nD,
          r.2.mem ((c.tc : Thread Cert.AdamMlaQRefIdeal.nD Cert.AdamMlaQRefIdeal.τ).loc Cert.AdamMlaQRefIdeal.main_v4) = v0 c
          ∧ r.2.mem ((c.tc : Thread Cert.AdamMlaQRefIdeal.nD Cert.AdamMlaQRefIdeal.τ).loc Cert.AdamMlaQRefIdeal.main_v28) = v1 c
          ∧ r.2.mem ((c.tc : Thread Cert.AdamMlaQRefIdeal.nD Cert.AdamMlaQRefIdeal.τ).loc Cert.AdamMlaQRefIdeal.main_v9) = v2 c
          ∧ r.2.mem ((c.tc : Thread Cert.AdamMlaQRefIdeal.nD Cert.AdamMlaQRefIdeal.τ).loc Cert.AdamMlaQRefIdeal.main_v15) = v3 c
          ∧ r.2.mem ((c.tc : Thread Cert.AdamMlaQRefIdeal.nD Cert.AdamMlaQRefIdeal.τ).loc Cert.AdamMlaQRefIdeal.main_arg0) = m' ((c.tc : Thread Cert.AdamMlaQRefIdeal.nD Cert.AdamMlaQRefIdeal.τ).loc Cert.AdamMlaQRefIdeal.main_arg0)
          ∧ r.2.mem ((c.tc : Thread Cert.AdamMlaQRefIdeal.nD Cert.AdamMlaQRefIdeal.τ).loc Cert.AdamMlaQRefIdeal.main_arg1) = m' ((c.tc : Thread Cert.AdamMlaQRefIdeal.nD Cert.AdamMlaQRefIdeal.τ).loc Cert.AdamMlaQRefIdeal.main_arg1)
          ∧ r.2.mem ((c.tc : Thread Cert.AdamMlaQRefIdeal.nD Cert.AdamMlaQRefIdeal.τ).loc Cert.AdamMlaQRefIdeal.main_arg2) = m' ((c.tc : Thread Cert.AdamMlaQRefIdeal.nD Cert.AdamMlaQRefIdeal.τ).loc Cert.AdamMlaQRefIdeal.main_arg2)
          ∧ r.2.mem ((c.tc : Thread Cert.AdamMlaQRefIdeal.nD Cert.AdamMlaQRefIdeal.τ).loc Cert.AdamMlaQRefIdeal.main_arg3) = m' ((c.tc : Thread Cert.AdamMlaQRefIdeal.nD Cert.AdamMlaQRefIdeal.τ).loc Cert.AdamMlaQRefIdeal.main_arg3)
          ∧ r.2.mem ((c.tc : Thread Cert.AdamMlaQRefIdeal.nD Cert.AdamMlaQRefIdeal.τ).loc Cert.AdamMlaQRefIdeal.main_arg4) = m' ((c.tc : Thread Cert.AdamMlaQRefIdeal.nD Cert.AdamMlaQRefIdeal.τ).loc Cert.AdamMlaQRefIdeal.main_arg4))

def preserves_AdamMlaKv_AdamMlaKvIdeal : Prop :=
  True

def algebraic_AdamMlaKvIdeal_AdamMlaKvRefIdeal [hAdamMlaKvIdeal : Cert.AdamMlaKvIdeal.Facts] [hAdamMlaKvRefIdeal : Cert.AdamMlaKvRefIdeal.Facts] : Prop :=
  ∀ (m : (ℓ : Loc Cert.AdamMlaKvIdeal.nD Cert.AdamMlaKvIdeal.τ Cert.AdamMlaKvIdeal.sig) → Buf (Elt Ideal) ℓ) (g : Dev Cert.AdamMlaKvIdeal.nD → PrngReg)
    (m' : (ℓ : Loc Cert.AdamMlaKvRefIdeal.nD Cert.AdamMlaKvRefIdeal.τ Cert.AdamMlaKvRefIdeal.sig) → Buf (Elt Ideal) ℓ) (g' : Dev Cert.AdamMlaKvRefIdeal.nD → PrngReg), Pre_AdamMlaKvIdeal m →
    (∀ c : Dev Cert.AdamMlaKvIdeal.nD,
      m' ((c.tc : Thread Cert.AdamMlaKvRefIdeal.nD Cert.AdamMlaKvRefIdeal.τ).loc Cert.AdamMlaKvRefIdeal.main_arg0) = m ((c.tc : Thread Cert.AdamMlaKvIdeal.nD Cert.AdamMlaKvIdeal.τ).loc Cert.AdamMlaKvIdeal.main_arg0)
      ∧ m' ((c.tc : Thread Cert.AdamMlaKvRefIdeal.nD Cert.AdamMlaKvRefIdeal.τ).loc Cert.AdamMlaKvRefIdeal.main_arg1) = m ((c.tc : Thread Cert.AdamMlaKvIdeal.nD Cert.AdamMlaKvIdeal.τ).loc Cert.AdamMlaKvIdeal.main_arg1)
      ∧ m' ((c.tc : Thread Cert.AdamMlaKvRefIdeal.nD Cert.AdamMlaKvRefIdeal.τ).loc Cert.AdamMlaKvRefIdeal.main_arg2) = m ((c.tc : Thread Cert.AdamMlaKvIdeal.nD Cert.AdamMlaKvIdeal.τ).loc Cert.AdamMlaKvIdeal.main_arg2)
      ∧ m' ((c.tc : Thread Cert.AdamMlaKvRefIdeal.nD Cert.AdamMlaKvRefIdeal.τ).loc Cert.AdamMlaKvRefIdeal.main_arg3) = m ((c.tc : Thread Cert.AdamMlaKvIdeal.nD Cert.AdamMlaKvIdeal.τ).loc Cert.AdamMlaKvIdeal.main_arg3)
      ∧ m' ((c.tc : Thread Cert.AdamMlaKvRefIdeal.nD Cert.AdamMlaKvRefIdeal.τ).loc Cert.AdamMlaKvRefIdeal.main_arg4) = m ((c.tc : Thread Cert.AdamMlaKvIdeal.nD Cert.AdamMlaKvIdeal.τ).loc Cert.AdamMlaKvIdeal.main_arg4)) →
    ∃ (v0 : (c : Dev Cert.AdamMlaKvIdeal.nD) → Buf (Elt Ideal) ((c.tc : Thread Cert.AdamMlaKvIdeal.nD Cert.AdamMlaKvIdeal.τ).loc Cert.AdamMlaKvIdeal.main_v0_0)) (v1 : (c : Dev Cert.AdamMlaKvIdeal.nD) → Buf (Elt Ideal) ((c.tc : Thread Cert.AdamMlaKvIdeal.nD Cert.AdamMlaKvIdeal.τ).loc Cert.AdamMlaKvIdeal.main_v0_1)) (v2 : (c : Dev Cert.AdamMlaKvIdeal.nD) → Buf (Elt Ideal) ((c.tc : Thread Cert.AdamMlaKvIdeal.nD Cert.AdamMlaKvIdeal.τ).loc Cert.AdamMlaKvIdeal.main_v0_2)) (v3 : (c : Dev Cert.AdamMlaKvIdeal.nD) → Buf (Elt Ideal) ((c.tc : Thread Cert.AdamMlaKvIdeal.nD Cert.AdamMlaKvIdeal.τ).loc Cert.AdamMlaKvIdeal.main_v0_3)),
      θ_run (Cert.AdamMlaKvIdeal.defs (F := Ideal)) (onTc (τ := Cert.AdamMlaKvIdeal.τ) (Cert.AdamMlaKvIdeal.main (F := Ideal))) ⟨m, fun _ => 0, g⟩ (fun r => ∀ c : Dev Cert.AdamMlaKvIdeal.nD,
          r.2.mem ((c.tc : Thread Cert.AdamMlaKvIdeal.nD Cert.AdamMlaKvIdeal.τ).loc Cert.AdamMlaKvIdeal.main_v0_0) = v0 c
          ∧ r.2.mem ((c.tc : Thread Cert.AdamMlaKvIdeal.nD Cert.AdamMlaKvIdeal.τ).loc Cert.AdamMlaKvIdeal.main_v0_1) = v1 c
          ∧ r.2.mem ((c.tc : Thread Cert.AdamMlaKvIdeal.nD Cert.AdamMlaKvIdeal.τ).loc Cert.AdamMlaKvIdeal.main_v0_2) = v2 c
          ∧ r.2.mem ((c.tc : Thread Cert.AdamMlaKvIdeal.nD Cert.AdamMlaKvIdeal.τ).loc Cert.AdamMlaKvIdeal.main_v0_3) = v3 c
          ∧ r.2.mem ((c.tc : Thread Cert.AdamMlaKvIdeal.nD Cert.AdamMlaKvIdeal.τ).loc Cert.AdamMlaKvIdeal.main_arg0) = m ((c.tc : Thread Cert.AdamMlaKvIdeal.nD Cert.AdamMlaKvIdeal.τ).loc Cert.AdamMlaKvIdeal.main_arg0)
          ∧ r.2.mem ((c.tc : Thread Cert.AdamMlaKvIdeal.nD Cert.AdamMlaKvIdeal.τ).loc Cert.AdamMlaKvIdeal.main_arg1) = m ((c.tc : Thread Cert.AdamMlaKvIdeal.nD Cert.AdamMlaKvIdeal.τ).loc Cert.AdamMlaKvIdeal.main_arg1)
          ∧ r.2.mem ((c.tc : Thread Cert.AdamMlaKvIdeal.nD Cert.AdamMlaKvIdeal.τ).loc Cert.AdamMlaKvIdeal.main_arg2) = m ((c.tc : Thread Cert.AdamMlaKvIdeal.nD Cert.AdamMlaKvIdeal.τ).loc Cert.AdamMlaKvIdeal.main_arg2)
          ∧ r.2.mem ((c.tc : Thread Cert.AdamMlaKvIdeal.nD Cert.AdamMlaKvIdeal.τ).loc Cert.AdamMlaKvIdeal.main_arg3) = m ((c.tc : Thread Cert.AdamMlaKvIdeal.nD Cert.AdamMlaKvIdeal.τ).loc Cert.AdamMlaKvIdeal.main_arg3)
          ∧ r.2.mem ((c.tc : Thread Cert.AdamMlaKvIdeal.nD Cert.AdamMlaKvIdeal.τ).loc Cert.AdamMlaKvIdeal.main_arg4) = m ((c.tc : Thread Cert.AdamMlaKvIdeal.nD Cert.AdamMlaKvIdeal.τ).loc Cert.AdamMlaKvIdeal.main_arg4))
      ∧ θ_run (Cert.AdamMlaKvRefIdeal.defs (F := Ideal)) (onTc (τ := Cert.AdamMlaKvRefIdeal.τ) (Cert.AdamMlaKvRefIdeal.main (F := Ideal))) ⟨m', fun _ => 0, g'⟩ (fun r => ∀ c : Dev Cert.AdamMlaKvRefIdeal.nD,
          r.2.mem ((c.tc : Thread Cert.AdamMlaKvRefIdeal.nD Cert.AdamMlaKvRefIdeal.τ).loc Cert.AdamMlaKvRefIdeal.main_v4) = v0 c
          ∧ r.2.mem ((c.tc : Thread Cert.AdamMlaKvRefIdeal.nD Cert.AdamMlaKvRefIdeal.τ).loc Cert.AdamMlaKvRefIdeal.main_v28) = v1 c
          ∧ r.2.mem ((c.tc : Thread Cert.AdamMlaKvRefIdeal.nD Cert.AdamMlaKvRefIdeal.τ).loc Cert.AdamMlaKvRefIdeal.main_v9) = v2 c
          ∧ r.2.mem ((c.tc : Thread Cert.AdamMlaKvRefIdeal.nD Cert.AdamMlaKvRefIdeal.τ).loc Cert.AdamMlaKvRefIdeal.main_v15) = v3 c
          ∧ r.2.mem ((c.tc : Thread Cert.AdamMlaKvRefIdeal.nD Cert.AdamMlaKvRefIdeal.τ).loc Cert.AdamMlaKvRefIdeal.main_arg0) = m' ((c.tc : Thread Cert.AdamMlaKvRefIdeal.nD Cert.AdamMlaKvRefIdeal.τ).loc Cert.AdamMlaKvRefIdeal.main_arg0)
          ∧ r.2.mem ((c.tc : Thread Cert.AdamMlaKvRefIdeal.nD Cert.AdamMlaKvRefIdeal.τ).loc Cert.AdamMlaKvRefIdeal.main_arg1) = m' ((c.tc : Thread Cert.AdamMlaKvRefIdeal.nD Cert.AdamMlaKvRefIdeal.τ).loc Cert.AdamMlaKvRefIdeal.main_arg1)
          ∧ r.2.mem ((c.tc : Thread Cert.AdamMlaKvRefIdeal.nD Cert.AdamMlaKvRefIdeal.τ).loc Cert.AdamMlaKvRefIdeal.main_arg2) = m' ((c.tc : Thread Cert.AdamMlaKvRefIdeal.nD Cert.AdamMlaKvRefIdeal.τ).loc Cert.AdamMlaKvRefIdeal.main_arg2)
          ∧ r.2.mem ((c.tc : Thread Cert.AdamMlaKvRefIdeal.nD Cert.AdamMlaKvRefIdeal.τ).loc Cert.AdamMlaKvRefIdeal.main_arg3) = m' ((c.tc : Thread Cert.AdamMlaKvRefIdeal.nD Cert.AdamMlaKvRefIdeal.τ).loc Cert.AdamMlaKvRefIdeal.main_arg3)
          ∧ r.2.mem ((c.tc : Thread Cert.AdamMlaKvRefIdeal.nD Cert.AdamMlaKvRefIdeal.τ).loc Cert.AdamMlaKvRefIdeal.main_arg4) = m' ((c.tc : Thread Cert.AdamMlaKvRefIdeal.nD Cert.AdamMlaKvRefIdeal.τ).loc Cert.AdamMlaKvRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v4) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v9) = v2 c
          ∧ r.2.mem ((c.tc : Thread Cert.AdamOutRefIdeal.nD Cert.AdamOutRefIdeal.τ).loc Cert.AdamOutRefIdeal.main_v15) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamHgrnIn_AdamHgrnInIdeal : Prop :=
  True

def algebraic_AdamHgrnInIdeal_AdamHgrnInRefIdeal [hAdamHgrnInIdeal : Cert.AdamHgrnInIdeal.Facts] [hAdamHgrnInRefIdeal : Cert.AdamHgrnInRefIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg)
    (m' : (ℓ : Loc Cert.AdamHgrnInRefIdeal.nD Cert.AdamHgrnInRefIdeal.τ Cert.AdamHgrnInRefIdeal.sig) → Buf (Elt Ideal) ℓ) (g' : Dev Cert.AdamHgrnInRefIdeal.nD → PrngReg), Pre_AdamHgrnInIdeal m →
    (∀ c : Dev Cert.AdamHgrnInIdeal.nD,
      m' ((c.tc : Thread Cert.AdamHgrnInRefIdeal.nD Cert.AdamHgrnInRefIdeal.τ).loc Cert.AdamHgrnInRefIdeal.main_arg0) = m ((c.tc : Thread Cert.AdamHgrnInIdeal.nD Cert.AdamHgrnInIdeal.τ).loc Cert.AdamHgrnInIdeal.main_arg0)
      ∧ m' ((c.tc : Thread Cert.AdamHgrnInRefIdeal.nD Cert.AdamHgrnInRefIdeal.τ).loc Cert.AdamHgrnInRefIdeal.main_arg1) = m ((c.tc : Thread Cert.AdamHgrnInIdeal.nD Cert.AdamHgrnInIdeal.τ).loc Cert.AdamHgrnInIdeal.main_arg1)
      ∧ m' ((c.tc : Thread Cert.AdamHgrnInRefIdeal.nD Cert.AdamHgrnInRefIdeal.τ).loc Cert.AdamHgrnInRefIdeal.main_arg2) = m ((c.tc : Thread Cert.AdamHgrnInIdeal.nD Cert.AdamHgrnInIdeal.τ).loc Cert.AdamHgrnInIdeal.main_arg2)
      ∧ m' ((c.tc : Thread Cert.AdamHgrnInRefIdeal.nD Cert.AdamHgrnInRefIdeal.τ).loc Cert.AdamHgrnInRefIdeal.main_arg3) = m ((c.tc : Thread Cert.AdamHgrnInIdeal.nD Cert.AdamHgrnInIdeal.τ).loc Cert.AdamHgrnInIdeal.main_arg3)
      ∧ m' ((c.tc : Thread Cert.AdamHgrnInRefIdeal.nD Cert.AdamHgrnInRefIdeal.τ).loc Cert.AdamHgrnInRefIdeal.main_arg4) = m ((c.tc : Thread Cert.AdamHgrnInIdeal.nD Cert.AdamHgrnInIdeal.τ).loc Cert.AdamHgrnInIdeal.main_arg4)) →
    ∃ (v0 : (c : Dev Cert.AdamHgrnInIdeal.nD) → Buf (Elt Ideal) ((c.tc : Thread Cert.AdamHgrnInIdeal.nD Cert.AdamHgrnInIdeal.τ).loc Cert.AdamHgrnInIdeal.main_v0_0)) (v1 : (c : Dev Cert.AdamHgrnInIdeal.nD) → Buf (Elt Ideal) ((c.tc : Thread Cert.AdamHgrnInIdeal.nD Cert.AdamHgrnInIdeal.τ).loc Cert.AdamHgrnInIdeal.main_v0_1)) (v2 : (c : Dev Cert.AdamHgrnInIdeal.nD) → Buf (Elt Ideal) ((c.tc : Thread Cert.AdamHgrnInIdeal.nD Cert.AdamHgrnInIdeal.τ).loc Cert.AdamHgrnInIdeal.main_v0_2)) (v3 : (c : Dev Cert.AdamHgrnInIdeal.nD) → Buf (Elt Ideal) ((c.tc : Thread Cert.AdamHgrnInIdeal.nD Cert.AdamHgrnInIdeal.τ).loc Cert.AdamHgrnInIdeal.main_v0_3)),
      θ_run (Cert.AdamHgrnInIdeal.defs (F := Ideal)) (onTc (τ := Cert.AdamHgrnInIdeal.τ) (Cert.AdamHgrnInIdeal.main (F := Ideal))) ⟨m, fun _ => 0, g⟩ (fun r => ∀ c : Dev Cert.AdamHgrnInIdeal.nD,
          r.2.mem ((c.tc : Thread Cert.AdamHgrnInIdeal.nD Cert.AdamHgrnInIdeal.τ).loc Cert.AdamHgrnInIdeal.main_v0_0) = v0 c
          ∧ r.2.mem ((c.tc : Thread Cert.AdamHgrnInIdeal.nD Cert.AdamHgrnInIdeal.τ).loc Cert.AdamHgrnInIdeal.main_v0_1) = v1 c
          ∧ r.2.mem ((c.tc : Thread Cert.AdamHgrnInIdeal.nD Cert.AdamHgrnInIdeal.τ).loc Cert.AdamHgrnInIdeal.main_v0_2) = v2 c
          ∧ r.2.mem ((c.tc : Thread Cert.AdamHgrnInIdeal.nD Cert.AdamHgrnInIdeal.τ).loc Cert.AdamHgrnInIdeal.main_v0_3) = v3 c
          ∧ r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
          ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
          ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
          ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3)
          ∧ r.2.mem ((c.tc : Thread Cert.AdamHgrnInIdeal.nD Cert.AdamHgrnInIdeal.τ).loc Cert.AdamHgrnInIdeal.main_arg4) = m ((c.tc : Thread Cert.AdamHgrnInIdeal.nD Cert.AdamHgrnInIdeal.τ).loc Cert.AdamHgrnInIdeal.main_arg4))
      ∧ θ_run (Cert.AdamHgrnInRefIdeal.defs (F := Ideal)) (onTc (τ := Cert.AdamHgrnInRefIdeal.τ) (Cert.AdamHgrnInRefIdeal.main (F := Ideal))) ⟨m', fun _ => 0, g'⟩ (fun r => ∀ c : Dev Cert.AdamHgrnInRefIdeal.nD,
          r.2.mem ((c.tc : Thread Cert.AdamHgrnInRefIdeal.nD Cert.AdamHgrnInRefIdeal.τ).loc Cert.AdamHgrnInRefIdeal.main_v4) = v0 c
          ∧ r.2.mem ((c.tc : Thread Cert.AdamHgrnInRefIdeal.nD Cert.AdamHgrnInRefIdeal.τ).loc Cert.AdamHgrnInRefIdeal.main_v28) = v1 c
          ∧ r.2.mem ((c.tc : Thread Cert.AdamHgrnInRefIdeal.nD Cert.AdamHgrnInRefIdeal.τ).loc Cert.AdamHgrnInRefIdeal.main_v9) = v2 c
          ∧ r.2.mem ((c.tc : Thread Cert.AdamHgrnInRefIdeal.nD Cert.AdamHgrnInRefIdeal.τ).loc Cert.AdamHgrnInRefIdeal.main_v15) = v3 c
          ∧ r.2.mem ((c.tc : Thread Cert.AdamHgrnInRefIdeal.nD Cert.AdamHgrnInRefIdeal.τ).loc Cert.AdamHgrnInRefIdeal.main_arg0) = m' ((c.tc : Thread Cert.AdamHgrnInRefIdeal.nD Cert.AdamHgrnInRefIdeal.τ).loc Cert.AdamHgrnInRefIdeal.main_arg0)
          ∧ r.2.mem ((c.tc : Thread Cert.AdamHgrnInRefIdeal.nD Cert.AdamHgrnInRefIdeal.τ).loc Cert.AdamHgrnInRefIdeal.main_arg1) = m' ((c.tc : Thread Cert.AdamHgrnInRefIdeal.nD Cert.AdamHgrnInRefIdeal.τ).loc Cert.AdamHgrnInRefIdeal.main_arg1)
          ∧ r.2.mem ((c.tc : Thread Cert.AdamHgrnInRefIdeal.nD Cert.AdamHgrnInRefIdeal.τ).loc Cert.AdamHgrnInRefIdeal.main_arg2) = m' ((c.tc : Thread Cert.AdamHgrnInRefIdeal.nD Cert.AdamHgrnInRefIdeal.τ).loc Cert.AdamHgrnInRefIdeal.main_arg2)
          ∧ r.2.mem ((c.tc : Thread Cert.AdamHgrnInRefIdeal.nD Cert.AdamHgrnInRefIdeal.τ).loc Cert.AdamHgrnInRefIdeal.main_arg3) = m' ((c.tc : Thread Cert.AdamHgrnInRefIdeal.nD Cert.AdamHgrnInRefIdeal.τ).loc Cert.AdamHgrnInRefIdeal.main_arg3)
          ∧ r.2.mem ((c.tc : Thread Cert.AdamHgrnInRefIdeal.nD Cert.AdamHgrnInRefIdeal.τ).loc Cert.AdamHgrnInRefIdeal.main_arg4) = m' ((c.tc : Thread Cert.AdamHgrnInRefIdeal.nD Cert.AdamHgrnInRefIdeal.τ).loc Cert.AdamHgrnInRefIdeal.main_arg4))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)
      ∧ m' ((c.tc : Thread Cert.AdamFfnInRefIdeal.nD Cert.AdamFfnInRefIdeal.τ).loc Cert.AdamFfnInRefIdeal.main_arg5) = m ((c.tc : Thread Cert.AdamFfnInIdeal.nD Cert.AdamFfnInIdeal.τ).loc Cert.AdamFfnInIdeal.main_arg5)
      ∧ m' ((c.tc : Thread Cert.AdamFfnInRefIdeal.nD Cert.AdamFfnInRefIdeal.τ).loc Cert.AdamFfnInRefIdeal.main_arg6) = m ((c.tc : Thread Cert.AdamFfnInIdeal.nD Cert.AdamFfnInIdeal.τ).loc Cert.AdamFfnInIdeal.main_arg6)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
          ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
          ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v8) = v0 c
          ∧ r.2.mem ((c.tc : Thread Cert.AdamFfnInRefIdeal.nD Cert.AdamFfnInRefIdeal.τ).loc Cert.AdamFfnInRefIdeal.main_v32) = v1 c
          ∧ r.2.mem ((c.tc : Thread Cert.AdamFfnInRefIdeal.nD Cert.AdamFfnInRefIdeal.τ).loc Cert.AdamFfnInRefIdeal.main_v13) = v2 c
          ∧ r.2.mem ((c.tc : Thread Cert.AdamFfnInRefIdeal.nD Cert.AdamFfnInRefIdeal.τ).loc Cert.AdamFfnInRefIdeal.main_v19) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4)
          ∧ r.2.mem ((c.tc : Thread Cert.AdamFfnInRefIdeal.nD Cert.AdamFfnInRefIdeal.τ).loc Cert.AdamFfnInRefIdeal.main_arg5) = m' ((c.tc : Thread Cert.AdamFfnInRefIdeal.nD Cert.AdamFfnInRefIdeal.τ).loc Cert.AdamFfnInRefIdeal.main_arg5)
          ∧ r.2.mem ((c.tc : Thread Cert.AdamFfnInRefIdeal.nD Cert.AdamFfnInRefIdeal.τ).loc Cert.AdamFfnInRefIdeal.main_arg6) = m' ((c.tc : Thread Cert.AdamFfnInRefIdeal.nD Cert.AdamFfnInRefIdeal.τ).loc Cert.AdamFfnInRefIdeal.main_arg6))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)
      ∧ m' ((c.tc : Thread Cert.AdamFfnOutRefIdeal.nD Cert.AdamFfnOutRefIdeal.τ).loc Cert.AdamFfnOutRefIdeal.main_arg5) = m ((c.tc : Thread Cert.AdamFfnOutIdeal.nD Cert.AdamFfnOutIdeal.τ).loc Cert.AdamFfnOutIdeal.main_arg5)
      ∧ m' ((c.tc : Thread Cert.AdamFfnOutRefIdeal.nD Cert.AdamFfnOutRefIdeal.τ).loc Cert.AdamFfnOutRefIdeal.main_arg6) = m ((c.tc : Thread Cert.AdamFfnOutIdeal.nD Cert.AdamFfnOutIdeal.τ).loc Cert.AdamFfnOutIdeal.main_arg6)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
          ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
          ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v8) = v0 c
          ∧ r.2.mem ((c.tc : Thread Cert.AdamFfnOutRefIdeal.nD Cert.AdamFfnOutRefIdeal.τ).loc Cert.AdamFfnOutRefIdeal.main_v32) = v1 c
          ∧ r.2.mem ((c.tc : Thread Cert.AdamFfnOutRefIdeal.nD Cert.AdamFfnOutRefIdeal.τ).loc Cert.AdamFfnOutRefIdeal.main_v13) = v2 c
          ∧ r.2.mem ((c.tc : Thread Cert.AdamFfnOutRefIdeal.nD Cert.AdamFfnOutRefIdeal.τ).loc Cert.AdamFfnOutRefIdeal.main_v19) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4)
          ∧ r.2.mem ((c.tc : Thread Cert.AdamFfnOutRefIdeal.nD Cert.AdamFfnOutRefIdeal.τ).loc Cert.AdamFfnOutRefIdeal.main_arg5) = m' ((c.tc : Thread Cert.AdamFfnOutRefIdeal.nD Cert.AdamFfnOutRefIdeal.τ).loc Cert.AdamFfnOutRefIdeal.main_arg5)
          ∧ r.2.mem ((c.tc : Thread Cert.AdamFfnOutRefIdeal.nD Cert.AdamFfnOutRefIdeal.τ).loc Cert.AdamFfnOutRefIdeal.main_arg6) = m' ((c.tc : Thread Cert.AdamFfnOutRefIdeal.nD Cert.AdamFfnOutRefIdeal.τ).loc Cert.AdamFfnOutRefIdeal.main_arg6))

def preserves_ModFirst_ModFirstIdeal : Prop :=
  True

def algebraic_ModFirstIdeal_ModFirstRefIdeal [hModFirstIdeal : Cert.ModFirstIdeal.Facts] [hModFirstRefIdeal : Cert.ModFirstRefIdeal.Facts] : Prop :=
  ∀ (m : (ℓ : Loc Cert.ModFirstIdeal.nD Cert.ModFirstIdeal.τ Cert.ModFirstIdeal.sig) → Buf (Elt Ideal) ℓ) (g : Dev Cert.ModFirstIdeal.nD → PrngReg)
    (m' : (ℓ : Loc Cert.ModFirstRefIdeal.nD Cert.ModFirstRefIdeal.τ Cert.ModFirstRefIdeal.sig) → Buf (Elt Ideal) ℓ) (g' : Dev Cert.ModFirstRefIdeal.nD → PrngReg), Pre_ModFirstIdeal m →
    (∀ c : Dev Cert.ModFirstIdeal.nD,
      m' ((c.tc : Thread Cert.ModFirstRefIdeal.nD Cert.ModFirstRefIdeal.τ).loc Cert.ModFirstRefIdeal.main_arg0) = m ((c.tc : Thread Cert.ModFirstIdeal.nD Cert.ModFirstIdeal.τ).loc Cert.ModFirstIdeal.main_arg0)
      ∧ m' ((c.tc : Thread Cert.ModFirstRefIdeal.nD Cert.ModFirstRefIdeal.τ).loc Cert.ModFirstRefIdeal.main_arg1) = m ((c.tc : Thread Cert.ModFirstIdeal.nD Cert.ModFirstIdeal.τ).loc Cert.ModFirstIdeal.main_arg1)
      ∧ m' ((c.tc : Thread Cert.ModFirstRefIdeal.nD Cert.ModFirstRefIdeal.τ).loc Cert.ModFirstRefIdeal.main_arg2) = m ((c.tc : Thread Cert.ModFirstIdeal.nD Cert.ModFirstIdeal.τ).loc Cert.ModFirstIdeal.main_arg2)
      ∧ m' ((c.tc : Thread Cert.ModFirstRefIdeal.nD Cert.ModFirstRefIdeal.τ).loc Cert.ModFirstRefIdeal.main_arg3) = m ((c.tc : Thread Cert.ModFirstIdeal.nD Cert.ModFirstIdeal.τ).loc Cert.ModFirstIdeal.main_arg3)
      ∧ m' ((c.tc : Thread Cert.ModFirstRefIdeal.nD Cert.ModFirstRefIdeal.τ).loc Cert.ModFirstRefIdeal.main_arg4) = m ((c.tc : Thread Cert.ModFirstIdeal.nD Cert.ModFirstIdeal.τ).loc Cert.ModFirstIdeal.main_arg4)) →
    ∃ (v0 : (c : Dev Cert.ModFirstIdeal.nD) → Buf (Elt Ideal) ((c.tc : Thread Cert.ModFirstIdeal.nD Cert.ModFirstIdeal.τ).loc Cert.ModFirstIdeal.main_v0_0)) (v1 : (c : Dev Cert.ModFirstIdeal.nD) → Buf (Elt Ideal) ((c.tc : Thread Cert.ModFirstIdeal.nD Cert.ModFirstIdeal.τ).loc Cert.ModFirstIdeal.main_v0_1)) (v2 : (c : Dev Cert.ModFirstIdeal.nD) → Buf (Elt Ideal) ((c.tc : Thread Cert.ModFirstIdeal.nD Cert.ModFirstIdeal.τ).loc Cert.ModFirstIdeal.main_v0_2)),
      θ_run (Cert.ModFirstIdeal.defs (F := Ideal)) (onTc (τ := Cert.ModFirstIdeal.τ) (Cert.ModFirstIdeal.main (F := Ideal))) ⟨m, fun _ => 0, g⟩ (fun r => ∀ c : Dev Cert.ModFirstIdeal.nD,
          r.2.mem ((c.tc : Thread Cert.ModFirstIdeal.nD Cert.ModFirstIdeal.τ).loc Cert.ModFirstIdeal.main_v0_0) = v0 c
          ∧ r.2.mem ((c.tc : Thread Cert.ModFirstIdeal.nD Cert.ModFirstIdeal.τ).loc Cert.ModFirstIdeal.main_v0_1) = v1 c
          ∧ r.2.mem ((c.tc : Thread Cert.ModFirstIdeal.nD Cert.ModFirstIdeal.τ).loc Cert.ModFirstIdeal.main_v0_2) = v2 c
          ∧ r.2.mem ((c.tc : Thread Cert.ModFirstIdeal.nD Cert.ModFirstIdeal.τ).loc Cert.ModFirstIdeal.main_arg0) = m ((c.tc : Thread Cert.ModFirstIdeal.nD Cert.ModFirstIdeal.τ).loc Cert.ModFirstIdeal.main_arg0)
          ∧ r.2.mem ((c.tc : Thread Cert.ModFirstIdeal.nD Cert.ModFirstIdeal.τ).loc Cert.ModFirstIdeal.main_arg1) = m ((c.tc : Thread Cert.ModFirstIdeal.nD Cert.ModFirstIdeal.τ).loc Cert.ModFirstIdeal.main_arg1)
          ∧ r.2.mem ((c.tc : Thread Cert.ModFirstIdeal.nD Cert.ModFirstIdeal.τ).loc Cert.ModFirstIdeal.main_arg2) = m ((c.tc : Thread Cert.ModFirstIdeal.nD Cert.ModFirstIdeal.τ).loc Cert.ModFirstIdeal.main_arg2)
          ∧ r.2.mem ((c.tc : Thread Cert.ModFirstIdeal.nD Cert.ModFirstIdeal.τ).loc Cert.ModFirstIdeal.main_arg3) = m ((c.tc : Thread Cert.ModFirstIdeal.nD Cert.ModFirstIdeal.τ).loc Cert.ModFirstIdeal.main_arg3)
          ∧ r.2.mem ((c.tc : Thread Cert.ModFirstIdeal.nD Cert.ModFirstIdeal.τ).loc Cert.ModFirstIdeal.main_arg4) = m ((c.tc : Thread Cert.ModFirstIdeal.nD Cert.ModFirstIdeal.τ).loc Cert.ModFirstIdeal.main_arg4))
      ∧ θ_run (Cert.ModFirstRefIdeal.defs (F := Ideal)) (onTc (τ := Cert.ModFirstRefIdeal.τ) (Cert.ModFirstRefIdeal.main (F := Ideal))) ⟨m', fun _ => 0, g'⟩ (fun r => ∀ c : Dev Cert.ModFirstRefIdeal.nD,
          r.2.mem ((c.tc : Thread Cert.ModFirstRefIdeal.nD Cert.ModFirstRefIdeal.τ).loc Cert.ModFirstRefIdeal.main_v14) = v0 c
          ∧ r.2.mem ((c.tc : Thread Cert.ModFirstRefIdeal.nD Cert.ModFirstRefIdeal.τ).loc Cert.ModFirstRefIdeal.main_v11) = v1 c
          ∧ r.2.mem ((c.tc : Thread Cert.ModFirstRefIdeal.nD Cert.ModFirstRefIdeal.τ).loc Cert.ModFirstRefIdeal.main_v8) = v2 c
          ∧ r.2.mem ((c.tc : Thread Cert.ModFirstRefIdeal.nD Cert.ModFirstRefIdeal.τ).loc Cert.ModFirstRefIdeal.main_arg0) = m' ((c.tc : Thread Cert.ModFirstRefIdeal.nD Cert.ModFirstRefIdeal.τ).loc Cert.ModFirstRefIdeal.main_arg0)
          ∧ r.2.mem ((c.tc : Thread Cert.ModFirstRefIdeal.nD Cert.ModFirstRefIdeal.τ).loc Cert.ModFirstRefIdeal.main_arg1) = m' ((c.tc : Thread Cert.ModFirstRefIdeal.nD Cert.ModFirstRefIdeal.τ).loc Cert.ModFirstRefIdeal.main_arg1)
          ∧ r.2.mem ((c.tc : Thread Cert.ModFirstRefIdeal.nD Cert.ModFirstRefIdeal.τ).loc Cert.ModFirstRefIdeal.main_arg2) = m' ((c.tc : Thread Cert.ModFirstRefIdeal.nD Cert.ModFirstRefIdeal.τ).loc Cert.ModFirstRefIdeal.main_arg2)
          ∧ r.2.mem ((c.tc : Thread Cert.ModFirstRefIdeal.nD Cert.ModFirstRefIdeal.τ).loc Cert.ModFirstRefIdeal.main_arg3) = m' ((c.tc : Thread Cert.ModFirstRefIdeal.nD Cert.ModFirstRefIdeal.τ).loc Cert.ModFirstRefIdeal.main_arg3)
          ∧ r.2.mem ((c.tc : Thread Cert.ModFirstRefIdeal.nD Cert.ModFirstRefIdeal.τ).loc Cert.ModFirstRefIdeal.main_arg4) = m' ((c.tc : Thread Cert.ModFirstRefIdeal.nD Cert.ModFirstRefIdeal.τ).loc Cert.ModFirstRefIdeal.main_arg4))

def preserves_LnLoss_LnLossIdeal : Prop :=
  True

def algebraic_LnLossIdeal_LnLossRefIdeal [hLnLossIdeal : Cert.LnLossIdeal.Facts] [hLnLossRefIdeal : Cert.LnLossRefIdeal.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)
      ∧ m' ((c.tc : Thread Cert.LnLossRefIdeal.nD Cert.LnLossRefIdeal.τ).loc Cert.LnLossRefIdeal.main_arg4) = m ((c.tc : Thread Cert.LnLossIdeal.nD Cert.LnLossIdeal.τ).loc Cert.LnLossIdeal.main_arg4)
      ∧ m' ((c.tc : Thread Cert.LnLossRefIdeal.nD Cert.LnLossRefIdeal.τ).loc Cert.LnLossRefIdeal.main_arg5) = m ((c.tc : Thread Cert.LnLossIdeal.nD Cert.LnLossIdeal.τ).loc Cert.LnLossIdeal.main_arg5)) →
    ∃ (v0 : (c : Dev Cert.LnLossIdeal.nD) → Buf (Elt Ideal) ((c.tc : Thread Cert.LnLossIdeal.nD Cert.LnLossIdeal.τ).loc Cert.LnLossIdeal.main_v0)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v0) = v0 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
          ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v38) = v0 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3)
          ∧ r.2.mem ((c.tc : Thread Cert.LnLossRefIdeal.nD Cert.LnLossRefIdeal.τ).loc Cert.LnLossRefIdeal.main_arg4) = m' ((c.tc : Thread Cert.LnLossRefIdeal.nD Cert.LnLossRefIdeal.τ).loc Cert.LnLossRefIdeal.main_arg4)
          ∧ r.2.mem ((c.tc : Thread Cert.LnLossRefIdeal.nD Cert.LnLossRefIdeal.τ).loc Cert.LnLossRefIdeal.main_arg5) = m' ((c.tc : Thread Cert.LnLossRefIdeal.nD Cert.LnLossRefIdeal.τ).loc Cert.LnLossRefIdeal.main_arg5))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hFfnOutDw : Cert.FfnOutDw.Facts) (hFfnOutDwIdeal : Cert.FfnOutDwIdeal.Facts) (hFfnOutDwRefIdeal : Cert.FfnOutDwRefIdeal.Facts) (hFfnOutDx : Cert.FfnOutDx.Facts) (hFfnOutDxIdeal : Cert.FfnOutDxIdeal.Facts) (hFfnOutDxRefIdeal : Cert.FfnOutDxRefIdeal.Facts) (hFfnInDw : Cert.FfnInDw.Facts) (hFfnInDwIdeal : Cert.FfnInDwIdeal.Facts) (hFfnInDwRefIdeal : Cert.FfnInDwRefIdeal.Facts) (hFfnInDx : Cert.FfnInDx.Facts) (hFfnInDxIdeal : Cert.FfnInDxIdeal.Facts) (hFfnInDxRefIdeal : Cert.FfnInDxRefIdeal.Facts) (hHgrnIn : Cert.HgrnIn.Facts) (hHgrnInIdeal : Cert.HgrnInIdeal.Facts) (hHgrnInRefIdeal : Cert.HgrnInRefIdeal.Facts) (hHgrnInDx : Cert.HgrnInDx.Facts) (hHgrnInDxIdeal : Cert.HgrnInDxIdeal.Facts) (hHgrnInDxRefIdeal : Cert.HgrnInDxRefIdeal.Facts) (hMixDw : Cert.MixDw.Facts) (hMixDwIdeal : Cert.MixDwIdeal.Facts) (hMixDwRefIdeal : Cert.MixDwRefIdeal.Facts) (hMixOut : Cert.MixOut.Facts) (hMixOutIdeal : Cert.MixOutIdeal.Facts) (hMixOutRefIdeal : Cert.MixOutRefIdeal.Facts) (hMixOutDx : Cert.MixOutDx.Facts) (hMixOutDxIdeal : Cert.MixOutDxIdeal.Facts) (hMixOutDxRefIdeal : Cert.MixOutDxRefIdeal.Facts) (hAdamQNorm : Cert.AdamQNorm.Facts) (hAdamQNormIdeal : Cert.AdamQNormIdeal.Facts) (hAdamQNormRefIdeal : Cert.AdamQNormRefIdeal.Facts) (hAdamKvNorm : Cert.AdamKvNorm.Facts) (hAdamKvNormIdeal : Cert.AdamKvNormIdeal.Facts) (hAdamKvNormRefIdeal : Cert.AdamKvNormRefIdeal.Facts) (hAdamGNorm : Cert.AdamGNorm.Facts) (hAdamGNormIdeal : Cert.AdamGNormIdeal.Facts) (hAdamGNormRefIdeal : Cert.AdamGNormRefIdeal.Facts) (hAdamNorm : Cert.AdamNorm.Facts) (hAdamNormIdeal : Cert.AdamNormIdeal.Facts) (hAdamNormRefIdeal : Cert.AdamNormRefIdeal.Facts) (hAdamAdaW : Cert.AdamAdaW.Facts) (hAdamAdaWIdeal : Cert.AdamAdaWIdeal.Facts) (hAdamAdaWRefIdeal : Cert.AdamAdaWRefIdeal.Facts) (hAdamAdaB : Cert.AdamAdaB.Facts) (hAdamAdaBIdeal : Cert.AdamAdaBIdeal.Facts) (hAdamAdaBRefIdeal : Cert.AdamAdaBRefIdeal.Facts) (hAdamMlaIn : Cert.AdamMlaIn.Facts) (hAdamMlaInIdeal : Cert.AdamMlaInIdeal.Facts) (hAdamMlaInRefIdeal : Cert.AdamMlaInRefIdeal.Facts) (hAdamMlaQ : Cert.AdamMlaQ.Facts) (hAdamMlaQIdeal : Cert.AdamMlaQIdeal.Facts) (hAdamMlaQRefIdeal : Cert.AdamMlaQRefIdeal.Facts) (hAdamMlaKv : Cert.AdamMlaKv.Facts) (hAdamMlaKvIdeal : Cert.AdamMlaKvIdeal.Facts) (hAdamMlaKvRefIdeal : Cert.AdamMlaKvRefIdeal.Facts) (hAdamOut : Cert.AdamOut.Facts) (hAdamOutIdeal : Cert.AdamOutIdeal.Facts) (hAdamOutRefIdeal : Cert.AdamOutRefIdeal.Facts) (hAdamHgrnIn : Cert.AdamHgrnIn.Facts) (hAdamHgrnInIdeal : Cert.AdamHgrnInIdeal.Facts) (hAdamHgrnInRefIdeal : Cert.AdamHgrnInRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hModFirst : Cert.ModFirst.Facts) (hModFirstIdeal : Cert.ModFirstIdeal.Facts) (hModFirstRefIdeal : Cert.ModFirstRefIdeal.Facts) (hLnLoss : Cert.LnLoss.Facts) (hLnLossIdeal : Cert.LnLossIdeal.Facts) (hLnLossRefIdeal : Cert.LnLossRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_HgrnInDx (hHgrnInDx := hHgrnInDx)
    ∧ quiescent_HgrnInDxIdeal (hHgrnInDxIdeal := hHgrnInDxIdeal)
    ∧ quiescent_HgrnInDxRefIdeal (hHgrnInDxRefIdeal := hHgrnInDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_AdamQNorm (hAdamQNorm := hAdamQNorm)
    ∧ quiescent_AdamQNormIdeal (hAdamQNormIdeal := hAdamQNormIdeal)
    ∧ quiescent_AdamQNormRefIdeal (hAdamQNormRefIdeal := hAdamQNormRefIdeal)
    ∧ quiescent_AdamKvNorm (hAdamKvNorm := hAdamKvNorm)
    ∧ quiescent_AdamKvNormIdeal (hAdamKvNormIdeal := hAdamKvNormIdeal)
    ∧ quiescent_AdamKvNormRefIdeal (hAdamKvNormRefIdeal := hAdamKvNormRefIdeal)
    ∧ quiescent_AdamGNorm (hAdamGNorm := hAdamGNorm)
    ∧ quiescent_AdamGNormIdeal (hAdamGNormIdeal := hAdamGNormIdeal)
    ∧ quiescent_AdamGNormRefIdeal (hAdamGNormRefIdeal := hAdamGNormRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamMlaIn (hAdamMlaIn := hAdamMlaIn)
    ∧ quiescent_AdamMlaInIdeal (hAdamMlaInIdeal := hAdamMlaInIdeal)
    ∧ quiescent_AdamMlaInRefIdeal (hAdamMlaInRefIdeal := hAdamMlaInRefIdeal)
    ∧ quiescent_AdamMlaQ (hAdamMlaQ := hAdamMlaQ)
    ∧ quiescent_AdamMlaQIdeal (hAdamMlaQIdeal := hAdamMlaQIdeal)
    ∧ quiescent_AdamMlaQRefIdeal (hAdamMlaQRefIdeal := hAdamMlaQRefIdeal)
    ∧ quiescent_AdamMlaKv (hAdamMlaKv := hAdamMlaKv)
    ∧ quiescent_AdamMlaKvIdeal (hAdamMlaKvIdeal := hAdamMlaKvIdeal)
    ∧ quiescent_AdamMlaKvRefIdeal (hAdamMlaKvRefIdeal := hAdamMlaKvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamHgrnIn (hAdamHgrnIn := hAdamHgrnIn)
    ∧ quiescent_AdamHgrnInIdeal (hAdamHgrnInIdeal := hAdamHgrnInIdeal)
    ∧ quiescent_AdamHgrnInRefIdeal (hAdamHgrnInRefIdeal := hAdamHgrnInRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_ModFirst (hModFirst := hModFirst)
    ∧ quiescent_ModFirstIdeal (hModFirstIdeal := hModFirstIdeal)
    ∧ quiescent_ModFirstRefIdeal (hModFirstRefIdeal := hModFirstRefIdeal)
    ∧ quiescent_LnLoss (hLnLoss := hLnLoss)
    ∧ quiescent_LnLossIdeal (hLnLossIdeal := hLnLossIdeal)
    ∧ quiescent_LnLossRefIdeal (hLnLossRefIdeal := hLnLossRefIdeal)
    ∧ preserves_Kernel_KernelIdeal
    ∧ algebraic_KernelIdeal_ReferenceIdeal (hKernelIdeal := hKernelIdeal) (hReferenceIdeal := hReferenceIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_HgrnInDx_HgrnInDxIdeal
    ∧ algebraic_HgrnInDxIdeal_HgrnInDxRefIdeal (hHgrnInDxIdeal := hHgrnInDxIdeal) (hHgrnInDxRefIdeal := hHgrnInDxRefIdeal)
    ∧ preserves_MixDw_MixDwIdeal
    ∧ algebraic_MixDwIdeal_MixDwRefIdeal (hMixDwIdeal := hMixDwIdeal) (hMixDwRefIdeal := hMixDwRefIdeal)
    ∧ preserves_MixOut_MixOutIdeal
    ∧ algebraic_MixOutIdeal_MixOutRefIdeal (hMixOutIdeal := hMixOutIdeal) (hMixOutRefIdeal := hMixOutRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_AdamQNorm_AdamQNormIdeal
    ∧ algebraic_AdamQNormIdeal_AdamQNormRefIdeal (hAdamQNormIdeal := hAdamQNormIdeal) (hAdamQNormRefIdeal := hAdamQNormRefIdeal)
    ∧ preserves_AdamKvNorm_AdamKvNormIdeal
    ∧ algebraic_AdamKvNormIdeal_AdamKvNormRefIdeal (hAdamKvNormIdeal := hAdamKvNormIdeal) (hAdamKvNormRefIdeal := hAdamKvNormRefIdeal)
    ∧ preserves_AdamGNorm_AdamGNormIdeal
    ∧ algebraic_AdamGNormIdeal_AdamGNormRefIdeal (hAdamGNormIdeal := hAdamGNormIdeal) (hAdamGNormRefIdeal := hAdamGNormRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamMlaIn_AdamMlaInIdeal
    ∧ algebraic_AdamMlaInIdeal_AdamMlaInRefIdeal (hAdamMlaInIdeal := hAdamMlaInIdeal) (hAdamMlaInRefIdeal := hAdamMlaInRefIdeal)
    ∧ preserves_AdamMlaQ_AdamMlaQIdeal
    ∧ algebraic_AdamMlaQIdeal_AdamMlaQRefIdeal (hAdamMlaQIdeal := hAdamMlaQIdeal) (hAdamMlaQRefIdeal := hAdamMlaQRefIdeal)
    ∧ preserves_AdamMlaKv_AdamMlaKvIdeal
    ∧ algebraic_AdamMlaKvIdeal_AdamMlaKvRefIdeal (hAdamMlaKvIdeal := hAdamMlaKvIdeal) (hAdamMlaKvRefIdeal := hAdamMlaKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamHgrnIn_AdamHgrnInIdeal
    ∧ algebraic_AdamHgrnInIdeal_AdamHgrnInRefIdeal (hAdamHgrnInIdeal := hAdamHgrnInIdeal) (hAdamHgrnInRefIdeal := hAdamHgrnInRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_ModFirst_ModFirstIdeal
    ∧ algebraic_ModFirstIdeal_ModFirstRefIdeal (hModFirstIdeal := hModFirstIdeal) (hModFirstRefIdeal := hModFirstRefIdeal)
    ∧ preserves_LnLoss_LnLossIdeal
    ∧ algebraic_LnLossIdeal_LnLossRefIdeal (hLnLossIdeal := hLnLossIdeal) (hLnLossRefIdeal := hLnLossRefIdeal)
-- ==== Kernel.lean ====
abbrev S2x16x2048x96 : Shape := ⟨4, ![2, 16, 2048, 96]⟩
abbrev S2x16x2048x64 : Shape := ⟨4, ![2, 16, 2048, 64]⟩
abbrev S2x2048x1024 : Shape := ⟨3, ![2, 2048, 1024]⟩
abbrev S1x2x512x96 : Shape := ⟨4, ![1, 2, 512, 96]⟩
abbrev S1x2x2048x96 : Shape := ⟨4, ![1, 2, 2048, 96]⟩
abbrev S1x2x2048x64 : Shape := ⟨4, ![1, 2, 2048, 64]⟩
abbrev S1x512x128 : Shape := ⟨3, ![1, 512, 128]⟩
abbrev S1x1x512x96 : Shape := ⟨4, ![1, 1, 512, 96]⟩
abbrev S512x96 : Shape := ⟨2, ![512, 96]⟩
abbrev S1x1x512x64 : Shape := ⟨4, ![1, 1, 512, 64]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x512x64 : Shape := ⟨3, ![1, 512, 64]⟩
abbrev S1x1x1024x96 : Shape := ⟨4, ![1, 1, 1024, 96]⟩
abbrev S1024x96 : Shape := ⟨2, ![1024, 96]⟩
abbrev S1x1x1024x64 : Shape := ⟨4, ![1, 1, 1024, 64]⟩
abbrev S1024x64 : Shape := ⟨2, ![1024, 64]⟩
abbrev S512x1024 : Shape := ⟨2, ![512, 1024]⟩
abbrev S1x1x1536x96 : Shape := ⟨4, ![1, 1, 1536, 96]⟩
abbrev S1536x96 : Shape := ⟨2, ![1536, 96]⟩
abbrev S1x1x1536x64 : Shape := ⟨4, ![1, 1, 1536, 64]⟩
abbrev S1536x64 : Shape := ⟨2, ![1536, 64]⟩
abbrev S512x1536 : Shape := ⟨2, ![512, 1536]⟩
abbrev S1x1x2048x96 : Shape := ⟨4, ![1, 1, 2048, 96]⟩
abbrev S2048x96 : Shape := ⟨2, ![2048, 96]⟩
abbrev S1x1x2048x64 : Shape := ⟨4, ![1, 1, 2048, 64]⟩
abbrev S2048x64 : Shape := ⟨2, ![2048, 64]⟩
abbrev S512x2048 : Shape := ⟨2, ![512, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x16x2048x96, .bf16⟩
  | .hbm, ⟨1, _⟩ => ⟨S2x16x2048x96, .bf16⟩
  | .hbm, ⟨2, _⟩ => ⟨S2x16x2048x64, .bf16⟩
  | .hbm, ⟨3, _⟩ => ⟨S2x2048x1024, .f32⟩
  | .hbm, ⟨4, _⟩ => ⟨S2x16x2048x96, .f32⟩
  | .hbm, ⟨5, _⟩ => ⟨S2x16x2048x96, .f32⟩
  | .hbm, ⟨6, _⟩ => ⟨S2x16x2048x64, .f32⟩
  | .local _ .vmem, ⟨0, _⟩ => ⟨S1x2x512x96, .bf16⟩
  | .local _ .vmem, ⟨1, _⟩ => ⟨S1x2x512x96, .bf16⟩
  | .local _ .vmem, ⟨2, _⟩ => ⟨S1x2x2048x96, .bf16⟩
  | .local _ .vmem, ⟨3, _⟩ => ⟨S1x2x2048x96, .bf16⟩
  | .local _ .vmem, ⟨4, _⟩ => ⟨S1x2x2048x64, .bf16⟩
  | .local _ .vmem, ⟨5, _⟩ => ⟨S1x2x2048x64, .bf16⟩
  | .local _ .vmem, ⟨6, _⟩ => ⟨S1x512x128, .f32⟩
  | .local _ .vmem, ⟨7, _⟩ => ⟨S1x512x128, .f32⟩
  | .local _ .vmem, ⟨8, _⟩ => ⟨S1x2x512x96, .f32⟩
  | .local _ .vmem, ⟨9, _⟩ => ⟨S1x2x512x96, .f32⟩
  | .local _ .vmem, ⟨10, _⟩ => ⟨S1x2x2048x96, .f32⟩
  | .local _ .vmem, ⟨11, _⟩ => ⟨S1x2x2048x96, .f32⟩
  | .local _ .vmem, ⟨12, _⟩ => ⟨S1x2x2048x64, .f32⟩
  | .local _ .vmem, ⟨13, _⟩ => ⟨S1x2x2048x64, .f32⟩
  | _, _ => ⟨S2x16x2048x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2x512x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x2048x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
variable {F : FTy → Type} [FloatOps F] [Named F]
def κ : String → Option EReal := fun
  | "neg" => some ⊥
  | _ => none
-- ==== ReferenceIdeal.lean ====
abbrev S2x16x2048x96 : Shape := ⟨4, ![2, 16, 2048, 96]⟩
abbrev S2x16x2048x64 : Shape := ⟨4, ![2, 16, 2048, 64]⟩
abbrev S2x2048x1024 : Shape := ⟨3, ![2, 2048, 1024]⟩
abbrev S2x16x2048x32 : Shape := ⟨4, ![2, 16, 2048, 32]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x2048x16x64 : Shape := ⟨4, ![2, 2048, 16, 64]⟩

abbrev nBuf : Space → Nat
  | .hbm => 91
  | .vmem => 0
  | .smem => 0
  | _ => 0

abbrev bufTy : (tb : Table) → Fin (tcTables nBuf tb) → BufTy
  | .hbm, ⟨0, _⟩ => ⟨S2x16x2048x96, .bf16⟩
  | .hbm, ⟨1, _⟩ => ⟨S2x16x2048x96, .bf16⟩
  | .hbm, ⟨2, _⟩ => ⟨S2x16x2048x64, .bf16⟩
  | .hbm, ⟨3, _⟩ => ⟨S2x2048x1024, .f32⟩
  | .hbm, ⟨4, _⟩ => ⟨S2x16x2048x96, .f32⟩
  | .hbm, ⟨5, _⟩ => ⟨S2x16x2048x96, .f32⟩
  | .hbm, ⟨6, _⟩ => ⟨S2x16x2048x64, .f32⟩
  | .hbm, ⟨7, _⟩ => ⟨S2x16x2048x64, .f32⟩
  | .hbm, ⟨8, _⟩ => ⟨S2x16x2048x32, .f32⟩
  | .hbm, ⟨9, _⟩ => ⟨S2x16x2048x64, .f32⟩
  | .hbm, ⟨10, _⟩ => ⟨S2x16x2048x32, .f32⟩
  | .hbm, ⟨11, _⟩ => ⟨S2x16x2048x2048, .f32⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S2x16x2048x2048, .i1⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .i1⟩
  | .hbm, ⟨36, _⟩ => ⟨S2x16x2048x2048, .f32⟩
  | .hbm, ⟨37, _⟩ => ⟨S_, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S_, .f32⟩
  | .hbm, ⟨47, _⟩ => ⟨S2x16x2048x1, .f32⟩
  | .hbm, ⟨48, _⟩ => ⟨S2x16x2048x1, .f32⟩
  | .hbm, ⟨49, _⟩ => ⟨S2x16x2048x1, .f32⟩
  | .hbm, ⟨50, _⟩ => ⟨S_, .f32⟩
  | .hbm, ⟨51, _⟩ => ⟨S2x16x2048x1, .f32⟩
  | .hbm, ⟨52, _⟩ => ⟨S2x16x2048x1, .f32⟩
  | .hbm, ⟨53, _⟩ => ⟨S2x16x2048x2048, .f32⟩
  | .hbm, ⟨54, _⟩ => ⟨S2x16x2048x2048, .f32⟩
  | .hbm, ⟨55, _⟩ => ⟨S2x16x64x2048, .f32⟩
  | .hbm, ⟨56, _⟩ => ⟨S2x2048x16x64, .f32⟩
  | .hbm, ⟨57, _⟩ => ⟨S2x2048x1024, .f32⟩
  | .hbm, ⟨58, _⟩ => ⟨S2x2048x16x64, .f32⟩
  | .hbm, ⟨59, _⟩ => ⟨S2x16x64x2048, .f32⟩
  | .hbm, ⟨60, _⟩ => ⟨S2x16x2048x2048, .f32⟩
  | .hbm, ⟨61, _⟩ => ⟨S2x16x64x2048, .f32⟩
  | .hbm, ⟨62, _⟩ => ⟨S2x16x2048x64, .f32⟩
  | .hbm, ⟨63, _⟩ => ⟨S2x16x2048x2048, .f32⟩
  | .hbm, ⟨64, _⟩ => ⟨S_, .f32⟩
  | .hbm, ⟨65, _⟩ => ⟨S2x16x2048, .f32⟩
  | .hbm, ⟨66, _⟩ => ⟨S2x16x2048x1, .f32⟩
  | .hbm, ⟨67, _⟩ => ⟨S2x16x2048x2048, .f32⟩
  | .hbm, ⟨68, _⟩ => ⟨S2x16x2048x2048, .f32⟩
  | .hbm, ⟨69, _⟩ => ⟨S2x16x2048x1, .f32⟩
  | .hbm, ⟨70, _⟩ => ⟨S_, .f32⟩
  | .hbm, ⟨71, _⟩ => ⟨S2x16x2048x1, .f32⟩
  | .hbm, ⟨72, _⟩ => ⟨S2x16x2048x1, .f32⟩
  | .hbm, ⟨73, _⟩ => ⟨S2x16x2048x1, .f32⟩
  | .hbm, ⟨74, _⟩ => ⟨S_, .f32⟩
  | .hbm, ⟨75, _⟩ => ⟨S2x16x2048, .f32⟩
  | .hbm, ⟨76, _⟩ => ⟨S2x16x2048x2048, .f32⟩
  | .hbm, ⟨77, _⟩ => ⟨S2x16x2048x2048, .f32⟩
  | .hbm, ⟨78, _⟩ => ⟨S2x16x2048x2048, .f32⟩
  | .hbm, ⟨79, _⟩ => ⟨S_, .f32⟩
  | .hbm, ⟨80, _⟩ => ⟨S2x16x2048x2048, .f32⟩
  | .hbm, ⟨81, _⟩ => ⟨S2x16x2048x2048, .f32⟩
  | .hbm, ⟨82, _⟩ => ⟨S_, .f32⟩
  | .hbm, ⟨83, _⟩ => ⟨S2x16x2048x2048, .f32⟩
  | .hbm, ⟨84, _⟩ => ⟨S2x16x2048x2048, .f32⟩
  | .hbm, ⟨85, _⟩ => ⟨S2x16x2048x32, .f32⟩
  | .hbm, ⟨86, _⟩ => ⟨S2x16x2048x32, .f32⟩
  | .hbm, ⟨87, _⟩ => ⟨S2x16x2048x64, .f32⟩
  | .hbm, ⟨88, _⟩ => ⟨S2x16x2048x64, .f32⟩
  | .hbm, ⟨89, _⟩ => ⟨S2x16x2048x96, .f32⟩
  | .hbm, ⟨90, _⟩ => ⟨S2x16x2048x96, .f32⟩
  | _, _ => ⟨S2x16x2048x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_v19_1 : Ref sig .tc := ⟨.hbm, 26, rfl⟩
abbrev main_call0_v2 : Ref sig .tc := ⟨.hbm, 27, rfl⟩
abbrev main_v19_0 : Ref sig .tc := ⟨.hbm, 28, rfl⟩
abbrev main_call0_cst : Ref sig .tc := ⟨.hbm, 29, rfl⟩
abbrev main_v19_2 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call1_cst : Ref sig .tc := ⟨.hbm, 79, rfl⟩
abbrev main_call1_v0 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | .hbm, ⟨18, _⟩ => ⟨S4096x2816, .bf16⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnOutDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOutDx.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnOutDxRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S2816x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== FfnInDw.lean ====
abbrev S4096x1024 : Shape := ⟨2, ![4096, 1024]⟩
abbrev S4096x2816 : Shape := ⟨2, ![4096, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnInDx.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDxRefIdeal.lean ====
abbrev S4096x2816 : Shape := ⟨2, ![4096, 2816]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x2816, .f32⟩
  | .hbm, ⟨4, _⟩ => ⟨S4096x2816, .f32⟩
  | .hbm, ⟨5, _⟩ => ⟨S1024x5632, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== HgrnIn.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HgrnInDx.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x4096, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def k0_cond6 (i : grid0.Coords) : BitVec 1 :=
  let arg2 : BitVec 32 := BitVec.ofNat 32 (i 2).val
  let c3_i32_9 : BitVec 32 := 3#32
  let v23 : BitVec 1 := Scalar.cmpi .eq arg2 c3_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== HgrnInDxRefIdeal.lean ====
abbrev S4096x1024 : Shape := ⟨2, ![4096, 1024]⟩
abbrev S1024x4096 : Shape := ⟨2, ![1024, 4096]⟩
abbrev S_ : Shape := ⟨0, ![]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x4096, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x4096, .f32⟩
  | .hbm, ⟨10, _⟩ => ⟨S_, .f32⟩
  | .hbm, ⟨11, _⟩ => ⟨S4096x1024, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x4096, .f32⟩
  | .hbm, ⟨18, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== MixDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamQNorm.lean ====
abbrev S8x2x768 : Shape := ⟨3, ![8, 2, 768]⟩
abbrev S2x768 : Shape := ⟨2, ![2, 768]⟩
abbrev S1x2x768 : Shape := ⟨3, ![1, 2, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .hbm, ⟨7, _⟩ => ⟨S2x768, .f32⟩
  | .local _ .vmem, ⟨0, _⟩ => ⟨S8x2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | _, _ => ⟨S8x2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamQNormIdeal.lean ====
abbrev S8x2x768 : Shape := ⟨3, ![8, 2, 768]⟩
abbrev S2x768 : Shape := ⟨2, ![2, 768]⟩
abbrev S1x2x768 : Shape := ⟨3, ![1, 2, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .hbm, ⟨7, _⟩ => ⟨S2x768, .f32⟩
  | .local _ .vmem, ⟨0, _⟩ => ⟨S8x2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | _, _ => ⟨S8x2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamQNormRefIdeal.lean ====
abbrev S8x2x768 : Shape := ⟨3, ![8, 2, 768]⟩
abbrev S2x768 : Shape := ⟨2, ![2, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S_, .f32⟩
  | .hbm, ⟨5, _⟩ => ⟨S2x768, .f32⟩
  | .hbm, ⟨6, _⟩ => ⟨S_, .f32⟩
  | .hbm, ⟨7, _⟩ => ⟨S2x768, .f32⟩
  | .hbm, ⟨8, _⟩ => ⟨S2x768, .f32⟩
  | .hbm, ⟨9, _⟩ => ⟨S_, .f32⟩
  | .hbm, ⟨10, _⟩ => ⟨S2x768, .f32⟩
  | .hbm, ⟨11, _⟩ => ⟨S2x768, .f32⟩
  | .hbm, ⟨12, _⟩ => ⟨S2x768, .f32⟩
  | .hbm, ⟨13, _⟩ => ⟨S_, .f32⟩
  | .hbm, ⟨14, _⟩ => ⟨S2x768, .f32⟩
  | .hbm, ⟨15, _⟩ => ⟨S2x768, .f32⟩
  | .hbm, ⟨16, _⟩ => ⟨S2x768, .f32⟩
  | .hbm, ⟨17, _⟩ => ⟨S_, .f32⟩
  | .hbm, ⟨18, _⟩ => ⟨S2x768, .f32⟩
  | .hbm, ⟨19, _⟩ => ⟨S2x768, .f32⟩
  | .hbm, ⟨20, _⟩ => ⟨S2x768, .f32⟩
  | .hbm, ⟨21, _⟩ => ⟨S_, .f32⟩
  | .hbm, ⟨22, _⟩ => ⟨S2x768, .f32⟩
  | .hbm, ⟨23, _⟩ => ⟨S2x768, .f32⟩
  | .hbm, ⟨24, _⟩ => ⟨S_, .f32⟩
  | .hbm, ⟨25, _⟩ => ⟨S2x768, .f32⟩
  | .hbm, ⟨26, _⟩ => ⟨S2x768, .f32⟩
  | .hbm, ⟨27, _⟩ => ⟨S2x768, .f32⟩
  | .hbm, ⟨28, _⟩ => ⟨S_, .f32⟩
  | .hbm, ⟨29, _⟩ => ⟨S2x768, .f32⟩
  | .hbm, ⟨30, _⟩ => ⟨S2x768, .f32⟩
  | .hbm, ⟨31, _⟩ => ⟨S2x768, .f32⟩
  | .hbm, ⟨32, _⟩ => ⟨S_, .f32⟩
  | .hbm, ⟨33, _⟩ => ⟨S2x768, .f32⟩
  | .hbm, ⟨34, _⟩ => ⟨S2x768, .f32⟩
  | .hbm, ⟨35, _⟩ => ⟨S2x768, .f32⟩
  | .hbm, ⟨36, _⟩ => ⟨S_, .f32⟩
  | .hbm, ⟨37, _⟩ => ⟨S2x768, .f32⟩
  | .hbm, ⟨38, _⟩ => ⟨S2x768, .f32⟩
  | _, _ => ⟨S8x2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamKvNorm.lean ====
abbrev S8x2x256 : Shape := ⟨3, ![8, 2, 256]⟩
abbrev S2x256 : Shape := ⟨2, ![2, 256]⟩
abbrev S1x2x256 : Shape := ⟨3, ![1, 2, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256, .f32⟩
  | .local _ .vmem, ⟨0, _⟩ => ⟨S8x2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S2x256, .f32⟩
  | _, _ => ⟨S8x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvNormIdeal.lean ====
abbrev S8x2x256 : Shape := ⟨3, ![8, 2, 256]⟩
abbrev S2x256 : Shape := ⟨2, ![2, 256]⟩
abbrev S1x2x256 : Shape := ⟨3, ![1, 2, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x256, .f32⟩
  | .local _ .vmem, ⟨0, _⟩ => ⟨S8x2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S2x256, .f32⟩
  | _, _ => ⟨S8x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvNormRefIdeal.lean ====
abbrev S8x2x256 : Shape := ⟨3, ![8, 2, 256]⟩
abbrev S2x256 : Shape := ⟨2, ![2, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S_, .f32⟩
  | .hbm, ⟨7, _⟩ => ⟨S2x256, .f32⟩
  | .hbm, ⟨8, _⟩ => ⟨S2x256, .f32⟩
  | .hbm, ⟨9, _⟩ => ⟨S_, .f32⟩
  | .hbm, ⟨10, _⟩ => ⟨S2x256, .f32⟩
  | .hbm, ⟨11, _⟩ => ⟨S2x256, .f32⟩
  | .hbm, ⟨12, _⟩ => ⟨S2x256, .f32⟩
  | .hbm, ⟨13, _⟩ => ⟨S_, .f32⟩
  | .hbm, ⟨14, _⟩ => ⟨S2x256, .f32⟩
  | .hbm, ⟨15, _⟩ => ⟨S2x256, .f32⟩
  | .hbm, ⟨16, _⟩ => ⟨S2x256, .f32⟩
  | .hbm, ⟨17, _⟩ => ⟨S_, .f32⟩
  | .hbm, ⟨18, _⟩ => ⟨S2x256, .f32⟩
  | .hbm, ⟨19, _⟩ => ⟨S2x256, .f32⟩
  | .hbm, ⟨20, _⟩ => ⟨S2x256, .f32⟩
  | .hbm, ⟨21, _⟩ => ⟨S_, .f32⟩
  | .hbm, ⟨22, _⟩ => ⟨S2x256, .f32⟩
  | .hbm, ⟨23, _⟩ => ⟨S2x256, .f32⟩
  | .hbm, ⟨24, _⟩ => ⟨S_, .f32⟩
  | .hbm, ⟨25, _⟩ => ⟨S2x256, .f32⟩
  | .hbm, ⟨26, _⟩ => ⟨S2x256, .f32⟩
  | .hbm, ⟨27, _⟩ => ⟨S2x256, .f32⟩
  | .hbm, ⟨28, _⟩ => ⟨S_, .f32⟩
  | .hbm, ⟨29, _⟩ => ⟨S2x256, .f32⟩
  | .hbm, ⟨30, _⟩ => ⟨S2x256, .f32⟩
  | .hbm, ⟨31, _⟩ => ⟨S2x256, .f32⟩
  | .hbm, ⟨32, _⟩ => ⟨S_, .f32⟩
  | .hbm, ⟨33, _⟩ => ⟨S2x256, .f32⟩
  | .hbm, ⟨34, _⟩ => ⟨S2x256, .f32⟩
  | .hbm, ⟨35, _⟩ => ⟨S2x256, .f32⟩
  | .hbm, ⟨36, _⟩ => ⟨S_, .f32⟩
  | .hbm, ⟨37, _⟩ => ⟨S2x256, .f32⟩
  | .hbm, ⟨38, _⟩ => ⟨S2x256, .f32⟩
  | _, _ => ⟨S8x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGNorm.lean ====
abbrev S8x2x128 : Shape := ⟨3, ![8, 2, 128]⟩
abbrev S2x128 : Shape := ⟨2, ![2, 128]⟩
abbrev S1x2x128 : Shape := ⟨3, ![1, 2, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .local _ .vmem, ⟨0, _⟩ => ⟨S8x2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | _, _ => ⟨S8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGNormIdeal.lean ====
abbrev S8x2x128 : Shape := ⟨3, ![8, 2, 128]⟩
abbrev S2x128 : Shape := ⟨2, ![2, 128]⟩
abbrev S1x2x128 : Shape := ⟨3, ![1, 2, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .local _ .vmem, ⟨0, _⟩ => ⟨S8x2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | _, _ => ⟨S8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGNormRefIdeal.lean ====
abbrev S8x2x128 : Shape := ⟨3, ![8, 2, 128]⟩
abbrev S2x128 : Shape := ⟨2, ![2, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S_, .f32⟩
  | .hbm, ⟨7, _⟩ => ⟨S2x128, .f32⟩
  | .hbm, ⟨8, _⟩ => ⟨S2x128, .f32⟩
  | .hbm, ⟨9, _⟩ => ⟨S_, .f32⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S_, .f32⟩
  | .hbm, ⟨14, _⟩ => ⟨S2x128, .f32⟩
  | .hbm, ⟨15, _⟩ => ⟨S2x128, .f32⟩
  | .hbm, ⟨16, _⟩ => ⟨S2x128, .f32⟩
  | .hbm, ⟨17, _⟩ => ⟨S_, .f32⟩
  | .hbm, ⟨18, _⟩ => ⟨S2x128, .f32⟩
  | .hbm, ⟨19, _⟩ => ⟨S2x128, .f32⟩
  | .hbm, ⟨20, _⟩ => ⟨S2x128, .f32⟩
  | .hbm, ⟨21, _⟩ => ⟨S_, .f32⟩
  | .hbm, ⟨22, _⟩ => ⟨S2x128, .f32⟩
  | .hbm, ⟨23, _⟩ => ⟨S2x128, .f32⟩
  | .hbm, ⟨24, _⟩ => ⟨S_, .f32⟩
  | .hbm, ⟨25, _⟩ => ⟨S2x128, .f32⟩
  | .hbm, ⟨26, _⟩ => ⟨S2x128, .f32⟩
  | .hbm, ⟨27, _⟩ => ⟨S2x128, .f32⟩
  | .hbm, ⟨28, _⟩ => ⟨S_, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S_, .f32⟩
  | .hbm, ⟨33, _⟩ => ⟨S2x128, .f32⟩
  | .hbm, ⟨34, _⟩ => ⟨S2x128, .f32⟩
  | .hbm, ⟨35, _⟩ => ⟨S2x128, .f32⟩
  | .hbm, ⟨36, _⟩ => ⟨S_, .f32⟩
  | .hbm, ⟨37, _⟩ => ⟨S2x128, .f32⟩
  | .hbm, ⟨38, _⟩ => ⟨S2x128, .f32⟩
  | _, _ => ⟨S8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamNorm.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormIdeal.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormRefIdeal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAdaW.lean ====
abbrev S1x8192x384 : Shape := ⟨3, ![1, 8192, 384]⟩
abbrev S8192x384 : Shape := ⟨2, ![8192, 384]⟩
abbrev S1x1024x384 : Shape := ⟨3, ![1, 1024, 384]⟩
abbrev S1024x384 : Shape := ⟨2, ![1024, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x8192x384, .f32⟩
  | .hbm, ⟨1, _⟩ => ⟨S8192x384, .f32⟩
  | .hbm, ⟨2, _⟩ => ⟨S8192x384, .f32⟩
  | .hbm, ⟨3, _⟩ => ⟨S8192x384, .f32⟩
  | .hbm, ⟨4, _⟩ => ⟨S8192x384, .f32⟩
  | .hbm, ⟨5, _⟩ => ⟨S8192x384, .f32⟩
  | .hbm, ⟨6, _⟩ => ⟨S8192x384, .f32⟩
  | .hbm, ⟨7, _⟩ => ⟨S8192x384, .f32⟩
  | .local _ .vmem, ⟨0, _⟩ => ⟨S1x1024x384, .f32⟩
  | .local _ .vmem, ⟨1, _⟩ => ⟨S1x1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | _, _ => ⟨S1x8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaWIdeal.lean ====
abbrev S1x8192x384 : Shape := ⟨3, ![1, 8192, 384]⟩
abbrev S8192x384 : Shape := ⟨2, ![8192, 384]⟩
abbrev S1x1024x384 : Shape := ⟨3, ![1, 1024, 384]⟩
abbrev S1024x384 : Shape := ⟨2, ![1024, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x8192x384, .f32⟩
  | .hbm, ⟨1, _⟩ => ⟨S8192x384, .f32⟩
  | .hbm, ⟨2, _⟩ => ⟨S8192x384, .f32⟩
  | .hbm, ⟨3, _⟩ => ⟨S8192x384, .f32⟩
  | .hbm, ⟨4, _⟩ => ⟨S8192x384, .f32⟩
  | .hbm, ⟨5, _⟩ => ⟨S8192x384, .f32⟩
  | .hbm, ⟨6, _⟩ => ⟨S8192x384, .f32⟩
  | .hbm, ⟨7, _⟩ => ⟨S8192x384, .f32⟩
  | .local _ .vmem, ⟨0, _⟩ => ⟨S1x1024x384, .f32⟩
  | .local _ .vmem, ⟨1, _⟩ => ⟨S1x1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | .local _ .vmem, ⟨9, _⟩ => ⟨S1024x384, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | _, _ => ⟨S1x8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaWRefIdeal.lean ====
abbrev S1x8192x384 : Shape := ⟨3, ![1, 8192, 384]⟩
abbrev S8192x384 : Shape := ⟨2, ![8192, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x8192x384, .f32⟩
  | .hbm, ⟨1, _⟩ => ⟨S8192x384, .f32⟩
  | .hbm, ⟨2, _⟩ => ⟨S8192x384, .f32⟩
  | .hbm, ⟨3, _⟩ => ⟨S8192x384, .f32⟩
  | .hbm, ⟨4, _⟩ => ⟨S_, .f32⟩
  | .hbm, ⟨5, _⟩ => ⟨S8192x384, .f32⟩
  | .hbm, ⟨6, _⟩ => ⟨S_, .f32⟩
  | .hbm, ⟨7, _⟩ => ⟨S8192x384, .f32⟩
  | .hbm, ⟨8, _⟩ => ⟨S8192x384, .f32⟩
  | .hbm, ⟨9, _⟩ => ⟨S_, .f32⟩
  | .hbm, ⟨10, _⟩ => ⟨S8192x384, .f32⟩
  | .hbm, ⟨11, _⟩ => ⟨S8192x384, .f32⟩
  | .hbm, ⟨12, _⟩ => ⟨S8192x384, .f32⟩
  | .hbm, ⟨13, _⟩ => ⟨S_, .f32⟩
  | .hbm, ⟨14, _⟩ => ⟨S8192x384, .f32⟩
  | .hbm, ⟨15, _⟩ => ⟨S8192x384, .f32⟩
  | .hbm, ⟨16, _⟩ => ⟨S8192x384, .f32⟩
  | .hbm, ⟨17, _⟩ => ⟨S_, .f32⟩
  | .hbm, ⟨18, _⟩ => ⟨S8192x384, .f32⟩
  | .hbm, ⟨19, _⟩ => ⟨S8192x384, .f32⟩
  | .hbm, ⟨20, _⟩ => ⟨S8192x384, .f32⟩
  | .hbm, ⟨21, _⟩ => ⟨S_, .f32⟩
  | .hbm, ⟨22, _⟩ => ⟨S8192x384, .f32⟩
  | .hbm, ⟨23, _⟩ => ⟨S8192x384, .f32⟩
  | .hbm, ⟨24, _⟩ => ⟨S_, .f32⟩
  | .hbm, ⟨25, _⟩ => ⟨S8192x384, .f32⟩
  | .hbm, ⟨26, _⟩ => ⟨S8192x384, .f32⟩
  | .hbm, ⟨27, _⟩ => ⟨S8192x384, .f32⟩
  | .hbm, ⟨28, _⟩ => ⟨S_, .f32⟩
  | .hbm, ⟨29, _⟩ => ⟨S8192x384, .f32⟩
  | .hbm, ⟨30, _⟩ => ⟨S8192x384, .f32⟩
  | .hbm, ⟨31, _⟩ => ⟨S8192x384, .f32⟩
  | .hbm, ⟨32, _⟩ => ⟨S_, .f32⟩
  | .hbm, ⟨33, _⟩ => ⟨S8192x384, .f32⟩
  | .hbm, ⟨34, _⟩ => ⟨S8192x384, .f32⟩
  | .hbm, ⟨35, _⟩ => ⟨S8192x384, .f32⟩
  | .hbm, ⟨36, _⟩ => ⟨S_, .f32⟩
  | .hbm, ⟨37, _⟩ => ⟨S8192x384, .f32⟩
  | .hbm, ⟨38, _⟩ => ⟨S8192x384, .f32⟩
  | _, _ => ⟨S1x8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAdaB.lean ====
abbrev S1x8x384 : Shape := ⟨3, ![1, 8, 384]⟩
abbrev S8x384 : Shape := ⟨2, ![8, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .local _ .vmem, ⟨0, _⟩ => ⟨S1x8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S1x8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamAdaBRefIdeal.lean ====
abbrev S1x8x384 : Shape := ⟨3, ![1, 8, 384]⟩
abbrev S8x384 : Shape := ⟨2, ![8, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S_, .f32⟩
  | .hbm, ⟨5, _⟩ => ⟨S8x384, .f32⟩
  | .hbm, ⟨6, _⟩ => ⟨S_, .f32⟩
  | .hbm, ⟨7, _⟩ => ⟨S8x384, .f32⟩
  | .hbm, ⟨8, _⟩ => ⟨S8x384, .f32⟩
  | .hbm, ⟨9, _⟩ => ⟨S_, .f32⟩
  | .hbm, ⟨10, _⟩ => ⟨S8x384, .f32⟩
  | .hbm, ⟨11, _⟩ => ⟨S8x384, .f32⟩
  | .hbm, ⟨12, _⟩ => ⟨S8x384, .f32⟩
  | .hbm, ⟨13, _⟩ => ⟨S_, .f32⟩
  | .hbm, ⟨14, _⟩ => ⟨S8x384, .f32⟩
  | .hbm, ⟨15, _⟩ => ⟨S8x384, .f32⟩
  | .hbm, ⟨16, _⟩ => ⟨S8x384, .f32⟩
  | .hbm, ⟨17, _⟩ => ⟨S_, .f32⟩
  | .hbm, ⟨18, _⟩ => ⟨S8x384, .f32⟩
  | .hbm, ⟨19, _⟩ => ⟨S8x384, .f32⟩
  | .hbm, ⟨20, _⟩ => ⟨S8x384, .f32⟩
  | .hbm, ⟨21, _⟩ => ⟨S_, .f32⟩
  | .hbm, ⟨22, _⟩ => ⟨S8x384, .f32⟩
  | .hbm, ⟨23, _⟩ => ⟨S8x384, .f32⟩
  | .hbm, ⟨24, _⟩ => ⟨S_, .f32⟩
  | .hbm, ⟨25, _⟩ => ⟨S8x384, .f32⟩
  | .hbm, ⟨26, _⟩ => ⟨S8x384, .f32⟩
  | .hbm, ⟨27, _⟩ => ⟨S8x384, .f32⟩
  | .hbm, ⟨28, _⟩ => ⟨S_, .f32⟩
  | .hbm, ⟨29, _⟩ => ⟨S8x384, .f32⟩
  | .hbm, ⟨30, _⟩ => ⟨S8x384, .f32⟩
  | .hbm, ⟨31, _⟩ => ⟨S8x384, .f32⟩
  | .hbm, ⟨32, _⟩ => ⟨S_, .f32⟩
  | .hbm, ⟨33, _⟩ => ⟨S8x384, .f32⟩
  | .hbm, ⟨34, _⟩ => ⟨S8x384, .f32⟩
  | .hbm, ⟨35, _⟩ => ⟨S8x384, .f32⟩
  | .hbm, ⟨36, _⟩ => ⟨S_, .f32⟩
  | .hbm, ⟨37, _⟩ => ⟨S8x384, .f32⟩
  | .hbm, ⟨38, _⟩ => ⟨S8x384, .f32⟩
  | _, _ => ⟨S1x8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMlaIn.lean ====
abbrev S8x1024x132 : Shape := ⟨3, ![8, 1024, 132]⟩
abbrev S2048x132 : Shape := ⟨2, ![2048, 132]⟩
abbrev S8x256x132 : Shape := ⟨3, ![8, 256, 132]⟩
abbrev S256x132 : Shape := ⟨2, ![256, 132]⟩
abbrev S1x256x132 : Shape := ⟨3, ![1, 256, 132]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x132, .bf16⟩
  | .hbm, ⟨1, _⟩ => ⟨S8x1024x132, .bf16⟩
  | .hbm, ⟨2, _⟩ => ⟨S2048x132, .f32⟩
  | .hbm, ⟨3, _⟩ => ⟨S2048x132, .f32⟩
  | .hbm, ⟨4, _⟩ => ⟨S2048x132, .f32⟩
  | .hbm, ⟨5, _⟩ => ⟨S2048x132, .f32⟩
  | .hbm, ⟨6, _⟩ => ⟨S2048x132, .f32⟩
  | .hbm, ⟨7, _⟩ => ⟨S2048x132, .f32⟩
  | .hbm, ⟨8, _⟩ => ⟨S2048x132, .f32⟩
  | .local _ .vmem, ⟨0, _⟩ => ⟨S8x256x132, .bf16⟩
  | .local _ .vmem, ⟨1, _⟩ => ⟨S8x256x132, .bf16⟩
  | .local _ .vmem, ⟨2, _⟩ => ⟨S8x256x132, .bf16⟩
  | .local _ .vmem, ⟨3, _⟩ => ⟨S8x256x132, .bf16⟩
  | .local _ .vmem, ⟨4, _⟩ => ⟨S256x132, .f32⟩
  | .local _ .vmem, ⟨5, _⟩ => ⟨S256x132, .f32⟩
  | .local _ .vmem, ⟨6, _⟩ => ⟨S256x132, .f32⟩
  | .local _ .vmem, ⟨7, _⟩ => ⟨S256x132, .f32⟩
  | .local _ .vmem, ⟨8, _⟩ => ⟨S256x132, .f32⟩
  | .local _ .vmem, ⟨9, _⟩ => ⟨S256x132, .f32⟩
  | .local _ .vmem, ⟨10, _⟩ => ⟨S256x132, .f32⟩
  | .local _ .vmem, ⟨11, _⟩ => ⟨S256x132, .f32⟩
  | .local _ .vmem, ⟨12, _⟩ => ⟨S256x132, .f32⟩
  | .local _ .vmem, ⟨13, _⟩ => ⟨S256x132, .f32⟩
  | .local _ .vmem, ⟨14, _⟩ => ⟨S256x132, .f32⟩
  | .local _ .vmem, ⟨15, _⟩ => ⟨S256x132, .f32⟩
  | .local _ .vmem, ⟨16, _⟩ => ⟨S256x132, .f32⟩
  | .local _ .vmem, ⟨17, _⟩ => ⟨S256x132, .f32⟩
  | _, _ => ⟨S8x1024x132, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x132 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x132 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x132 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x132 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x132 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x132 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x132 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x132 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlaInIdeal.lean ====
abbrev S8x1024x132 : Shape := ⟨3, ![8, 1024, 132]⟩
abbrev S2048x132 : Shape := ⟨2, ![2048, 132]⟩
abbrev S8x256x132 : Shape := ⟨3, ![8, 256, 132]⟩
abbrev S256x132 : Shape := ⟨2, ![256, 132]⟩
abbrev S1x256x132 : Shape := ⟨3, ![1, 256, 132]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x132, .bf16⟩
  | .hbm, ⟨1, _⟩ => ⟨S8x1024x132, .bf16⟩
  | .hbm, ⟨2, _⟩ => ⟨S2048x132, .f32⟩
  | .hbm, ⟨3, _⟩ => ⟨S2048x132, .f32⟩
  | .hbm, ⟨4, _⟩ => ⟨S2048x132, .f32⟩
  | .hbm, ⟨5, _⟩ => ⟨S2048x132, .f32⟩
  | .hbm, ⟨6, _⟩ => ⟨S2048x132, .f32⟩
  | .hbm, ⟨7, _⟩ => ⟨S2048x132, .f32⟩
  | .hbm, ⟨8, _⟩ => ⟨S2048x132, .f32⟩
  | .local _ .vmem, ⟨0, _⟩ => ⟨S8x256x132, .bf16⟩
  | .local _ .vmem, ⟨1, _⟩ => ⟨S8x256x132, .bf16⟩
  | .local _ .vmem, ⟨2, _⟩ => ⟨S8x256x132, .bf16⟩
  | .local _ .vmem, ⟨3, _⟩ => ⟨S8x256x132, .bf16⟩
  | .local _ .vmem, ⟨4, _⟩ => ⟨S256x132, .f32⟩
  | .local _ .vmem, ⟨5, _⟩ => ⟨S256x132, .f32⟩
  | .local _ .vmem, ⟨6, _⟩ => ⟨S256x132, .f32⟩
  | .local _ .vmem, ⟨7, _⟩ => ⟨S256x132, .f32⟩
  | .local _ .vmem, ⟨8, _⟩ => ⟨S256x132, .f32⟩
  | .local _ .vmem, ⟨9, _⟩ => ⟨S256x132, .f32⟩
  | .local _ .vmem, ⟨10, _⟩ => ⟨S256x132, .f32⟩
  | .local _ .vmem, ⟨11, _⟩ => ⟨S256x132, .f32⟩
  | .local _ .vmem, ⟨12, _⟩ => ⟨S256x132, .f32⟩
  | .local _ .vmem, ⟨13, _⟩ => ⟨S256x132, .f32⟩
  | .local _ .vmem, ⟨14, _⟩ => ⟨S256x132, .f32⟩
  | .local _ .vmem, ⟨15, _⟩ => ⟨S256x132, .f32⟩
  | .local _ .vmem, ⟨16, _⟩ => ⟨S256x132, .f32⟩
  | .local _ .vmem, ⟨17, _⟩ => ⟨S256x132, .f32⟩
  | _, _ => ⟨S8x1024x132, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x132 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x132 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x132 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x132 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x132 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x132 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x132 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x132 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlaInRefIdeal.lean ====
abbrev S8x1024x132 : Shape := ⟨3, ![8, 1024, 132]⟩
abbrev S2048x132 : Shape := ⟨2, ![2048, 132]⟩
abbrev S_ : Shape := ⟨0, ![]⟩
abbrev S1024x132 : Shape := ⟨2, ![1024, 132]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x132, .bf16⟩
  | .hbm, ⟨1, _⟩ => ⟨S8x1024x132, .bf16⟩
  | .hbm, ⟨2, _⟩ => ⟨S2048x132, .f32⟩
  | .hbm, ⟨3, _⟩ => ⟨S2048x132, .f32⟩
  | .hbm, ⟨4, _⟩ => ⟨S2048x132, .f32⟩
  | .hbm, ⟨5, _⟩ => ⟨S8x1024x132, .f32⟩
  | .hbm, ⟨6, _⟩ => ⟨S_, .f32⟩
  | .hbm, ⟨7, _⟩ => ⟨S1024x132, .f32⟩
  | .hbm, ⟨8, _⟩ => ⟨S8x1024x132, .f32⟩
  | .hbm, ⟨9, _⟩ => ⟨S_, .f32⟩
  | .hbm, ⟨10, _⟩ => ⟨S1024x132, .f32⟩
  | .hbm, ⟨11, _⟩ => ⟨S2048x132, .f32⟩
  | .hbm, ⟨12, _⟩ => ⟨S_, .f32⟩
  | .hbm, ⟨13, _⟩ => ⟨S2048x132, .f32⟩
  | .hbm, ⟨14, _⟩ => ⟨S2048x132, .f32⟩
  | .hbm, ⟨15, _⟩ => ⟨S_, .f32⟩
  | .hbm, ⟨16, _⟩ => ⟨S2048x132, .f32⟩
  | .hbm, ⟨17, _⟩ => ⟨S2048x132, .f32⟩
  | .hbm, ⟨18, _⟩ => ⟨S2048x132, .f32⟩
  | .hbm, ⟨19, _⟩ => ⟨S_, .f32⟩
  | .hbm, ⟨20, _⟩ => ⟨S2048x132, .f32⟩
  | .hbm, ⟨21, _⟩ => ⟨S2048x132, .f32⟩
  | .hbm, ⟨22, _⟩ => ⟨S2048x132, .f32⟩
  | .hbm, ⟨23, _⟩ => ⟨S_, .f32⟩
  | .hbm, ⟨24, _⟩ => ⟨S2048x132, .f32⟩
  | .hbm, ⟨25, _⟩ => ⟨S2048x132, .f32⟩
  | .hbm, ⟨26, _⟩ => ⟨S2048x132, .f32⟩
  | .hbm, ⟨27, _⟩ => ⟨S_, .f32⟩
  | .hbm, ⟨28, _⟩ => ⟨S2048x132, .f32⟩
  | .hbm, ⟨29, _⟩ => ⟨S2048x132, .f32⟩
  | .hbm, ⟨30, _⟩ => ⟨S_, .f32⟩
  | .hbm, ⟨31, _⟩ => ⟨S2048x132, .f32⟩
  | .hbm, ⟨32, _⟩ => ⟨S2048x132, .f32⟩
  | .hbm, ⟨33, _⟩ => ⟨S2048x132, .f32⟩
  | .hbm, ⟨34, _⟩ => ⟨S_, .f32⟩
  | .hbm, ⟨35, _⟩ => ⟨S2048x132, .f32⟩
  | .hbm, ⟨36, _⟩ => ⟨S2048x132, .f32⟩
  | .hbm, ⟨37, _⟩ => ⟨S2048x132, .f32⟩
  | .hbm, ⟨38, _⟩ => ⟨S_, .f32⟩
  | .hbm, ⟨39, _⟩ => ⟨S2048x132, .f32⟩
  | .hbm, ⟨40, _⟩ => ⟨S2048x132, .f32⟩
  | .hbm, ⟨41, _⟩ => ⟨S2048x132, .f32⟩
  | .hbm, ⟨42, _⟩ => ⟨S_, .f32⟩
  | .hbm, ⟨43, _⟩ => ⟨S2048x132, .f32⟩
  | .hbm, ⟨44, _⟩ => ⟨S2048x132, .f32⟩
  | _, _ => ⟨S8x1024x132, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamMlaQ.lean ====
abbrev S8x768x192 : Shape := ⟨3, ![8, 768, 192]⟩
abbrev S1536x192 : Shape := ⟨2, ![1536, 192]⟩
abbrev S8x256x192 : Shape := ⟨3, ![8, 256, 192]⟩
abbrev S256x192 : Shape := ⟨2, ![256, 192]⟩
abbrev S1x256x192 : Shape := ⟨3, ![1, 256, 192]⟩

abbrev nBuf : Space → Nat
  | .hbm => 9
  | .vmem => 18
  | .smem => 0
  | _ => 0

abbrev bufTy : (tb : Table) → Fin (tcTables nBuf tb) → BufTy
  | .hbm, ⟨0, _⟩ => ⟨S8x768x192, .bf16⟩
  | .hbm, ⟨1, _⟩ => ⟨S8x768x192, .bf16⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S1536x192, .f32⟩
  | .hbm, ⟨7, _⟩ => ⟨S1536x192, .f32⟩
  | .hbm, ⟨8, _⟩ => ⟨S1536x192, .f32⟩
  | .local _ .vmem, ⟨0, _⟩ => ⟨S8x256x192, .bf16⟩
  | .local _ .vmem, ⟨1, _⟩ => ⟨S8x256x192, .bf16⟩
  | .local _ .vmem, ⟨2, _⟩ => ⟨S8x256x192, .bf16⟩
  | .local _ .vmem, ⟨3, _⟩ => ⟨S8x256x192, .bf16⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | _, _ => ⟨S8x768x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c2_i32 : BitVec 32 := 2#32
  let v2 : BitVec 32 := Scalar.select v1 c0_i32_1 c2_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c2_i32 : BitVec 32 := 2#32
  let v2 : BitVec 32 := Scalar.select v1 c0_i32 c2_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlaQIdeal.lean ====
abbrev S8x768x192 : Shape := ⟨3, ![8, 768, 192]⟩
abbrev S1536x192 : Shape := ⟨2, ![1536, 192]⟩
abbrev S8x256x192 : Shape := ⟨3, ![8, 256, 192]⟩
abbrev S256x192 : Shape := ⟨2, ![256, 192]⟩
abbrev S1x256x192 : Shape := ⟨3, ![1, 256, 192]⟩

abbrev nBuf : Space → Nat
  | .hbm => 9
  | .vmem => 18
  | .smem => 0
  | _ => 0

abbrev bufTy : (tb : Table) → Fin (tcTables nBuf tb) → BufTy
  | .hbm, ⟨0, _⟩ => ⟨S8x768x192, .bf16⟩
  | .hbm, ⟨1, _⟩ => ⟨S8x768x192, .bf16⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S1536x192, .f32⟩
  | .hbm, ⟨7, _⟩ => ⟨S1536x192, .f32⟩
  | .hbm, ⟨8, _⟩ => ⟨S1536x192, .f32⟩
  | .local _ .vmem, ⟨0, _⟩ => ⟨S8x256x192, .bf16⟩
  | .local _ .vmem, ⟨1, _⟩ => ⟨S8x256x192, .bf16⟩
  | .local _ .vmem, ⟨2, _⟩ => ⟨S8x256x192, .bf16⟩
  | .local _ .vmem, ⟨3, _⟩ => ⟨S8x256x192, .bf16⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | _, _ => ⟨S8x768x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c2_i32 : BitVec 32 := 2#32
  let v2 : BitVec 32 := Scalar.select v1 c0_i32_1 c2_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c2_i32 : BitVec 32 := 2#32
  let v2 : BitVec 32 := Scalar.select v1 c0_i32 c2_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlaQRefIdeal.lean ====
abbrev S8x768x192 : Shape := ⟨3, ![8, 768, 192]⟩
abbrev S1536x192 : Shape := ⟨2, ![1536, 192]⟩
abbrev S_ : Shape := ⟨0, ![]⟩
abbrev S768x192 : Shape := ⟨2, ![768, 192]⟩

abbrev nBuf : Space → Nat
  | .hbm => 45
  | .vmem => 0
  | .smem => 0
  | _ => 0

abbrev bufTy : (tb : Table) → Fin (tcTables nBuf tb) → BufTy
  | .hbm, ⟨0, _⟩ => ⟨S8x768x192, .bf16⟩
  | .hbm, ⟨1, _⟩ => ⟨S8x768x192, .bf16⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S8x768x192, .f32⟩
  | .hbm, ⟨6, _⟩ => ⟨S_, .f32⟩
  | .hbm, ⟨7, _⟩ => ⟨S768x192, .f32⟩
  | .hbm, ⟨8, _⟩ => ⟨S8x768x192, .f32⟩
  | .hbm, ⟨9, _⟩ => ⟨S_, .f32⟩
  | .hbm, ⟨10, _⟩ => ⟨S768x192, .f32⟩
  | .hbm, ⟨11, _⟩ => ⟨S1536x192, .f32⟩
  | .hbm, ⟨12, _⟩ => ⟨S_, .f32⟩
  | .hbm, ⟨13, _⟩ => ⟨S1536x192, .f32⟩
  | .hbm, ⟨14, _⟩ => ⟨S1536x192, .f32⟩
  | .hbm, ⟨15, _⟩ => ⟨S_, .f32⟩
  | .hbm, ⟨16, _⟩ => ⟨S1536x192, .f32⟩
  | .hbm, ⟨17, _⟩ => ⟨S1536x192, .f32⟩
  | .hbm, ⟨18, _⟩ => ⟨S1536x192, .f32⟩
  | .hbm, ⟨19, _⟩ => ⟨S_, .f32⟩
  | .hbm, ⟨20, _⟩ => ⟨S1536x192, .f32⟩
  | .hbm, ⟨21, _⟩ => ⟨S1536x192, .f32⟩
  | .hbm, ⟨22, _⟩ => ⟨S1536x192, .f32⟩
  | .hbm, ⟨23, _⟩ => ⟨S_, .f32⟩
  | .hbm, ⟨24, _⟩ => ⟨S1536x192, .f32⟩
  | .hbm, ⟨25, _⟩ => ⟨S1536x192, .f32⟩
  | .hbm, ⟨26, _⟩ => ⟨S1536x192, .f32⟩
  | .hbm, ⟨27, _⟩ => ⟨S_, .f32⟩
  | .hbm, ⟨28, _⟩ => ⟨S1536x192, .f32⟩
  | .hbm, ⟨29, _⟩ => ⟨S1536x192, .f32⟩
  | .hbm, ⟨30, _⟩ => ⟨S_, .f32⟩
  | .hbm, ⟨31, _⟩ => ⟨S1536x192, .f32⟩
  | .hbm, ⟨32, _⟩ => ⟨S1536x192, .f32⟩
  | .hbm, ⟨33, _⟩ => ⟨S1536x192, .f32⟩
  | .hbm, ⟨34, _⟩ => ⟨S_, .f32⟩
  | .hbm, ⟨35, _⟩ => ⟨S1536x192, .f32⟩
  | .hbm, ⟨36, _⟩ => ⟨S1536x192, .f32⟩
  | .hbm, ⟨37, _⟩ => ⟨S1536x192, .f32⟩
  | .hbm, ⟨38, _⟩ => ⟨S_, .f32⟩
  | .hbm, ⟨39, _⟩ => ⟨S1536x192, .f32⟩
  | .hbm, ⟨40, _⟩ => ⟨S1536x192, .f32⟩
  | .hbm, ⟨41, _⟩ => ⟨S1536x192, .f32⟩
  | .hbm, ⟨42, _⟩ => ⟨S_, .f32⟩
  | .hbm, ⟨43, _⟩ => ⟨S1536x192, .f32⟩
  | .hbm, ⟨44, _⟩ => ⟨S1536x192, .f32⟩
  | _, _ => ⟨S8x768x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamMlaKv.lean ====
abbrev S8x256x256 : Shape := ⟨3, ![8, 256, 256]⟩
abbrev S512x256 : Shape := ⟨2, ![512, 256]⟩
abbrev S256x256 : Shape := ⟨2, ![256, 256]⟩
abbrev S1x256x256 : Shape := ⟨3, ![1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlaKvIdeal.lean ====
abbrev S8x256x256 : Shape := ⟨3, ![8, 256, 256]⟩
abbrev S512x256 : Shape := ⟨2, ![512, 256]⟩
abbrev S256x256 : Shape := ⟨2, ![256, 256]⟩
abbrev S1x256x256 : Shape := ⟨3, ![1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlaKvRefIdeal.lean ====
abbrev S8x256x256 : Shape := ⟨3, ![8, 256, 256]⟩
abbrev S512x256 : Shape := ⟨2, ![512, 256]⟩
abbrev S_ : Shape := ⟨0, ![]⟩
abbrev S256x256 : Shape := ⟨2, ![256, 256]⟩

abbrev nBuf : Space → Nat
  | .hbm => 45
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S8x256x256, .f32⟩
  | .hbm, ⟨6, _⟩ => ⟨S_, .f32⟩
  | .hbm, ⟨7, _⟩ => ⟨S256x256, .f32⟩
  | .hbm, ⟨8, _⟩ => ⟨S8x256x256, .f32⟩
  | .hbm, ⟨9, _⟩ => ⟨S_, .f32⟩
  | .hbm, ⟨10, _⟩ => ⟨S256x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S_, .f32⟩
  | .hbm, ⟨43, _⟩ => ⟨S512x256, .f32⟩
  | .hbm, ⟨44, _⟩ => ⟨S512x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamOut.lean ====
abbrev S8x128x1024 : Shape := ⟨3, ![8, 128, 1024]⟩
abbrev S256x1024 : Shape := ⟨2, ![256, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S8x128x1024 : Shape := ⟨3, ![8, 128, 1024]⟩
abbrev S256x1024 : Shape := ⟨2, ![256, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S8x128x1024 : Shape := ⟨3, ![8, 128, 1024]⟩
abbrev S256x1024 : Shape := ⟨2, ![256, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamHgrnIn.lean ====
abbrev S8x1024x512 : Shape := ⟨3, ![8, 1024, 512]⟩
abbrev S2048x512 : Shape := ⟨2, ![2048, 512]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S8x128x512, .bf16⟩
  | .local _ .vmem, ⟨1, _⟩ => ⟨S8x128x512, .bf16⟩
  | .local _ .vmem, ⟨2, _⟩ => ⟨S8x128x512, .bf16⟩
  | .local _ .vmem, ⟨3, _⟩ => ⟨S8x128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamHgrnInIdeal.lean ====
abbrev S8x1024x512 : Shape := ⟨3, ![8, 1024, 512]⟩
abbrev S2048x512 : Shape := ⟨2, ![2048, 512]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S8x128x512, .bf16⟩
  | .local _ .vmem, ⟨1, _⟩ => ⟨S8x128x512, .bf16⟩
  | .local _ .vmem, ⟨2, _⟩ => ⟨S8x128x512, .bf16⟩
  | .local _ .vmem, ⟨3, _⟩ => ⟨S8x128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamHgrnInRefIdeal.lean ====
abbrev S8x1024x512 : Shape := ⟨3, ![8, 1024, 512]⟩
abbrev S2048x512 : Shape := ⟨2, ![2048, 512]⟩
abbrev S_ : Shape := ⟨0, ![]⟩
abbrev S1024x512 : Shape := ⟨2, ![1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048x512, .f32⟩
  | .hbm, ⟨44, _⟩ => ⟨S2048x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamFfnIn.lean ====
abbrev S8x1024x704 : Shape := ⟨3, ![8, 1024, 704]⟩
abbrev S4096x704 : Shape := ⟨2, ![4096, 704]⟩
abbrev S8x64x704 : Shape := ⟨3, ![8, 64, 704]⟩
abbrev S64x704 : Shape := ⟨2, ![64, 704]⟩
abbrev S1x64x704 : Shape := ⟨3, ![1, 64, 704]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S8x64x704, .bf16⟩
  | .local _ .vmem, ⟨1, _⟩ => ⟨S8x64x704, .bf16⟩
  | .local _ .vmem, ⟨2, _⟩ => ⟨S8x64x704, .bf16⟩
  | .local _ .vmem, ⟨3, _⟩ => ⟨S8x64x704, .bf16⟩
  | .local _ .vmem, ⟨4, _⟩ => ⟨S8x64x704, .bf16⟩
  | .local _ .vmem, ⟨5, _⟩ => ⟨S8x64x704, .bf16⟩
  | .local _ .vmem, ⟨6, _⟩ => ⟨S8x64x704, .bf16⟩
  | .local _ .vmem, ⟨7, _⟩ => ⟨S8x64x704, .bf16⟩
  | .local _ .vmem, ⟨8, _⟩ => ⟨S64x704, .f32⟩
  | .local _ .vmem, ⟨9, _⟩ => ⟨S64x704, .f32⟩
  | .local _ .vmem, ⟨10, _⟩ => ⟨S64x704, .f32⟩
  | .local _ .vmem, ⟨11, _⟩ => ⟨S64x704, .f32⟩
  | .local _ .vmem, ⟨12, _⟩ => ⟨S64x704, .f32⟩
  | .local _ .vmem, ⟨13, _⟩ => ⟨S64x704, .f32⟩
  | .local _ .vmem, ⟨14, _⟩ => ⟨S64x704, .f32⟩
  | .local _ .vmem, ⟨15, _⟩ => ⟨S64x704, .f32⟩
  | .local _ .vmem, ⟨16, _⟩ => ⟨S64x704, .f32⟩
  | .local _ .vmem, ⟨17, _⟩ => ⟨S64x704, .f32⟩
  | .local _ .vmem, ⟨18, _⟩ => ⟨S64x704, .f32⟩
  | .local _ .vmem, ⟨19, _⟩ => ⟨S64x704, .f32⟩
  | .local _ .vmem, ⟨20, _⟩ => ⟨S64x704, .f32⟩
  | .local _ .vmem, ⟨21, _⟩ => ⟨S64x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x64x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnInIdeal.lean ====
abbrev S8x1024x704 : Shape := ⟨3, ![8, 1024, 704]⟩
abbrev S4096x704 : Shape := ⟨2, ![4096, 704]⟩
abbrev S8x64x704 : Shape := ⟨3, ![8, 64, 704]⟩
abbrev S64x704 : Shape := ⟨2, ![64, 704]⟩
abbrev S1x64x704 : Shape := ⟨3, ![1, 64, 704]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S8x64x704, .bf16⟩
  | .local _ .vmem, ⟨1, _⟩ => ⟨S8x64x704, .bf16⟩
  | .local _ .vmem, ⟨2, _⟩ => ⟨S8x64x704, .bf16⟩
  | .local _ .vmem, ⟨3, _⟩ => ⟨S8x64x704, .bf16⟩
  | .local _ .vmem, ⟨4, _⟩ => ⟨S8x64x704, .bf16⟩
  | .local _ .vmem, ⟨5, _⟩ => ⟨S8x64x704, .bf16⟩
  | .local _ .vmem, ⟨6, _⟩ => ⟨S8x64x704, .bf16⟩
  | .local _ .vmem, ⟨7, _⟩ => ⟨S8x64x704, .bf16⟩
  | .local _ .vmem, ⟨8, _⟩ => ⟨S64x704, .f32⟩
  | .local _ .vmem, ⟨9, _⟩ => ⟨S64x704, .f32⟩
  | .local _ .vmem, ⟨10, _⟩ => ⟨S64x704, .f32⟩
  | .local _ .vmem, ⟨11, _⟩ => ⟨S64x704, .f32⟩
  | .local _ .vmem, ⟨12, _⟩ => ⟨S64x704, .f32⟩
  | .local _ .vmem, ⟨13, _⟩ => ⟨S64x704, .f32⟩
  | .local _ .vmem, ⟨14, _⟩ => ⟨S64x704, .f32⟩
  | .local _ .vmem, ⟨15, _⟩ => ⟨S64x704, .f32⟩
  | .local _ .vmem, ⟨16, _⟩ => ⟨S64x704, .f32⟩
  | .local _ .vmem, ⟨17, _⟩ => ⟨S64x704, .f32⟩
  | .local _ .vmem, ⟨18, _⟩ => ⟨S64x704, .f32⟩
  | .local _ .vmem, ⟨19, _⟩ => ⟨S64x704, .f32⟩
  | .local _ .vmem, ⟨20, _⟩ => ⟨S64x704, .f32⟩
  | .local _ .vmem, ⟨21, _⟩ => ⟨S64x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x64x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnInRefIdeal.lean ====
abbrev S8x1024x704 : Shape := ⟨3, ![8, 1024, 704]⟩
abbrev S4096x704 : Shape := ⟨2, ![4096, 704]⟩
abbrev S_ : Shape := ⟨0, ![]⟩
abbrev S1024x704 : Shape := ⟨2, ![1024, 704]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S8x1024x704, .f32⟩
  | .hbm, ⟨8, _⟩ => ⟨S_, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S8x1024x704, .f32⟩
  | .hbm, ⟨17, _⟩ => ⟨S_, .f32⟩
  | .hbm, ⟨18, _⟩ => ⟨S1024x704, .f32⟩
  | .hbm, ⟨19, _⟩ => ⟨S4096x704, .f32⟩
  | .hbm, ⟨20, _⟩ => ⟨S_, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S4096x704, .f32⟩
  | .hbm, ⟨27, _⟩ => ⟨S_, .f32⟩
  | .hbm, ⟨28, _⟩ => ⟨S4096x704, .f32⟩
  | .hbm, ⟨29, _⟩ => ⟨S4096x704, .f32⟩
  | .hbm, ⟨30, _⟩ => ⟨S4096x704, .f32⟩
  | .hbm, ⟨31, _⟩ => ⟨S_, .f32⟩
  | .hbm, ⟨32, _⟩ => ⟨S4096x704, .f32⟩
  | .hbm, ⟨33, _⟩ => ⟨S4096x704, .f32⟩
  | .hbm, ⟨34, _⟩ => ⟨S4096x704, .f32⟩
  | .hbm, ⟨35, _⟩ => ⟨S_, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | .hbm, ⟨41, _⟩ => ⟨S4096x704, .f32⟩
  | .hbm, ⟨42, _⟩ => ⟨S_, .f32⟩
  | .hbm, ⟨43, _⟩ => ⟨S4096x704, .f32⟩
  | .hbm, ⟨44, _⟩ => ⟨S4096x704, .f32⟩
  | .hbm, ⟨45, _⟩ => ⟨S4096x704, .f32⟩
  | .hbm, ⟨46, _⟩ => ⟨S_, .f32⟩
  | .hbm, ⟨47, _⟩ => ⟨S4096x704, .f32⟩
  | .hbm, ⟨48, _⟩ => ⟨S4096x704, .f32⟩
  | .hbm, ⟨49, _⟩ => ⟨S4096x704, .f32⟩
  | .hbm, ⟨50, _⟩ => ⟨S_, .f32⟩
  | .hbm, ⟨51, _⟩ => ⟨S4096x704, .f32⟩
  | .hbm, ⟨52, _⟩ => ⟨S4096x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamFfnOut.lean ====
abbrev S8x352x1024 : Shape := ⟨3, ![8, 352, 1024]⟩
abbrev S1408x1024 : Shape := ⟨2, ![1408, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S8x32x1024, .bf16⟩
  | .local _ .vmem, ⟨5, _⟩ => ⟨S8x32x1024, .bf16⟩
  | .local _ .vmem, ⟨6, _⟩ => ⟨S8x32x1024, .bf16⟩
  | .local _ .vmem, ⟨7, _⟩ => ⟨S8x32x1024, .bf16⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnOutRefIdeal.lean ====
abbrev S8x352x1024 : Shape := ⟨3, ![8, 352, 1024]⟩
abbrev S1408x1024 : Shape := ⟨2, ![1408, 1024]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1408x1024, .f32⟩
  | .hbm, ⟨20, _⟩ => ⟨S_, .f32⟩
  | .hbm, ⟨21, _⟩ => ⟨S1408x1024, .f32⟩
  | .hbm, ⟨22, _⟩ => ⟨S1408x1024, .f32⟩
  | .hbm, ⟨23, _⟩ => ⟨S_, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S1408x1024, .f32⟩
  | .hbm, ⟨31, _⟩ => ⟨S_, .f32⟩
  | .hbm, ⟨32, _⟩ => ⟨S1408x1024, .f32⟩
  | .hbm, ⟨33, _⟩ => ⟨S1408x1024, .f32⟩
  | .hbm, ⟨34, _⟩ => ⟨S1408x1024, .f32⟩
  | .hbm, ⟨35, _⟩ => ⟨S_, .f32⟩
  | .hbm, ⟨36, _⟩ => ⟨S1408x1024, .f32⟩
  | .hbm, ⟨37, _⟩ => ⟨S1408x1024, .f32⟩
  | .hbm, ⟨38, _⟩ => ⟨S_, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S_, .f32⟩
  | .hbm, ⟨43, _⟩ => ⟨S1408x1024, .f32⟩
  | .hbm, ⟨44, _⟩ => ⟨S1408x1024, .f32⟩
  | .hbm, ⟨45, _⟩ => ⟨S1408x1024, .f32⟩
  | .hbm, ⟨46, _⟩ => ⟨S_, .f32⟩
  | .hbm, ⟨47, _⟩ => ⟨S1408x1024, .f32⟩
  | .hbm, ⟨48, _⟩ => ⟨S1408x1024, .f32⟩
  | .hbm, ⟨49, _⟩ => ⟨S1408x1024, .f32⟩
  | .hbm, ⟨50, _⟩ => ⟨S_, .f32⟩
  | .hbm, ⟨51, _⟩ => ⟨S1408x1024, .f32⟩
  | .hbm, ⟨52, _⟩ => ⟨S1408x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== ModFirst.lean ====
abbrev S2x2048x1024 : Shape := ⟨3, ![2, 2048, 1024]⟩
abbrev S2x1x1024 : Shape := ⟨3, ![2, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x1x1024, .f32⟩
  | .hbm, ⟨7, _⟩ => ⟨S2x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ModFirstRefIdeal.lean ====
abbrev S2x2048x1024 : Shape := ⟨3, ![2, 2048, 1024]⟩
abbrev S2x1x1024 : Shape := ⟨3, ![2, 1, 1024]⟩
abbrev S_ : Shape := ⟨0, ![]⟩
abbrev S2x1024 : Shape := ⟨2, ![2, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x1024, .f32⟩
  | .hbm, ⟨15, _⟩ => ⟨S2x1x1024, .f32⟩
  | .hbm, ⟨16, _⟩ => ⟨S2x2048x1024, .f32⟩
  | .hbm, ⟨17, _⟩ => ⟨S_, .f32⟩
  | .hbm, ⟨18, _⟩ => ⟨S2x1024, .f32⟩
  | .hbm, ⟨19, _⟩ => ⟨S2x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== LnLoss.lean ====
abbrev S2x2048x1024 : Shape := ⟨3, ![2, 2048, 1024]⟩
abbrev S2x1x1024 : Shape := ⟨3, ![2, 1, 1024]⟩
abbrev S1x1024 : Shape := ⟨2, ![1, 1024]⟩
abbrev S1x128 : Shape := ⟨2, ![1, 128]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S1x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LnLossRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1, .f32⟩
  | .hbm, ⟨34, _⟩ => ⟨S2x2048x1, .f32⟩
  | .hbm, ⟨35, _⟩ => ⟨S2x2048x1, .f32⟩
  | .hbm, ⟨36, _⟩ => ⟨S2x2048x1024, .f32⟩
  | .hbm, ⟨37, _⟩ => ⟨S2x2048x1024, .f32⟩
  | .hbm, ⟨38, _⟩ => ⟨S1x1x1024, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x2048, .f32⟩
  | .hbm, ⟨48, _⟩ => ⟨S_, .f32⟩
  | .hbm, ⟨49, _⟩ => ⟨S2x2048, .f32⟩
  | .hbm, ⟨50, _⟩ => ⟨S2x2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Branch.lean ====
/- The branches of the attention gradient's body by grid point. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which of the body's branches a point of the grid takes -/

/-- Branch 0 is taken exactly at the points ≡ 0 (mod 4). -/
theorem branch0_iff : ∀ t : Fin cfg0.N, k0_cond1 (grid0.coords t) = 1#1 ↔ t.val % 4 = 0 :=
  (fun t => by
    have ht : t.val < 64 := Nat.lt_of_lt_of_eq t.isLt N_0
    have e2 : (grid0.coords t 2).val = t.val / 1 % 4 := Pipeline.Grid.coords_val t 2 (by decide) rfl
    simp only [k0_cond1, e2]
    word_cmp
   : ∀ t : Fin grid0.N, k0_cond1 (grid0.coords t) = 1#1 ↔ t.val % 4 = 0)

/-- Branch 1 is taken exactly at the points ≡ 0 (mod 4). -/
theorem branch1_iff : ∀ t : Fin cfg0.N, k0_cond2 (grid0.coords t) = 1#1 ↔ t.val % 4 = 0 :=
  (fun t => by
    have ht : t.val < 64 := Nat.lt_of_lt_of_eq t.isLt N_0
    have e2 : (grid0.coords t 2).val = t.val / 1 % 4 := Pipeline.Grid.coords_val t 2 (by decide) rfl
    simp only [k0_cond2, e2]
    word_cmp
   : ∀ t : Fin grid0.N, k0_cond2 (grid0.coords t) = 1#1 ↔ t.val % 4 = 0)

/-- Branch 2 is taken exactly at the points ≡ 1 (mod 4). -/
theorem branch2_iff : ∀ t : Fin cfg0.N, k0_cond3 (grid0.coords t) = 1#1 ↔ t.val % 4 = 1 :=
  (fun t => by
    have ht : t.val < 64 := Nat.lt_of_lt_of_eq t.isLt N_0
    have e2 : (grid0.coords t 2).val = t.val / 1 % 4 := Pipeline.Grid.coords_val t 2 (by decide) rfl
    simp only [k0_cond3, e2]
    word_cmp
   : ∀ t : Fin grid0.N, k0_cond3 (grid0.coords t) = 1#1 ↔ t.val % 4 = 1)

/-- Branch 3 is taken exactly at the points ≡ 2 (mod 4). -/
theorem branch3_iff : ∀ t : Fin cfg0.N, k0_cond4 (grid0.coords t) = 1#1 ↔ t.val % 4 = 2 :=
  (fun t => by
    have ht : t.val < 64 := Nat.lt_of_lt_of_eq t.isLt N_0
    have e2 : (grid0.coords t 2).val = t.val / 1 % 4 := Pipeline.Grid.coords_val t 2 (by decide) rfl
    simp only [k0_cond4, e2]
    word_cmp
   : ∀ t : Fin grid0.N, k0_cond4 (grid0.coords t) = 1#1 ↔ t.val % 4 = 2)

/-- Branch 4 is taken exactly at the points ≡ 3 (mod 4). -/
theorem branch4_iff : ∀ t : Fin cfg0.N, k0_cond5 (grid0.coords t) = 1#1 ↔ t.val % 4 = 3 :=
  (fun t => by
    have ht : t.val < 64 := Nat.lt_of_lt_of_eq t.isLt N_0
    have e2 : (grid0.coords t 2).val = t.val / 1 % 4 := Pipeline.Grid.coords_val t 2 (by decide) rfl
    simp only [k0_cond5, e2]
    word_cmp
   : ∀ t : Fin grid0.N, k0_cond5 (grid0.coords t) = 1#1 ↔ t.val % 4 = 3)

/-- Every point takes one of the four column branches, so the output windows are idle nowhere. -/
theorem some_branch (t : Fin cfg0.N) : k0_cond2 (grid0.coords t) = 1#1 ∨ k0_cond3 (grid0.coords t) = 1#1 ∨ k0_cond4 (grid0.coords t) = 1#1 ∨ k0_cond5 (grid0.coords t) = 1#1 := by
  rw [branch1_iff, branch2_iff, branch3_iff, branch4_iff]; omega
theorem live4 (t : Fin cfg0.N) : cfg0.idle 4 (grid0.coords t) = false := by
  show (!(k0_cond2 (grid0.coords t) == 1#1) && !(k0_cond3 (grid0.coords t) == 1#1) && !(k0_cond4 (grid0.coords t) == 1#1) && !(k0_cond5 (grid0.coords t) == 1#1)) = false
  rcases some_branch t with h | h | h | h <;> simp [h]
theorem live5 (t : Fin cfg0.N) : cfg0.idle 5 (grid0.coords t) = false := by
  show (!(k0_cond1 (grid0.coords t) == 1#1) && !(k0_cond2 (grid0.coords t) == 1#1) && !(k0_cond3 (grid0.coords t) == 1#1) && !(k0_cond4 (grid0.coords t) == 1#1) && !(k0_cond5 (grid0.coords t) == 1#1)) = false
  rcases some_branch t with h | h | h | h <;> simp [h]
theorem live6 (t : Fin cfg0.N) : cfg0.idle 6 (grid0.coords t) = false := by
  show (!(k0_cond1 (grid0.coords t) == 1#1) && !(k0_cond2 (grid0.coords t) == 1#1) && !(k0_cond3 (grid0.coords t) == 1#1) && !(k0_cond4 (grid0.coords t) == 1#1) && !(k0_cond5 (grid0.coords t) == 1#1)) = false
  rcases some_branch t with h | h | h | h <;> simp [h]

end Cert.KernelIdeal.Gen

end
-- ==== Proof.Step.lean ====
/- What one grid point of the attention gradient leaves in its three output blocks, as functions of the blocks it reads. -/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows of the four inputs and the two accumulators that a point of the grid reads -/

/-- Head `0` and head `1` of the query block. -/
def winQ0 (x0 : Vec F S1x2x512x96 .bf16) : Vec F S1x1x512x96 .bf16 := VecWindow.window x0 ![0, 0, 0, 0] S1x1x512x96.size inb_S1x2x512x96_S1x1x512x96_0_0_0_0
def winQ1 (x0 : Vec F S1x2x512x96 .bf16) : Vec F S1x1x512x96 .bf16 := VecWindow.window x0 ![0, 1, 0, 0] S1x1x512x96.size inb_S1x2x512x96_S1x1x512x96_0_1_0_0
/-- The two heads' halves of the incoming gradient's block. -/
def winG0 (x3 : Vec F S1x512x128 .f32) : Vec F S1x512x64 .f32 := VecWindow.window x3 ![0, 0, 0] S1x512x64.size inb_S1x512x128_S1x512x64_0_0_0
def winG1 (x3 : Vec F S1x512x128 .f32) : Vec F S1x512x64 .f32 := VecWindow.window x3 ![0, 0, 64] S1x512x64.size inb_S1x512x128_S1x512x64_0_0_64

/-! ### The point that reads the first 512 columns -/

def winK0A (x1 : Vec F S1x2x2048x96 .bf16) : Vec F S1x1x512x96 .bf16 := VecWindow.window x1 ![0, 0, 0, 0] S1x1x512x96.size inb_S1x2x2048x96_S1x1x512x96_0_0_0_0
def winV0A (x2 : Vec F S1x2x2048x64 .bf16) : Vec F S1x1x512x64 .bf16 := VecWindow.window x2 ![0, 0, 0, 0] S1x1x512x64.size inb_S1x2x2048x64_S1x1x512x64_0_0_0_0
def winA0A (y : Vec F S1x2x2048x96 .f32) : Vec F S1x1x512x96 .f32 := VecWindow.window y ![0, 0, 0, 0] S1x1x512x96.size inb_S1x2x2048x96_S1x1x512x96_0_0_0_0
def winB0A (y : Vec F S1x2x2048x64 .f32) : Vec F S1x1x512x64 .f32 := VecWindow.window y ![0, 0, 0, 0] S1x1x512x64.size inb_S1x2x2048x64_S1x1x512x64_0_0_0_0
def winK1A (x1 : Vec F S1x2x2048x96 .bf16) : Vec F S1x1x512x96 .bf16 := VecWindow.window x1 ![0, 1, 0, 0] S1x1x512x96.size inb_S1x2x2048x96_S1x1x512x96_0_1_0_0
def winV1A (x2 : Vec F S1x2x2048x64 .bf16) : Vec F S1x1x512x64 .bf16 := VecWindow.window x2 ![0, 1, 0, 0] S1x1x512x64.size inb_S1x2x2048x64_S1x1x512x64_0_1_0_0
def winA1A (y : Vec F S1x2x2048x96 .f32) : Vec F S1x1x512x96 .f32 := VecWindow.window y ![0, 1, 0, 0] S1x1x512x96.size inb_S1x2x2048x96_S1x1x512x96_0_1_0_0
def winB1A (y : Vec F S1x2x2048x64 .f32) : Vec F S1x1x512x64 .f32 := VecWindow.window y ![0, 1, 0, 0] S1x1x512x64.size inb_S1x2x2048x64_S1x1x512x64_0_1_0_0

/-- What the point stores for the query gradient of head `0`, -/
def dq0A (x0 : Vec F S1x2x512x96 .bf16) (x1 : Vec F S1x2x2048x96 .bf16) (x2 : Vec F S1x2x2048x64 .bf16) (x3 : Vec F S1x512x128 .f32) : Vec F S1x1x512x96 .f32 :=
  k0_pay30 (k0_pay20 (winK0A x1)) (k0_pay21 (winV0A x2)) (k0_pay22 (winQ0 x0) (winK0A x1)) (k0_pay23 (winQ0 x0) (winK0A x1)) (k0_pay24 (winG0 x3))
/-- of head `1`, -/
def dq1A (x0 : Vec F S1x2x512x96 .bf16) (x1 : Vec F S1x2x2048x96 .bf16) (x2 : Vec F S1x2x2048x64 .bf16) (x3 : Vec F S1x512x128 .f32) : Vec F S1x1x512x96 .f32 :=
  k0_pay5 (k0_pay33 (winK1A x1)) (k0_pay34 (winV1A x2)) (k0_pay35 (k0_pay32 (winQ1 x0)) (winK1A x1)) (k0_pay36 (k0_pay32 (winQ1 x0)) (winK1A x1)) (k0_pay37 (winG1 x3))
/-- for the key gradient of head `0`, over the window `y` it holds so far, -/
def dk0A (x0 : Vec F S1x2x512x96 .bf16) (x1 : Vec F S1x2x2048x96 .bf16) (x2 : Vec F S1x2x2048x64 .bf16) (x3 : Vec F S1x512x128 .f32) (y : Vec F S1x1x512x96 .f32) : Vec F S1x1x512x96 .f32 :=
  k0_pay31 (k0_pay19 (winQ0 x0)) (k0_pay21 (winV0A x2)) (k0_pay22 (winQ0 x0) (winK0A x1)) (k0_pay23 (winQ0 x0) (winK0A x1)) (k0_pay24 (winG0 x3)) y
/-- of head `1`, -/
def dk1A (x0 : Vec F S1x2x512x96 .bf16) (x1 : Vec F S1x2x2048x96 .bf16) (x2 : Vec F S1x2x2048x64 .bf16) (x3 : Vec F S1x512x128 .f32) (y : Vec F S1x1x512x96 .f32) : Vec F S1x1x512x96 .f32 :=
  k0_pay6 (k0_pay32 (winQ1 x0)) (k0_pay34 (winV1A x2)) (k0_pay35 (k0_pay32 (winQ1 x0)) (winK1A x1)) (k0_pay36 (k0_pay32 (winQ1 x0)) (winK1A x1)) (k0_pay37 (winG1 x3)) y
/-- for the value gradient of head `0` -/
def dv0A (x0 : Vec F S1x2x512x96 .bf16) (x1 : Vec F S1x2x2048x96 .bf16) (x3 : Vec F S1x512x128 .f32) (y : Vec F S1x1x512x64 .f32) : Vec F S1x1x512x64 .f32 :=
  k0_pay28 (k0_pay25 y) (k0_pay26 (winQ0 x0) (winK0A x1)) (k0_pay27 (winQ0 x0) (winK0A x1) (winG0 x3)) (constant S512x64 .f32 0x00000000#32)
/-- and of head `1`. -/
def dv1A (x0 : Vec F S1x2x512x96 .bf16) (x1 : Vec F S1x2x2048x96 .bf16) (x3 : Vec F S1x512x128 .f32) (y : Vec F S1x1x512x64 .f32) : Vec F S1x1x512x64 .f32 :=
  k0_pay3 (k0_pay38 (k0_pay32 (winQ1 x0)) (winK1A x1) (winG1 x3) y)

/-- The query gradient's block after the point. -/
def dqStepA (x0 : Vec F S1x2x512x96 .bf16) (x1 : Vec F S1x2x2048x96 .bf16) (x2 : Vec F S1x2x2048x64 .bf16) (x3 : Vec F S1x512x128 .f32) : Vec F S1x2x512x96 .f32 :=
  VecWindow.put (VecWindow.put (constant S1x2x512x96 .f32 0x00000000#32) ![0, 0, 0, 0] ![1, 1, 512, 96] (dq0A x0 x1 x2 x3)) ![0, 1, 0, 0] ![1, 1, 512, 96] (dq1A x0 x1 x2 x3)
/-- The key gradient's block after the point, from the block `y` before it. -/
def dkStepA (x0 : Vec F S1x2x512x96 .bf16) (x1 : Vec F S1x2x2048x96 .bf16) (x2 : Vec F S1x2x2048x64 .bf16) (x3 : Vec F S1x512x128 .f32) (y : Vec F S1x2x2048x96 .f32) : Vec F S1x2x2048x96 .f32 :=
  VecWindow.put (VecWindow.put y ![0, 0, 0, 0] ![1, 1, 512, 96] (dk0A x0 x1 x2 x3 (winA0A y))) ![0, 1, 0, 0] ![1, 1, 512, 96] (dk1A x0 x1 x2 x3 (winA1A y))
/-- The value gradient's block after the point, from the block `y` before it. -/
def dvStepA (x0 : Vec F S1x2x512x96 .bf16) (x1 : Vec F S1x2x2048x96 .bf16) (x3 : Vec F S1x512x128 .f32) (y : Vec F S1x2x2048x64 .f32) : Vec F S1x2x2048x64 .f32 :=
  VecWindow.put (VecWindow.put y ![0, 0, 0, 0] ![1, 1, 512, 64] (dv0A x0 x1 x3 (winB0A y))) ![0, 1, 0, 0] ![1, 1, 512, 64] (dv1A x0 x1 x3 (winB1A y))

/-! ### The point that reads the first 1024 columns -/

def winK0B (x1 : Vec F S1x2x2048x96 .bf16) : Vec F S1x1x1024x96 .bf16 := VecWindow.window x1 ![0, 0, 0, 0] S1x1x1024x96.size inb_S1x2x2048x96_S1x1x1024x96_0_0_0_0
def winV0B (x2 : Vec F S1x2x2048x64 .bf16) : Vec F S1x1x1024x64 .bf16 := VecWindow.window x2 ![0, 0, 0, 0] S1x1x1024x64.size inb_S1x2x2048x64_S1x1x1024x64_0_0_0_0
def winA0B (y : Vec F S1x2x2048x96 .f32) : Vec F S1x1x1024x96 .f32 := VecWindow.window y ![0, 0, 0, 0] S1x1x1024x96.size inb_S1x2x2048x96_S1x1x1024x96_0_0_0_0
def winB0B (y : Vec F S1x2x2048x64 .f32) : Vec F S1x1x1024x64 .f32 := VecWindow.window y ![0, 0, 0, 0] S1x1x1024x64.size inb_S1x2x2048x64_S1x1x1024x64_0_0_0_0
def winK1B (x1 : Vec F S1x2x2048x96 .bf16) : Vec F S1x1x1024x96 .bf16 := VecWindow.window x1 ![0, 1, 0, 0] S1x1x1024x96.size inb_S1x2x2048x96_S1x1x1024x96_0_1_0_0
def winV1B (x2 : Vec F S1x2x2048x64 .bf16) : Vec F S1x1x1024x64 .bf16 := VecWindow.window x2 ![0, 1, 0, 0] S1x1x1024x64.size inb_S1x2x2048x64_S1x1x1024x64_0_1_0_0
def winA1B (y : Vec F S1x2x2048x96 .f32) : Vec F S1x1x1024x96 .f32 := VecWindow.window y ![0, 1, 0, 0] S1x1x1024x96.size inb_S1x2x2048x96_S1x1x1024x96_0_1_0_0
def winB1B (y : Vec F S1x2x2048x64 .f32) : Vec F S1x1x1024x64 .f32 := VecWindow.window y ![0, 1, 0, 0] S1x1x1024x64.size inb_S1x2x2048x64_S1x1x1024x64_0_1_0_0

/-- What the point stores for the query gradient of head `0`, -/
def dq0B (x0 : Vec F S1x2x512x96 .bf16) (x1 : Vec F S1x2x2048x96 .bf16) (x2 : Vec F S1x2x2048x64 .bf16) (x3 : Vec F S1x512x128 .f32) : Vec F S1x1x512x96 .f32 :=
  k0_pay50 (k0_pay40 (winK0B x1)) (k0_pay41 (winV0B x2)) (k0_pay42 (winQ0 x0) (winK0B x1)) (k0_pay43 (winQ0 x0) (winK0B x1)) (k0_pay44 (winG0 x3))
/-- of head `1`, -/
def dq1B (x0 : Vec F S1x2x512x96 .bf16) (x1 : Vec F S1x2x2048x96 .bf16) (x2 : Vec F S1x2x2048x64 .bf16) (x3 : Vec F S1x512x128 .f32) : Vec F S1x1x512x96 .f32 :=
  k0_pay9 (k0_pay53 (winK1B x1)) (k0_pay54 (winV1B x2)) (k0_pay55 (k0_pay52 (winQ1 x0)) (winK1B x1)) (k0_pay56 (k0_pay52 (winQ1 x0)) (winK1B x1)) (k0_pay57 (winG1 x3))
/-- for the key gradient of head `0`, over the window `y` it holds so far, -/
def dk0B (x0 : Vec F S1x2x512x96 .bf16) (x1 : Vec F S1x2x2048x96 .bf16) (x2 : Vec F S1x2x2048x64 .bf16) (x3 : Vec F S1x512x128 .f32) (y : Vec F S1x1x1024x96 .f32) : Vec F S1x1x1024x96 .f32 :=
  k0_pay51 (k0_pay39 (winQ0 x0)) (k0_pay41 (winV0B x2)) (k0_pay42 (winQ0 x0) (winK0B x1)) (k0_pay43 (winQ0 x0) (winK0B x1)) (k0_pay44 (winG0 x3)) y
/-- of head `1`, -/
def dk1B (x0 : Vec F S1x2x512x96 .bf16) (x1 : Vec F S1x2x2048x96 .bf16) (x2 : Vec F S1x2x2048x64 .bf16) (x3 : Vec F S1x512x128 .f32) (y : Vec F S1x1x1024x96 .f32) : Vec F S1x1x1024x96 .f32 :=
  k0_pay10 (k0_pay52 (winQ1 x0)) (k0_pay54 (winV1B x2)) (k0_pay55 (k0_pay52 (winQ1 x0)) (winK1B x1)) (k0_pay56 (k0_pay52 (winQ1 x0)) (winK1B x1)) (k0_pay57 (winG1 x3)) y
/-- for the value gradient of head `0` -/
def dv0B (x0 : Vec F S1x2x512x96 .bf16) (x1 : Vec F S1x2x2048x96 .bf16) (x3 : Vec F S1x512x128 .f32) (y : Vec F S1x1x1024x64 .f32) : Vec F S1x1x1024x64 .f32 :=
  k0_pay48 (k0_pay45 y) (k0_pay46 (winQ0 x0) (winK0B x1)) (k0_pay47 (winQ0 x0) (winK0B x1) (winG0 x3)) (constant S1024x64 .f32 0x00000000#32)
/-- and of head `1`. -/
def dv1B (x0 : Vec F S1x2x512x96 .bf16) (x1 : Vec F S1x2x2048x96 .bf16) (x3 : Vec F S1x512x128 .f32) (y : Vec F S1x1x1024x64 .f32) : Vec F S1x1x1024x64 .f32 :=
  k0_pay7 (k0_pay58 (k0_pay52 (winQ1 x0)) (winK1B x1) (winG1 x3) y)

/-- The query gradient's block after the point. -/
def dqStepB (x0 : Vec F S1x2x512x96 .bf16) (x1 : Vec F S1x2x2048x96 .bf16) (x2 : Vec F S1x2x2048x64 .bf16) (x3 : Vec F S1x512x128 .f32) : Vec F S1x2x512x96 .f32 :=
  VecWindow.put (VecWindow.put (constant S1x2x512x96 .f32 0x00000000#32) ![0, 0, 0, 0] ![1, 1, 512, 96] (dq0B x0 x1 x2 x3)) ![0, 1, 0, 0] ![1, 1, 512, 96] (dq1B x0 x1 x2 x3)
/-- The key gradient's block after the point, from the block `y` before it. -/
def dkStepB (x0 : Vec F S1x2x512x96 .bf16) (x1 : Vec F S1x2x2048x96 .bf16) (x2 : Vec F S1x2x2048x64 .bf16) (x3 : Vec F S1x512x128 .f32) (y : Vec F S1x2x2048x96 .f32) : Vec F S1x2x2048x96 .f32 :=
  VecWindow.put (VecWindow.put y ![0, 0, 0, 0] ![1, 1, 1024, 96] (dk0B x0 x1 x2 x3 (winA0B y))) ![0, 1, 0, 0] ![1, 1, 1024, 96] (dk1B x0 x1 x2 x3 (winA1B y))
/-- The value gradient's block after the point, from the block `y` before it. -/
def dvStepB (x0 : Vec F S1x2x512x96 .bf16) (x1 : Vec F S1x2x2048x96 .bf16) (x3 : Vec F S1x512x128 .f32) (y : Vec F S1x2x2048x64 .f32) : Vec F S1x2x2048x64 .f32 :=
  VecWindow.put (VecWindow.put y ![0, 0, 0, 0] ![1, 1, 1024, 64] (dv0B x0 x1 x3 (winB0B y))) ![0, 1, 0, 0] ![1, 1, 1024, 64] (dv1B x0 x1 x3 (winB1B y))

/-! ### The point that reads the first 1536 columns -/

def winK0C (x1 : Vec F S1x2x2048x96 .bf16) : Vec F S1x1x1536x96 .bf16 := VecWindow.window x1 ![0, 0, 0, 0] S1x1x1536x96.size inb_S1x2x2048x96_S1x1x1536x96_0_0_0_0
def winV0C (x2 : Vec F S1x2x2048x64 .bf16) : Vec F S1x1x1536x64 .bf16 := VecWindow.window x2 ![0, 0, 0, 0] S1x1x1536x64.size inb_S1x2x2048x64_S1x1x1536x64_0_0_0_0
def winA0C (y : Vec F S1x2x2048x96 .f32) : Vec F S1x1x1536x96 .f32 := VecWindow.window y ![0, 0, 0, 0] S1x1x1536x96.size inb_S1x2x2048x96_S1x1x1536x96_0_0_0_0
def winB0C (y : Vec F S1x2x2048x64 .f32) : Vec F S1x1x1536x64 .f32 := VecWindow.window y ![0, 0, 0, 0] S1x1x1536x64.size inb_S1x2x2048x64_S1x1x1536x64_0_0_0_0
def winK1C (x1 : Vec F S1x2x2048x96 .bf16) : Vec F S1x1x1536x96 .bf16 := VecWindow.window x1 ![0, 1, 0, 0] S1x1x1536x96.size inb_S1x2x2048x96_S1x1x1536x96_0_1_0_0
def winV1C (x2 : Vec F S1x2x2048x64 .bf16) : Vec F S1x1x1536x64 .bf16 := VecWindow.window x2 ![0, 1, 0, 0] S1x1x1536x64.size inb_S1x2x2048x64_S1x1x1536x64_0_1_0_0
def winA1C (y : Vec F S1x2x2048x96 .f32) : Vec F S1x1x1536x96 .f32 := VecWindow.window y ![0, 1, 0, 0] S1x1x1536x96.size inb_S1x2x2048x96_S1x1x1536x96_0_1_0_0
def winB1C (y : Vec F S1x2x2048x64 .f32) : Vec F S1x1x1536x64 .f32 := VecWindow.window y ![0, 1, 0, 0] S1x1x1536x64.size inb_S1x2x2048x64_S1x1x1536x64_0_1_0_0

/-- What the point stores for the query gradient of head `0`, -/
def dq0C (x0 : Vec F S1x2x512x96 .bf16) (x1 : Vec F S1x2x2048x96 .bf16) (x2 : Vec F S1x2x2048x64 .bf16) (x3 : Vec F S1x512x128 .f32) : Vec F S1x1x512x96 .f32 :=
  k0_pay70 (k0_pay60 (winK0C x1)) (k0_pay61 (winV0C x2)) (k0_pay62 (winQ0 x0) (winK0C x1)) (k0_pay63 (winQ0 x0) (winK0C x1)) (k0_pay64 (winG0 x3))
/-- of head `1`, -/
def dq1C (x0 : Vec F S1x2x512x96 .bf16) (x1 : Vec F S1x2x2048x96 .bf16) (x2 : Vec F S1x2x2048x64 .bf16) (x3 : Vec F S1x512x128 .f32) : Vec F S1x1x512x96 .f32 :=
  k0_pay13 (k0_pay73 (winK1C x1)) (k0_pay74 (winV1C x2)) (k0_pay75 (k0_pay72 (winQ1 x0)) (winK1C x1)) (k0_pay76 (k0_pay72 (winQ1 x0)) (winK1C x1)) (k0_pay77 (winG1 x3))
/-- for the key gradient of head `0`, over the window `y` it holds so far, -/
def dk0C (x0 : Vec F S1x2x512x96 .bf16) (x1 : Vec F S1x2x2048x96 .bf16) (x2 : Vec F S1x2x2048x64 .bf16) (x3 : Vec F S1x512x128 .f32) (y : Vec F S1x1x1536x96 .f32) : Vec F S1x1x1536x96 .f32 :=
  k0_pay71 (k0_pay59 (winQ0 x0)) (k0_pay61 (winV0C x2)) (k0_pay62 (winQ0 x0) (winK0C x1)) (k0_pay63 (winQ0 x0) (winK0C x1)) (k0_pay64 (winG0 x3)) y
/-- of head `1`, -/
def dk1C (x0 : Vec F S1x2x512x96 .bf16) (x1 : Vec F S1x2x2048x96 .bf16) (x2 : Vec F S1x2x2048x64 .bf16) (x3 : Vec F S1x512x128 .f32) (y : Vec F S1x1x1536x96 .f32) : Vec F S1x1x1536x96 .f32 :=
  k0_pay14 (k0_pay72 (winQ1 x0)) (k0_pay74 (winV1C x2)) (k0_pay75 (k0_pay72 (winQ1 x0)) (winK1C x1)) (k0_pay76 (k0_pay72 (winQ1 x0)) (winK1C x1)) (k0_pay77 (winG1 x3)) y
/-- for the value gradient of head `0` -/
def dv0C (x0 : Vec F S1x2x512x96 .bf16) (x1 : Vec F S1x2x2048x96 .bf16) (x3 : Vec F S1x512x128 .f32) (y : Vec F S1x1x1536x64 .f32) : Vec F S1x1x1536x64 .f32 :=
  k0_pay68 (k0_pay65 y) (k0_pay66 (winQ0 x0) (winK0C x1)) (k0_pay67 (winQ0 x0) (winK0C x1) (winG0 x3)) (constant S1536x64 .f32 0x00000000#32)
/-- and of head `1`. -/
def dv1C (x0 : Vec F S1x2x512x96 .bf16) (x1 : Vec F S1x2x2048x96 .bf16) (x3 : Vec F S1x512x128 .f32) (y : Vec F S1x1x1536x64 .f32) : Vec F S1x1x1536x64 .f32 :=
  k0_pay11 (k0_pay78 (k0_pay72 (winQ1 x0)) (winK1C x1) (winG1 x3) y)

/-- The query gradient's block after the point. -/
def dqStepC (x0 : Vec F S1x2x512x96 .bf16) (x1 : Vec F S1x2x2048x96 .bf16) (x2 : Vec F S1x2x2048x64 .bf16) (x3 : Vec F S1x512x128 .f32) : Vec F S1x2x512x96 .f32 :=
  VecWindow.put (VecWindow.put (constant S1x2x512x96 .f32 0x00000000#32) ![0, 0, 0, 0] ![1, 1, 512, 96] (dq0C x0 x1 x2 x3)) ![0, 1, 0, 0] ![1, 1, 512, 96] (dq1C x0 x1 x2 x3)
/-- The key gradient's block after the point, from the block `y` before it. -/
def dkStepC (x0 : Vec F S1x2x512x96 .bf16) (x1 : Vec F S1x2x2048x96 .bf16) (x2 : Vec F S1x2x2048x64 .bf16) (x3 : Vec F S1x512x128 .f32) (y : Vec F S1x2x2048x96 .f32) : Vec F S1x2x2048x96 .f32 :=
  VecWindow.put (VecWindow.put y ![0, 0, 0, 0] ![1, 1, 1536, 96] (dk0C x0 x1 x2 x3 (winA0C y))) ![0, 1, 0, 0] ![1, 1, 1536, 96] (dk1C x0 x1 x2 x3 (winA1C y))
/-- The value gradient's block after the point, from the block `y` before it. -/
def dvStepC (x0 : Vec F S1x2x512x96 .bf16) (x1 : Vec F S1x2x2048x96 .bf16) (x3 : Vec F S1x512x128 .f32) (y : Vec F S1x2x2048x64 .f32) : Vec F S1x2x2048x64 .f32 :=
  VecWindow.put (VecWindow.put y ![0, 0, 0, 0] ![1, 1, 1536, 64] (dv0C x0 x1 x3 (winB0C y))) ![0, 1, 0, 0] ![1, 1, 1536, 64] (dv1C x0 x1 x3 (winB1C y))

/-! ### The point that reads the first 2048 columns -/

def winK0D (x1 : Vec F S1x2x2048x96 .bf16) : Vec F S1x1x2048x96 .bf16 := VecWindow.window x1 ![0, 0, 0, 0] S1x1x2048x96.size inb_S1x2x2048x96_S1x1x2048x96_0_0_0_0
def winV0D (x2 : Vec F S1x2x2048x64 .bf16) : Vec F S1x1x2048x64 .bf16 := VecWindow.window x2 ![0, 0, 0, 0] S1x1x2048x64.size inb_S1x2x2048x64_S1x1x2048x64_0_0_0_0
def winA0D (y : Vec F S1x2x2048x96 .f32) : Vec F S1x1x2048x96 .f32 := VecWindow.window y ![0, 0, 0, 0] S1x1x2048x96.size inb_S1x2x2048x96_S1x1x2048x96_0_0_0_0
def winB0D (y : Vec F S1x2x2048x64 .f32) : Vec F S1x1x2048x64 .f32 := VecWindow.window y ![0, 0, 0, 0] S1x1x2048x64.size inb_S1x2x2048x64_S1x1x2048x64_0_0_0_0
def winK1D (x1 : Vec F S1x2x2048x96 .bf16) : Vec F S1x1x2048x96 .bf16 := VecWindow.window x1 ![0, 1, 0, 0] S1x1x2048x96.size inb_S1x2x2048x96_S1x1x2048x96_0_1_0_0
def winV1D (x2 : Vec F S1x2x2048x64 .bf16) : Vec F S1x1x2048x64 .bf16 := VecWindow.window x2 ![0, 1, 0, 0] S1x1x2048x64.size inb_S1x2x2048x64_S1x1x2048x64_0_1_0_0
def winA1D (y : Vec F S1x2x2048x96 .f32) : Vec F S1x1x2048x96 .f32 := VecWindow.window y ![0, 1, 0, 0] S1x1x2048x96.size inb_S1x2x2048x96_S1x1x2048x96_0_1_0_0
def winB1D (y : Vec F S1x2x2048x64 .f32) : Vec F S1x1x2048x64 .f32 := VecWindow.window y ![0, 1, 0, 0] S1x1x2048x64.size inb_S1x2x2048x64_S1x1x2048x64_0_1_0_0

/-- What the point stores for the query gradient of head `0`, -/
def dq0D (x0 : Vec F S1x2x512x96 .bf16) (x1 : Vec F S1x2x2048x96 .bf16) (x2 : Vec F S1x2x2048x64 .bf16) (x3 : Vec F S1x512x128 .f32) : Vec F S1x1x512x96 .f32 :=
  k0_pay90 (k0_pay80 (winK0D x1)) (k0_pay81 (winV0D x2)) (k0_pay82 (winQ0 x0) (winK0D x1)) (k0_pay83 (winQ0 x0) (winK0D x1)) (k0_pay84 (winG0 x3))
/-- of head `1`, -/
def dq1D (x0 : Vec F S1x2x512x96 .bf16) (x1 : Vec F S1x2x2048x96 .bf16) (x2 : Vec F S1x2x2048x64 .bf16) (x3 : Vec F S1x512x128 .f32) : Vec F S1x1x512x96 .f32 :=
  k0_pay17 (k0_pay93 (winK1D x1)) (k0_pay94 (winV1D x2)) (k0_pay95 (k0_pay92 (winQ1 x0)) (winK1D x1)) (k0_pay96 (k0_pay92 (winQ1 x0)) (winK1D x1)) (k0_pay97 (winG1 x3))
/-- for the key gradient of head `0`, over the window `y` it holds so far, -/
def dk0D (x0 : Vec F S1x2x512x96 .bf16) (x1 : Vec F S1x2x2048x96 .bf16) (x2 : Vec F S1x2x2048x64 .bf16) (x3 : Vec F S1x512x128 .f32) (y : Vec F S1x1x2048x96 .f32) : Vec F S1x1x2048x96 .f32 :=
  k0_pay91 (k0_pay79 (winQ0 x0)) (k0_pay81 (winV0D x2)) (k0_pay82 (winQ0 x0) (winK0D x1)) (k0_pay83 (winQ0 x0) (winK0D x1)) (k0_pay84 (winG0 x3)) y
/-- of head `1`, -/
def dk1D (x0 : Vec F S1x2x512x96 .bf16) (x1 : Vec F S1x2x2048x96 .bf16) (x2 : Vec F S1x2x2048x64 .bf16) (x3 : Vec F S1x512x128 .f32) (y : Vec F S1x1x2048x96 .f32) : Vec F S1x1x2048x96 .f32 :=
  k0_pay18 (k0_pay92 (winQ1 x0)) (k0_pay94 (winV1D x2)) (k0_pay95 (k0_pay92 (winQ1 x0)) (winK1D x1)) (k0_pay96 (k0_pay92 (winQ1 x0)) (winK1D x1)) (k0_pay97 (winG1 x3)) y
/-- for the value gradient of head `0` -/
def dv0D (x0 : Vec F S1x2x512x96 .bf16) (x1 : Vec F S1x2x2048x96 .bf16) (x3 : Vec F S1x512x128 .f32) (y : Vec F S1x1x2048x64 .f32) : Vec F S1x1x2048x64 .f32 :=
  k0_pay88 (k0_pay85 y) (k0_pay86 (winQ0 x0) (winK0D x1)) (k0_pay87 (winQ0 x0) (winK0D x1) (winG0 x3)) (constant S2048x64 .f32 0x00000000#32)
/-- and of head `1`. -/
def dv1D (x0 : Vec F S1x2x512x96 .bf16) (x1 : Vec F S1x2x2048x96 .bf16) (x3 : Vec F S1x512x128 .f32) (y : Vec F S1x1x2048x64 .f32) : Vec F S1x1x2048x64 .f32 :=
  k0_pay15 (k0_pay98 (k0_pay92 (winQ1 x0)) (winK1D x1) (winG1 x3) y)

/-- The query gradient's block after the point. -/
def dqStepD (x0 : Vec F S1x2x512x96 .bf16) (x1 : Vec F S1x2x2048x96 .bf16) (x2 : Vec F S1x2x2048x64 .bf16) (x3 : Vec F S1x512x128 .f32) : Vec F S1x2x512x96 .f32 :=
  VecWindow.put (VecWindow.put (constant S1x2x512x96 .f32 0x00000000#32) ![0, 0, 0, 0] ![1, 1, 512, 96] (dq0D x0 x1 x2 x3)) ![0, 1, 0, 0] ![1, 1, 512, 96] (dq1D x0 x1 x2 x3)
/-- The key gradient's block after the point, from the block `y` before it. -/
def dkStepD (x0 : Vec F S1x2x512x96 .bf16) (x1 : Vec F S1x2x2048x96 .bf16) (x2 : Vec F S1x2x2048x64 .bf16) (x3 : Vec F S1x512x128 .f32) (y : Vec F S1x2x2048x96 .f32) : Vec F S1x2x2048x96 .f32 :=
  VecWindow.put (VecWindow.put y ![0, 0, 0, 0] ![1, 1, 2048, 96] (dk0D x0 x1 x2 x3 (winA0D y))) ![0, 1, 0, 0] ![1, 1, 2048, 96] (dk1D x0 x1 x2 x3 (winA1D y))
/-- The value gradient's block after the point, from the block `y` before it. -/
def dvStepD (x0 : Vec F S1x2x512x96 .bf16) (x1 : Vec F S1x2x2048x96 .bf16) (x3 : Vec F S1x512x128 .f32) (y : Vec F S1x2x2048x64 .f32) : Vec F S1x2x2048x64 .f32 :=
  VecWindow.put (VecWindow.put y ![0, 0, 0, 0] ![1, 1, 2048, 64] (dv0D x0 x1 x3 (winB0D y))) ![0, 1, 0, 0] ![1, 1, 2048, 64] (dv1D x0 x1 x3 (winB1D y))

/-- A load at a unit-stride rectangle, at the rectangle's own bounds. -/
theorem load_unit {sg : RefSig} {κ : Kind} {sp : Space} {s : Shape} {e : EltTy} {Val : EltTy → Type} (v : View sg κ sp s e) (f : v.ty.Contents Val)
    {off size : Fin s.rank → ℕ} (inb : ∀ a, off a + size a ≤ s.size a) :
    v.readAt Val (Rect.unit off size inb).toLoadRect f = VecWindow.window (v.read Val f) off size inb := rfl

/-- A put of a whole block leaves its payload. -/
theorem put_wholeK (z w : Vec F S1x2x2048x96 .f32) : VecWindow.put z ![0, 0, 0, 0] ![1, 2, 2048, 96] w = w := by
  funext y
  have h : ∀ a, (![0, 0, 0, 0] : Fin 4 → ℕ) a ≤ (y a).val ∧ (y a).val < (![0, 0, 0, 0] : Fin 4 → ℕ) a + (![1, 2, 2048, 96] : Fin 4 → ℕ) a := by
    intro a; have := (y a).isLt; revert this; fin_cases a <;> simp
  exact (dif_pos h).trans (congrArg w (funext fun a => Fin.ext (by revert a; intro a; fin_cases a <;> rfl)))
theorem put_wholeV (z w : Vec F S1x2x2048x64 .f32) : VecWindow.put z ![0, 0, 0, 0] ![1, 2, 2048, 64] w = w := by
  funext y
  have h : ∀ a, (![0, 0, 0, 0] : Fin 4 → ℕ) a ≤ (y a).val ∧ (y a).val < (![0, 0, 0, 0] : Fin 4 → ℕ) a + (![1, 2, 2048, 64] : Fin 4 → ℕ) a := by
    intro a; have := (y a).isLt; revert this; fin_cases a <;> simp
  exact (dif_pos h).trans (congrArg w (funext fun a => Fin.ext (by revert a; intro a; fin_cases a <;> rfl)))

/-- Two puts, one over the other, agree where their payloads do. -/
theorem put_put_congr {α : Type} {s : Shape} (x : s.Idx → α) (off size off' size' : Fin s.rank → ℕ) {w w' : ((a : Fin s.rank) → Fin (size a)) → α}
    {v v' : ((a : Fin s.rank) → Fin (size' a)) → α} (h : w = w') (h' : v = v') :
    VecWindow.put (VecWindow.put x off size w) off' size' v = VecWindow.put (VecWindow.put x off size w') off' size' v' := by rw [h, h']

/-- The two heads' windows cover the query gradient's block, so what it held before is nowhere read. -/
theorem put_heads (z z' : Vec F S1x2x512x96 .f32) (w0 w1 : Vec F S1x1x512x96 .f32) :
    VecWindow.put (VecWindow.put z ![0, 0, 0, 0] ![1, 1, 512, 96] w0) ![0, 1, 0, 0] ![1, 1, 512, 96] w1
      = VecWindow.put (VecWindow.put z' ![0, 0, 0, 0] ![1, 1, 512, 96] w0) ![0, 1, 0, 0] ![1, 1, 512, 96] w1 := by
  funext y
  unfold VecWindow.put
  by_cases h : ∀ a, (![0, 1, 0, 0] : Fin 4 → ℕ) a ≤ (y a).val ∧ (y a).val < (![0, 1, 0, 0] : Fin 4 → ℕ) a + (![1, 1, 512, 96] : Fin 4 → ℕ) a
  · rw [dif_pos h, dif_pos h]
  · have h' : ∀ a, (![0, 0, 0, 0] : Fin 4 → ℕ) a ≤ (y a).val ∧ (y a).val < (![0, 0, 0, 0] : Fin 4 → ℕ) a + (![1, 1, 512, 96] : Fin 4 → ℕ) a := by
      have b0 : (y 0).val < 1 := (y 0).isLt
      have b1 : (y 1).val < 2 := (y 1).isLt
      have b2 : (y 2).val < 512 := (y 2).isLt
      have b3 : (y 3).val < 96 := (y 3).isLt
      have hne : (y 1).val ≠ 1 := fun e => h fun a => by
        fin_cases a <;> simp [Matrix.cons_val'] <;> omega
      intro a
      fin_cases a <;> simp [Matrix.cons_val'] <;> omega
    rw [dif_neg h, dif_neg h, dif_pos h', dif_pos h']

end Cert.KernelIdeal.Gen

end
-- ==== Proof.RunA.lean ====
/- The run of the attention gradient's body at the points that read 512 columns. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that reads the first 512 columns: the inputs stay, the outputs end at the step's blocks. -/
theorem kernelRunA (c : Dev nD) (i : grid0.Coords) (arg3 : Memref sig .tc .vmem S1x2x512x96 .bf16) (harg3 : arg3.IsWhole) (arg4 : Memref sig .tc .vmem S1x2x2048x96 .bf16) (harg4 : arg4.IsWhole) (arg5 : Memref sig .tc .vmem S1x2x2048x64 .bf16) (harg5 : arg5.IsWhole) (arg6 : Memref sig .tc .vmem S1x512x128 .f32) (harg6 : arg6.IsWhole) (arg7 : Memref sig .tc .vmem S1x2x512x96 .f32) (harg7 : arg7.IsWhole) (arg8 : Memref sig .tc .vmem S1x2x2048x96 .f32) (harg8 : arg8.IsWhole) (arg9 : Memref sig .tc .vmem S1x2x2048x64 .f32) (harg9 : arg9.IsWhole)
    (hc0 : k0_cond1 i = 1#1) (hc1 : k0_cond2 i = 1#1) (hc2 : ¬k0_cond3 i = 1#1) (hc3 : ¬k0_cond4 i = 1#1) (hc4 : ¬k0_cond5 i = 1#1)
    (x0 : Vec F S1x2x512x96 .bf16) (x1 : Vec F S1x2x2048x96 .bf16) (x2 : Vec F S1x2x2048x64 .bf16) (x3 : Vec F S1x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (dqStepA x0 x1 x2 x3) ∗ owns (c : Thread nD τ) arg8 fullShare (dkStepA x0 x1 x2 x3 (k0_pay1 (F := F))) ∗ owns (c : Thread nD τ) arg9 fullShare (dvStepA x0 x1 x3 (k0_pay2 (F := F)))) -∗ K ⟨⟩))
          ⊢ wp frame (wpE (defs₀ (F := F)) Variants.none c none) E (cc0_attn_bwd i arg3 harg3 arg4 harg4 arg5 harg5 arg6 harg6 arg7 harg7 arg8 harg8 arg9 harg9) K := by
    intro E K
    simp only [cc0_attn_bwd_eq_skeleton]; unfold cc0_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    have hq0 : View.readAt (Elt F) arg3.view (Rect.unit (s := S1x2x512x96) ![0, 0, 0, 0] S1x1x512x96.size inb_S1x2x512x96_S1x1x512x96_0_0_0_0).toLoadRect (harg3.unread x0) = winQ0 x0 := by
      rw [View.readAt_unit _ _ _ rfl, Memref.IsWhole.read_unread]; rfl
    have hk0 : View.readAt (Elt F) arg4.view (Rect.unit (s := S1x2x2048x96) ![0, 0, 0, 0] S1x1x512x96.size inb_S1x2x2048x96_S1x1x512x96_0_0_0_0).toLoadRect (harg4.unread x1) = winK0A x1 := by
      rw [View.readAt_unit _ _ _ rfl, Memref.IsWhole.read_unread]; rfl
    have hv0 : View.readAt (Elt F) arg5.view (Rect.unit (s := S1x2x2048x64) ![0, 0, 0, 0] S1x1x512x64.size inb_S1x2x2048x64_S1x1x512x64_0_0_0_0).toLoadRect (harg5.unread x2) = winV0A x2 := by
      rw [View.readAt_unit _ _ _ rfl, Memref.IsWhole.read_unread]; rfl
    have hg0 : View.readAt (Elt F) arg6.view (Rect.unit (s := S1x512x128) ![0, 0, 0] S1x512x64.size inb_S1x512x128_S1x512x64_0_0_0).toLoadRect (harg6.unread x3) = winG0 x3 := by
      rw [View.readAt_unit _ _ _ rfl, Memref.IsWhole.read_unread]; rfl
    have hq1 : View.readAt (Elt F) arg3.view (Rect.unit (s := S1x2x512x96) ![0, 1, 0, 0] S1x1x512x96.size inb_S1x2x512x96_S1x1x512x96_0_1_0_0).toLoadRect (harg3.unread x0) = winQ1 x0 := by
      rw [View.readAt_unit _ _ _ rfl, Memref.IsWhole.read_unread]; rfl
    have hk1 : View.readAt (Elt F) arg4.view (Rect.unit (s := S1x2x2048x96) ![0, 1, 0, 0] S1x1x512x96.size inb_S1x2x2048x96_S1x1x512x96_0_1_0_0).toLoadRect (harg4.unread x1) = winK1A x1 := by
      rw [View.readAt_unit _ _ _ rfl, Memref.IsWhole.read_unread]; rfl
    have hv1 : View.readAt (Elt F) arg5.view (Rect.unit (s := S1x2x2048x64) ![0, 1, 0, 0] S1x1x512x64.size inb_S1x2x2048x64_S1x1x512x64_0_1_0_0).toLoadRect (harg5.unread x2) = winV1A x2 := by
      rw [View.readAt_unit _ _ _ rfl, Memref.IsWhole.read_unread]; rfl
    have hg1 : View.readAt (Elt F) arg6.view (Rect.unit (s := S1x512x128) ![0, 0, 64] S1x512x64.size inb_S1x512x128_S1x512x64_0_0_64).toLoadRect (harg6.unread x3) = winG1 x3 := by
      rw [View.readAt_unit _ _ _ rfl, Memref.IsWhole.read_unread]; rfl
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      refine (View.read_writes_cons_put _ _ _ _ _ rfl).trans ?_
      rw [View.read_writes_cons_put _ _ _ _ _ rfl]
      refine (put_heads _ (constant S1x2x512x96 .f32 0x00000000#32) _ _).trans ?_
      (try delta kernelRunA.sl.r_15); (try delta kernelRunA.sl.v134); (try delta kernelRunA.sl.v105); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r); (try delta kernelRunA.sl.cst_30); (try delta kernelRunA.sl.v42); (try delta kernelRunA.sl.v71); (try delta kernelRunA.sl.H5_2); (try delta kernelRunA.sl.H6_2); (try delta kernelRunA.sl.H5_1); (try delta kernelRunA.sl.H6_1); (try delta kernelRunA.sl.r_6); (try delta kernelRunA.sl.r_7); (try delta kernelRunA.sl.r_8); (try delta kernelRunA.sl.v42); (try delta kernelRunA.sl.v71); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r)
      (try simp only [hq0, hk0, hv0, hg0, hq1, hk1, hv1, hg1])
      rfl
    isplitl [H5]
    · iexists _; isplitr; swap; · iexact H5
      ipureintro
      refine (View.read_writes_cons_put _ _ _ _ _ rfl).trans ?_
      (try delta kernelRunA.sl.r_15); (try delta kernelRunA.sl.v134); (try delta kernelRunA.sl.v105); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r); (try delta kernelRunA.sl.cst_30); (try delta kernelRunA.sl.v42); (try delta kernelRunA.sl.v71); (try delta kernelRunA.sl.H5_2); (try delta kernelRunA.sl.H6_2); (try delta kernelRunA.sl.H5_1); (try delta kernelRunA.sl.H6_1); (try delta kernelRunA.sl.r_6); (try delta kernelRunA.sl.r_7); (try delta kernelRunA.sl.r_8); (try delta kernelRunA.sl.v42); (try delta kernelRunA.sl.v71); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r); (try delta kernelRunA.sl.r_15); (try delta kernelRunA.sl.v134); (try delta kernelRunA.sl.v105); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r); (try delta kernelRunA.sl.cst_30); (try delta kernelRunA.sl.v42); (try delta kernelRunA.sl.v71); (try delta kernelRunA.sl.H5_2); (try delta kernelRunA.sl.H6_2); (try delta kernelRunA.sl.H5_1); (try delta kernelRunA.sl.H6_1); (try delta kernelRunA.sl.r_6); (try delta kernelRunA.sl.r_7); (try delta kernelRunA.sl.r_8); (try delta kernelRunA.sl.v42); (try delta kernelRunA.sl.v71); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r)
      (try simp only [hq0, hk0, hv0, hg0, hq1, hk1, hv1, hg1])
      rw [View.read_writes_cons_put _ _ _ _ _ rfl, View.read_writes_full]
      simp only [View.readCov, load_unit, View.read_writes_cons_put _ _ _ _ _ rfl, View.read_writes_full, put_wholeK, put_wholeV]
      exact put_put_congr _ _ _ _ _
        (congrArg (fun z => dk0A x0 x1 x2 x3 z) (congrArg winA0A (put_wholeK _ _)))
        (congrArg (fun z => dk1A x0 x1 x2 x3 z) ((VecWindow.window_put_of_disjoint _ _ _ _ _ _ _ 1 (Or.inr (le_refl _))).trans (congrArg winA1A (put_wholeK _ _))))
    iexists _; isplitr; swap; · iexact H6
    ipureintro
    refine (View.read_writes_cons_put _ _ _ _ _ rfl).trans ?_
    (try delta kernelRunA.sl.r_15); (try delta kernelRunA.sl.v134); (try delta kernelRunA.sl.v105); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r); (try delta kernelRunA.sl.cst_30); (try delta kernelRunA.sl.v42); (try delta kernelRunA.sl.v71); (try delta kernelRunA.sl.H5_2); (try delta kernelRunA.sl.H6_2); (try delta kernelRunA.sl.H5_1); (try delta kernelRunA.sl.H6_1); (try delta kernelRunA.sl.r_6); (try delta kernelRunA.sl.r_7); (try delta kernelRunA.sl.r_8); (try delta kernelRunA.sl.v42); (try delta kernelRunA.sl.v71); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r); (try delta kernelRunA.sl.r_15); (try delta kernelRunA.sl.v134); (try delta kernelRunA.sl.v105); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r); (try delta kernelRunA.sl.cst_30); (try delta kernelRunA.sl.v42); (try delta kernelRunA.sl.v71); (try delta kernelRunA.sl.H5_2); (try delta kernelRunA.sl.H6_2); (try delta kernelRunA.sl.H5_1); (try delta kernelRunA.sl.H6_1); (try delta kernelRunA.sl.r_6); (try delta kernelRunA.sl.r_7); (try delta kernelRunA.sl.r_8); (try delta kernelRunA.sl.v42); (try delta kernelRunA.sl.v71); (try delta kernelRunA.sl.r_14); (try delta kernelRunA.sl.r_13); (try delta kernelRunA.sl.r_12); (try delta kernelRunA.sl.r_11); (try delta kernelRunA.sl.r_10); (try delta kernelRunA.sl.r_9); (try delta kernelRunA.sl.r_8); (try delta kernelRunA.sl.r_7); (try delta kernelRunA.sl.r_6); (try delta kernelRunA.sl.r_5); (try delta kernelRunA.sl.r_4); (try delta kernelRunA.sl.r_3); (try delta kernelRunA.sl.r_2); (try delta kernelRunA.sl.r_1); (try delta kernelRunA.sl.r)
    (try simp only [hq0, hk0, hv0, hg0, hq1, hk1, hv1, hg1])
    rw [View.read_writes_cons_put _ _ _ _ _ rfl, View.read_writes_full]
    simp only [View.readCov, load_unit, View.read_writes_cons_put _ _ _ _ _ rfl, View.read_writes_full, put_wholeK, put_wholeV]
    exact put_put_congr _ _ _ _ _
      (congrArg (fun z => dv0A x0 x1 x3 z) (congrArg winB0A (put_wholeV _ _)))
      (congrArg (fun z => dv1A x0 x1 x3 z) ((VecWindow.window_put_of_disjoint _ _ _ _ _ _ _ 1 (Or.inr (le_refl _))).trans (congrArg winB1A (put_wholeV _ _))))

end Cert.KernelIdeal.Gen

end
-- ==== Proof.RunB.lean ====
/- The run of the attention gradient's body at the points that read 1024 columns. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that reads the first 1024 columns: the inputs stay, the outputs end at the step's blocks. -/
theorem kernelRunB (c : Dev nD) (i : grid0.Coords) (arg3 : Memref sig .tc .vmem S1x2x512x96 .bf16) (harg3 : arg3.IsWhole) (arg4 : Memref sig .tc .vmem S1x2x2048x96 .bf16) (harg4 : arg4.IsWhole) (arg5 : Memref sig .tc .vmem S1x2x2048x64 .bf16) (harg5 : arg5.IsWhole) (arg6 : Memref sig .tc .vmem S1x512x128 .f32) (harg6 : arg6.IsWhole) (arg7 : Memref sig .tc .vmem S1x2x512x96 .f32) (harg7 : arg7.IsWhole) (arg8 : Memref sig .tc .vmem S1x2x2048x96 .f32) (harg8 : arg8.IsWhole) (arg9 : Memref sig .tc .vmem S1x2x2048x64 .f32) (harg9 : arg9.IsWhole)
    (hc0 : ¬k0_cond1 i = 1#1) (hc1 : ¬k0_cond2 i = 1#1) (hc2 : k0_cond3 i = 1#1) (hc3 : ¬k0_cond4 i = 1#1) (hc4 : ¬k0_cond5 i = 1#1)
    (x0 : Vec F S1x2x512x96 .bf16) (x1 : Vec F S1x2x2048x96 .bf16) (x2 : Vec F S1x2x2048x64 .bf16) (x3 : Vec F S1x512x128 .f32) (y5 : Vec F S1x2x2048x96 .f32) (y6 : Vec F S1x2x2048x64 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare y5 ∗ owns (c : Thread nD τ) arg9 fullShare y6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (dqStepB x0 x1 x2 x3) ∗ owns (c : Thread nD τ) arg8 fullShare (dkStepB x0 x1 x2 x3 y5) ∗ owns (c : Thread nD τ) arg9 fullShare (dvStepB x0 x1 x3 y6)) -∗ K ⟨⟩))
          ⊢ wp frame (wpE (defs₀ (F := F)) Variants.none c none) E (cc0_attn_bwd i arg3 harg3 arg4 harg4 arg5 harg5 arg6 harg6 arg7 harg7 arg8 harg8 arg9 harg9) K := by
    intro E K
    simp only [cc0_attn_bwd_eq_skeleton]; unfold cc0_attn_bwd_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6
    have hq0 : View.readAt (Elt F) arg3.view (Rect.unit (s := S1x2x512x96) ![0, 0, 0, 0] S1x1x512x96.size inb_S1x2x512x96_S1x1x512x96_0_0_0_0).toLoadRect (harg3.unread x0) = winQ0 x0 := by
      rw [View.readAt_unit _ _ _ rfl, Memref.IsWhole.read_unread]; rfl
    have hk0 : View.readAt (Elt F) arg4.view (Rect.unit (s := S1x2x2048x96) ![0, 0, 0, 0] S1x1x1024x96.size inb_S1x2x2048x96_S1x1x1024x96_0_0_0_0).toLoadRect (harg4.unread x1) = winK0B x1 := by
      rw [View.readAt_unit _ _ _ rfl, Memref.IsWhole.read_unread]; rfl
    have hv0 : View.readAt (Elt F) arg5.view (Rect.unit (s := S1x2x2048x64) ![0, 0, 0, 0] S1x1x1024x64.size inb_S1x2x2048x64_S1x1x1024x64_0_0_0_0).toLoadRect (harg5.unread x2) = winV0B x2 := by
      rw [View.readAt_unit _ _ _ rfl, Memref.IsWhole.read_unread]; rfl
    have hg0 : View.readAt (Elt F) arg6.view (Rect.unit (s := S1x512x128) ![0, 0, 0] S1x512x64.size inb_S1x512x128_S1x512x64_0_0_0).toLoadRect (harg6.unread x3) = winG0 x3 := by
      rw [View.readAt_unit _ _ _ rfl, Memref.IsWhole.read_unread]; rfl
    have ha0 : View.readAt (Elt F) arg8.view (Rect.unit (s := S1x2x2048x96) ![0, 0, 0, 0] S1x1x1024x96.size inb_S1x2x2048x96_S1x1x1024x96_0_0_0_0).toLoadRect (harg8.unread y5) = winA0B y5 := by
      rw [View.readAt_unit _ _ _ rfl, Memref.IsWhole.read_unread]; rfl
    have hb0 : View.readAt (Elt F) arg9.view (Rect.unit (s := S1x2x2048x64) ![0, 0, 0, 0] S1x1x1024x64.size inb_S1x2x2048x64_S1x1x1024x64_0_0_0_0).toLoadRect (harg9.unread y6) = winB0B y6 := by
      rw [View.readAt_unit _ _ _ rfl, Memref.IsWhole.read_unread]; rfl
    have hq1 : View.readAt (Elt F) arg3.view (Rect.unit (s := S1x2x512x96) ![0, 1, 0, 0] S1x1x512x96.size inb_S1x2x512x96_S1x1x512x96_0_1_0_0).toLoadRect (harg3.unread x0) = winQ1 x0 := by
      rw [View.readAt_unit _ _ _ rfl, Memref.IsWhole.read_unread]; rfl
    have hk1 : View.readAt (Elt F) arg4.view (Rect.unit (s := S1x2x2048x96) ![0, 1, 0, 0] S1x1x1024x96.size inb_S1x2x2048x96_S1x1x1024x96_0_1_0_0).toLoadRect (harg4.unread x1) = winK1B x1 := by
      rw [View.readAt_unit _ _ _ rfl, Memref.IsWhole.read_unread]; rfl
    have hv1 : View.readAt (Elt F) arg5.view (Rect.unit (s := S1x2x2048x64) ![0, 1, 0, 0] S1x1x1024x64.size inb_S1x2x2048x64_S1x1x1024x64_0_1_0_0).toLoadRect (harg5.unread x2) = winV1B x2 := by
      rw [View.readAt_unit _ _ _ rfl, Memref.IsWhole.read_unread]; rfl
    have hg1 : View.readAt (Elt F) arg6.view (Rect.unit (s := S1x512x128) ![0, 0, 64] S1x512x64.size inb_S1x512x128_S1x512x64_0_0_64).toLoadRect (harg6.unread x3) = winG1 x3 := by
      rw [View.readAt_unit _ _ _ rfl, Memref.IsWhole.read_unread]; rfl
    have ha1 : View.readAt (Elt F) arg8.view (Rect.unit (s := S1x2x2048x96) ![0, 1, 0, 0] S1x1x1024x96.size inb_S1x2x2048x96_S1x1x1024x96_0_1_0_0).toLoadRect (harg8.unread y5) = winA1B y5 := by
      rw [View.readAt_unit _ _ _ rfl, Memref.IsWhole.read_unread]; rfl
    have hb1 : View.readAt (Elt F) arg9.view (Rect.unit (s := S1x2x2048x64) ![0, 1, 0, 0] S1x1x1024x64.size inb_S1x2x2048x64_S1x1x1024x64_0_1_0_0).toLoadRect (harg9.unread y6) = winB1B y6 := by
      rw [View.readAt_unit _ _ _ rfl, Memref.IsWhole.read_unread]; rfl
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      refine (View.read_writes_cons_put _ _ _ _ _ rfl).trans ?_
      rw [View.read_writes_cons_put _ _ _ _ _ rfl]
      refine (put_heads _ (constant S1x2x512x96 .f32 0x00000000#32) _ _).trans ?_
      (try delta kernelRunB.sl.r_15); (try delta kernelRunB.sl.v134); (try delta kernelRunB.sl.v105); (try delta kernelRunB.sl.r_14); (try delta kernelRunB.sl.r_13); (try delta kernelRunB.sl.r_12); (try delta kernelRunB.sl.r_11); (try delta kernelRunB.sl.r_10); (try delta kernelRunB.sl.r_9); (try delta kernelRunB.sl.r_8); (try delta kernelRunB.sl.r_7); (try delta kernelRunB.sl.r_6); (try delta kernelRunB.sl.r_5); (try delta kernelRunB.sl.r_4); (try delta kernelRunB.sl.r_3); (try delta kernelRunB.sl.r_2); (try delta kernelRunB.sl.r_1); (try delta kernelRunB.sl.r); (try delta kernelRunB.sl.cst_29)
      (try simp only [hq0, hk0, hv0, hg0, ha0, hb0, hq1, hk1, hv1, hg1, ha1, hb1])
      rfl
    isplitl [H5]
    · iexists _; isplitr; swap; · iexact H5
      ipureintro
      refine (View.read_writes_cons_put _ _ _ _ _ rfl).trans ?_
      rw [View.read_writes_cons_put _ _ _ _ _ rfl, View.writes_nil, harg8.read_unread]
      (try delta kernelRunB.sl.r_15); (try delta kernelRunB.sl.v134); (try delta kernelRunB.sl.v105); (try delta kernelRunB.sl.r_14); (try delta kernelRunB.sl.r_13); (try delta kernelRunB.sl.r_12); (try delta kernelRunB.sl.r_11); (try delta kernelRunB.sl.r_10); (try delta kernelRunB.sl.r_9); (try delta kernelRunB.sl.r_8); (try delta kernelRunB.sl.r_7); (try delta kernelRunB.sl.r_6); (try delta kernelRunB.sl.r_5); (try delta kernelRunB.sl.r_4); (try delta kernelRunB.sl.r_3); (try delta kernelRunB.sl.r_2); (try delta kernelRunB.sl.r_1); (try delta kernelRunB.sl.r); (try delta kernelRunB.sl.cst_29)
      (try simp only [hq0, hk0, hv0, hg0, ha0, hb0, hq1, hk1, hv1, hg1, ha1, hb1])
      rfl
    iexists _; isplitr; swap; · iexact H6
    ipureintro
    refine (View.read_writes_cons_put _ _ _ _ _ rfl).trans ?_
    rw [View.read_writes_cons_put _ _ _ _ _ rfl, View.writes_nil, harg9.read_unread]
    (try delta kernelRunB.sl.r_15); (try delta kernelRunB.sl.v134); (try delta kernelRunB.sl.v105); (try delta kernelRunB.sl.r_14); (try delta kernelRunB.sl.r_13); (try delta kernelRunB.sl.r_12); (try delta kernelRunB.sl.r_11); (try delta kernelRunB.sl.r_10); (try delta kernelRunB.sl.r_9); (try delta kernelRunB.sl.r_8); (try delta kernelRunB.sl.r_7); (try delta kernelRunB.sl.r_6); (try delta kernelRunB.sl.r_5); (try delta kernelRunB.sl.r_4); (try delta kernelRunB.sl.r_3); (try delta kernelRunB.sl.r_2); (try delta kernelRunB.sl.r_1); (try delta kernelRunB.sl.r); (try delta kernelRunB.sl.cst_29)
    (try simp only [hq0, hk0, hv0, hg0, ha0, hb0, hq1, hk1, hv1, hg1, ha1, hb1])
    rfl

end Cert.KernelIdeal.Gen

end
-- ==== Proof.RunC.lean ====
/- The run of the attention gradient's body at the points that read 1536 columns. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that reads the first 1536 columns: the inputs stay, the outputs end at the step's blocks. -/
theorem kernelRunC (c : Dev nD) (i : grid0.Coords) (arg3 : Memref sig .tc .vmem S1x2x512x96 .bf16) (harg3 : arg3.IsWhole) (arg4 : Memref sig .tc .vmem S1x2x2048x96 .bf16) (harg4 : arg4.IsWhole) (arg5 : Memref sig .tc .vmem S1x2x2048x64 .bf16) (harg5 : arg5.IsWhole) (arg6 : Memref sig .tc .vmem S1x512x128 .f32) (harg6 : arg6.IsWhole) (arg7 : Memref sig .tc .vmem S1x2x512x96 .f32) (harg7 : arg7.IsWhole) (arg8 : Memref sig .tc .vmem S1x2x2048x96 .f32) (harg8 : arg8.IsWhole) (arg9 : Memref sig .tc .vmem S1x2x2048x64 .f32) (harg9 : arg9.IsWhole)
    (hc0 : ¬k0_cond1 i = 1#1) (hc1 : ¬k0_cond2 i = 1#1) (hc2 : ¬k0_cond3 i = 1#1) (hc3 : k0_cond4 i = 1#1) (hc4 : ¬k0_cond5 i = 1#1)
    (x0 : Vec F S1x2x512x96 .bf16) (x1 : Vec F S1x2x2048x96 .bf16) (x2 : Vec F S1x2x2048x64 .bf16) (x3 : Vec F S1x512x128 .f32) (y5 : Vec F S1x2x2048x96 .f32) (y6 : Vec F S1x2x2048x64 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare y5 ∗ owns (c : Thread nD τ) arg9 fullShare y6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (dqStepC x0 x1 x2 x3) ∗ owns (c : Thread nD τ) arg8 fullShare (dkStepC x0 x1 x2 x3 y5) ∗ owns (c : Thread nD τ) arg9 fullShare (dvStepC x0 x1 x3 y6)) -∗ K ⟨⟩))
          ⊢ wp frame (wpE (defs₀ (F := F)) Variants.none c none) E (cc0_attn_bwd i arg3 harg3 arg4 harg4 arg5 harg5 arg6 harg6 arg7 harg7 arg8 harg8 arg9 harg9) K := by
    intro E K
    simp only [cc0_attn_bwd_eq_skeleton]; unfold cc0_attn_bwd_skel
    simp only [k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6
    have hq0 : View.readAt (Elt F) arg3.view (Rect.unit (s := S1x2x512x96) ![0, 0, 0, 0] S1x1x512x96.size inb_S1x2x512x96_S1x1x512x96_0_0_0_0).toLoadRect (harg3.unread x0) = winQ0 x0 := by
      rw [View.readAt_unit _ _ _ rfl, Memref.IsWhole.read_unread]; rfl
    have hk0 : View.readAt (Elt F) arg4.view (Rect.unit (s := S1x2x2048x96) ![0, 0, 0, 0] S1x1x1536x96.size inb_S1x2x2048x96_S1x1x1536x96_0_0_0_0).toLoadRect (harg4.unread x1) = winK0C x1 := by
      rw [View.readAt_unit _ _ _ rfl, Memref.IsWhole.read_unread]; rfl
    have hv0 : View.readAt (Elt F) arg5.view (Rect.unit (s := S1x2x2048x64) ![0, 0, 0, 0] S1x1x1536x64.size inb_S1x2x2048x64_S1x1x1536x64_0_0_0_0).toLoadRect (harg5.unread x2) = winV0C x2 := by
      rw [View.readAt_unit _ _ _ rfl, Memref.IsWhole.read_unread]; rfl
    have hg0 : View.readAt (Elt F) arg6.view (Rect.unit (s := S1x512x128) ![0, 0, 0] S1x512x64.size inb_S1x512x128_S1x512x64_0_0_0).toLoadRect (harg6.unread x3) = winG0 x3 := by
      rw [View.readAt_unit _ _ _ rfl, Memref.IsWhole.read_unread]; rfl
    have ha0 : View.readAt (Elt F) arg8.view (Rect.unit (s := S1x2x2048x96) ![0, 0, 0, 0] S1x1x1536x96.size inb_S1x2x2048x96_S1x1x1536x96_0_0_0_0).toLoadRect (harg8.unread y5) = winA0C y5 := by
      rw [View.readAt_unit _ _ _ rfl, Memref.IsWhole.read_unread]; rfl
    have hb0 : View.readAt (Elt F) arg9.view (Rect.unit (s := S1x2x2048x64) ![0, 0, 0, 0] S1x1x1536x64.size inb_S1x2x2048x64_S1x1x1536x64_0_0_0_0).toLoadRect (harg9.unread y6) = winB0C y6 := by
      rw [View.readAt_unit _ _ _ rfl, Memref.IsWhole.read_unread]; rfl
    have hq1 : View.readAt (Elt F) arg3.view (Rect.unit (s := S1x2x512x96) ![0, 1, 0, 0] S1x1x512x96.size inb_S1x2x512x96_S1x1x512x96_0_1_0_0).toLoadRect (harg3.unread x0) = winQ1 x0 := by
      rw [View.readAt_unit _ _ _ rfl, Memref.IsWhole.read_unread]; rfl
    have hk1 : View.readAt (Elt F) arg4.view (Rect.unit (s := S1x2x2048x96) ![0, 1, 0, 0] S1x1x1536x96.size inb_S1x2x2048x96_S1x1x1536x96_0_1_0_0).toLoadRect (harg4.unread x1) = winK1C x1 := by
      rw [View.readAt_unit _ _ _ rfl, Memref.IsWhole.read_unread]; rfl
    have hv1 : View.readAt (Elt F) arg5.view (Rect.unit (s := S1x2x2048x64) ![0, 1, 0, 0] S1x1x1536x64.size inb_S1x2x2048x64_S1x1x1536x64_0_1_0_0).toLoadRect (harg5.unread x2) = winV1C x2 := by
      rw [View.readAt_unit _ _ _ rfl, Memref.IsWhole.read_unread]; rfl
    have hg1 : View.readAt (Elt F) arg6.view (Rect.unit (s := S1x512x128) ![0, 0, 64] S1x512x64.size inb_S1x512x128_S1x512x64_0_0_64).toLoadRect (harg6.unread x3) = winG1 x3 := by
      rw [View.readAt_unit _ _ _ rfl, Memref.IsWhole.read_unread]; rfl
    have ha1 : View.readAt (Elt F) arg8.view (Rect.unit (s := S1x2x2048x96) ![0, 1, 0, 0] S1x1x1536x96.size inb_S1x2x2048x96_S1x1x1536x96_0_1_0_0).toLoadRect (harg8.unread y5) = winA1C y5 := by
      rw [View.readAt_unit _ _ _ rfl, Memref.IsWhole.read_unread]; rfl
    have hb1 : View.readAt (Elt F) arg9.view (Rect.unit (s := S1x2x2048x64) ![0, 1, 0, 0] S1x1x1536x64.size inb_S1x2x2048x64_S1x1x1536x64_0_1_0_0).toLoadRect (harg9.unread y6) = winB1C y6 := by
      rw [View.readAt_unit _ _ _ rfl, Memref.IsWhole.read_unread]; rfl
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      refine (View.read_writes_cons_put _ _ _ _ _ rfl).trans ?_
      rw [View.read_writes_cons_put _ _ _ _ _ rfl]
      refine (put_heads _ (constant S1x2x512x96 .f32 0x00000000#32) _ _).trans ?_
      (try delta kernelRunC.sl.r_15); (try delta kernelRunC.sl.v134); (try delta kernelRunC.sl.v105); (try delta kernelRunC.sl.r_14); (try delta kernelRunC.sl.r_13); (try delta kernelRunC.sl.r_12); (try delta kernelRunC.sl.r_11); (try delta kernelRunC.sl.r_10); (try delta kernelRunC.sl.r_9); (try delta kernelRunC.sl.r_8); (try delta kernelRunC.sl.r_7); (try delta kernelRunC.sl.r_6); (try delta kernelRunC.sl.r_5); (try delta kernelRunC.sl.r_4); (try delta kernelRunC.sl.r_3); (try delta kernelRunC.sl.r_2); (try delta kernelRunC.sl.r_1); (try delta kernelRunC.sl.r); (try delta kernelRunC.sl.cst_29)
      (try simp only [hq0, hk0, hv0, hg0, ha0, hb0, hq1, hk1, hv1, hg1, ha1, hb1])
      rfl
    isplitl [H5]
    · iexists _; isplitr; swap; · iexact H5
      ipureintro
      refine (View.read_writes_cons_put _ _ _ _ _ rfl).trans ?_
      rw [View.read_writes_cons_put _ _ _ _ _ rfl, View.writes_nil, harg8.read_unread]
      (try delta kernelRunC.sl.r_15); (try delta kernelRunC.sl.v134); (try delta kernelRunC.sl.v105); (try delta kernelRunC.sl.r_14); (try delta kernelRunC.sl.r_13); (try delta kernelRunC.sl.r_12); (try delta kernelRunC.sl.r_11); (try delta kernelRunC.sl.r_10); (try delta kernelRunC.sl.r_9); (try delta kernelRunC.sl.r_8); (try delta kernelRunC.sl.r_7); (try delta kernelRunC.sl.r_6); (try delta kernelRunC.sl.r_5); (try delta kernelRunC.sl.r_4); (try delta kernelRunC.sl.r_3); (try delta kernelRunC.sl.r_2); (try delta kernelRunC.sl.r_1); (try delta kernelRunC.sl.r); (try delta kernelRunC.sl.cst_29)
      (try simp only [hq0, hk0, hv0, hg0, ha0, hb0, hq1, hk1, hv1, hg1, ha1, hb1])
      rfl
    iexists _; isplitr; swap; · iexact H6
    ipureintro
    refine (View.read_writes_cons_put _ _ _ _ _ rfl).trans ?_
    rw [View.read_writes_cons_put _ _ _ _ _ rfl, View.writes_nil, harg9.read_unread]
    (try delta kernelRunC.sl.r_15); (try delta kernelRunC.sl.v134); (try delta kernelRunC.sl.v105); (try delta kernelRunC.sl.r_14); (try delta kernelRunC.sl.r_13); (try delta kernelRunC.sl.r_12); (try delta kernelRunC.sl.r_11); (try delta kernelRunC.sl.r_10); (try delta kernelRunC.sl.r_9); (try delta kernelRunC.sl.r_8); (try delta kernelRunC.sl.r_7); (try delta kernelRunC.sl.r_6); (try delta kernelRunC.sl.r_5); (try delta kernelRunC.sl.r_4); (try delta kernelRunC.sl.r_3); (try delta kernelRunC.sl.r_2); (try delta kernelRunC.sl.r_1); (try delta kernelRunC.sl.r); (try delta kernelRunC.sl.cst_29)
    (try simp only [hq0, hk0, hv0, hg0, ha0, hb0, hq1, hk1, hv1, hg1, ha1, hb1])
    rfl

end Cert.KernelIdeal.Gen

end
-- ==== Proof.RunD.lean ====
/- The run of the attention gradient's body at the points that read 2048 columns. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point that reads the first 2048 columns: the inputs stay, the outputs end at the step's blocks. -/
theorem kernelRunD (c : Dev nD) (i : grid0.Coords) (arg3 : Memref sig .tc .vmem S1x2x512x96 .bf16) (harg3 : arg3.IsWhole) (arg4 : Memref sig .tc .vmem S1x2x2048x96 .bf16) (harg4 : arg4.IsWhole) (arg5 : Memref sig .tc .vmem S1x2x2048x64 .bf16) (harg5 : arg5.IsWhole) (arg6 : Memref sig .tc .vmem S1x512x128 .f32) (harg6 : arg6.IsWhole) (arg7 : Memref sig .tc .vmem S1x2x512x96 .f32) (harg7 : arg7.IsWhole) (arg8 : Memref sig .tc .vmem S1x2x2048x96 .f32) (harg8 : arg8.IsWhole) (arg9 : Memref sig .tc .vmem S1x2x2048x64 .f32) (harg9 : arg9.IsWhole)
    (hc0 : ¬k0_cond1 i = 1#1) (hc1 : ¬k0_cond2 i = 1#1) (hc2 : ¬k0_cond3 i = 1#1) (hc3 : ¬k0_cond4 i = 1#1) (hc4 : k0_cond5 i = 1#1)
    (x0 : Vec F S1x2x512x96 .bf16) (x1 : Vec F S1x2x2048x96 .bf16) (x2 : Vec F S1x2x2048x64 .bf16) (x3 : Vec F S1x512x128 .f32) (y5 : Vec F S1x2x2048x96 .f32) (y6 : Vec F S1x2x2048x64 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare y5 ∗ owns (c : Thread nD τ) arg9 fullShare y6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (dqStepD x0 x1 x2 x3) ∗ owns (c : Thread nD τ) arg8 fullShare (dkStepD x0 x1 x2 x3 y5) ∗ owns (c : Thread nD τ) arg9 fullShare (dvStepD x0 x1 x3 y6)) -∗ K ⟨⟩))
          ⊢ wp frame (wpE (defs₀ (F := F)) Variants.none c none) E (cc0_attn_bwd i arg3 harg3 arg4 harg4 arg5 harg5 arg6 harg6 arg7 harg7 arg8 harg8 arg9 harg9) K := by
    intro E K
    simp only [cc0_attn_bwd_eq_skeleton]; unfold cc0_attn_bwd_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6
    have hq0 : View.readAt (Elt F) arg3.view (Rect.unit (s := S1x2x512x96) ![0, 0, 0, 0] S1x1x512x96.size inb_S1x2x512x96_S1x1x512x96_0_0_0_0).toLoadRect (harg3.unread x0) = winQ0 x0 := by
      rw [View.readAt_unit _ _ _ rfl, Memref.IsWhole.read_unread]; rfl
    have hk0 : View.readAt (Elt F) arg4.view (Rect.unit (s := S1x2x2048x96) ![0, 0, 0, 0] S1x1x2048x96.size inb_S1x2x2048x96_S1x1x2048x96_0_0_0_0).toLoadRect (harg4.unread x1) = winK0D x1 := by
      rw [View.readAt_unit _ _ _ rfl, Memref.IsWhole.read_unread]; rfl
    have hv0 : View.readAt (Elt F) arg5.view (Rect.unit (s := S1x2x2048x64) ![0, 0, 0, 0] S1x1x2048x64.size inb_S1x2x2048x64_S1x1x2048x64_0_0_0_0).toLoadRect (harg5.unread x2) = winV0D x2 := by
      rw [View.readAt_unit _ _ _ rfl, Memref.IsWhole.read_unread]; rfl
    have hg0 : View.readAt (Elt F) arg6.view (Rect.unit (s := S1x512x128) ![0, 0, 0] S1x512x64.size inb_S1x512x128_S1x512x64_0_0_0).toLoadRect (harg6.unread x3) = winG0 x3 := by
      rw [View.readAt_unit _ _ _ rfl, Memref.IsWhole.read_unread]; rfl
    have ha0 : View.readAt (Elt F) arg8.view (Rect.unit (s := S1x2x2048x96) ![0, 0, 0, 0] S1x1x2048x96.size inb_S1x2x2048x96_S1x1x2048x96_0_0_0_0).toLoadRect (harg8.unread y5) = winA0D y5 := by
      rw [View.readAt_unit _ _ _ rfl, Memref.IsWhole.read_unread]; rfl
    have hb0 : View.readAt (Elt F) arg9.view (Rect.unit (s := S1x2x2048x64) ![0, 0, 0, 0] S1x1x2048x64.size inb_S1x2x2048x64_S1x1x2048x64_0_0_0_0).toLoadRect (harg9.unread y6) = winB0D y6 := by
      rw [View.readAt_unit _ _ _ rfl, Memref.IsWhole.read_unread]; rfl
    have hq1 : View.readAt (Elt F) arg3.view (Rect.unit (s := S1x2x512x96) ![0, 1, 0, 0] S1x1x512x96.size inb_S1x2x512x96_S1x1x512x96_0_1_0_0).toLoadRect (harg3.unread x0) = winQ1 x0 := by
      rw [View.readAt_unit _ _ _ rfl, Memref.IsWhole.read_unread]; rfl
    have hk1 : View.readAt (Elt F) arg4.view (Rect.unit (s := S1x2x2048x96) ![0, 1, 0, 0] S1x1x2048x96.size inb_S1x2x2048x96_S1x1x2048x96_0_1_0_0).toLoadRect (harg4.unread x1) = winK1D x1 := by
      rw [View.readAt_unit _ _ _ rfl, Memref.IsWhole.read_unread]; rfl
    have hv1 : View.readAt (Elt F) arg5.view (Rect.unit (s := S1x2x2048x64) ![0, 1, 0, 0] S1x1x2048x64.size inb_S1x2x2048x64_S1x1x2048x64_0_1_0_0).toLoadRect (harg5.unread x2) = winV1D x2 := by
      rw [View.readAt_unit _ _ _ rfl, Memref.IsWhole.read_unread]; rfl
    have hg1 : View.readAt (Elt F) arg6.view (Rect.unit (s := S1x512x128) ![0, 0, 64] S1x512x64.size inb_S1x512x128_S1x512x64_0_0_64).toLoadRect (harg6.unread x3) = winG1 x3 := by
      rw [View.readAt_unit _ _ _ rfl, Memref.IsWhole.read_unread]; rfl
    have ha1 : View.readAt (Elt F) arg8.view (Rect.unit (s := S1x2x2048x96) ![0, 1, 0, 0] S1x1x2048x96.size inb_S1x2x2048x96_S1x1x2048x96_0_1_0_0).toLoadRect (harg8.unread y5) = winA1D y5 := by
      rw [View.readAt_unit _ _ _ rfl, Memref.IsWhole.read_unread]; rfl
    have hb1 : View.readAt (Elt F) arg9.view (Rect.unit (s := S1x2x2048x64) ![0, 1, 0, 0] S1x1x2048x64.size inb_S1x2x2048x64_S1x1x2048x64_0_1_0_0).toLoadRect (harg9.unread y6) = winB1D y6 := by
      rw [View.readAt_unit _ _ _ rfl, Memref.IsWhole.read_unread]; rfl
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      refine (View.read_writes_cons_put _ _ _ _ _ rfl).trans ?_
      rw [View.read_writes_cons_put _ _ _ _ _ rfl]
      refine (put_heads _ (constant S1x2x512x96 .f32 0x00000000#32) _ _).trans ?_
      (try delta kernelRunD.sl.r_15); (try delta kernelRunD.sl.v134); (try delta kernelRunD.sl.v105); (try delta kernelRunD.sl.r_14); (try delta kernelRunD.sl.r_13); (try delta kernelRunD.sl.r_12); (try delta kernelRunD.sl.r_11); (try delta kernelRunD.sl.r_10); (try delta kernelRunD.sl.r_9); (try delta kernelRunD.sl.r_8); (try delta kernelRunD.sl.r_7); (try delta kernelRunD.sl.r_6); (try delta kernelRunD.sl.r_5); (try delta kernelRunD.sl.r_4); (try delta kernelRunD.sl.r_3); (try delta kernelRunD.sl.r_2); (try delta kernelRunD.sl.r_1); (try delta kernelRunD.sl.r); (try delta kernelRunD.sl.cst_29)
      (try simp only [hq0, hk0, hv0, hg0, ha0, hb0, hq1, hk1, hv1, hg1, ha1, hb1])
      rfl
    isplitl [H5]
    · iexists _; isplitr; swap; · iexact H5
      ipureintro
      refine (View.read_writes_cons_put _ _ _ _ _ rfl).trans ?_
      rw [View.read_writes_cons_put _ _ _ _ _ rfl, View.writes_nil, harg8.read_unread]
      (try delta kernelRunD.sl.r_15); (try delta kernelRunD.sl.v134); (try delta kernelRunD.sl.v105); (try delta kernelRunD.sl.r_14); (try delta kernelRunD.sl.r_13); (try delta kernelRunD.sl.r_12); (try delta kernelRunD.sl.r_11); (try delta kernelRunD.sl.r_10); (try delta kernelRunD.sl.r_9); (try delta kernelRunD.sl.r_8); (try delta kernelRunD.sl.r_7); (try delta kernelRunD.sl.r_6); (try delta kernelRunD.sl.r_5); (try delta kernelRunD.sl.r_4); (try delta kernelRunD.sl.r_3); (try delta kernelRunD.sl.r_2); (try delta kernelRunD.sl.r_1); (try delta kernelRunD.sl.r); (try delta kernelRunD.sl.cst_29)
      (try simp only [hq0, hk0, hv0, hg0, ha0, hb0, hq1, hk1, hv1, hg1, ha1, hb1])
      rfl
    iexists _; isplitr; swap; · iexact H6
    ipureintro
    refine (View.read_writes_cons_put _ _ _ _ _ rfl).trans ?_
    rw [View.read_writes_cons_put _ _ _ _ _ rfl, View.writes_nil, harg9.read_unread]
    (try delta kernelRunD.sl.r_15); (try delta kernelRunD.sl.v134); (try delta kernelRunD.sl.v105); (try delta kernelRunD.sl.r_14); (try delta kernelRunD.sl.r_13); (try delta kernelRunD.sl.r_12); (try delta kernelRunD.sl.r_11); (try delta kernelRunD.sl.r_10); (try delta kernelRunD.sl.r_9); (try delta kernelRunD.sl.r_8); (try delta kernelRunD.sl.r_7); (try delta kernelRunD.sl.r_6); (try delta kernelRunD.sl.r_5); (try delta kernelRunD.sl.r_4); (try delta kernelRunD.sl.r_3); (try delta kernelRunD.sl.r_2); (try delta kernelRunD.sl.r_1); (try delta kernelRunD.sl.r); (try delta kernelRunD.sl.cst_29)
    (try simp only [hq0, hk0, hv0, hg0, ha0, hb0, hq1, hk1, hv1, hg1, ha1, hb1])
    rfl

end Cert.KernelIdeal.Gen

end
-- ==== Proof.Run.lean ====
/- The run of the attention gradient, with what each output block holds at every point. -/
module

public import proofs.«01_k».proof.Proof.Branch
public import proofs.«01_k».proof.Proof.RunA
public import proofs.«01_k».proof.Proof.RunB
public import proofs.«01_k».proof.Proof.RunC
public import proofs.«01_k».proof.Proof.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's current staging buffer at point `t`. -/
abbrev buf0 (t : Fin cfg0.N) : Memref sig .tc .vmem S1x2x512x96 .bf16 := win0_0.stage (cfg0.slots t 0)
/-- Window 1's current staging buffer at point `t`. -/
abbrev buf1 (t : Fin cfg0.N) : Memref sig .tc .vmem S1x2x2048x96 .bf16 := win0_1.stage (cfg0.slots t 1)
/-- Window 2's current staging buffer at point `t`. -/
abbrev buf2 (t : Fin cfg0.N) : Memref sig .tc .vmem S1x2x2048x64 .bf16 := win0_2.stage (cfg0.slots t 2)
/-- Window 3's current staging buffer at point `t`. -/
abbrev buf3 (t : Fin cfg0.N) : Memref sig .tc .vmem S1x512x128 .f32 := win0_3.stage (cfg0.slots t 3)
/-- Window 4's current staging buffer at point `t`. -/
abbrev buf4 (t : Fin cfg0.N) : Memref sig .tc .vmem S1x2x512x96 .f32 := win0_4.stage (cfg0.slots t 4)
/-- Window 5's current staging buffer at point `t`. -/
abbrev buf5 (t : Fin cfg0.N) : Memref sig .tc .vmem S1x2x2048x96 .f32 := win0_5.stage (cfg0.slots t 5)
/-- Window 6's current staging buffer at point `t`. -/
abbrev buf6 (t : Fin cfg0.N) : Memref sig .tc .vmem S1x2x2048x64 .f32 := win0_6.stage (cfg0.slots t 6)

/-! ## The blocks the body reads at a point, and what it leaves -/

def blkQ (c : Dev nD) (t : Fin cfg0.N) : Vec F S1x2x512x96 .bf16 := iblk m c 0 t
def blkK (c : Dev nD) (t : Fin cfg0.N) : Vec F S1x2x2048x96 .bf16 := iblk m c 1 t
def blkV (c : Dev nD) (t : Fin cfg0.N) : Vec F S1x2x2048x64 .bf16 := iblk m c 2 t
def blkG (c : Dev nD) (t : Fin cfg0.N) : Vec F S1x512x128 .f32 := iblk m c 3 t

/-- The point before `t`. -/
def prev (t : Fin cfg0.N) : Fin cfg0.N := ⟨t.val - 1, Nat.lt_of_le_of_lt (Nat.sub_le _ _) t.isLt⟩

/-- The key gradient's block after the first, second, third and fourth row block of its pair of heads. -/
def accK0 (c : Dev nD) (t : Fin cfg0.N) : Vec F S1x2x2048x96 .f32 := dkStepA (blkQ m c t) (blkK m c t) (blkV m c t) (blkG m c t) (k0_pay1 (F := F))
def accK1 (c : Dev nD) (t : Fin cfg0.N) : Vec F S1x2x2048x96 .f32 := dkStepB (blkQ m c t) (blkK m c t) (blkV m c t) (blkG m c t) (accK0 m c (prev t))
def accK2 (c : Dev nD) (t : Fin cfg0.N) : Vec F S1x2x2048x96 .f32 := dkStepC (blkQ m c t) (blkK m c t) (blkV m c t) (blkG m c t) (accK1 m c (prev t))
def accK3 (c : Dev nD) (t : Fin cfg0.N) : Vec F S1x2x2048x96 .f32 := dkStepD (blkQ m c t) (blkK m c t) (blkV m c t) (blkG m c t) (accK2 m c (prev t))
/-- The value gradient's likewise. -/
def accV0 (c : Dev nD) (t : Fin cfg0.N) : Vec F S1x2x2048x64 .f32 := dvStepA (blkQ m c t) (blkK m c t) (blkG m c t) (k0_pay2 (F := F))
def accV1 (c : Dev nD) (t : Fin cfg0.N) : Vec F S1x2x2048x64 .f32 := dvStepB (blkQ m c t) (blkK m c t) (blkG m c t) (accV0 m c (prev t))
def accV2 (c : Dev nD) (t : Fin cfg0.N) : Vec F S1x2x2048x64 .f32 := dvStepC (blkQ m c t) (blkK m c t) (blkG m c t) (accV1 m c (prev t))
def accV3 (c : Dev nD) (t : Fin cfg0.N) : Vec F S1x2x2048x64 .f32 := dvStepD (blkQ m c t) (blkK m c t) (blkG m c t) (accV2 m c (prev t))

/-- What the body leaves at `t` in the query gradient's block, -/
def leftQ (c : Dev nD) (t : Fin cfg0.N) : Vec F S1x2x512x96 .f32 :=
  if t.val % 4 = 0 then dqStepA (blkQ m c t) (blkK m c t) (blkV m c t) (blkG m c t)
  else if t.val % 4 = 1 then dqStepB (blkQ m c t) (blkK m c t) (blkV m c t) (blkG m c t)
  else if t.val % 4 = 2 then dqStepC (blkQ m c t) (blkK m c t) (blkV m c t) (blkG m c t)
  else dqStepD (blkQ m c t) (blkK m c t) (blkV m c t) (blkG m c t)
/-- in the key gradient's -/
def leftK (c : Dev nD) (t : Fin cfg0.N) : Vec F S1x2x2048x96 .f32 :=
  if t.val % 4 = 0 then accK0 m c t else if t.val % 4 = 1 then accK1 m c t else if t.val % 4 = 2 then accK2 m c t else accK3 m c t
/-- and in the value gradient's. -/
def leftV (c : Dev nD) (t : Fin cfg0.N) : Vec F S1x2x2048x64 .f32 :=
  if t.val % 4 = 0 then accV0 m c t else if t.val % 4 = 1 then accV1 m c t else if t.val % 4 = 2 then accV2 m c t else accV3 m c t

/-- The pipeline's proof data: the inputs' buffers at their blocks, the outputs' at what the body leaves. -/
def datK (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leftQ m c t
    | ⟨5, _⟩ => leftK m c t
    | ⟨6, _⟩ => leftV m c t
  Φ _ := Pipeline.ΦA spec0 c
  q _ := fullShare
  owed _ := 0

theorem datK_A (c : Dev nD) (w : Fin cfg0.W) : (datK m 0 c).A w = V m c (Pipeline.arrRef spec0 w) := by
  dsimp only [datK]
theorem datK_after0 (c : Dev nD) (t : Fin cfg0.N) : (datK m 0 c).after 0 t = iblk m c 0 t := by dsimp only [datK]
theorem datK_after1 (c : Dev nD) (t : Fin cfg0.N) : (datK m 0 c).after 1 t = iblk m c 1 t := by dsimp only [datK]
theorem datK_after2 (c : Dev nD) (t : Fin cfg0.N) : (datK m 0 c).after 2 t = iblk m c 2 t := by dsimp only [datK]
theorem datK_after3 (c : Dev nD) (t : Fin cfg0.N) : (datK m 0 c).after 3 t = iblk m c 3 t := by dsimp only [datK]
theorem datK_after4 (c : Dev nD) (t : Fin cfg0.N) : (datK m 0 c).after 4 t = leftQ m c t := by dsimp only [datK]
theorem datK_after5 (c : Dev nD) (t : Fin cfg0.N) : (datK m 0 c).after 5 t = leftK m c t := by dsimp only [datK]
theorem datK_after6 (c : Dev nD) (t : Fin cfg0.N) : (datK m 0 c).after 6 t = leftV m c t := by dsimp only [datK]
theorem datK_before0 (c : Dev nD) (t : Fin cfg0.N) (d) : (datK m 0 c).before 0 t d = iblk m c 0 t :=
  before0_0_of m (datK m 0 c) (datK_A m c 0) (datK_after0 m c) t d
theorem datK_before1 (c : Dev nD) (t : Fin cfg0.N) (d) : (datK m 0 c).before 1 t d = iblk m c 1 t :=
  before0_1_of m (datK m 0 c) (datK_A m c 1) (datK_after1 m c) t d
theorem datK_before2 (c : Dev nD) (t : Fin cfg0.N) (d) : (datK m 0 c).before 2 t d = iblk m c 2 t :=
  before0_2_of m (datK m 0 c) (datK_A m c 2) (datK_after2 m c) t d
theorem datK_before3 (c : Dev nD) (t : Fin cfg0.N) (d) : (datK m 0 c).before 3 t d = iblk m c 3 t :=
  before0_3_of m (datK m 0 c) (datK_A m c 3) (datK_after3 m c) t d

/-- Past the first row block of its pair of heads, window 5 holds what the point before left. -/
theorem datK_before5 (c : Dev nD) (t : Fin cfg0.N) (h : t.val % 4 ≠ 0) (d) : (datK m 0 c).before 5 t d = (datK m 0 c).after 5 (prev t) := by
  have hfl : (cfg0.win 5).flush (prev t) = false := by
    rw [Bool.eq_false_iff]; intro hf
    have := (flush0_5 (prev t)).mp hf
    simp only [prev] at this; omega
  rw [(datK m 0 c).before_of_pos 5 t (fun h0 => h (by rw [h0])) ((cfg0.win 5).fetch_out rfl t)]
  refine (if_neg (by rw [show (⟨t.val - 1, _⟩ : Fin cfg0.N) = prev t from rfl, hfl]; exact Bool.false_ne_true)).trans ?_
  show (datK m 0 c).left 5 (prev t) d = _
  unfold Dat.left
  rw [live5 (prev t)]
  show (datK m 0 c).kept 5 (prev t) d = _
  unfold Dat.kept
  rw [Pipeline.fill_of_clip_none 5 _ (fun _ => rfl) d ((datK m 0 c).after 5 (prev t)), Window.fill_cut]

/-- Past the first row block of its pair of heads, window 6 holds what the point before left. -/
theorem datK_before6 (c : Dev nD) (t : Fin cfg0.N) (h : t.val % 4 ≠ 0) (d) : (datK m 0 c).before 6 t d = (datK m 0 c).after 6 (prev t) := by
  have hfl : (cfg0.win 6).flush (prev t) = false := by
    rw [Bool.eq_false_iff]; intro hf
    have := (flush0_6 (prev t)).mp hf
    simp only [prev] at this; omega
  rw [(datK m 0 c).before_of_pos 6 t (fun h0 => h (by rw [h0])) ((cfg0.win 6).fetch_out rfl t)]
  refine (if_neg (by rw [show (⟨t.val - 1, _⟩ : Fin cfg0.N) = prev t from rfl, hfl]; exact Bool.false_ne_true)).trans ?_
  show (datK m 0 c).left 6 (prev t) d = _
  unfold Dat.left
  rw [live6 (prev t)]
  show (datK m 0 c).kept 6 (prev t) d = _
  unfold Dat.kept
  rw [Pipeline.fill_of_clip_none 6 _ (fun _ => rfl) d ((datK m 0 c).after 6 (prev t)), Window.fill_cut]

/-! ## The body at every point -/

/-- What the body is called with at point `t`, -/
def preAt (c : Dev nD) (t : Fin cfg0.N) : sProp 𝕄 :=
  iprop((datK m 0 c).Φ t.castSucc ∗ (datK m 0 c).owesAt () t.castSucc
    ∗ (∃ d, owns (c : Thread nD τ) (buf0 t) fullShare ((datK m 0 c).before 0 t d))
    ∗ (∃ d, owns (c : Thread nD τ) (buf1 t) fullShare ((datK m 0 c).before 1 t d))
    ∗ (∃ d, owns (c : Thread nD τ) (buf2 t) fullShare ((datK m 0 c).before 2 t d))
    ∗ (∃ d, owns (c : Thread nD τ) (buf3 t) fullShare ((datK m 0 c).before 3 t d))
    ∗ (∃ d, owns (c : Thread nD τ) (buf4 t) fullShare ((datK m 0 c).before 4 t d))
    ∗ (∃ d, owns (c : Thread nD τ) (buf5 t) fullShare ((datK m 0 c).before 5 t d))
    ∗ (∃ d, owns (c : Thread nD τ) (buf6 t) fullShare ((datK m 0 c).before 6 t d)))

/-- and what it returns. -/
def postAt (c : Dev nD) (t : Fin cfg0.N) : sProp 𝕄 :=
  iprop((datK m 0 c).Φ t.succ ∗ (datK m 0 c).owesAt () t.succ
    ∗ (datK m 0 c).leavesExact 0 t
    ∗ (datK m 0 c).leavesExact 1 t
    ∗ (datK m 0 c).leavesExact 2 t
    ∗ (datK m 0 c).leavesExact 3 t
    ∗ (datK m 0 c).leavesExact 4 t
    ∗ (datK m 0 c).leavesExact 5 t
    ∗ (datK m 0 c).leavesExact 6 t)
theorem leaves0 (c : Dev nD) (t : Fin cfg0.N) : (datK m 0 c).leavesExact 0 t = owns (c : Thread nD τ) (buf0 t) fullShare ((datK m 0 c).after 0 t) := by
  unfold Dat.leavesExact; rw [show cfg0.idle 0 (cfg0.grid.coords t) = false from rfl]
theorem leaves1 (c : Dev nD) (t : Fin cfg0.N) : (datK m 0 c).leavesExact 1 t = owns (c : Thread nD τ) (buf1 t) fullShare ((datK m 0 c).after 1 t) := by
  unfold Dat.leavesExact; rw [show cfg0.idle 1 (cfg0.grid.coords t) = false from rfl]
theorem leaves2 (c : Dev nD) (t : Fin cfg0.N) : (datK m 0 c).leavesExact 2 t = owns (c : Thread nD τ) (buf2 t) fullShare ((datK m 0 c).after 2 t) := by
  unfold Dat.leavesExact; rw [show cfg0.idle 2 (cfg0.grid.coords t) = false from rfl]
theorem leaves3 (c : Dev nD) (t : Fin cfg0.N) : (datK m 0 c).leavesExact 3 t = owns (c : Thread nD τ) (buf3 t) fullShare ((datK m 0 c).after 3 t) := by
  unfold Dat.leavesExact; rw [show cfg0.idle 3 (cfg0.grid.coords t) = false from rfl]
theorem leaves4 (c : Dev nD) (t : Fin cfg0.N) : (datK m 0 c).leavesExact 4 t = owns (c : Thread nD τ) (buf4 t) fullShare ((datK m 0 c).after 4 t) := by
  unfold Dat.leavesExact; rw [live4 t]
theorem leaves5 (c : Dev nD) (t : Fin cfg0.N) : (datK m 0 c).leavesExact 5 t = owns (c : Thread nD τ) (buf5 t) fullShare ((datK m 0 c).after 5 t) := by
  unfold Dat.leavesExact; rw [live5 t]
theorem leaves6 (c : Dev nD) (t : Fin cfg0.N) : (datK m 0 c).leavesExact 6 t = owns (c : Thread nD τ) (buf6 t) fullShare ((datK m 0 c).after 6 t) := by
  unfold Dat.leavesExact; rw [live6 t]

set_option maxHeartbeats 3200000 in
/-- The body at any point: its branch is the point's remainder by four, and the run of that branch applies. -/
theorem body_at (c : Dev nD) (t : Fin cfg0.N) :
    preAt m c t ⊢ wp frame (wpE (defs₀ (F := F)) Variants.none c none) Set.univ (bodyAt0 t) (fun _ => postAt m c t) := by
  unfold preAt postAt bodyAt0
  simp only [datK_before0, datK_before1, datK_before2, datK_before3, leaves0, leaves1, leaves2, leaves3, leaves4, leaves5, leaves6,
    datK_after0, datK_after1, datK_after2, datK_after3, datK_after4, datK_after5, datK_after6]
  rw [show (datK m 0 c).Φ t.succ = (datK m 0 c).Φ t.castSucc from rfl,
    show (datK m 0 c).owesAt () t.succ = (datK m 0 c).owesAt () t.castSucc from rfl]
  have b0 := branch0_iff t
  have b1 := branch1_iff t
  have b2 := branch2_iff t
  have b3 := branch3_iff t
  have b4 := branch4_iff t
  obtain h | h | h | h : t.val % 4 = 0 ∨ t.val % 4 = 1 ∨ t.val % 4 = 2 ∨ t.val % 4 = 3 := by omega
  · rw [show leftQ m c t = dqStepA (blkQ m c t) (blkK m c t) (blkV m c t) (blkG m c t) from if_pos h,
      show leftK m c t = accK0 m c t from if_pos h, show leftV m c t = accV0 m c t from if_pos h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ (b0.mpr h) (b1.mpr h) (fun e => by have := b2.mp e; omega) (fun e => by have := b3.mp e; omega) (fun e => by have := b4.mp e; omega) (blkQ m c t) (blkK m c t) (blkV m c t) (blkG m c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hp : (prev t).val % 4 = 0 := by simp only [prev]; omega
    simp only [datK_before5 m c t (by omega), datK_before6 m c t (by omega), datK_after5, datK_after6]
    rw [show leftQ m c t = dqStepB (blkQ m c t) (blkK m c t) (blkV m c t) (blkG m c t) from (if_neg (by omega)).trans (if_pos h),
      show leftK m c t = accK1 m c t from (if_neg (by omega)).trans (if_pos h), show leftV m c t = accV1 m c t from (if_neg (by omega)).trans (if_pos h),
      show leftK m c (prev t) = accK0 m c (prev t) from if_pos hp, show leftV m c (prev t) = accV0 m c (prev t) from if_pos hp]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (fun e => by have := b0.mp e; omega) (fun e => by have := b1.mp e; omega) (b2.mpr h) (fun e => by have := b3.mp e; omega) (fun e => by have := b4.mp e; omega) (blkQ m c t) (blkK m c t) (blkV m c t) (blkG m c t) (accK0 m c (prev t)) (accV0 m c (prev t))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hp : (prev t).val % 4 = 1 := by simp only [prev]; omega
    simp only [datK_before5 m c t (by omega), datK_before6 m c t (by omega), datK_after5, datK_after6]
    rw [show leftQ m c t = dqStepC (blkQ m c t) (blkK m c t) (blkV m c t) (blkG m c t) from (if_neg (by omega)).trans ((if_neg (by omega)).trans (if_pos h)),
      show leftK m c t = accK2 m c t from (if_neg (by omega)).trans ((if_neg (by omega)).trans (if_pos h)), show leftV m c t = accV2 m c t from (if_neg (by omega)).trans ((if_neg (by omega)).trans (if_pos h)),
      show leftK m c (prev t) = accK1 m c (prev t) from (if_neg (by omega)).trans (if_pos hp), show leftV m c (prev t) = accV1 m c (prev t) from (if_neg (by omega)).trans (if_pos hp)]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunC c (grid0.coords t) _ _ _ _ _ _ _ _ _ _ _ _ _ _ (fun e => by have := b0.mp e; omega) (fun e => by have := b1.mp e; omega) (fun e => by have := b2.mp e; omega) (b3.mpr h) (fun e => by have := b4.mp e; omega) (blkQ m c t) (blkK m c t) (blkV m c t) (blkG m c t) (accK1 m c (prev t)) (accV1 m c (prev t))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hp : (prev t).val % 4 = 2 := by simp only [prev]; omega
    simp only [datK_before5 m c t (by omega), datK_before6 m c t (by omega), datK_after5, datK_after6]
    rw [show leftQ m c t = dqStepD (blkQ m c t) (blkK m c t) (blkV m c t) (blkG m c t) from (if_neg (by omega)).trans ((if_neg (by omega)).trans (if_neg (by omega))),
      show leftK m c t = accK3 m c t from (if_neg (by omega)).trans ((if_neg (by omega)).trans (if_neg (by omega))), show leftV m c t = accV3 m c t from (if_neg (by omega)).trans ((if_neg (by omega)).trans (if_neg (by omega))),
      show leftK m c (prev t) = accK2 m c (prev t) from (if_neg (by omega)).trans ((if_neg (by omega)).trans (if_pos hp)), show leftV m c (prev t) = accV2 m c (prev t) from (if_neg (by omega)).trans ((if_neg (by omega)).trans (if_pos hp))]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunD c (grid0.coords t) _ _ _ _ _ _ _ _ _ _ _ _ _ _ (fun e => by have := b0.mp e; omega) (fun e => by have := b1.mp e; omega) (fun e => by have := b2.mp e; omega) (fun e => by have := b3.mp e; omega) (b4.mpr h) (blkQ m c t) (blkK m c t) (blkV m c t) (blkG m c t) (accK2 m c (prev t)) (accV2 m c (prev t))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body's row of the table, at the point's slots. -/
theorem body_row (t : Fin cfg0.N) :
    defs₀ (F := F) .tc cfg0.body (cfg0.bodyArgs t (cfg0.slots t)) = bodyAt0 t := by
  unfold defs₀; rw [Defs.onTc_tc]

/-- The library's body obligation, at every point. -/
theorem body_ok (c : Dev nD) : BodyObligation (datK (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The launch: every execution ends, with every array at what the data say and every counter at zero. -/
theorem launch_run : θ_run defs (onTc (τ := τ) (main (F := F))) (s₀ m ρ) (fun r => Pipeline.FramePost cfgs (datK m) 0 (V m) r ∧ r.2.sem = fun _ => 0) :=
  Pipeline.θ_run_frame (Q' := _) cfgs (datK m) (0 : Fin 1) launch0 defs₀ Variants.none m ρ main
    (hbody := fun c => (body_ok m c).loose) (hshare := fun c => (datK m 0 c).share_full fun _ => rfl)
    (howed := fun _ _ => rfl) (V := V m) (hmain := hmain m Variants.none) (hA := datK_A m) (hΦ := fun _ _ => rfl)

/-- The frame claim: the arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((datK m 0 c).arrAt_in 0 rfl _).trans ((datK_A m c 0).trans (V_main_arg0 m c))),
      ((h.1 c).1 1).trans (((datK m 0 c).arrAt_in 1 rfl _).trans ((datK_A m c 1).trans (V_main_arg1 m c))),
      ((h.1 c).1 2).trans (((datK m 0 c).arrAt_in 2 rfl _).trans ((datK_A m c 2).trans (V_main_arg2 m c))),
      ((h.1 c).1 3).trans (((datK m 0 c).arrAt_in 3 rfl _).trans ((datK_A m c 3).trans (V_main_arg3 m c)))⟩, h.2⟩) (launch_run m ρ)

end Cert.KernelIdeal.Gen

end
-- ==== Proof.KernelFrame.lean ====
/- The frame of the kernel as printed, from the run written for the idealized one: the two programs differ in the mask's constant alone. -/
module

public import proofs.«01_k».proof.Defs
public import proofs.«01_k».proof.Proof.Run
public import proofs.«01_k».proof.Proof.Gen.Kernel
public import Idealize.ShloMosaic.PureOps.BitExact

@[expose] public section

set_option maxRecDepth 16384

noncomputable section

namespace Cert.AttnClaims

open Idealize.ShloMosaic Idealize.ShloMosaic.TcCoe Idealize.SL.Sem

/-- On words a named constant is the word that it stands for. -/
abbrev wordNamed : Named Bits where
  named _ _ {φ} bits := Scalar.ofBits φ bits

/-- The two bodies are one on words. -/
theorem body_word :
    @Cert.Kernel.cc0_attn_bwd Bits _ Cert.Kernel.Gen.facts = @Cert.KernelIdeal.cc0_attn_bwd Bits _ wordNamed Cert.KernelIdeal.Gen.facts := rfl

/-- So are the body tables, -/
theorem table_word : @Cert.Kernel.defs₀ Bits _ Cert.Kernel.Gen.facts = @Cert.KernelIdeal.defs₀ Bits _ wordNamed Cert.KernelIdeal.Gen.facts := by
  unfold Cert.Kernel.defs₀ Cert.KernelIdeal.defs₀
  refine congrArg Defs.onTc (funext fun l => funext fun a => ?_)
  match l, a with
  | ⟨0, _⟩, (t, s) => rfl

/-- and the programs' tables. -/
theorem defs_word : @Cert.Kernel.defs Bits _ Cert.Kernel.Gen.facts = @Cert.KernelIdeal.defs Bits _ wordNamed Cert.KernelIdeal.Gen.facts := by
  unfold Cert.Kernel.defs Cert.KernelIdeal.defs
  rw [table_word]
  rfl

theorem frameKernel : Cert.quiescent_Kernel := fun m g _ => by
  rw [defs_word]
  letI := wordNamed
  exact Cert.KernelIdeal.Gen.frame_run (F := Bits) m g

end Cert.AttnClaims

end
-- ==== Proof.Math.lean ====
/- One row of causal attention and its gradient over the extended reals: what the kernel's reciprocal form computes, what
   reverse differentiation computes, and that the two agree. -/
module

public import Idealize.ShloMosaic.PureOps.Ideal
public import Idealize.ShloMosaic.PureOps.Ideal.Laws

@[expose] public section

noncomputable section

namespace Cert.Attn

open Idealize.ShloMosaic

variable {n : ℕ}

/-- The attention's score scale, as the programs' float literal reads. -/
def cS : EReal := Ideal.ofBits .f32 0x3DD105EC#32

/-- The scaled score of one query row against column `j`, masked to `⊥` past the row's own position. -/
def scoreAt (c : EReal) (row : ℕ) (q : Fin 96 → EReal) (k : Fin n → Fin 96 → EReal) (j : Fin n) : EReal :=
  if j.val ≤ row then (∑ d, q d * k j d) * c else ⊥
/-- The row's largest score. -/
def topOf (s : Fin n → EReal) : EReal := (Finset.univ : Finset (Fin n)).fold max ⊥ s
/-- The unnormalised weight of column `j`, -/
def wgt (s : Fin n → EReal) (j : Fin n) : EReal := Ideal.exp (s j - topOf s)
/-- the weights' total -/
def tot (s : Fin n → EReal) : EReal := ∑ j, wgt s j
/-- and its reciprocal. -/
def inv (s : Fin n → EReal) : EReal := Ideal.div 1 (tot s)
/-- The incoming gradient against column `j`'s value. -/
def dp (g : Fin 64 → EReal) (v : Fin n → Fin 64 → EReal) (j : Fin n) : EReal := ∑ d, g d * v j d
/-- The gradient of the score in the reciprocal form the kernel computes. -/
def dsc (c : EReal) (s p : Fin n → EReal) (j : Fin n) : EReal :=
  wgt s j * (p j - (∑ j', p j' * wgt s j') * inv s) * (c * inv s)
/-- The gradient of the score as reverse differentiation writes it. -/
def dscRef (c : EReal) (s p : Fin n → EReal) (j : Fin n) : EReal :=
  (p j * inv s + -((∑ j', wgt s j' * p j') * Ideal.div 1 (tot s * tot s) * 1)) * wgt s j * c

/-! ## The maximum and the weights -/

theorem le_topOf (s : Fin n → EReal) (j : Fin n) : s j ≤ topOf s :=
  (Finset.le_fold_max _).mpr (Or.inr ⟨j, Finset.mem_univ j, le_rfl⟩)

theorem topOf_le (s : Fin n → EReal) (b : EReal) (h : ∀ j, s j ≤ b) : topOf s ≤ b :=
  (Finset.fold_max_le b).mpr ⟨bot_le, fun j _ => h j⟩

theorem exp_nonneg (x : EReal) : 0 ≤ Ideal.exp x := by
  induction x with
  | bot => simp
  | top => simp
  | coe r => rw [Ideal.exp_coe]; exact_mod_cast (Real.exp_pos r).le

theorem exp_le_one (x : EReal) (h : x ≤ 0) : Ideal.exp x ≤ 1 := by
  induction x with
  | bot => simp
  | top => simp at h
  | coe r =>
    rw [Ideal.exp_coe]
    have : r ≤ 0 := by exact_mod_cast h
    exact_mod_cast Real.exp_le_one_iff.mpr this

theorem wgt_nonneg (s : Fin n → EReal) (j : Fin n) : 0 ≤ wgt s j := exp_nonneg _

theorem wgt_le_one (s : Fin n → EReal) (j : Fin n) : wgt s j ≤ 1 :=
  exp_le_one _ (EReal.sub_nonpos.mpr (le_topOf s j))

theorem bot_sub' (x : EReal) : (⊥ : EReal) - x = ⊥ := by rw [sub_eq_add_neg, EReal.bot_add]

/-- A masked column has no weight. -/
theorem wgt_of_bot (s : Fin n → EReal) (j : Fin n) (h : s j = ⊥) : wgt s j = 0 := by
  unfold wgt; rw [h, bot_sub', Ideal.exp_bot]

theorem wgt_past (c : EReal) (row : ℕ) (q : Fin 96 → EReal) (k : Fin n → Fin 96 → EReal) (j : Fin n) (h : row < j.val) :
    wgt (scoreAt c row q k) j = 0 := wgt_of_bot _ _ (if_neg (by omega))

theorem dsc_of_wgt (c : EReal) (s p : Fin n → EReal) (j : Fin n) (h : wgt s j = 0) : dsc c s p j = 0 := by
  unfold dsc; rw [h, zero_mul, zero_mul]

/-! ## The total is a real number between 0 and the row's length -/

theorem tot_nonneg (s : Fin n → EReal) : 0 ≤ tot s := Finset.sum_nonneg fun j _ => wgt_nonneg s j

theorem wgt_real (s : Fin n → EReal) (j : Fin n) : ∃ r : ℝ, wgt s j = (r : EReal) := by
  have h0 := wgt_nonneg s j
  have h1 := wgt_le_one s j
  lift wgt s j to ℝ using ⟨fun h => absurd (h ▸ h1) (not_le.mpr (EReal.coe_lt_top 1)), fun h => by rw [h] at h0; simp at h0⟩ with r
  exact ⟨r, rfl⟩

theorem tot_real (s : Fin n → EReal) : ∃ r : ℝ, tot s = (r : EReal) := by
  choose f hf using wgt_real s
  refine ⟨∑ j, f j, ?_⟩
  unfold tot
  rw [Finset.sum_congr rfl fun j _ => hf j]
  exact (map_sum (⟨⟨fun r : ℝ => (r : EReal), EReal.coe_zero⟩, EReal.coe_add⟩ : ℝ →+ EReal) f Finset.univ).symm

theorem wgt_of_tot (s : Fin n → EReal) (h : tot s = 0) (j : Fin n) : wgt s j = 0 :=
  (Finset.sum_eq_zero_iff_of_nonneg fun j _ => wgt_nonneg s j).mp h j (Finset.mem_univ j)

/-! ## The two forms of the score's gradient agree -/

theorem dsc_eq_dscRef (c : EReal) (s p : Fin n → EReal) (j : Fin n) : dsc c s p j = dscRef c s p j := by
  obtain ⟨t, ht⟩ := tot_real s
  by_cases h0 : t = 0
  · have hw := wgt_of_tot s (by rw [ht, h0]; rfl) j
    rw [dsc_of_wgt c s p j hw]; unfold dscRef; rw [hw, mul_zero, zero_mul]
  · have hpos : 0 ≤ t := by have := tot_nonneg s; rw [ht] at this; exact_mod_cast this
    have hinv : inv s = ((1 / t : ℝ) : EReal) := by unfold inv; rw [ht, Ideal.div_coe h0, one_mul]
    have hsq : Ideal.div 1 (tot s * tot s) = ((1 / t : ℝ) : EReal) * ((1 / t : ℝ) : EReal) := by
      rw [ht, ← EReal.coe_mul, Ideal.div_coe (mul_ne_zero h0 h0), one_mul, ← EReal.coe_mul]
      congr 1; field_simp
    unfold dsc dscRef
    rw [hinv, hsq, mul_one, Finset.sum_congr rfl fun j' _ => mul_comm (p j') (wgt s j')]
    generalize (∑ j', wgt s j' * p j') = D
    have ha : (0 : ℝ) ≤ 1 / t := by positivity
    generalize (1 / t : ℝ) = a at ha
    have hd : (p j - D * (a : EReal)) * (a : EReal) = p j * a + -(D * (a * a)) := by
      rw [sub_eq_add_neg, EReal.right_distrib_of_nonneg_of_ne_top (by exact_mod_cast ha) (EReal.coe_ne_top a),
        EReal.neg_mul, mul_assoc]
    rw [← hd]
    ac_rfl

/-! ## Columns the mask removes -/

/-- A sum over the first columns is the sum over all of them when the rest contribute nothing. -/
theorem sum_first {N : ℕ} (h : n ≤ N) (f : Fin N → EReal) (h0 : ∀ j : Fin N, n ≤ j.val → f j = 0) :
    ∑ j : Fin n, f (Fin.castLE h j) = ∑ j : Fin N, f j := by
  rw [← Finset.sum_subset (Finset.subset_univ (Finset.univ.map (Fin.castLEEmb h)))]
  · rw [Finset.sum_map]; rfl
  · intro j _ hj
    refine h0 j (by_contra fun hlt => hj ?_)
    exact Finset.mem_map.mpr ⟨⟨j.val, by omega⟩, Finset.mem_univ _, Fin.ext rfl⟩

section first
variable {N : ℕ} (h : n ≤ N) (c : EReal) (row : ℕ) (hrow : row < n) (q : Fin 96 → EReal) (k : Fin N → Fin 96 → EReal)
  (g : Fin 64 → EReal) (v : Fin N → Fin 64 → EReal)
include hrow

theorem topOf_first : topOf (scoreAt c row q fun j : Fin n => k (Fin.castLE h j)) = topOf (scoreAt c row q k) := by
  refine le_antisymm (topOf_le _ _ fun j => ?_) (topOf_le _ _ fun j => ?_)
  · exact le_topOf (scoreAt c row q k) (Fin.castLE h j)
  · by_cases hj : j.val < n
    · exact le_topOf (scoreAt c row q fun j : Fin n => k (Fin.castLE h j)) ⟨j.val, hj⟩
    · unfold scoreAt; rw [if_neg (by omega)]; exact bot_le

theorem wgt_first (j : Fin n) :
    wgt (scoreAt c row q fun j : Fin n => k (Fin.castLE h j)) j = wgt (scoreAt c row q k) (Fin.castLE h j) := by
  unfold wgt; rw [topOf_first h c row hrow]; rfl

theorem tot_first : tot (scoreAt c row q fun j : Fin n => k (Fin.castLE h j)) = tot (scoreAt c row q k) := by
  unfold tot
  rw [Finset.sum_congr rfl fun j _ => wgt_first h c row hrow q k j]
  exact sum_first h (wgt (scoreAt c row q k)) fun j hj => wgt_past c row q k j (by omega)

theorem inv_first : inv (scoreAt c row q fun j : Fin n => k (Fin.castLE h j)) = inv (scoreAt c row q k) := by
  unfold inv; rw [tot_first h c row hrow]

theorem dsc_first (j : Fin n) :
    dsc c (scoreAt c row q fun j : Fin n => k (Fin.castLE h j)) (dp g fun j : Fin n => v (Fin.castLE h j)) j
      = dsc c (scoreAt c row q k) (dp g v) (Fin.castLE h j) := by
  unfold dsc
  rw [wgt_first h c row hrow, inv_first h c row hrow, Finset.sum_congr rfl fun j' _ => by rw [wgt_first h c row hrow q k j']]
  have := sum_first h (fun j' => dp g v j' * wgt (scoreAt c row q k) j') fun j hj => by
    show _ * wgt (scoreAt c row q k) j = 0
    rw [wgt_past c row q k j (by omega), mul_zero]
  exact congrArg (fun D => wgt (scoreAt c row q k) (Fin.castLE h j) * (dp g v (Fin.castLE h j) - D * inv (scoreAt c row q k)) * (c * inv (scoreAt c row q k))) this

end first

/-! ## The gradients of one head, all rows and columns -/

variable (c : EReal) (Q K : Fin 2048 → Fin 96 → EReal) (V G : Fin 2048 → Fin 64 → EReal)

/-- The query gradient, -/
def gradQ (row : Fin 2048) (d : Fin 96) : EReal :=
  ∑ j, dsc c (scoreAt c row.val (Q row) K) (dp (G row) V) j * K j d
/-- one row's part of the key gradient -/
def partK (row j : Fin 2048) (d : Fin 96) : EReal := dsc c (scoreAt c row.val (Q row) K) (dp (G row) V) j * Q row d
/-- and of the value gradient, -/
def partV (row j : Fin 2048) (d : Fin 64) : EReal :=
  wgt (scoreAt c row.val (Q row) K) j * (G row d * inv (scoreAt c row.val (Q row) K))
/-- and the sums over the rows. -/
def gradK (j : Fin 2048) (d : Fin 96) : EReal := ∑ row, partK c Q K V G row j d
def gradV (j : Fin 2048) (d : Fin 64) : EReal := ∑ row, partV c Q K G row j d

theorem partK_past (row j : Fin 2048) (h : row.val < j.val) (d : Fin 96) : partK c Q K V G row j d = 0 := by
  unfold partK; rw [dsc_of_wgt _ _ _ _ (wgt_past _ _ _ _ _ h), zero_mul]

theorem partV_past (row j : Fin 2048) (h : row.val < j.val) (d : Fin 64) : partV c Q K G row j d = 0 := by
  unfold partV; rw [wgt_past _ _ _ _ _ h, zero_mul]

/-- Row `512 i + r`. -/
def rowAt (i : Fin 4) (r : Fin 512) : Fin 2048 := ⟨512 * i.val + r.val, by omega⟩

/-- A sum over all rows, block of rows by block of rows. -/
theorem sum_rows (f : Fin 2048 → EReal) :
    ∑ row, f row = (((∑ r, f (rowAt 0 r)) + ∑ r, f (rowAt 1 r)) + ∑ r, f (rowAt 2 r)) + ∑ r, f (rowAt 3 r) := by
  have := (Fin.sum_univ_four fun i : Fin 4 => ∑ r : Fin 512, f (rowAt i r))
  rw [← this, ← Finset.sum_product', Finset.univ_product_univ,
    ← Equiv.sum_comp (finProdFinEquiv : Fin 4 × Fin 512 ≃ Fin (4 * 512)) (f : Fin (4 * 512) → EReal)]
  refine Finset.sum_congr rfl fun x _ => congrArg f (Fin.ext ?_)
  show x.2.val + 512 * x.1.val = 512 * x.1.val + x.2.val
  omega

end Cert.Attn
-- ==== Proof.Whole.lean ====
/- The gradients of every head of every batch entry, over the arrays the call takes. -/
module

public import proofs.«01_k».proof.Proof.Math
public import Idealize.ShloMosaic.Lib.ValueIdx

@[expose] public section

noncomputable section

namespace Cert.Attn

open Idealize.ShloMosaic Idealize.ShloMosaic.ValueIdx

/-- Head `h`'s columns of the incoming gradient, whose heads lie side by side. -/
def colOf (h : Fin 16) (d : Fin 64) : Fin 1024 := ⟨64 * h.val + d.val, by omega⟩

variable (a0 a1 : (⟨4, ![2, 16, 2048, 96]⟩ : Shape).Idx → EReal) (a2 : (⟨4, ![2, 16, 2048, 64]⟩ : Shape).Idx → EReal) (a3 : (⟨3, ![2, 2048, 1024]⟩ : Shape).Idx → EReal)

/-- Head `h` of batch `b`: its rows of a heads-major array, -/
def headOf {D : ℕ} (a : (⟨4, ![2, 16, 2048, D]⟩ : Shape).Idx → EReal) (b : Fin 2) (h : Fin 16) (row : Fin 2048) (d : Fin D) : EReal := a (ix4 b h row d)
/-- and of the incoming gradient. -/
def gradOf (b : Fin 2) (h : Fin 16) (row : Fin 2048) (d : Fin 64) : EReal := a3 (ix3 b row (colOf h d))

/-- The gradients of the query, the keys and the values. -/
def outQ (b : Fin 2) (h : Fin 16) (row : Fin 2048) (d : Fin 96) : EReal := gradQ cS (headOf a0 b h) (headOf a1 b h) (headOf a2 b h) (gradOf a3 b h) row d
def outK (b : Fin 2) (h : Fin 16) (j : Fin 2048) (d : Fin 96) : EReal := gradK cS (headOf a0 b h) (headOf a1 b h) (headOf a2 b h) (gradOf a3 b h) j d
def outV (b : Fin 2) (h : Fin 16) (j : Fin 2048) (d : Fin 64) : EReal := gradV cS (headOf a0 b h) (headOf a1 b h) (gradOf a3 b h) j d

/-- The array with entries `f`. -/
def arrOf {D : ℕ} (f : Fin 2 → Fin 16 → Fin 2048 → Fin D → EReal) : (⟨4, ![2, 16, 2048, D]⟩ : Shape).Idx → EReal := fun y => f (y 0) (y 1) (y 2) (y 3)

/-- Head `e` of pair `p`. -/
def hd (p : Fin 8) (e : Fin 2) : Fin 16 := ⟨2 * p.val + e.val, by omega⟩

end Cert.Attn
-- ==== Proof.Reads.lean ====
/- The vector operations of the attention gradient read at an index, at the extended reals. -/
module

public import Idealize.ShloMosaic.PureOps.Ideal.Laws
public import Idealize.ShloMosaic.PureOps.IdealRules
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.WordCmp
public import Idealize.ShloMosaic.Lib.IdealHost
public import Idealize.ShloMosaic.Lib.Pipeline.Value

@[expose] public section

set_option maxRecDepth 16384

noncomputable section

namespace Cert.Reads

open Idealize.ShloMosaic Idealize.ShloMosaic.ValueIdx

/-! ## Products -/

/-- Both operands contracted along their first axis. -/
theorem matmul_tn {K M N : ℕ} {φ₁ φ₂ : FTy} (w) (prec : Option ContractPrecision)
    (lhs : FVec Ideal ⟨2, ![K, M]⟩ φ₁) (rhs : FVec Ideal ⟨2, ![K, N]⟩ φ₂) (r : Fin M) (c : Fin N) :
    matmul (⟨[0], [0], [1], [1], [], [], w⟩ : DotDims ⟨2, ![K, M]⟩ ⟨2, ![K, N]⟩ ⟨2, ![M, N]⟩) prec lhs rhs
      (constant ⟨2, ![M, N]⟩ .f32 0x00000000#32) (ix2 r c) = ∑ k : Fin K, lhs (ix2 k r) * rhs (ix2 k c) := by
  show FloatOps.matmul _ prec lhs rhs _ _ = _
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun k _ => ?_
  have hk := contrEquiv1_symm_val (⟨[0], [0], [1], [1], [], [], w⟩ : DotDims ⟨2, ![K, M]⟩ ⟨2, ![K, N]⟩ ⟨2, ![M, N]⟩) K rfl rfl k
  have el : (⟨[0], [0], [1], [1], [], [], w⟩ : DotDims ⟨2, ![K, M]⟩ ⟨2, ![K, N]⟩ ⟨2, ![M, N]⟩).lhsIdx (ix2 r c)
      ((contrEquiv1 (⟨[0], [0], [1], [1], [], [], w⟩ : DotDims ⟨2, ![K, M]⟩ ⟨2, ![K, N]⟩ ⟨2, ![M, N]⟩) K rfl rfl).symm k) = ix2 k r := by
    funext a; apply Fin.ext
    match a with
    | ⟨0, _⟩ => exact hk
    | ⟨1, _⟩ => rfl
  have er : (⟨[0], [0], [1], [1], [], [], w⟩ : DotDims ⟨2, ![K, M]⟩ ⟨2, ![K, N]⟩ ⟨2, ![M, N]⟩).rhsIdx (ix2 r c)
      ((contrEquiv1 (⟨[0], [0], [1], [1], [], [], w⟩ : DotDims ⟨2, ![K, M]⟩ ⟨2, ![K, N]⟩ ⟨2, ![M, N]⟩) K rfl rfl).symm k) = ix2 k c := by
    funext a; apply Fin.ext
    match a with
    | ⟨0, _⟩ => exact hk
    | ⟨1, _⟩ => rfl
  rw [el, er]

/-- The second operand transposed. -/
theorem matmul_nt {M K N : ℕ} {φ₁ φ₂ : FTy} (w) (prec : Option ContractPrecision)
    (lhs : FVec Ideal ⟨2, ![M, K]⟩ φ₁) (rhs : FVec Ideal ⟨2, ![N, K]⟩ φ₂) (r : Fin M) (c : Fin N) :
    matmul (⟨[1], [1], [0], [0], [], [], w⟩ : DotDims ⟨2, ![M, K]⟩ ⟨2, ![N, K]⟩ ⟨2, ![M, N]⟩) prec lhs rhs
      (constant ⟨2, ![M, N]⟩ .f32 0x00000000#32) (ix2 r c) = ∑ k : Fin K, lhs (ix2 r k) * rhs (ix2 c k) :=
  (Ideal.matmul_transposedRhs_apply prec lhs rhs _ r c).trans (by
    show Ideal.ofBits .f32 0x00000000#32 + _ = _
    rw [Ideal.ofBits_zero_f32, zero_add])

/-- A plain product. -/
theorem matmul_nn {M K N : ℕ} {φ₁ φ₂ : FTy} (w) (prec : Option ContractPrecision)
    (lhs : FVec Ideal ⟨2, ![M, K]⟩ φ₁) (rhs : FVec Ideal ⟨2, ![K, N]⟩ φ₂) (r : Fin M) (c : Fin N) :
    matmul (⟨[1], [0], [0], [1], [], [], w⟩ : DotDims ⟨2, ![M, K]⟩ ⟨2, ![K, N]⟩ ⟨2, ![M, N]⟩) prec lhs rhs
      (constant ⟨2, ![M, N]⟩ .f32 0x00000000#32) (ix2 r c) = ∑ k : Fin K, lhs (ix2 r k) * rhs (ix2 k c) :=
  (Ideal.matmul_plain_apply prec lhs rhs _ r c).trans (by
    show Ideal.ofBits .f32 0x00000000#32 + _ = _
    rw [Ideal.ofBits_zero_f32, zero_add])

/-! ## Row reductions -/

theorem lift_row {M N : ℕ} (h : (⟨2, ![M, N]⟩ : Shape).Reduces [1] ⟨1, ![M]⟩) (r : Fin M) (j : Fin N) :
    h.lift (ix1 r) j = ix2 r j := by
  funext a; apply Fin.ext
  match a with
  | ⟨0, _⟩ => rfl
  | ⟨1, _⟩ => rfl

theorem rowSum {M N : ℕ} (x : FVec Ideal ⟨2, ![M, N]⟩ .f32) (h : (⟨2, ![M, N]⟩ : Shape).Reduces [1] ⟨1, ![M]⟩)
    (hφ : FKind.Formats .f32) (hacc) (r : Fin M) :
    multiReduction .add [1] ⟨1, ![M]⟩ x 0x00000000#32 h hφ hacc (ix1 r) = ∑ j : Fin N, x (ix2 r j) :=
  (Ideal.multiReduction_add_single x _ h hφ hacc (ix1 r)).trans
    (Finset.sum_congr rfl fun j _ => congrArg x (lift_row h r j))

theorem ofBits_neg_inf : Ideal.ofBits .f32 0xFF800000#32 = ⊥ := by simp [Ideal.ofBits, Ideal.ieee]

theorem rowMax {M N : ℕ} (x : FVec Ideal ⟨2, ![M, N]⟩ .f32) (h : (⟨2, ![M, N]⟩ : Shape).Reduces [1] ⟨1, ![M]⟩)
    (hφ : FKind.Formats .f32) (hacc) (r : Fin M) :
    multiReduction .maximumf [1] ⟨1, ![M]⟩ x 0xFF800000#32 h hφ hacc (ix1 r)
      = (Finset.univ : Finset (Fin N)).fold max ⊥ fun j => x (ix2 r j) := by
  refine (Ideal.multiReduction_maximumf_single x _ h hφ hacc (ix1 r)).trans ?_
  show Finset.fold max (Ideal.ofBits .f32 0xFF800000#32) _ _ = _
  rw [ofBits_neg_inf]
  exact congrArg (Finset.fold max ⊥ · Finset.univ) (funext fun j => congrArg x (lift_row h r j))

/-! ## Layout -/

variable {α : Type}

/-- A column broadcast along the rows. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cast_11ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem cast_ab_11ab {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp)

/-! ## The causal mask -/

theorem mask_le (r0 r j : ℕ) (hr : r0 + r < 2 ^ 31) (hj : j < 2 ^ 31) (x y : α) :
    Scalar.select (IntOp.cmpi .sle (BitVec.ofNat 32 j) (IntOp.addi (BitVec.ofNat 32 r0) (BitVec.ofNat 32 r))) x y
      = if j ≤ r0 + r then x else y := by
  show Scalar.select (IntOp.cmpi .sle (BitVec.ofNat 32 j) (BitVec.ofNat 32 r0 + BitVec.ofNat 32 r)) x y = _
  rw [← BitVec.ofNat_add, WordCmp.cmpi_sle_ofNat hj hr, WordCmp.select_ofBool]
  simp only [decide_eq_true_eq]

end Cert.Reads
-- ==== Proof.Rows.lean ====
/- A point's row computations on vectors of any number of columns, read at an index. -/
module

public import proofs.«01_k».proof.Proof.Math
public import proofs.«01_k».proof.Proof.Reads

@[expose] public section

set_option maxRecDepth 16384

noncomputable section

namespace Cert.Rows

open Idealize.ShloMosaic Idealize.ShloMosaic.ValueIdx Cert.Reads Cert.Attn

variable {n : ℕ}

/-- The masked, scaled scores. -/
theorem score_entry (r0 : ℕ) (hn : n < 2 ^ 31) (hr0 : r0 + 512 < 2 ^ 31) (w) (q : FVec Ideal ⟨2, ![512, 96]⟩ .bf16) (k : FVec Ideal ⟨2, ![n, 96]⟩ .bf16)
    (i0 : (⟨2, ![512, n]⟩ : Shape).Iotas .tc 32 [0]) (i1 : (⟨2, ![512, n]⟩ : Shape).Iotas .tc 32 [1]) (neg : Ideal .f32) (hneg : neg = (⊥ : EReal))
    (r : Fin 512) (j : Fin n) :
    select (cmpi .sle (iota .tc ⟨2, ![512, n]⟩ 32 [1] i1) (addi (broadcast ⟨2, ![512, n]⟩ (BitVec.ofNat 32 r0)) (iota .tc ⟨2, ![512, n]⟩ 32 [0] i0)))
      (mulf (matmul (⟨[1], [1], [0], [0], [], [], w⟩ : DotDims ⟨2, ![512, 96]⟩ ⟨2, ![n, 96]⟩ ⟨2, ![512, n]⟩) none q k (constant ⟨2, ![512, n]⟩ .f32 0x00000000#32))
        (broadcast ⟨2, ![512, n]⟩ (Scalar.ofBits (F := Ideal) .f32 0x3DD105EC#32)))
      (broadcast ⟨2, ![512, n]⟩ neg) (ix2 r j)
      = scoreAt cS (r0 + r.val) (fun d => q (ix2 r d)) (fun j d => k (ix2 j d)) j := by
  show Scalar.select (IntOp.cmpi .sle (iota .tc ⟨2, ![512, n]⟩ 32 [1] i1 (ix2 r j)) (IntOp.addi (BitVec.ofNat 32 r0) (iota .tc ⟨2, ![512, n]⟩ 32 [0] i0 (ix2 r j))))
    ((matmul (⟨[1], [1], [0], [0], [], [], w⟩ : DotDims ⟨2, ![512, 96]⟩ ⟨2, ![n, 96]⟩ ⟨2, ![512, n]⟩) none q k (constant ⟨2, ![512, n]⟩ .f32 0x00000000#32) (ix2 r j) : EReal) * cS) neg = _
  rw [matmul_nt, iota_single_apply, iota_single_apply, hneg]
  exact mask_le r0 r.val j.val (by omega) (by omega) _ _

/-- The weights. -/
theorem wgt_entry (S : FVec Ideal ⟨2, ![512, n]⟩ .f32) (s : Fin n → EReal) (r : Fin 512) (hS : ∀ j, S (ix2 r j) = s j)
    (h : (⟨2, ![512, n]⟩ : Shape).Reduces [1] ⟨1, ![512]⟩) (hφ : FKind.Formats .f32) (hacc)
    (hc : (⟨1, ![512]⟩ : Shape).ShapeCasts ⟨2, ![512, 1]⟩) (hb : (⟨2, ![512, 1]⟩ : Shape).Broadcasts ⟨2, ![512, n]⟩) (j : Fin n) :
    exp (subf S (broadcastTo ⟨2, ![512, n]⟩ (shapeCast ⟨2, ![512, 1]⟩ (multiReduction .maximumf [1] ⟨1, ![512]⟩ S 0xFF800000#32 h hφ hacc) hc) hb)) (ix2 r j)
      = wgt s j := by
  show Ideal.exp (S (ix2 r j) - (broadcastTo ⟨2, ![512, n]⟩ (shapeCast ⟨2, ![512, 1]⟩ (multiReduction .maximumf [1] ⟨1, ![512]⟩ S 0xFF800000#32 h hφ hacc) hc) hb (ix2 r j) : EReal)) = _
  rw [bcast_col, shapeCast_a_a1_apply, rowMax, hS, funext hS]
  rfl

/-- The reciprocal of the total. -/
theorem inv_entry (W : FVec Ideal ⟨2, ![512, n]⟩ .f32) (s : Fin n → EReal) (r : Fin 512) (hW : ∀ j, W (ix2 r j) = wgt s j)
    (h : (⟨2, ![512, n]⟩ : Shape).Reduces [1] ⟨1, ![512]⟩) (hφ : FKind.Formats .f32) (hacc)
    (hc : (⟨1, ![512]⟩ : Shape).ShapeCasts ⟨2, ![512, 1]⟩) :
    divf (broadcast ⟨2, ![512, 1]⟩ (Scalar.ofBits (F := Ideal) .f32 0x3F800000#32))
      (shapeCast ⟨2, ![512, 1]⟩ (multiReduction .add [1] ⟨1, ![512]⟩ W 0x00000000#32 h hφ hacc) hc) (ix2 r (0 : Fin 1)) = inv s := by
  rw [divf_apply, shapeCast_a_a1_apply, rowSum, funext hW]
  exact congrArg (Ideal.div · _) Ideal.ofBits_one_f32

/-- The incoming gradient against the values. -/
theorem dp_entry (w) (g : FVec Ideal ⟨2, ![512, 64]⟩ .f32) (v : FVec Ideal ⟨2, ![n, 64]⟩ .bf16) (ht : FTy.bf16.bits < FTy.f32.bits) (r : Fin 512) (j : Fin n) :
    matmul (⟨[1], [1], [0], [0], [], [], w⟩ : DotDims ⟨2, ![512, 64]⟩ ⟨2, ![n, 64]⟩ ⟨2, ![512, n]⟩) none (truncf .bf16 g ht) v
      (constant ⟨2, ![512, n]⟩ .f32 0x00000000#32) (ix2 r j) = dp (fun d => g (ix2 r d)) (fun j d => v (ix2 j d)) j := by
  rw [matmul_nt]; rfl

/-- The scores' gradient. -/
theorem ds_entry (DP W : FVec Ideal ⟨2, ![512, n]⟩ .f32) (I : FVec Ideal ⟨2, ![512, 1]⟩ .f32) (s p : Fin n → EReal) (r : Fin 512)
    (hW : ∀ j, W (ix2 r j) = wgt s j) (hI : I (ix2 r (0 : Fin 1)) = inv s) (hP : ∀ j, DP (ix2 r j) = p j)
    (h : (⟨2, ![512, n]⟩ : Shape).Reduces [1] ⟨1, ![512]⟩) (hφ : FKind.Formats .f32) (hacc)
    (hc : (⟨1, ![512]⟩ : Shape).ShapeCasts ⟨2, ![512, 1]⟩) (hb : (⟨2, ![512, 1]⟩ : Shape).Broadcasts ⟨2, ![512, n]⟩)
    (ht : FTy.bf16.bits < FTy.f32.bits) (j : Fin n) :
    (truncf .bf16 (mulf (mulf W (subf DP (broadcastTo ⟨2, ![512, n]⟩
        (mulf (shapeCast ⟨2, ![512, 1]⟩ (multiReduction .add [1] ⟨1, ![512]⟩ (mulf DP W) 0x00000000#32 h hφ hacc) hc) I) hb)))
      (broadcastTo ⟨2, ![512, n]⟩ (mulf (broadcast ⟨2, ![512, 1]⟩ (Scalar.ofBits (F := Ideal) .f32 0x3DD105EC#32)) I) hb)) ht
        : FVec Ideal ⟨2, ![512, n]⟩ .bf16) (ix2 r j)
      = dsc cS s p j := by
  show ((W (ix2 r j) : EReal) * ((DP (ix2 r j) : EReal) - (broadcastTo ⟨2, ![512, n]⟩ (mulf (shapeCast ⟨2, ![512, 1]⟩ (multiReduction .add [1] ⟨1, ![512]⟩ (mulf DP W) 0x00000000#32 h hφ hacc) hc) I) hb (ix2 r j) : EReal)))
    * (broadcastTo ⟨2, ![512, n]⟩ (mulf (broadcast ⟨2, ![512, 1]⟩ (Scalar.ofBits (F := Ideal) .f32 0x3DD105EC#32)) I) hb (ix2 r j) : EReal) = _
  rw [bcast_col, bcast_col, mulf_apply, mulf_apply, shapeCast_a_a1_apply, rowSum, hI, hW, hP]
  rw [Finset.sum_congr rfl fun j' _ => show mulf DP W (ix2 r j') = p j' * wgt s j' by rw [mulf_apply, hW, hP]]
  rfl

/-- The query gradient's block. -/
theorem dq_entry (w) (DS : FVec Ideal ⟨2, ![512, n]⟩ .bf16) (k : FVec Ideal ⟨2, ![n, 96]⟩ .bf16)
    (hc : (⟨2, ![512, 96]⟩ : Shape).ShapeCasts ⟨4, ![1, 1, 512, 96]⟩) (f : Fin n → EReal) (r : Fin 512) (hf : ∀ j, DS (ix2 r j) = f j) (d : Fin 96) :
    shapeCast ⟨4, ![1, 1, 512, 96]⟩ (matmul (⟨[1], [0], [0], [1], [], [], w⟩ : DotDims ⟨2, ![512, n]⟩ ⟨2, ![n, 96]⟩ ⟨2, ![512, 96]⟩) none DS k
      (constant ⟨2, ![512, 96]⟩ .f32 0x00000000#32)) hc (ix4 (0 : Fin 1) (0 : Fin 1) r d) = ∑ j, f j * k (ix2 j d) := by
  rw [cast_ab_11ab, matmul_nn]
  exact Finset.sum_congr rfl fun j _ => by rw [hf]

/-- A block the point adds to: what it held plus the rows' products. -/
theorem acc_entry {m : ℕ} {φ ψ : FTy} (w) (A : FVec Ideal ⟨2, ![512, n]⟩ φ) (B : FVec Ideal ⟨2, ![512, m]⟩ ψ) (y : FVec Ideal ⟨2, ![n, m]⟩ .f32)
    (hc : (⟨2, ![n, m]⟩ : Shape).ShapeCasts ⟨4, ![1, 1, n, m]⟩) (j : Fin n) (d : Fin m) (a b : Fin 512 → EReal)
    (ha : ∀ r, A (ix2 r j) = a r) (hb : ∀ r, B (ix2 r d) = b r) :
    shapeCast ⟨4, ![1, 1, n, m]⟩ (addf y (matmul (⟨[0], [0], [1], [1], [], [], w⟩ : DotDims ⟨2, ![512, n]⟩ ⟨2, ![512, m]⟩ ⟨2, ![n, m]⟩) none A B
      (constant ⟨2, ![n, m]⟩ .f32 0x00000000#32))) hc (ix4 (0 : Fin 1) (0 : Fin 1) j d) = y (ix2 j d) + ∑ r, a r * b r := by
  rw [cast_ab_11ab, addf_apply, matmul_tn]
  exact congrArg (y (ix2 j d) + ·) (Finset.sum_congr rfl fun r _ => by rw [ha, hb])

end Cert.Rows
-- ==== Proof.EntryA.lean ====
/- What a point of the attention gradient that reads the first 512 columns computes, entry by entry, at the extended reals. -/
module

public import proofs.«01_k».proof.Proof.Step
public import proofs.«01_k».proof.Proof.Rows

@[expose] public section

set_option maxRecDepth 16384

noncomputable section

namespace Cert.KernelIdeal.Gen

open Idealize.ShloMosaic Idealize.ShloMosaic.ValueIdx Cert.Reads Cert.Attn Cert.Rows

/-- The masked scores of the point's row `r`, from the query's and the keys' windows. -/
def scoreA (q : Vec Ideal S1x1x512x96 .bf16) (kk : Vec Ideal S1x1x512x96 .bf16) (r : Fin 512) : Fin 512 → EReal :=
  scoreAt cS (0 + r.val) (fun d => q (ix4 (0 : Fin 1) (0 : Fin 1) r d)) fun j d => kk (ix4 (0 : Fin 1) (0 : Fin 1) j d)
/-- The row's incoming gradient against the values. -/
def dpA (g : Vec Ideal S1x512x64 .f32) (v : Vec Ideal S1x1x512x64 .bf16) (r : Fin 512) : Fin 512 → EReal :=
  dp (fun d => g (ix3 (0 : Fin 1) r d)) fun j d => v (ix4 (0 : Fin 1) (0 : Fin 1) j d)

theorem scoreA_eq (q : Vec Ideal S1x1x512x96 .bf16) (kk : Vec Ideal S1x1x512x96 .bf16) (hq : S1x1x512x96.ShapeCasts S512x96) (hk : S1x1x512x96.ShapeCasts S512x96) (r : Fin 512) (j : Fin 512) :
    scoreAt cS (0 + r.val) (fun d => shapeCast S512x96 q hq (ix2 r d)) (fun j d => shapeCast S512x96 kk hk (ix2 j d)) j = scoreA q kk r j := by
  unfold scoreA
  rw [funext fun d => cast_11ab q hq r d, funext fun j => funext fun d => cast_11ab kk hk j d]

theorem dpA_eq (g : Vec Ideal S1x512x64 .f32) (v : Vec Ideal S1x1x512x64 .bf16) (hg : S1x512x64.ShapeCasts S512x64) (hv : S1x1x512x64.ShapeCasts S512x64) (r : Fin 512) (j : Fin 512) :
    dp (fun d => shapeCast S512x64 g hg (ix2 r d)) (fun j d => shapeCast S512x64 v hv (ix2 j d)) j = dpA g v r j := by
  unfold dpA
  rw [funext fun d => shapeCast_1ab_ab_apply g hg r d, funext fun j => funext fun d => cast_11ab v hv j d]

/-! ### Head 0 -/

theorem wgt0A (q : Vec Ideal S1x1x512x96 .bf16) (kk : Vec Ideal S1x1x512x96 .bf16) (r : Fin 512) (j : Fin 512) :
    (k0_pay22 q kk : FVec Ideal S512x512 .f32) (ix2 r j) = wgt (scoreA q kk r) j := by
  unfold k0_pay22 k0_pay19 k0_pay20
  exact wgt_entry _ (scoreA q kk r) r
    (fun j => (score_entry 0 (by norm_num) (by norm_num) _ _ _ _ _ _ (IdealRules.named_const.ideal_named_scalar κ "neg" _ ⊥ rfl) r j).trans
      (scoreA_eq q kk _ _ r j)) _ _ _ _ _ j

theorem inv0A (q : Vec Ideal S1x1x512x96 .bf16) (kk : Vec Ideal S1x1x512x96 .bf16) (r : Fin 512) :
    (k0_pay23 q kk : FVec Ideal S512x1 .f32) (ix2 r (0 : Fin 1)) = inv (scoreA q kk r) := by
  unfold k0_pay23
  exact inv_entry _ (scoreA q kk r) r (wgt0A q kk r) _ _ _ _

theorem ds0A (q : Vec Ideal S1x1x512x96 .bf16) (kk : Vec Ideal S1x1x512x96 .bf16) (v : Vec Ideal S1x1x512x64 .bf16) (g : Vec Ideal S1x512x64 .f32) (r : Fin 512) (j : Fin 512) :
    (k0_pay29 (k0_pay21 v) (k0_pay22 q kk) (k0_pay23 q kk) (k0_pay24 g) : FVec Ideal S512x512 .bf16) (ix2 r j)
      = dsc cS (scoreA q kk r) (dpA g v r) j := by
  unfold k0_pay29 k0_pay21 k0_pay24
  exact ds_entry _ _ _ (scoreA q kk r) (dpA g v r) r (wgt0A q kk r) (inv0A q kk r)
    (fun j => (dp_entry _ _ _ _ r j).trans (dpA_eq g v _ _ r j)) _ _ _ _ _ _ j

theorem dq0A_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq0A x0 x1 x2 x3 (ix4 (0 : Fin 1) (0 : Fin 1) r d)
      = ∑ j, dsc cS (scoreA (winQ0 x0) (winK0A x1) r) (dpA (winG0 x3) (winV0A x2) r) j * winK0A x1 (ix4 (0 : Fin 1) (0 : Fin 1) j d) := by
  unfold dq0A k0_pay30
  refine (dq_entry _ _ _ _ _ r (ds0A (winQ0 x0) (winK0A x1) (winV0A x2) (winG0 x3) r) d).trans ?_
  exact Finset.sum_congr rfl fun j _ => congrArg (dsc cS (scoreA (winQ0 x0) (winK0A x1) r) (dpA (winG0 x3) (winV0A x2) r) j * ·)
    (cast_11ab (winK0A x1) _ j d)

theorem dk0A_apply (x0 : Vec Ideal S1x2x512x96 .bf16) (x1 : Vec Ideal S1x2x2048x96 .bf16) (x2 : Vec Ideal S1x2x2048x64 .bf16) (x3 : Vec Ideal S1x512x128 .f32)
    (y : Vec Ideal S1x1x512x96 .f32) (j : Fin 512) (d : Fin 96) :
    dk0A x0 x1 x2 x3 y (ix4 (0 : Fin 1) (0 : Fin 1) j d)
      = y (ix4 (0 : Fin 1) (0 : Fin 1) j d)
        + ∑ r : Fin 512, dsc cS (scoreA (winQ0 x0) (winK0A x1) r) (dpA (winG0 x3) (winV0A x2) r) j * winQ0 x0 (ix4 (0 : Fin 1) (0 : Fin 1) r d) := by
  unfold dk0A k0_pay31
  refine (acc_entry _ _ _ _ _ j d _ _ (fun r => ds0A (winQ0 x0) (winK0A x1) (winV0A x2) (winG0 x3) r j) (fun r => cast_11ab (winQ0 x0) _ r d)).trans ?_
  exact congrArg (· + _) (cast_11ab y _ j d)

theorem dv0A_apply (x0 : Vec Ideal S1x2x512x96 .bf16) (x1 : Vec Ideal S1x2x2048x96 .bf16) (x3 : Vec Ideal S1x512x128 .f32)
    (y : Vec Ideal S1x1x512x64 .f32) (j : Fin 512) (d : Fin 64) :
    dv0A x0 x1 x3 y (ix4 (0 : Fin 1) (0 : Fin 1) j d)
      = y (ix4 (0 : Fin 1) (0 : Fin 1) j d)
        + ∑ r : Fin 512, wgt (scoreA (winQ0 x0) (winK0A x1) r) j * (winG0 x3 (ix3 (0 : Fin 1) r d) * inv (scoreA (winQ0 x0) (winK0A x1) r)) := by
  unfold dv0A k0_pay28 k0_pay25 k0_pay26 k0_pay27 k0_pay24
  refine (acc_entry _ _ _ _ _ j d _ _ (fun r => wgt0A (winQ0 x0) (winK0A x1) r j)
    (fun r => (mulf_apply _ _ _).trans (congrArg₂ (· * ·) (shapeCast_1ab_ab_apply (winG0 x3) _ r d)
      ((bcast_col _ _ r d).trans (inv0A (winQ0 x0) (winK0A x1) r))))).trans ?_
  exact congrArg (· + _) (cast_11ab y _ j d)

/-! ### Head 1 -/

theorem wgt1A (q : Vec Ideal S1x1x512x96 .bf16) (kk : Vec Ideal S1x1x512x96 .bf16) (r : Fin 512) (j : Fin 512) :
    (k0_pay35 (k0_pay32 q) kk : FVec Ideal S512x512 .f32) (ix2 r j) = wgt (scoreA q kk r) j := by
  unfold k0_pay35 k0_pay32 k0_pay33
  exact wgt_entry _ (scoreA q kk r) r
    (fun j => (score_entry 0 (by norm_num) (by norm_num) _ _ _ _ _ _ (IdealRules.named_const.ideal_named_scalar κ "neg" _ ⊥ rfl) r j).trans
      (scoreA_eq q kk _ _ r j)) _ _ _ _ _ j

theorem inv1A (q : Vec Ideal S1x1x512x96 .bf16) (kk : Vec Ideal S1x1x512x96 .bf16) (r : Fin 512) :
    (k0_pay36 (k0_pay32 q) kk : FVec Ideal S512x1 .f32) (ix2 r (0 : Fin 1)) = inv (scoreA q kk r) := by
  unfold k0_pay36
  exact inv_entry _ (scoreA q kk r) r (wgt1A q kk r) _ _ _ _

theorem ds1A (q : Vec Ideal S1x1x512x96 .bf16) (kk : Vec Ideal S1x1x512x96 .bf16) (v : Vec Ideal S1x1x512x64 .bf16) (g : Vec Ideal S1x512x64 .f32) (r : Fin 512) (j : Fin 512) :
    (k0_pay4 (k0_pay34 v) (k0_pay35 (k0_pay32 q) kk) (k0_pay36 (k0_pay32 q) kk) (k0_pay37 g) : FVec Ideal S512x512 .bf16) (ix2 r j)
      = dsc cS (scoreA q kk r) (dpA g v r) j := by
  unfold k0_pay4 k0_pay34 k0_pay37
  exact ds_entry _ _ _ (scoreA q kk r) (dpA g v r) r (wgt1A q kk r) (inv1A q kk r)
    (fun j => (dp_entry _ _ _ _ r j).trans (dpA_eq g v _ _ r j)) _ _ _ _ _ _ j

theorem dq1A_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq1A x0 x1 x2 x3 (ix4 (0 : Fin 1) (0 : Fin 1) r d)
      = ∑ j, dsc cS (scoreA (winQ1 x0) (winK1A x1) r) (dpA (winG1 x3) (winV1A x2) r) j * winK1A x1 (ix4 (0 : Fin 1) (0 : Fin 1) j d) := by
  unfold dq1A k0_pay5
  refine (dq_entry _ _ _ _ _ r (ds1A (winQ1 x0) (winK1A x1) (winV1A x2) (winG1 x3) r) d).trans ?_
  exact Finset.sum_congr rfl fun j _ => congrArg (dsc cS (scoreA (winQ1 x0) (winK1A x1) r) (dpA (winG1 x3) (winV1A x2) r) j * ·)
    (cast_11ab (winK1A x1) _ j d)

theorem dk1A_apply (x0 : Vec Ideal S1x2x512x96 .bf16) (x1 : Vec Ideal S1x2x2048x96 .bf16) (x2 : Vec Ideal S1x2x2048x64 .bf16) (x3 : Vec Ideal S1x512x128 .f32)
    (y : Vec Ideal S1x1x512x96 .f32) (j : Fin 512) (d : Fin 96) :
    dk1A x0 x1 x2 x3 y (ix4 (0 : Fin 1) (0 : Fin 1) j d)
      = y (ix4 (0 : Fin 1) (0 : Fin 1) j d)
        + ∑ r : Fin 512, dsc cS (scoreA (winQ1 x0) (winK1A x1) r) (dpA (winG1 x3) (winV1A x2) r) j * winQ1 x0 (ix4 (0 : Fin 1) (0 : Fin 1) r d) := by
  unfold dk1A k0_pay6
  refine (acc_entry _ _ _ _ _ j d _ _ (fun r => ds1A (winQ1 x0) (winK1A x1) (winV1A x2) (winG1 x3) r j) (fun r => cast_11ab (winQ1 x0) _ r d)).trans ?_
  exact congrArg (· + _) (cast_11ab y _ j d)

theorem dv1A_apply (x0 : Vec Ideal S1x2x512x96 .bf16) (x1 : Vec Ideal S1x2x2048x96 .bf16) (x3 : Vec Ideal S1x512x128 .f32)
    (y : Vec Ideal S1x1x512x64 .f32) (j : Fin 512) (d : Fin 64) :
    dv1A x0 x1 x3 y (ix4 (0 : Fin 1) (0 : Fin 1) j d)
      = y (ix4 (0 : Fin 1) (0 : Fin 1) j d)
        + ∑ r : Fin 512, wgt (scoreA (winQ1 x0) (winK1A x1) r) j * (winG1 x3 (ix3 (0 : Fin 1) r d) * inv (scoreA (winQ1 x0) (winK1A x1) r)) := by
  unfold dv1A k0_pay3 k0_pay38 k0_pay37
  refine (acc_entry _ _ _ _ _ j d _ _ (fun r => wgt1A (winQ1 x0) (winK1A x1) r j)
    (fun r => (mulf_apply _ _ _).trans (congrArg₂ (· * ·) (shapeCast_1ab_ab_apply (winG1 x3) _ r d)
      ((bcast_col _ _ r d).trans (inv1A (winQ1 x0) (winK1A x1) r))))).trans ?_
  exact congrArg (· + _) (cast_11ab y _ j d)

end Cert.KernelIdeal.Gen
-- ==== Proof.Heads.lean ====
/- Reading a window of one head's first rows, and an array after one such window is put for each of its two heads. -/
module

public import proofs.«01_k».proof.Proof.Rows
public import Idealize.ShloMosaic.Lib.VecWindow

@[expose] public section

noncomputable section

namespace Cert.Heads

open Idealize.ShloMosaic Idealize.ShloMosaic.ValueIdx

variable {α : Type} {N n D : ℕ}

/-- The window of head `e`'s first `n` rows. -/
theorem window_head (x : (⟨4, ![1, 2, N, D]⟩ : Shape).Idx → α) (o : ℕ) (inb : ∀ a : Fin 4, (![0, o, 0, 0] : Fin 4 → ℕ) a + (![1, 1, n, D] : Fin 4 → ℕ) a ≤ (![1, 2, N, D] : Fin 4 → ℕ) a)
    (e : Fin 2) (he : e.val = o) (hn : n ≤ N) (j : Fin n) (d : Fin D) :
    VecWindow.window (s := ⟨4, ![1, 2, N, D]⟩) x ![0, o, 0, 0] ![1, 1, n, D] inb (ix4 (0 : Fin 1) (0 : Fin 1) j d) = x (ix4 (0 : Fin 1) e (Fin.castLE hn j) d) := by
  refine congrArg x (funext fun a => Fin.ext ?_)
  subst he
  match a with
  | ⟨0, _⟩ => rfl
  | ⟨1, _⟩ => show e.val + 1 * 0 = e.val; omega
  | ⟨2, _⟩ => show 0 + 1 * j.val = j.val; omega
  | ⟨3, _⟩ => show 0 + 1 * d.val = d.val; omega

/-- The window of one head's columns of a block whose heads lie side by side. -/
theorem window_cols {R C : ℕ} (x : (⟨3, ![1, R, C]⟩ : Shape).Idx → α) (o : ℕ) (inb : ∀ a : Fin 3, (![0, 0, o] : Fin 3 → ℕ) a + (![1, R, D] : Fin 3 → ℕ) a ≤ (![1, R, C] : Fin 3 → ℕ) a)
    (r : Fin R) (d : Fin D) (c : Fin C) (hc : c.val = o + d.val) :
    VecWindow.window (s := ⟨3, ![1, R, C]⟩) x ![0, 0, o] ![1, R, D] inb (ix3 (0 : Fin 1) r d) = x (ix3 (0 : Fin 1) r c) := by
  refine congrArg x (funext fun a => Fin.ext ?_)
  match a with
  | ⟨0, _⟩ => rfl
  | ⟨1, _⟩ => show 0 + 1 * r.val = r.val; omega
  | ⟨2, _⟩ => show o + 1 * d.val = c.val; omega

theorem put_hit (x : (⟨4, ![1, 2, N, D]⟩ : Shape).Idx → α) (o : ℕ) (w : (⟨4, ![1, 1, n, D]⟩ : Shape).Idx → α)
    (e : Fin 2) (j : Fin N) (d : Fin D) (he : e.val = o) (hj : j.val < n) :
    VecWindow.put (s := ⟨4, ![1, 2, N, D]⟩) x ![0, o, 0, 0] ![1, 1, n, D] w (ix4 (0 : Fin 1) e j d) = w (ix4 (0 : Fin 1) (0 : Fin 1) ⟨j.val, hj⟩ d) := by
  subst he
  have h : ∀ a : Fin 4, (![0, e.val, 0, 0] : Fin 4 → ℕ) a ≤ ((ix4 (0 : Fin 1) e j d : (⟨4, ![1, 2, N, D]⟩ : Shape).Idx) a).val
      ∧ ((ix4 (0 : Fin 1) e j d : (⟨4, ![1, 2, N, D]⟩ : Shape).Idx) a).val < (![0, e.val, 0, 0] : Fin 4 → ℕ) a + (![1, 1, n, D] : Fin 4 → ℕ) a := fun a =>
    match a with
    | ⟨0, _⟩ => by show 0 ≤ 0 ∧ 0 < 0 + 1; omega
    | ⟨1, _⟩ => by show e.val ≤ e.val ∧ e.val < e.val + 1; omega
    | ⟨2, _⟩ => by show 0 ≤ j.val ∧ j.val < 0 + n; omega
    | ⟨3, _⟩ => by show 0 ≤ d.val ∧ d.val < 0 + D; omega
  unfold VecWindow.put
  refine (dif_pos h).trans (congrArg w (funext fun a => Fin.ext ?_))
  match a with
  | ⟨0, _⟩ => rfl
  | ⟨1, _⟩ => show e.val - e.val = 0; omega
  | ⟨2, _⟩ => rfl
  | ⟨3, _⟩ => rfl

theorem put_miss (x : (⟨4, ![1, 2, N, D]⟩ : Shape).Idx → α) (o : ℕ) (w : (⟨4, ![1, 1, n, D]⟩ : Shape).Idx → α)
    (e : Fin 2) (j : Fin N) (d : Fin D) (h : e.val ≠ o ∨ n ≤ j.val) :
    VecWindow.put (s := ⟨4, ![1, 2, N, D]⟩) x ![0, o, 0, 0] ![1, 1, n, D] w (ix4 (0 : Fin 1) e j d) = x (ix4 (0 : Fin 1) e j d) := by
  unfold VecWindow.put
  refine dif_neg fun hall => ?_
  have h1 : o ≤ e.val ∧ e.val < o + 1 := hall (1 : Fin 4)
  have h2 : 0 ≤ j.val ∧ j.val < 0 + n := hall (2 : Fin 4)
  omega

/-- The two heads' windows put, entry by entry. -/
theorem put_two (x : (⟨4, ![1, 2, N, D]⟩ : Shape).Idx → α) (w0 w1 : (⟨4, ![1, 1, n, D]⟩ : Shape).Idx → α) (hn : n ≤ N) (f : Fin 2 → Fin N → Fin D → α)
    (h0 : ∀ j d, w0 (ix4 (0 : Fin 1) (0 : Fin 1) j d) = f 0 (Fin.castLE hn j) d) (h1 : ∀ j d, w1 (ix4 (0 : Fin 1) (0 : Fin 1) j d) = f 1 (Fin.castLE hn j) d)
    (hx : ∀ (e : Fin 2) (j : Fin N) (d : Fin D), n ≤ j.val → x (ix4 (0 : Fin 1) e j d) = f e j d) (e : Fin 2) (j : Fin N) (d : Fin D) :
    VecWindow.put (s := ⟨4, ![1, 2, N, D]⟩) (VecWindow.put (s := ⟨4, ![1, 2, N, D]⟩) x ![0, 0, 0, 0] ![1, 1, n, D] w0) ![0, 1, 0, 0] ![1, 1, n, D] w1
      (ix4 (0 : Fin 1) e j d) = f e j d := by
  by_cases hj : j.val < n
  · match e with
    | ⟨0, _⟩ => rw [put_miss _ 1 _ _ _ _ (Or.inl (by show (0 : ℕ) ≠ 1; omega)), put_hit _ 0 _ _ _ _ rfl hj]; exact h0 _ _
    | ⟨1, _⟩ => rw [put_hit _ 1 _ _ _ _ rfl hj]; exact h1 _ _
  · rw [put_miss _ 1 _ _ _ _ (Or.inr (by omega)), put_miss _ 0 _ _ _ _ (Or.inr (by omega))]
    exact hx e j d (by omega)

end Cert.Heads
-- ==== Proof.PointA.lean ====
/- One point of the attention gradient's grid against the heads' whole arrays, 512 columns read. -/
module

public import proofs.«01_k».proof.Proof.EntryA
public import proofs.«01_k».proof.Proof.Heads

@[expose] public section

set_option maxRecDepth 16384

noncomputable section

namespace Cert.KernelIdeal.Gen

open Idealize.ShloMosaic Idealize.ShloMosaic.ValueIdx Cert.Reads Cert.Attn Cert.Rows Cert.Heads

variable (x0 : Vec Ideal S1x2x512x96 .bf16) (x1 : Vec Ideal S1x2x2048x96 .bf16) (x2 : Vec Ideal S1x2x2048x64 .bf16) (x3 : Vec Ideal S1x512x128 .f32)
variable (Q K : Fin 2 → Fin 2048 → Fin 96 → EReal) (W G : Fin 2 → Fin 2048 → Fin 64 → EReal)

private theorem leA : 512 ≤ 2048 := by norm_num

theorem readQ0A (hQ : ∀ e r d, x0 (ix4 (0 : Fin 1) e r d) = Q e (rowAt 0 r) d) (r : Fin 512) (d : Fin 96) : winQ0 x0 (ix4 (0 : Fin 1) (0 : Fin 1) r d) = Q 0 (rowAt 0 r) d :=
  (window_head x0 0 _ 0 rfl le_rfl r d).trans (hQ 0 r d)
theorem readK0A (hK : ∀ e j d, x1 (ix4 (0 : Fin 1) e j d) = K e j d) (j : Fin 512) (d : Fin 96) : winK0A x1 (ix4 (0 : Fin 1) (0 : Fin 1) j d) = K 0 (Fin.castLE (by norm_num) j) d :=
  (window_head x1 0 _ 0 rfl (by norm_num) j d).trans (hK 0 _ d)
theorem readV0A (hV : ∀ e j d, x2 (ix4 (0 : Fin 1) e j d) = W e j d) (j : Fin 512) (d : Fin 64) : winV0A x2 (ix4 (0 : Fin 1) (0 : Fin 1) j d) = W 0 (Fin.castLE (by norm_num) j) d :=
  (window_head x2 0 _ 0 rfl (by norm_num) j d).trans (hV 0 _ d)
theorem readG0A (hG : ∀ (e : Fin 2) r (d : Fin 64) (c : Fin 128), c.val = 64 * e.val + d.val → x3 (ix3 (0 : Fin 1) r c) = G e (rowAt 0 r) d) (r : Fin 512) (d : Fin 64) : winG0 x3 (ix3 (0 : Fin 1) r d) = G 0 (rowAt 0 r) d :=
  (window_cols x3 0 _ r d ⟨0 + d.val, by omega⟩ rfl).trans (hG 0 r d _ rfl)

theorem scores0A (hQ : ∀ e r d, x0 (ix4 (0 : Fin 1) e r d) = Q e (rowAt 0 r) d) (hK : ∀ e j d, x1 (ix4 (0 : Fin 1) e j d) = K e j d) (r : Fin 512) :
    scoreA (winQ0 x0) (winK0A x1) r = scoreAt cS (rowAt 0 r).val (Q 0 (rowAt 0 r)) fun j : Fin 512 => K 0 (Fin.castLE (by norm_num) j) := by
  unfold scoreA
  rw [funext fun d => readQ0A x0 Q hQ r d, funext fun j => funext fun d => readK0A x1 K hK j d]
  exact congrArg (fun row => scoreAt cS row (Q 0 (rowAt 0 r)) fun j : Fin 512 => K 0 (Fin.castLE (by norm_num) j)) (by show 0 + r.val = 512 * 0 + r.val; omega)

theorem dps0A (hV : ∀ e j d, x2 (ix4 (0 : Fin 1) e j d) = W e j d) (hG : ∀ (e : Fin 2) r (d : Fin 64) (c : Fin 128), c.val = 64 * e.val + d.val → x3 (ix3 (0 : Fin 1) r c) = G e (rowAt 0 r) d) (r : Fin 512) :
    dpA (winG0 x3) (winV0A x2) r = dp (G 0 (rowAt 0 r)) fun j : Fin 512 => W 0 (Fin.castLE (by norm_num) j) := by
  unfold dpA
  rw [funext fun d => readG0A x3 G hG r d, funext fun j => funext fun d => readV0A x2 W hV j d]

theorem row_lt0A (r : Fin 512) : (rowAt 0 r).val < 512 := by show 512 * 0 + r.val < 512; omega

theorem dscs0A (hQ : ∀ e r d, x0 (ix4 (0 : Fin 1) e r d) = Q e (rowAt 0 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 0 r) d) (r : Fin 512) (j : Fin 512) :
    dsc cS (scoreA (winQ0 x0) (winK0A x1) r) (dpA (winG0 x3) (winV0A x2) r) j
      = dsc cS (scoreAt cS (rowAt 0 r).val (Q 0 (rowAt 0 r)) (K 0)) (dp (G 0 (rowAt 0 r)) (W 0)) (Fin.castLE (by norm_num) j) := by
  rw [scores0A x0 x1 Q K hQ hK r, dps0A x2 x3 W G hV hG r]
  exact dsc_first (by norm_num) cS (rowAt 0 r).val (row_lt0A r) (Q 0 (rowAt 0 r)) (K 0) (G 0 (rowAt 0 r)) (W 0) j

theorem readQ1A (hQ : ∀ e r d, x0 (ix4 (0 : Fin 1) e r d) = Q e (rowAt 0 r) d) (r : Fin 512) (d : Fin 96) : winQ1 x0 (ix4 (0 : Fin 1) (0 : Fin 1) r d) = Q 1 (rowAt 0 r) d :=
  (window_head x0 1 _ 1 rfl le_rfl r d).trans (hQ 1 r d)
theorem readK1A (hK : ∀ e j d, x1 (ix4 (0 : Fin 1) e j d) = K e j d) (j : Fin 512) (d : Fin 96) : winK1A x1 (ix4 (0 : Fin 1) (0 : Fin 1) j d) = K 1 (Fin.castLE (by norm_num) j) d :=
  (window_head x1 1 _ 1 rfl (by norm_num) j d).trans (hK 1 _ d)
theorem readV1A (hV : ∀ e j d, x2 (ix4 (0 : Fin 1) e j d) = W e j d) (j : Fin 512) (d : Fin 64) : winV1A x2 (ix4 (0 : Fin 1) (0 : Fin 1) j d) = W 1 (Fin.castLE (by norm_num) j) d :=
  (window_head x2 1 _ 1 rfl (by norm_num) j d).trans (hV 1 _ d)
theorem readG1A (hG : ∀ (e : Fin 2) r (d : Fin 64) (c : Fin 128), c.val = 64 * e.val + d.val → x3 (ix3 (0 : Fin 1) r c) = G e (rowAt 0 r) d) (r : Fin 512) (d : Fin 64) : winG1 x3 (ix3 (0 : Fin 1) r d) = G 1 (rowAt 0 r) d :=
  (window_cols x3 64 _ r d ⟨64 + d.val, by omega⟩ rfl).trans (hG 1 r d _ rfl)

theorem scores1A (hQ : ∀ e r d, x0 (ix4 (0 : Fin 1) e r d) = Q e (rowAt 0 r) d) (hK : ∀ e j d, x1 (ix4 (0 : Fin 1) e j d) = K e j d) (r : Fin 512) :
    scoreA (winQ1 x0) (winK1A x1) r = scoreAt cS (rowAt 0 r).val (Q 1 (rowAt 0 r)) fun j : Fin 512 => K 1 (Fin.castLE (by norm_num) j) := by
  unfold scoreA
  rw [funext fun d => readQ1A x0 Q hQ r d, funext fun j => funext fun d => readK1A x1 K hK j d]
  exact congrArg (fun row => scoreAt cS row (Q 1 (rowAt 0 r)) fun j : Fin 512 => K 1 (Fin.castLE (by norm_num) j)) (by show 0 + r.val = 512 * 0 + r.val; omega)

theorem dps1A (hV : ∀ e j d, x2 (ix4 (0 : Fin 1) e j d) = W e j d) (hG : ∀ (e : Fin 2) r (d : Fin 64) (c : Fin 128), c.val = 64 * e.val + d.val → x3 (ix3 (0 : Fin 1) r c) = G e (rowAt 0 r) d) (r : Fin 512) :
    dpA (winG1 x3) (winV1A x2) r = dp (G 1 (rowAt 0 r)) fun j : Fin 512 => W 1 (Fin.castLE (by norm_num) j) := by
  unfold dpA
  rw [funext fun d => readG1A x3 G hG r d, funext fun j => funext fun d => readV1A x2 W hV j d]

theorem row_lt1A (r : Fin 512) : (rowAt 0 r).val < 512 := by show 512 * 0 + r.val < 512; omega

theorem dscs1A (hQ : ∀ e r d, x0 (ix4 (0 : Fin 1) e r d) = Q e (rowAt 0 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 0 r) d) (r : Fin 512) (j : Fin 512) :
    dsc cS (scoreA (winQ1 x0) (winK1A x1) r) (dpA (winG1 x3) (winV1A x2) r) j
      = dsc cS (scoreAt cS (rowAt 0 r).val (Q 1 (rowAt 0 r)) (K 1)) (dp (G 1 (rowAt 0 r)) (W 1)) (Fin.castLE (by norm_num) j) := by
  rw [scores1A x0 x1 Q K hQ hK r, dps1A x2 x3 W G hV hG r]
  exact dsc_first (by norm_num) cS (rowAt 0 r).val (row_lt1A r) (Q 1 (rowAt 0 r)) (K 1) (G 1 (rowAt 0 r)) (W 1) j

/-- The query gradient's block after the point. -/
theorem dqStepA_apply (hQ : ∀ e r d, x0 (ix4 (0 : Fin 1) e r d) = Q e (rowAt 0 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 0 r) d) (e : Fin 2) (r : Fin 512) (d : Fin 96) :
    dqStepA x0 x1 x2 x3 (ix4 (0 : Fin 1) e r d) = gradQ cS (Q e) (K e) (W e) (G e) (rowAt 0 r) d := by
  unfold dqStepA
  refine put_two _ _ _ le_rfl (fun e r d => gradQ cS (Q e) (K e) (W e) (G e) (rowAt 0 r) d) (fun r d => ?_) (fun r d => ?_) (fun e r d h => absurd r.isLt (by omega)) e r d
  · refine (dq0A_apply x0 x1 x2 x3 r d).trans ?_
    refine (Finset.sum_congr rfl fun j _ => congrArg₂ (· * ·) (dscs0A x0 x1 x2 x3 Q K W G hQ hK hV hG r j) (readK0A x1 K hK j d)).trans ?_
    refine sum_first leA (fun j => dsc cS (scoreAt cS (rowAt 0 r).val (Q 0 (rowAt 0 r)) (K 0)) (dp (G 0 (rowAt 0 r)) (W 0)) j * K 0 j d) fun j hj => ?_
    have := row_lt0A r
    exact (congrArg (· * _) (dsc_of_wgt _ _ _ _ (wgt_past _ _ _ _ _ (by omega)))).trans (zero_mul _)
  · refine (dq1A_apply x0 x1 x2 x3 r d).trans ?_
    refine (Finset.sum_congr rfl fun j _ => congrArg₂ (· * ·) (dscs1A x0 x1 x2 x3 Q K W G hQ hK hV hG r j) (readK1A x1 K hK j d)).trans ?_
    refine sum_first leA (fun j => dsc cS (scoreAt cS (rowAt 0 r).val (Q 1 (rowAt 0 r)) (K 1)) (dp (G 1 (rowAt 0 r)) (W 1)) j * K 1 j d) fun j hj => ?_
    have := row_lt1A r
    exact (congrArg (· * _) (dsc_of_wgt _ _ _ _ (wgt_past _ _ _ _ _ (by omega)))).trans (zero_mul _)

/-- The key gradient's block after the point: each row of the block adds its part. -/
theorem dkStepA_apply (hQ : ∀ e r d, x0 (ix4 (0 : Fin 1) e r d) = Q e (rowAt 0 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 0 r) d) (y : Vec Ideal S1x2x2048x96 .f32) (e : Fin 2) (j : Fin 2048) (d : Fin 96) :
    dkStepA x0 x1 x2 x3 y (ix4 (0 : Fin 1) e j d) = y (ix4 (0 : Fin 1) e j d) + ∑ r, partK cS (Q e) (K e) (W e) (G e) (rowAt 0 r) j d := by
  unfold dkStepA
  refine put_two _ _ _ leA (fun e j d => y (ix4 (0 : Fin 1) e j d) + ∑ r, partK cS (Q e) (K e) (W e) (G e) (rowAt 0 r) j d) (fun j d => ?_) (fun j d => ?_) (fun e j d h => ?_) e j d
  · refine (dk0A_apply x0 x1 x2 x3 (winA0A y) j d).trans (congrArg₂ (· + ·) (window_head y 0 _ 0 rfl leA j d) ?_)
    exact Finset.sum_congr rfl fun r _ => congrArg₂ (· * ·) (dscs0A x0 x1 x2 x3 Q K W G hQ hK hV hG r j) (readQ0A x0 Q hQ r d)
  · refine (dk1A_apply x0 x1 x2 x3 (winA1A y) j d).trans (congrArg₂ (· + ·) (window_head y 1 _ 1 rfl leA j d) ?_)
    exact Finset.sum_congr rfl fun r _ => congrArg₂ (· * ·) (dscs1A x0 x1 x2 x3 Q K W G hQ hK hV hG r j) (readQ1A x0 Q hQ r d)
  · refine ((congrArg (y (ix4 (0 : Fin 1) e j d) + ·) (Finset.sum_eq_zero fun r _ => partK_past cS (Q e) (K e) (W e) (G e) (rowAt 0 r) j ?_ d)).trans (add_zero _)).symm
    have := row_lt0A r
    omega

/-- The value gradient's block after the point. -/
theorem dvStepA_apply (hQ : ∀ e r d, x0 (ix4 (0 : Fin 1) e r d) = Q e (rowAt 0 r) d) (hK : ∀ e j d, x1 (ix4 (0 : Fin 1) e j d) = K e j d) (hG : ∀ (e : Fin 2) r (d : Fin 64) (c : Fin 128), c.val = 64 * e.val + d.val → x3 (ix3 (0 : Fin 1) r c) = G e (rowAt 0 r) d) (y : Vec Ideal S1x2x2048x64 .f32) (e : Fin 2) (j : Fin 2048) (d : Fin 64) :
    dvStepA x0 x1 x3 y (ix4 (0 : Fin 1) e j d) = y (ix4 (0 : Fin 1) e j d) + ∑ r, partV cS (Q e) (K e) (G e) (rowAt 0 r) j d := by
  unfold dvStepA
  refine put_two _ _ _ leA (fun e j d => y (ix4 (0 : Fin 1) e j d) + ∑ r, partV cS (Q e) (K e) (G e) (rowAt 0 r) j d) (fun j d => ?_) (fun j d => ?_) (fun e j d h => ?_) e j d
  · refine (dv0A_apply x0 x1 x3 (winB0A y) j d).trans (congrArg₂ (· + ·) (window_head y 0 _ 0 rfl leA j d) ?_)
    refine Finset.sum_congr rfl fun r _ => ?_
    rw [scores0A x0 x1 Q K hQ hK r, readG0A x3 G hG r d]
    exact congrArg₂ (· * ·) (wgt_first leA cS (rowAt 0 r).val (row_lt0A r) (Q 0 (rowAt 0 r)) (K 0) j)
      (congrArg (G 0 (rowAt 0 r) d * ·) (inv_first leA cS (rowAt 0 r).val (row_lt0A r) (Q 0 (rowAt 0 r)) (K 0)))
  · refine (dv1A_apply x0 x1 x3 (winB1A y) j d).trans (congrArg₂ (· + ·) (window_head y 1 _ 1 rfl leA j d) ?_)
    refine Finset.sum_congr rfl fun r _ => ?_
    rw [scores1A x0 x1 Q K hQ hK r, readG1A x3 G hG r d]
    exact congrArg₂ (· * ·) (wgt_first leA cS (rowAt 0 r).val (row_lt1A r) (Q 1 (rowAt 0 r)) (K 1) j)
      (congrArg (G 1 (rowAt 0 r) d * ·) (inv_first leA cS (rowAt 0 r).val (row_lt1A r) (Q 1 (rowAt 0 r)) (K 1)))
  · refine ((congrArg (y (ix4 (0 : Fin 1) e j d) + ·) (Finset.sum_eq_zero fun r _ => partV_past cS (Q e) (K e) (G e) (rowAt 0 r) j ?_ d)).trans (add_zero _)).symm
    have := row_lt0A r
    omega

end Cert.KernelIdeal.Gen
-- ==== Proof.EntryB.lean ====
/- What a point of the attention gradient that reads the first 1024 columns computes, entry by entry, at the extended reals. -/
module

public import proofs.«01_k».proof.Proof.Step
public import proofs.«01_k».proof.Proof.Rows

@[expose] public section

set_option maxRecDepth 16384

noncomputable section

namespace Cert.KernelIdeal.Gen

open Idealize.ShloMosaic Idealize.ShloMosaic.ValueIdx Cert.Reads Cert.Attn Cert.Rows

/-- The masked scores of the point's row `r`, from the query's and the keys' windows. -/
def scoreB (q : Vec Ideal S1x1x512x96 .bf16) (kk : Vec Ideal S1x1x1024x96 .bf16) (r : Fin 512) : Fin 1024 → EReal :=
  scoreAt cS (512 + r.val) (fun d => q (ix4 (0 : Fin 1) (0 : Fin 1) r d)) fun j d => kk (ix4 (0 : Fin 1) (0 : Fin 1) j d)
/-- The row's incoming gradient against the values. -/
def dpB (g : Vec Ideal S1x512x64 .f32) (v : Vec Ideal S1x1x1024x64 .bf16) (r : Fin 512) : Fin 1024 → EReal :=
  dp (fun d => g (ix3 (0 : Fin 1) r d)) fun j d => v (ix4 (0 : Fin 1) (0 : Fin 1) j d)

theorem scoreB_eq (q : Vec Ideal S1x1x512x96 .bf16) (kk : Vec Ideal S1x1x1024x96 .bf16) (hq : S1x1x512x96.ShapeCasts S512x96) (hk : S1x1x1024x96.ShapeCasts S1024x96) (r : Fin 512) (j : Fin 1024) :
    scoreAt cS (512 + r.val) (fun d => shapeCast S512x96 q hq (ix2 r d)) (fun j d => shapeCast S1024x96 kk hk (ix2 j d)) j = scoreB q kk r j := by
  unfold scoreB
  rw [funext fun d => cast_11ab q hq r d, funext fun j => funext fun d => cast_11ab kk hk j d]

theorem dpB_eq (g : Vec Ideal S1x512x64 .f32) (v : Vec Ideal S1x1x1024x64 .bf16) (hg : S1x512x64.ShapeCasts S512x64) (hv : S1x1x1024x64.ShapeCasts S1024x64) (r : Fin 512) (j : Fin 1024) :
    dp (fun d => shapeCast S512x64 g hg (ix2 r d)) (fun j d => shapeCast S1024x64 v hv (ix2 j d)) j = dpB g v r j := by
  unfold dpB
  rw [funext fun d => shapeCast_1ab_ab_apply g hg r d, funext fun j => funext fun d => cast_11ab v hv j d]

/-! ### Head 0 -/

theorem wgt0B (q : Vec Ideal S1x1x512x96 .bf16) (kk : Vec Ideal S1x1x1024x96 .bf16) (r : Fin 512) (j : Fin 1024) :
    (k0_pay42 q kk : FVec Ideal S512x1024 .f32) (ix2 r j) = wgt (scoreB q kk r) j := by
  unfold k0_pay42 k0_pay39 k0_pay40
  exact wgt_entry _ (scoreB q kk r) r
    (fun j => (score_entry 512 (by norm_num) (by norm_num) _ _ _ _ _ _ (IdealRules.named_const.ideal_named_scalar κ "neg" _ ⊥ rfl) r j).trans
      (scoreB_eq q kk _ _ r j)) _ _ _ _ _ j

theorem inv0B (q : Vec Ideal S1x1x512x96 .bf16) (kk : Vec Ideal S1x1x1024x96 .bf16) (r : Fin 512) :
    (k0_pay43 q kk : FVec Ideal S512x1 .f32) (ix2 r (0 : Fin 1)) = inv (scoreB q kk r) := by
  unfold k0_pay43
  exact inv_entry _ (scoreB q kk r) r (wgt0B q kk r) _ _ _ _

theorem ds0B (q : Vec Ideal S1x1x512x96 .bf16) (kk : Vec Ideal S1x1x1024x96 .bf16) (v : Vec Ideal S1x1x1024x64 .bf16) (g : Vec Ideal S1x512x64 .f32) (r : Fin 512) (j : Fin 1024) :
    (k0_pay49 (k0_pay41 v) (k0_pay42 q kk) (k0_pay43 q kk) (k0_pay44 g) : FVec Ideal S512x1024 .bf16) (ix2 r j)
      = dsc cS (scoreB q kk r) (dpB g v r) j := by
  unfold k0_pay49 k0_pay41 k0_pay44
  exact ds_entry _ _ _ (scoreB q kk r) (dpB g v r) r (wgt0B q kk r) (inv0B q kk r)
    (fun j => (dp_entry _ _ _ _ r j).trans (dpB_eq g v _ _ r j)) _ _ _ _ _ _ j

theorem dq0B_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq0B x0 x1 x2 x3 (ix4 (0 : Fin 1) (0 : Fin 1) r d)
      = ∑ j, dsc cS (scoreB (winQ0 x0) (winK0B x1) r) (dpB (winG0 x3) (winV0B x2) r) j * winK0B x1 (ix4 (0 : Fin 1) (0 : Fin 1) j d) := by
  unfold dq0B k0_pay50
  refine (dq_entry _ _ _ _ _ r (ds0B (winQ0 x0) (winK0B x1) (winV0B x2) (winG0 x3) r) d).trans ?_
  exact Finset.sum_congr rfl fun j _ => congrArg (dsc cS (scoreB (winQ0 x0) (winK0B x1) r) (dpB (winG0 x3) (winV0B x2) r) j * ·)
    (cast_11ab (winK0B x1) _ j d)

theorem dk0B_apply (x0 : Vec Ideal S1x2x512x96 .bf16) (x1 : Vec Ideal S1x2x2048x96 .bf16) (x2 : Vec Ideal S1x2x2048x64 .bf16) (x3 : Vec Ideal S1x512x128 .f32)
    (y : Vec Ideal S1x1x1024x96 .f32) (j : Fin 1024) (d : Fin 96) :
    dk0B x0 x1 x2 x3 y (ix4 (0 : Fin 1) (0 : Fin 1) j d)
      = y (ix4 (0 : Fin 1) (0 : Fin 1) j d)
        + ∑ r : Fin 512, dsc cS (scoreB (winQ0 x0) (winK0B x1) r) (dpB (winG0 x3) (winV0B x2) r) j * winQ0 x0 (ix4 (0 : Fin 1) (0 : Fin 1) r d) := by
  unfold dk0B k0_pay51
  refine (acc_entry _ _ _ _ _ j d _ _ (fun r => ds0B (winQ0 x0) (winK0B x1) (winV0B x2) (winG0 x3) r j) (fun r => cast_11ab (winQ0 x0) _ r d)).trans ?_
  exact congrArg (· + _) (cast_11ab y _ j d)

theorem dv0B_apply (x0 : Vec Ideal S1x2x512x96 .bf16) (x1 : Vec Ideal S1x2x2048x96 .bf16) (x3 : Vec Ideal S1x512x128 .f32)
    (y : Vec Ideal S1x1x1024x64 .f32) (j : Fin 1024) (d : Fin 64) :
    dv0B x0 x1 x3 y (ix4 (0 : Fin 1) (0 : Fin 1) j d)
      = y (ix4 (0 : Fin 1) (0 : Fin 1) j d)
        + ∑ r : Fin 512, wgt (scoreB (winQ0 x0) (winK0B x1) r) j * (winG0 x3 (ix3 (0 : Fin 1) r d) * inv (scoreB (winQ0 x0) (winK0B x1) r)) := by
  unfold dv0B k0_pay48 k0_pay45 k0_pay46 k0_pay47 k0_pay44
  refine (acc_entry _ _ _ _ _ j d _ _ (fun r => wgt0B (winQ0 x0) (winK0B x1) r j)
    (fun r => (mulf_apply _ _ _).trans (congrArg₂ (· * ·) (shapeCast_1ab_ab_apply (winG0 x3) _ r d)
      ((bcast_col _ _ r d).trans (inv0B (winQ0 x0) (winK0B x1) r))))).trans ?_
  exact congrArg (· + _) (cast_11ab y _ j d)

/-! ### Head 1 -/

theorem wgt1B (q : Vec Ideal S1x1x512x96 .bf16) (kk : Vec Ideal S1x1x1024x96 .bf16) (r : Fin 512) (j : Fin 1024) :
    (k0_pay55 (k0_pay52 q) kk : FVec Ideal S512x1024 .f32) (ix2 r j) = wgt (scoreB q kk r) j := by
  unfold k0_pay55 k0_pay52 k0_pay53
  exact wgt_entry _ (scoreB q kk r) r
    (fun j => (score_entry 512 (by norm_num) (by norm_num) _ _ _ _ _ _ (IdealRules.named_const.ideal_named_scalar κ "neg" _ ⊥ rfl) r j).trans
      (scoreB_eq q kk _ _ r j)) _ _ _ _ _ j

theorem inv1B (q : Vec Ideal S1x1x512x96 .bf16) (kk : Vec Ideal S1x1x1024x96 .bf16) (r : Fin 512) :
    (k0_pay56 (k0_pay52 q) kk : FVec Ideal S512x1 .f32) (ix2 r (0 : Fin 1)) = inv (scoreB q kk r) := by
  unfold k0_pay56
  exact inv_entry _ (scoreB q kk r) r (wgt1B q kk r) _ _ _ _

theorem ds1B (q : Vec Ideal S1x1x512x96 .bf16) (kk : Vec Ideal S1x1x1024x96 .bf16) (v : Vec Ideal S1x1x1024x64 .bf16) (g : Vec Ideal S1x512x64 .f32) (r : Fin 512) (j : Fin 1024) :
    (k0_pay8 (k0_pay54 v) (k0_pay55 (k0_pay52 q) kk) (k0_pay56 (k0_pay52 q) kk) (k0_pay57 g) : FVec Ideal S512x1024 .bf16) (ix2 r j)
      = dsc cS (scoreB q kk r) (dpB g v r) j := by
  unfold k0_pay8 k0_pay54 k0_pay57
  exact ds_entry _ _ _ (scoreB q kk r) (dpB g v r) r (wgt1B q kk r) (inv1B q kk r)
    (fun j => (dp_entry _ _ _ _ r j).trans (dpB_eq g v _ _ r j)) _ _ _ _ _ _ j

theorem dq1B_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq1B x0 x1 x2 x3 (ix4 (0 : Fin 1) (0 : Fin 1) r d)
      = ∑ j, dsc cS (scoreB (winQ1 x0) (winK1B x1) r) (dpB (winG1 x3) (winV1B x2) r) j * winK1B x1 (ix4 (0 : Fin 1) (0 : Fin 1) j d) := by
  unfold dq1B k0_pay9
  refine (dq_entry _ _ _ _ _ r (ds1B (winQ1 x0) (winK1B x1) (winV1B x2) (winG1 x3) r) d).trans ?_
  exact Finset.sum_congr rfl fun j _ => congrArg (dsc cS (scoreB (winQ1 x0) (winK1B x1) r) (dpB (winG1 x3) (winV1B x2) r) j * ·)
    (cast_11ab (winK1B x1) _ j d)

theorem dk1B_apply (x0 : Vec Ideal S1x2x512x96 .bf16) (x1 : Vec Ideal S1x2x2048x96 .bf16) (x2 : Vec Ideal S1x2x2048x64 .bf16) (x3 : Vec Ideal S1x512x128 .f32)
    (y : Vec Ideal S1x1x1024x96 .f32) (j : Fin 1024) (d : Fin 96) :
    dk1B x0 x1 x2 x3 y (ix4 (0 : Fin 1) (0 : Fin 1) j d)
      = y (ix4 (0 : Fin 1) (0 : Fin 1) j d)
        + ∑ r : Fin 512, dsc cS (scoreB (winQ1 x0) (winK1B x1) r) (dpB (winG1 x3) (winV1B x2) r) j * winQ1 x0 (ix4 (0 : Fin 1) (0 : Fin 1) r d) := by
  unfold dk1B k0_pay10
  refine (acc_entry _ _ _ _ _ j d _ _ (fun r => ds1B (winQ1 x0) (winK1B x1) (winV1B x2) (winG1 x3) r j) (fun r => cast_11ab (winQ1 x0) _ r d)).trans ?_
  exact congrArg (· + _) (cast_11ab y _ j d)

theorem dv1B_apply (x0 : Vec Ideal S1x2x512x96 .bf16) (x1 : Vec Ideal S1x2x2048x96 .bf16) (x3 : Vec Ideal S1x512x128 .f32)
    (y : Vec Ideal S1x1x1024x64 .f32) (j : Fin 1024) (d : Fin 64) :
    dv1B x0 x1 x3 y (ix4 (0 : Fin 1) (0 : Fin 1) j d)
      = y (ix4 (0 : Fin 1) (0 : Fin 1) j d)
        + ∑ r : Fin 512, wgt (scoreB (winQ1 x0) (winK1B x1) r) j * (winG1 x3 (ix3 (0 : Fin 1) r d) * inv (scoreB (winQ1 x0) (winK1B x1) r)) := by
  unfold dv1B k0_pay7 k0_pay58 k0_pay57
  refine (acc_entry _ _ _ _ _ j d _ _ (fun r => wgt1B (winQ1 x0) (winK1B x1) r j)
    (fun r => (mulf_apply _ _ _).trans (congrArg₂ (· * ·) (shapeCast_1ab_ab_apply (winG1 x3) _ r d)
      ((bcast_col _ _ r d).trans (inv1B (winQ1 x0) (winK1B x1) r))))).trans ?_
  exact congrArg (· + _) (cast_11ab y _ j d)

end Cert.KernelIdeal.Gen
-- ==== Proof.PointB.lean ====
/- One point of the attention gradient's grid against the heads' whole arrays, 1024 columns read. -/
module

public import proofs.«01_k».proof.Proof.EntryB
public import proofs.«01_k».proof.Proof.Heads

@[expose] public section

set_option maxRecDepth 16384

noncomputable section

namespace Cert.KernelIdeal.Gen

open Idealize.ShloMosaic Idealize.ShloMosaic.ValueIdx Cert.Reads Cert.Attn Cert.Rows Cert.Heads

variable (x0 : Vec Ideal S1x2x512x96 .bf16) (x1 : Vec Ideal S1x2x2048x96 .bf16) (x2 : Vec Ideal S1x2x2048x64 .bf16) (x3 : Vec Ideal S1x512x128 .f32)
variable (Q K : Fin 2 → Fin 2048 → Fin 96 → EReal) (W G : Fin 2 → Fin 2048 → Fin 64 → EReal)

private theorem leB : 1024 ≤ 2048 := by norm_num

theorem readQ0B (hQ : ∀ e r d, x0 (ix4 (0 : Fin 1) e r d) = Q e (rowAt 1 r) d) (r : Fin 512) (d : Fin 96) : winQ0 x0 (ix4 (0 : Fin 1) (0 : Fin 1) r d) = Q 0 (rowAt 1 r) d :=
  (window_head x0 0 _ 0 rfl le_rfl r d).trans (hQ 0 r d)
theorem readK0B (hK : ∀ e j d, x1 (ix4 (0 : Fin 1) e j d) = K e j d) (j : Fin 1024) (d : Fin 96) : winK0B x1 (ix4 (0 : Fin 1) (0 : Fin 1) j d) = K 0 (Fin.castLE (by norm_num) j) d :=
  (window_head x1 0 _ 0 rfl (by norm_num) j d).trans (hK 0 _ d)
theorem readV0B (hV : ∀ e j d, x2 (ix4 (0 : Fin 1) e j d) = W e j d) (j : Fin 1024) (d : Fin 64) : winV0B x2 (ix4 (0 : Fin 1) (0 : Fin 1) j d) = W 0 (Fin.castLE (by norm_num) j) d :=
  (window_head x2 0 _ 0 rfl (by norm_num) j d).trans (hV 0 _ d)
theorem readG0B (hG : ∀ (e : Fin 2) r (d : Fin 64) (c : Fin 128), c.val = 64 * e.val + d.val → x3 (ix3 (0 : Fin 1) r c) = G e (rowAt 1 r) d) (r : Fin 512) (d : Fin 64) : winG0 x3 (ix3 (0 : Fin 1) r d) = G 0 (rowAt 1 r) d :=
  (window_cols x3 0 _ r d ⟨0 + d.val, by omega⟩ rfl).trans (hG 0 r d _ rfl)

theorem scores0B (hQ : ∀ e r d, x0 (ix4 (0 : Fin 1) e r d) = Q e (rowAt 1 r) d) (hK : ∀ e j d, x1 (ix4 (0 : Fin 1) e j d) = K e j d) (r : Fin 512) :
    scoreB (winQ0 x0) (winK0B x1) r = scoreAt cS (rowAt 1 r).val (Q 0 (rowAt 1 r)) fun j : Fin 1024 => K 0 (Fin.castLE (by norm_num) j) := by
  unfold scoreB
  rw [funext fun d => readQ0B x0 Q hQ r d, funext fun j => funext fun d => readK0B x1 K hK j d]
  exact congrArg (fun row => scoreAt cS row (Q 0 (rowAt 1 r)) fun j : Fin 1024 => K 0 (Fin.castLE (by norm_num) j)) (by show 512 + r.val = 512 * 1 + r.val; omega)

theorem dps0B (hV : ∀ e j d, x2 (ix4 (0 : Fin 1) e j d) = W e j d) (hG : ∀ (e : Fin 2) r (d : Fin 64) (c : Fin 128), c.val = 64 * e.val + d.val → x3 (ix3 (0 : Fin 1) r c) = G e (rowAt 1 r) d) (r : Fin 512) :
    dpB (winG0 x3) (winV0B x2) r = dp (G 0 (rowAt 1 r)) fun j : Fin 1024 => W 0 (Fin.castLE (by norm_num) j) := by
  unfold dpB
  rw [funext fun d => readG0B x3 G hG r d, funext fun j => funext fun d => readV0B x2 W hV j d]

theorem row_lt0B (r : Fin 512) : (rowAt 1 r).val < 1024 := by show 512 * 1 + r.val < 1024; omega

theorem dscs0B (hQ : ∀ e r d, x0 (ix4 (0 : Fin 1) e r d) = Q e (rowAt 1 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 1 r) d) (r : Fin 512) (j : Fin 1024) :
    dsc cS (scoreB (winQ0 x0) (winK0B x1) r) (dpB (winG0 x3) (winV0B x2) r) j
      = dsc cS (scoreAt cS (rowAt 1 r).val (Q 0 (rowAt 1 r)) (K 0)) (dp (G 0 (rowAt 1 r)) (W 0)) (Fin.castLE (by norm_num) j) := by
  rw [scores0B x0 x1 Q K hQ hK r, dps0B x2 x3 W G hV hG r]
  exact dsc_first (by norm_num) cS (rowAt 1 r).val (row_lt0B r) (Q 0 (rowAt 1 r)) (K 0) (G 0 (rowAt 1 r)) (W 0) j

theorem readQ1B (hQ : ∀ e r d, x0 (ix4 (0 : Fin 1) e r d) = Q e (rowAt 1 r) d) (r : Fin 512) (d : Fin 96) : winQ1 x0 (ix4 (0 : Fin 1) (0 : Fin 1) r d) = Q 1 (rowAt 1 r) d :=
  (window_head x0 1 _ 1 rfl le_rfl r d).trans (hQ 1 r d)
theorem readK1B (hK : ∀ e j d, x1 (ix4 (0 : Fin 1) e j d) = K e j d) (j : Fin 1024) (d : Fin 96) : winK1B x1 (ix4 (0 : Fin 1) (0 : Fin 1) j d) = K 1 (Fin.castLE (by norm_num) j) d :=
  (window_head x1 1 _ 1 rfl (by norm_num) j d).trans (hK 1 _ d)
theorem readV1B (hV : ∀ e j d, x2 (ix4 (0 : Fin 1) e j d) = W e j d) (j : Fin 1024) (d : Fin 64) : winV1B x2 (ix4 (0 : Fin 1) (0 : Fin 1) j d) = W 1 (Fin.castLE (by norm_num) j) d :=
  (window_head x2 1 _ 1 rfl (by norm_num) j d).trans (hV 1 _ d)
theorem readG1B (hG : ∀ (e : Fin 2) r (d : Fin 64) (c : Fin 128), c.val = 64 * e.val + d.val → x3 (ix3 (0 : Fin 1) r c) = G e (rowAt 1 r) d) (r : Fin 512) (d : Fin 64) : winG1 x3 (ix3 (0 : Fin 1) r d) = G 1 (rowAt 1 r) d :=
  (window_cols x3 64 _ r d ⟨64 + d.val, by omega⟩ rfl).trans (hG 1 r d _ rfl)

theorem scores1B (hQ : ∀ e r d, x0 (ix4 (0 : Fin 1) e r d) = Q e (rowAt 1 r) d) (hK : ∀ e j d, x1 (ix4 (0 : Fin 1) e j d) = K e j d) (r : Fin 512) :
    scoreB (winQ1 x0) (winK1B x1) r = scoreAt cS (rowAt 1 r).val (Q 1 (rowAt 1 r)) fun j : Fin 1024 => K 1 (Fin.castLE (by norm_num) j) := by
  unfold scoreB
  rw [funext fun d => readQ1B x0 Q hQ r d, funext fun j => funext fun d => readK1B x1 K hK j d]
  exact congrArg (fun row => scoreAt cS row (Q 1 (rowAt 1 r)) fun j : Fin 1024 => K 1 (Fin.castLE (by norm_num) j)) (by show 512 + r.val = 512 * 1 + r.val; omega)

theorem dps1B (hV : ∀ e j d, x2 (ix4 (0 : Fin 1) e j d) = W e j d) (hG : ∀ (e : Fin 2) r (d : Fin 64) (c : Fin 128), c.val = 64 * e.val + d.val → x3 (ix3 (0 : Fin 1) r c) = G e (rowAt 1 r) d) (r : Fin 512) :
    dpB (winG1 x3) (winV1B x2) r = dp (G 1 (rowAt 1 r)) fun j : Fin 1024 => W 1 (Fin.castLE (by norm_num) j) := by
  unfold dpB
  rw [funext fun d => readG1B x3 G hG r d, funext fun j => funext fun d => readV1B x2 W hV j d]

theorem row_lt1B (r : Fin 512) : (rowAt 1 r).val < 1024 := by show 512 * 1 + r.val < 1024; omega

theorem dscs1B (hQ : ∀ e r d, x0 (ix4 (0 : Fin 1) e r d) = Q e (rowAt 1 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 1 r) d) (r : Fin 512) (j : Fin 1024) :
    dsc cS (scoreB (winQ1 x0) (winK1B x1) r) (dpB (winG1 x3) (winV1B x2) r) j
      = dsc cS (scoreAt cS (rowAt 1 r).val (Q 1 (rowAt 1 r)) (K 1)) (dp (G 1 (rowAt 1 r)) (W 1)) (Fin.castLE (by norm_num) j) := by
  rw [scores1B x0 x1 Q K hQ hK r, dps1B x2 x3 W G hV hG r]
  exact dsc_first (by norm_num) cS (rowAt 1 r).val (row_lt1B r) (Q 1 (rowAt 1 r)) (K 1) (G 1 (rowAt 1 r)) (W 1) j

/-- The query gradient's block after the point. -/
theorem dqStepB_apply (hQ : ∀ e r d, x0 (ix4 (0 : Fin 1) e r d) = Q e (rowAt 1 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 1 r) d) (e : Fin 2) (r : Fin 512) (d : Fin 96) :
    dqStepB x0 x1 x2 x3 (ix4 (0 : Fin 1) e r d) = gradQ cS (Q e) (K e) (W e) (G e) (rowAt 1 r) d := by
  unfold dqStepB
  refine put_two _ _ _ le_rfl (fun e r d => gradQ cS (Q e) (K e) (W e) (G e) (rowAt 1 r) d) (fun r d => ?_) (fun r d => ?_) (fun e r d h => absurd r.isLt (by omega)) e r d
  · refine (dq0B_apply x0 x1 x2 x3 r d).trans ?_
    refine (Finset.sum_congr rfl fun j _ => congrArg₂ (· * ·) (dscs0B x0 x1 x2 x3 Q K W G hQ hK hV hG r j) (readK0B x1 K hK j d)).trans ?_
    refine sum_first leB (fun j => dsc cS (scoreAt cS (rowAt 1 r).val (Q 0 (rowAt 1 r)) (K 0)) (dp (G 0 (rowAt 1 r)) (W 0)) j * K 0 j d) fun j hj => ?_
    have := row_lt0B r
    exact (congrArg (· * _) (dsc_of_wgt _ _ _ _ (wgt_past _ _ _ _ _ (by omega)))).trans (zero_mul _)
  · refine (dq1B_apply x0 x1 x2 x3 r d).trans ?_
    refine (Finset.sum_congr rfl fun j _ => congrArg₂ (· * ·) (dscs1B x0 x1 x2 x3 Q K W G hQ hK hV hG r j) (readK1B x1 K hK j d)).trans ?_
    refine sum_first leB (fun j => dsc cS (scoreAt cS (rowAt 1 r).val (Q 1 (rowAt 1 r)) (K 1)) (dp (G 1 (rowAt 1 r)) (W 1)) j * K 1 j d) fun j hj => ?_
    have := row_lt1B r
    exact (congrArg (· * _) (dsc_of_wgt _ _ _ _ (wgt_past _ _ _ _ _ (by omega)))).trans (zero_mul _)

/-- The key gradient's block after the point: each row of the block adds its part. -/
theorem dkStepB_apply (hQ : ∀ e r d, x0 (ix4 (0 : Fin 1) e r d) = Q e (rowAt 1 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 1 r) d) (y : Vec Ideal S1x2x2048x96 .f32) (e : Fin 2) (j : Fin 2048) (d : Fin 96) :
    dkStepB x0 x1 x2 x3 y (ix4 (0 : Fin 1) e j d) = y (ix4 (0 : Fin 1) e j d) + ∑ r, partK cS (Q e) (K e) (W e) (G e) (rowAt 1 r) j d := by
  unfold dkStepB
  refine put_two _ _ _ leB (fun e j d => y (ix4 (0 : Fin 1) e j d) + ∑ r, partK cS (Q e) (K e) (W e) (G e) (rowAt 1 r) j d) (fun j d => ?_) (fun j d => ?_) (fun e j d h => ?_) e j d
  · refine (dk0B_apply x0 x1 x2 x3 (winA0B y) j d).trans (congrArg₂ (· + ·) (window_head y 0 _ 0 rfl leB j d) ?_)
    exact Finset.sum_congr rfl fun r _ => congrArg₂ (· * ·) (dscs0B x0 x1 x2 x3 Q K W G hQ hK hV hG r j) (readQ0B x0 Q hQ r d)
  · refine (dk1B_apply x0 x1 x2 x3 (winA1B y) j d).trans (congrArg₂ (· + ·) (window_head y 1 _ 1 rfl leB j d) ?_)
    exact Finset.sum_congr rfl fun r _ => congrArg₂ (· * ·) (dscs1B x0 x1 x2 x3 Q K W G hQ hK hV hG r j) (readQ1B x0 Q hQ r d)
  · refine ((congrArg (y (ix4 (0 : Fin 1) e j d) + ·) (Finset.sum_eq_zero fun r _ => partK_past cS (Q e) (K e) (W e) (G e) (rowAt 1 r) j ?_ d)).trans (add_zero _)).symm
    have := row_lt0B r
    omega

/-- The value gradient's block after the point. -/
theorem dvStepB_apply (hQ : ∀ e r d, x0 (ix4 (0 : Fin 1) e r d) = Q e (rowAt 1 r) d) (hK : ∀ e j d, x1 (ix4 (0 : Fin 1) e j d) = K e j d) (hG : ∀ (e : Fin 2) r (d : Fin 64) (c : Fin 128), c.val = 64 * e.val + d.val → x3 (ix3 (0 : Fin 1) r c) = G e (rowAt 1 r) d) (y : Vec Ideal S1x2x2048x64 .f32) (e : Fin 2) (j : Fin 2048) (d : Fin 64) :
    dvStepB x0 x1 x3 y (ix4 (0 : Fin 1) e j d) = y (ix4 (0 : Fin 1) e j d) + ∑ r, partV cS (Q e) (K e) (G e) (rowAt 1 r) j d := by
  unfold dvStepB
  refine put_two _ _ _ leB (fun e j d => y (ix4 (0 : Fin 1) e j d) + ∑ r, partV cS (Q e) (K e) (G e) (rowAt 1 r) j d) (fun j d => ?_) (fun j d => ?_) (fun e j d h => ?_) e j d
  · refine (dv0B_apply x0 x1 x3 (winB0B y) j d).trans (congrArg₂ (· + ·) (window_head y 0 _ 0 rfl leB j d) ?_)
    refine Finset.sum_congr rfl fun r _ => ?_
    rw [scores0B x0 x1 Q K hQ hK r, readG0B x3 G hG r d]
    exact congrArg₂ (· * ·) (wgt_first leB cS (rowAt 1 r).val (row_lt0B r) (Q 0 (rowAt 1 r)) (K 0) j)
      (congrArg (G 0 (rowAt 1 r) d * ·) (inv_first leB cS (rowAt 1 r).val (row_lt0B r) (Q 0 (rowAt 1 r)) (K 0)))
  · refine (dv1B_apply x0 x1 x3 (winB1B y) j d).trans (congrArg₂ (· + ·) (window_head y 1 _ 1 rfl leB j d) ?_)
    refine Finset.sum_congr rfl fun r _ => ?_
    rw [scores1B x0 x1 Q K hQ hK r, readG1B x3 G hG r d]
    exact congrArg₂ (· * ·) (wgt_first leB cS (rowAt 1 r).val (row_lt1B r) (Q 1 (rowAt 1 r)) (K 1) j)
      (congrArg (G 1 (rowAt 1 r) d * ·) (inv_first leB cS (rowAt 1 r).val (row_lt1B r) (Q 1 (rowAt 1 r)) (K 1)))
  · refine ((congrArg (y (ix4 (0 : Fin 1) e j d) + ·) (Finset.sum_eq_zero fun r _ => partV_past cS (Q e) (K e) (G e) (rowAt 1 r) j ?_ d)).trans (add_zero _)).symm
    have := row_lt0B r
    omega

end Cert.KernelIdeal.Gen
-- ==== Proof.EntryC.lean ====
/- What a point of the attention gradient that reads the first 1536 columns computes, entry by entry, at the extended reals. -/
module

public import proofs.«01_k».proof.Proof.Step
public import proofs.«01_k».proof.Proof.Rows

@[expose] public section

set_option maxRecDepth 16384

noncomputable section

namespace Cert.KernelIdeal.Gen

open Idealize.ShloMosaic Idealize.ShloMosaic.ValueIdx Cert.Reads Cert.Attn Cert.Rows

/-- The masked scores of the point's row `r`, from the query's and the keys' windows. -/
def scoreC (q : Vec Ideal S1x1x512x96 .bf16) (kk : Vec Ideal S1x1x1536x96 .bf16) (r : Fin 512) : Fin 1536 → EReal :=
  scoreAt cS (1024 + r.val) (fun d => q (ix4 (0 : Fin 1) (0 : Fin 1) r d)) fun j d => kk (ix4 (0 : Fin 1) (0 : Fin 1) j d)
/-- The row's incoming gradient against the values. -/
def dpC (g : Vec Ideal S1x512x64 .f32) (v : Vec Ideal S1x1x1536x64 .bf16) (r : Fin 512) : Fin 1536 → EReal :=
  dp (fun d => g (ix3 (0 : Fin 1) r d)) fun j d => v (ix4 (0 : Fin 1) (0 : Fin 1) j d)

theorem scoreC_eq (q : Vec Ideal S1x1x512x96 .bf16) (kk : Vec Ideal S1x1x1536x96 .bf16) (hq : S1x1x512x96.ShapeCasts S512x96) (hk : S1x1x1536x96.ShapeCasts S1536x96) (r : Fin 512) (j : Fin 1536) :
    scoreAt cS (1024 + r.val) (fun d => shapeCast S512x96 q hq (ix2 r d)) (fun j d => shapeCast S1536x96 kk hk (ix2 j d)) j = scoreC q kk r j := by
  unfold scoreC
  rw [funext fun d => cast_11ab q hq r d, funext fun j => funext fun d => cast_11ab kk hk j d]

theorem dpC_eq (g : Vec Ideal S1x512x64 .f32) (v : Vec Ideal S1x1x1536x64 .bf16) (hg : S1x512x64.ShapeCasts S512x64) (hv : S1x1x1536x64.ShapeCasts S1536x64) (r : Fin 512) (j : Fin 1536) :
    dp (fun d => shapeCast S512x64 g hg (ix2 r d)) (fun j d => shapeCast S1536x64 v hv (ix2 j d)) j = dpC g v r j := by
  unfold dpC
  rw [funext fun d => shapeCast_1ab_ab_apply g hg r d, funext fun j => funext fun d => cast_11ab v hv j d]

/-! ### Head 0 -/

theorem wgt0C (q : Vec Ideal S1x1x512x96 .bf16) (kk : Vec Ideal S1x1x1536x96 .bf16) (r : Fin 512) (j : Fin 1536) :
    (k0_pay62 q kk : FVec Ideal S512x1536 .f32) (ix2 r j) = wgt (scoreC q kk r) j := by
  unfold k0_pay62 k0_pay59 k0_pay60
  exact wgt_entry _ (scoreC q kk r) r
    (fun j => (score_entry 1024 (by norm_num) (by norm_num) _ _ _ _ _ _ (IdealRules.named_const.ideal_named_scalar κ "neg" _ ⊥ rfl) r j).trans
      (scoreC_eq q kk _ _ r j)) _ _ _ _ _ j

theorem inv0C (q : Vec Ideal S1x1x512x96 .bf16) (kk : Vec Ideal S1x1x1536x96 .bf16) (r : Fin 512) :
    (k0_pay63 q kk : FVec Ideal S512x1 .f32) (ix2 r (0 : Fin 1)) = inv (scoreC q kk r) := by
  unfold k0_pay63
  exact inv_entry _ (scoreC q kk r) r (wgt0C q kk r) _ _ _ _

theorem ds0C (q : Vec Ideal S1x1x512x96 .bf16) (kk : Vec Ideal S1x1x1536x96 .bf16) (v : Vec Ideal S1x1x1536x64 .bf16) (g : Vec Ideal S1x512x64 .f32) (r : Fin 512) (j : Fin 1536) :
    (k0_pay69 (k0_pay61 v) (k0_pay62 q kk) (k0_pay63 q kk) (k0_pay64 g) : FVec Ideal S512x1536 .bf16) (ix2 r j)
      = dsc cS (scoreC q kk r) (dpC g v r) j := by
  unfold k0_pay69 k0_pay61 k0_pay64
  exact ds_entry _ _ _ (scoreC q kk r) (dpC g v r) r (wgt0C q kk r) (inv0C q kk r)
    (fun j => (dp_entry _ _ _ _ r j).trans (dpC_eq g v _ _ r j)) _ _ _ _ _ _ j

theorem dq0C_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq0C x0 x1 x2 x3 (ix4 (0 : Fin 1) (0 : Fin 1) r d)
      = ∑ j, dsc cS (scoreC (winQ0 x0) (winK0C x1) r) (dpC (winG0 x3) (winV0C x2) r) j * winK0C x1 (ix4 (0 : Fin 1) (0 : Fin 1) j d) := by
  unfold dq0C k0_pay70
  refine (dq_entry _ _ _ _ _ r (ds0C (winQ0 x0) (winK0C x1) (winV0C x2) (winG0 x3) r) d).trans ?_
  exact Finset.sum_congr rfl fun j _ => congrArg (dsc cS (scoreC (winQ0 x0) (winK0C x1) r) (dpC (winG0 x3) (winV0C x2) r) j * ·)
    (cast_11ab (winK0C x1) _ j d)

theorem dk0C_apply (x0 : Vec Ideal S1x2x512x96 .bf16) (x1 : Vec Ideal S1x2x2048x96 .bf16) (x2 : Vec Ideal S1x2x2048x64 .bf16) (x3 : Vec Ideal S1x512x128 .f32)
    (y : Vec Ideal S1x1x1536x96 .f32) (j : Fin 1536) (d : Fin 96) :
    dk0C x0 x1 x2 x3 y (ix4 (0 : Fin 1) (0 : Fin 1) j d)
      = y (ix4 (0 : Fin 1) (0 : Fin 1) j d)
        + ∑ r : Fin 512, dsc cS (scoreC (winQ0 x0) (winK0C x1) r) (dpC (winG0 x3) (winV0C x2) r) j * winQ0 x0 (ix4 (0 : Fin 1) (0 : Fin 1) r d) := by
  unfold dk0C k0_pay71
  refine (acc_entry _ _ _ _ _ j d _ _ (fun r => ds0C (winQ0 x0) (winK0C x1) (winV0C x2) (winG0 x3) r j) (fun r => cast_11ab (winQ0 x0) _ r d)).trans ?_
  exact congrArg (· + _) (cast_11ab y _ j d)

theorem dv0C_apply (x0 : Vec Ideal S1x2x512x96 .bf16) (x1 : Vec Ideal S1x2x2048x96 .bf16) (x3 : Vec Ideal S1x512x128 .f32)
    (y : Vec Ideal S1x1x1536x64 .f32) (j : Fin 1536) (d : Fin 64) :
    dv0C x0 x1 x3 y (ix4 (0 : Fin 1) (0 : Fin 1) j d)
      = y (ix4 (0 : Fin 1) (0 : Fin 1) j d)
        + ∑ r : Fin 512, wgt (scoreC (winQ0 x0) (winK0C x1) r) j * (winG0 x3 (ix3 (0 : Fin 1) r d) * inv (scoreC (winQ0 x0) (winK0C x1) r)) := by
  unfold dv0C k0_pay68 k0_pay65 k0_pay66 k0_pay67 k0_pay64
  refine (acc_entry _ _ _ _ _ j d _ _ (fun r => wgt0C (winQ0 x0) (winK0C x1) r j)
    (fun r => (mulf_apply _ _ _).trans (congrArg₂ (· * ·) (shapeCast_1ab_ab_apply (winG0 x3) _ r d)
      ((bcast_col _ _ r d).trans (inv0C (winQ0 x0) (winK0C x1) r))))).trans ?_
  exact congrArg (· + _) (cast_11ab y _ j d)

/-! ### Head 1 -/

theorem wgt1C (q : Vec Ideal S1x1x512x96 .bf16) (kk : Vec Ideal S1x1x1536x96 .bf16) (r : Fin 512) (j : Fin 1536) :
    (k0_pay75 (k0_pay72 q) kk : FVec Ideal S512x1536 .f32) (ix2 r j) = wgt (scoreC q kk r) j := by
  unfold k0_pay75 k0_pay72 k0_pay73
  exact wgt_entry _ (scoreC q kk r) r
    (fun j => (score_entry 1024 (by norm_num) (by norm_num) _ _ _ _ _ _ (IdealRules.named_const.ideal_named_scalar κ "neg" _ ⊥ rfl) r j).trans
      (scoreC_eq q kk _ _ r j)) _ _ _ _ _ j

theorem inv1C (q : Vec Ideal S1x1x512x96 .bf16) (kk : Vec Ideal S1x1x1536x96 .bf16) (r : Fin 512) :
    (k0_pay76 (k0_pay72 q) kk : FVec Ideal S512x1 .f32) (ix2 r (0 : Fin 1)) = inv (scoreC q kk r) := by
  unfold k0_pay76
  exact inv_entry _ (scoreC q kk r) r (wgt1C q kk r) _ _ _ _

theorem ds1C (q : Vec Ideal S1x1x512x96 .bf16) (kk : Vec Ideal S1x1x1536x96 .bf16) (v : Vec Ideal S1x1x1536x64 .bf16) (g : Vec Ideal S1x512x64 .f32) (r : Fin 512) (j : Fin 1536) :
    (k0_pay12 (k0_pay74 v) (k0_pay75 (k0_pay72 q) kk) (k0_pay76 (k0_pay72 q) kk) (k0_pay77 g) : FVec Ideal S512x1536 .bf16) (ix2 r j)
      = dsc cS (scoreC q kk r) (dpC g v r) j := by
  unfold k0_pay12 k0_pay74 k0_pay77
  exact ds_entry _ _ _ (scoreC q kk r) (dpC g v r) r (wgt1C q kk r) (inv1C q kk r)
    (fun j => (dp_entry _ _ _ _ r j).trans (dpC_eq g v _ _ r j)) _ _ _ _ _ _ j

theorem dq1C_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq1C x0 x1 x2 x3 (ix4 (0 : Fin 1) (0 : Fin 1) r d)
      = ∑ j, dsc cS (scoreC (winQ1 x0) (winK1C x1) r) (dpC (winG1 x3) (winV1C x2) r) j * winK1C x1 (ix4 (0 : Fin 1) (0 : Fin 1) j d) := by
  unfold dq1C k0_pay13
  refine (dq_entry _ _ _ _ _ r (ds1C (winQ1 x0) (winK1C x1) (winV1C x2) (winG1 x3) r) d).trans ?_
  exact Finset.sum_congr rfl fun j _ => congrArg (dsc cS (scoreC (winQ1 x0) (winK1C x1) r) (dpC (winG1 x3) (winV1C x2) r) j * ·)
    (cast_11ab (winK1C x1) _ j d)

theorem dk1C_apply (x0 : Vec Ideal S1x2x512x96 .bf16) (x1 : Vec Ideal S1x2x2048x96 .bf16) (x2 : Vec Ideal S1x2x2048x64 .bf16) (x3 : Vec Ideal S1x512x128 .f32)
    (y : Vec Ideal S1x1x1536x96 .f32) (j : Fin 1536) (d : Fin 96) :
    dk1C x0 x1 x2 x3 y (ix4 (0 : Fin 1) (0 : Fin 1) j d)
      = y (ix4 (0 : Fin 1) (0 : Fin 1) j d)
        + ∑ r : Fin 512, dsc cS (scoreC (winQ1 x0) (winK1C x1) r) (dpC (winG1 x3) (winV1C x2) r) j * winQ1 x0 (ix4 (0 : Fin 1) (0 : Fin 1) r d) := by
  unfold dk1C k0_pay14
  refine (acc_entry _ _ _ _ _ j d _ _ (fun r => ds1C (winQ1 x0) (winK1C x1) (winV1C x2) (winG1 x3) r j) (fun r => cast_11ab (winQ1 x0) _ r d)).trans ?_
  exact congrArg (· + _) (cast_11ab y _ j d)

theorem dv1C_apply (x0 : Vec Ideal S1x2x512x96 .bf16) (x1 : Vec Ideal S1x2x2048x96 .bf16) (x3 : Vec Ideal S1x512x128 .f32)
    (y : Vec Ideal S1x1x1536x64 .f32) (j : Fin 1536) (d : Fin 64) :
    dv1C x0 x1 x3 y (ix4 (0 : Fin 1) (0 : Fin 1) j d)
      = y (ix4 (0 : Fin 1) (0 : Fin 1) j d)
        + ∑ r : Fin 512, wgt (scoreC (winQ1 x0) (winK1C x1) r) j * (winG1 x3 (ix3 (0 : Fin 1) r d) * inv (scoreC (winQ1 x0) (winK1C x1) r)) := by
  unfold dv1C k0_pay11 k0_pay78 k0_pay77
  refine (acc_entry _ _ _ _ _ j d _ _ (fun r => wgt1C (winQ1 x0) (winK1C x1) r j)
    (fun r => (mulf_apply _ _ _).trans (congrArg₂ (· * ·) (shapeCast_1ab_ab_apply (winG1 x3) _ r d)
      ((bcast_col _ _ r d).trans (inv1C (winQ1 x0) (winK1C x1) r))))).trans ?_
  exact congrArg (· + _) (cast_11ab y _ j d)

end Cert.KernelIdeal.Gen
-- ==== Proof.PointC.lean ====
/- One point of the attention gradient's grid against the heads' whole arrays, 1536 columns read. -/
module

public import proofs.«01_k».proof.Proof.EntryC
public import proofs.«01_k».proof.Proof.Heads

@[expose] public section

set_option maxRecDepth 16384

noncomputable section

namespace Cert.KernelIdeal.Gen

open Idealize.ShloMosaic Idealize.ShloMosaic.ValueIdx Cert.Reads Cert.Attn Cert.Rows Cert.Heads

variable (x0 : Vec Ideal S1x2x512x96 .bf16) (x1 : Vec Ideal S1x2x2048x96 .bf16) (x2 : Vec Ideal S1x2x2048x64 .bf16) (x3 : Vec Ideal S1x512x128 .f32)
variable (Q K : Fin 2 → Fin 2048 → Fin 96 → EReal) (W G : Fin 2 → Fin 2048 → Fin 64 → EReal)

private theorem leC : 1536 ≤ 2048 := by norm_num

theorem readQ0C (hQ : ∀ e r d, x0 (ix4 (0 : Fin 1) e r d) = Q e (rowAt 2 r) d) (r : Fin 512) (d : Fin 96) : winQ0 x0 (ix4 (0 : Fin 1) (0 : Fin 1) r d) = Q 0 (rowAt 2 r) d :=
  (window_head x0 0 _ 0 rfl le_rfl r d).trans (hQ 0 r d)
theorem readK0C (hK : ∀ e j d, x1 (ix4 (0 : Fin 1) e j d) = K e j d) (j : Fin 1536) (d : Fin 96) : winK0C x1 (ix4 (0 : Fin 1) (0 : Fin 1) j d) = K 0 (Fin.castLE (by norm_num) j) d :=
  (window_head x1 0 _ 0 rfl (by norm_num) j d).trans (hK 0 _ d)
theorem readV0C (hV : ∀ e j d, x2 (ix4 (0 : Fin 1) e j d) = W e j d) (j : Fin 1536) (d : Fin 64) : winV0C x2 (ix4 (0 : Fin 1) (0 : Fin 1) j d) = W 0 (Fin.castLE (by norm_num) j) d :=
  (window_head x2 0 _ 0 rfl (by norm_num) j d).trans (hV 0 _ d)
theorem readG0C (hG : ∀ (e : Fin 2) r (d : Fin 64) (c : Fin 128), c.val = 64 * e.val + d.val → x3 (ix3 (0 : Fin 1) r c) = G e (rowAt 2 r) d) (r : Fin 512) (d : Fin 64) : winG0 x3 (ix3 (0 : Fin 1) r d) = G 0 (rowAt 2 r) d :=
  (window_cols x3 0 _ r d ⟨0 + d.val, by omega⟩ rfl).trans (hG 0 r d _ rfl)

theorem scores0C (hQ : ∀ e r d, x0 (ix4 (0 : Fin 1) e r d) = Q e (rowAt 2 r) d) (hK : ∀ e j d, x1 (ix4 (0 : Fin 1) e j d) = K e j d) (r : Fin 512) :
    scoreC (winQ0 x0) (winK0C x1) r = scoreAt cS (rowAt 2 r).val (Q 0 (rowAt 2 r)) fun j : Fin 1536 => K 0 (Fin.castLE (by norm_num) j) := by
  unfold scoreC
  rw [funext fun d => readQ0C x0 Q hQ r d, funext fun j => funext fun d => readK0C x1 K hK j d]
  exact congrArg (fun row => scoreAt cS row (Q 0 (rowAt 2 r)) fun j : Fin 1536 => K 0 (Fin.castLE (by norm_num) j)) (by show 1024 + r.val = 512 * 2 + r.val; omega)

theorem dps0C (hV : ∀ e j d, x2 (ix4 (0 : Fin 1) e j d) = W e j d) (hG : ∀ (e : Fin 2) r (d : Fin 64) (c : Fin 128), c.val = 64 * e.val + d.val → x3 (ix3 (0 : Fin 1) r c) = G e (rowAt 2 r) d) (r : Fin 512) :
    dpC (winG0 x3) (winV0C x2) r = dp (G 0 (rowAt 2 r)) fun j : Fin 1536 => W 0 (Fin.castLE (by norm_num) j) := by
  unfold dpC
  rw [funext fun d => readG0C x3 G hG r d, funext fun j => funext fun d => readV0C x2 W hV j d]

theorem row_lt0C (r : Fin 512) : (rowAt 2 r).val < 1536 := by show 512 * 2 + r.val < 1536; omega

theorem dscs0C (hQ : ∀ e r d, x0 (ix4 (0 : Fin 1) e r d) = Q e (rowAt 2 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 2 r) d) (r : Fin 512) (j : Fin 1536) :
    dsc cS (scoreC (winQ0 x0) (winK0C x1) r) (dpC (winG0 x3) (winV0C x2) r) j
      = dsc cS (scoreAt cS (rowAt 2 r).val (Q 0 (rowAt 2 r)) (K 0)) (dp (G 0 (rowAt 2 r)) (W 0)) (Fin.castLE (by norm_num) j) := by
  rw [scores0C x0 x1 Q K hQ hK r, dps0C x2 x3 W G hV hG r]
  exact dsc_first (by norm_num) cS (rowAt 2 r).val (row_lt0C r) (Q 0 (rowAt 2 r)) (K 0) (G 0 (rowAt 2 r)) (W 0) j

theorem readQ1C (hQ : ∀ e r d, x0 (ix4 (0 : Fin 1) e r d) = Q e (rowAt 2 r) d) (r : Fin 512) (d : Fin 96) : winQ1 x0 (ix4 (0 : Fin 1) (0 : Fin 1) r d) = Q 1 (rowAt 2 r) d :=
  (window_head x0 1 _ 1 rfl le_rfl r d).trans (hQ 1 r d)
theorem readK1C (hK : ∀ e j d, x1 (ix4 (0 : Fin 1) e j d) = K e j d) (j : Fin 1536) (d : Fin 96) : winK1C x1 (ix4 (0 : Fin 1) (0 : Fin 1) j d) = K 1 (Fin.castLE (by norm_num) j) d :=
  (window_head x1 1 _ 1 rfl (by norm_num) j d).trans (hK 1 _ d)
theorem readV1C (hV : ∀ e j d, x2 (ix4 (0 : Fin 1) e j d) = W e j d) (j : Fin 1536) (d : Fin 64) : winV1C x2 (ix4 (0 : Fin 1) (0 : Fin 1) j d) = W 1 (Fin.castLE (by norm_num) j) d :=
  (window_head x2 1 _ 1 rfl (by norm_num) j d).trans (hV 1 _ d)
theorem readG1C (hG : ∀ (e : Fin 2) r (d : Fin 64) (c : Fin 128), c.val = 64 * e.val + d.val → x3 (ix3 (0 : Fin 1) r c) = G e (rowAt 2 r) d) (r : Fin 512) (d : Fin 64) : winG1 x3 (ix3 (0 : Fin 1) r d) = G 1 (rowAt 2 r) d :=
  (window_cols x3 64 _ r d ⟨64 + d.val, by omega⟩ rfl).trans (hG 1 r d _ rfl)

theorem scores1C (hQ : ∀ e r d, x0 (ix4 (0 : Fin 1) e r d) = Q e (rowAt 2 r) d) (hK : ∀ e j d, x1 (ix4 (0 : Fin 1) e j d) = K e j d) (r : Fin 512) :
    scoreC (winQ1 x0) (winK1C x1) r = scoreAt cS (rowAt 2 r).val (Q 1 (rowAt 2 r)) fun j : Fin 1536 => K 1 (Fin.castLE (by norm_num) j) := by
  unfold scoreC
  rw [funext fun d => readQ1C x0 Q hQ r d, funext fun j => funext fun d => readK1C x1 K hK j d]
  exact congrArg (fun row => scoreAt cS row (Q 1 (rowAt 2 r)) fun j : Fin 1536 => K 1 (Fin.castLE (by norm_num) j)) (by show 1024 + r.val = 512 * 2 + r.val; omega)

theorem dps1C (hV : ∀ e j d, x2 (ix4 (0 : Fin 1) e j d) = W e j d) (hG : ∀ (e : Fin 2) r (d : Fin 64) (c : Fin 128), c.val = 64 * e.val + d.val → x3 (ix3 (0 : Fin 1) r c) = G e (rowAt 2 r) d) (r : Fin 512) :
    dpC (winG1 x3) (winV1C x2) r = dp (G 1 (rowAt 2 r)) fun j : Fin 1536 => W 1 (Fin.castLE (by norm_num) j) := by
  unfold dpC
  rw [funext fun d => readG1C x3 G hG r d, funext fun j => funext fun d => readV1C x2 W hV j d]

theorem row_lt1C (r : Fin 512) : (rowAt 2 r).val < 1536 := by show 512 * 2 + r.val < 1536; omega

theorem dscs1C (hQ : ∀ e r d, x0 (ix4 (0 : Fin 1) e r d) = Q e (rowAt 2 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 2 r) d) (r : Fin 512) (j : Fin 1536) :
    dsc cS (scoreC (winQ1 x0) (winK1C x1) r) (dpC (winG1 x3) (winV1C x2) r) j
      = dsc cS (scoreAt cS (rowAt 2 r).val (Q 1 (rowAt 2 r)) (K 1)) (dp (G 1 (rowAt 2 r)) (W 1)) (Fin.castLE (by norm_num) j) := by
  rw [scores1C x0 x1 Q K hQ hK r, dps1C x2 x3 W G hV hG r]
  exact dsc_first (by norm_num) cS (rowAt 2 r).val (row_lt1C r) (Q 1 (rowAt 2 r)) (K 1) (G 1 (rowAt 2 r)) (W 1) j

/-- The query gradient's block after the point. -/
theorem dqStepC_apply (hQ : ∀ e r d, x0 (ix4 (0 : Fin 1) e r d) = Q e (rowAt 2 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 2 r) d) (e : Fin 2) (r : Fin 512) (d : Fin 96) :
    dqStepC x0 x1 x2 x3 (ix4 (0 : Fin 1) e r d) = gradQ cS (Q e) (K e) (W e) (G e) (rowAt 2 r) d := by
  unfold dqStepC
  refine put_two _ _ _ le_rfl (fun e r d => gradQ cS (Q e) (K e) (W e) (G e) (rowAt 2 r) d) (fun r d => ?_) (fun r d => ?_) (fun e r d h => absurd r.isLt (by omega)) e r d
  · refine (dq0C_apply x0 x1 x2 x3 r d).trans ?_
    refine (Finset.sum_congr rfl fun j _ => congrArg₂ (· * ·) (dscs0C x0 x1 x2 x3 Q K W G hQ hK hV hG r j) (readK0C x1 K hK j d)).trans ?_
    refine sum_first leC (fun j => dsc cS (scoreAt cS (rowAt 2 r).val (Q 0 (rowAt 2 r)) (K 0)) (dp (G 0 (rowAt 2 r)) (W 0)) j * K 0 j d) fun j hj => ?_
    have := row_lt0C r
    exact (congrArg (· * _) (dsc_of_wgt _ _ _ _ (wgt_past _ _ _ _ _ (by omega)))).trans (zero_mul _)
  · refine (dq1C_apply x0 x1 x2 x3 r d).trans ?_
    refine (Finset.sum_congr rfl fun j _ => congrArg₂ (· * ·) (dscs1C x0 x1 x2 x3 Q K W G hQ hK hV hG r j) (readK1C x1 K hK j d)).trans ?_
    refine sum_first leC (fun j => dsc cS (scoreAt cS (rowAt 2 r).val (Q 1 (rowAt 2 r)) (K 1)) (dp (G 1 (rowAt 2 r)) (W 1)) j * K 1 j d) fun j hj => ?_
    have := row_lt1C r
    exact (congrArg (· * _) (dsc_of_wgt _ _ _ _ (wgt_past _ _ _ _ _ (by omega)))).trans (zero_mul _)

/-- The key gradient's block after the point: each row of the block adds its part. -/
theorem dkStepC_apply (hQ : ∀ e r d, x0 (ix4 (0 : Fin 1) e r d) = Q e (rowAt 2 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 2 r) d) (y : Vec Ideal S1x2x2048x96 .f32) (e : Fin 2) (j : Fin 2048) (d : Fin 96) :
    dkStepC x0 x1 x2 x3 y (ix4 (0 : Fin 1) e j d) = y (ix4 (0 : Fin 1) e j d) + ∑ r, partK cS (Q e) (K e) (W e) (G e) (rowAt 2 r) j d := by
  unfold dkStepC
  refine put_two _ _ _ leC (fun e j d => y (ix4 (0 : Fin 1) e j d) + ∑ r, partK cS (Q e) (K e) (W e) (G e) (rowAt 2 r) j d) (fun j d => ?_) (fun j d => ?_) (fun e j d h => ?_) e j d
  · refine (dk0C_apply x0 x1 x2 x3 (winA0C y) j d).trans (congrArg₂ (· + ·) (window_head y 0 _ 0 rfl leC j d) ?_)
    exact Finset.sum_congr rfl fun r _ => congrArg₂ (· * ·) (dscs0C x0 x1 x2 x3 Q K W G hQ hK hV hG r j) (readQ0C x0 Q hQ r d)
  · refine (dk1C_apply x0 x1 x2 x3 (winA1C y) j d).trans (congrArg₂ (· + ·) (window_head y 1 _ 1 rfl leC j d) ?_)
    exact Finset.sum_congr rfl fun r _ => congrArg₂ (· * ·) (dscs1C x0 x1 x2 x3 Q K W G hQ hK hV hG r j) (readQ1C x0 Q hQ r d)
  · refine ((congrArg (y (ix4 (0 : Fin 1) e j d) + ·) (Finset.sum_eq_zero fun r _ => partK_past cS (Q e) (K e) (W e) (G e) (rowAt 2 r) j ?_ d)).trans (add_zero _)).symm
    have := row_lt0C r
    omega

/-- The value gradient's block after the point. -/
theorem dvStepC_apply (hQ : ∀ e r d, x0 (ix4 (0 : Fin 1) e r d) = Q e (rowAt 2 r) d) (hK : ∀ e j d, x1 (ix4 (0 : Fin 1) e j d) = K e j d) (hG : ∀ (e : Fin 2) r (d : Fin 64) (c : Fin 128), c.val = 64 * e.val + d.val → x3 (ix3 (0 : Fin 1) r c) = G e (rowAt 2 r) d) (y : Vec Ideal S1x2x2048x64 .f32) (e : Fin 2) (j : Fin 2048) (d : Fin 64) :
    dvStepC x0 x1 x3 y (ix4 (0 : Fin 1) e j d) = y (ix4 (0 : Fin 1) e j d) + ∑ r, partV cS (Q e) (K e) (G e) (rowAt 2 r) j d := by
  unfold dvStepC
  refine put_two _ _ _ leC (fun e j d => y (ix4 (0 : Fin 1) e j d) + ∑ r, partV cS (Q e) (K e) (G e) (rowAt 2 r) j d) (fun j d => ?_) (fun j d => ?_) (fun e j d h => ?_) e j d
  · refine (dv0C_apply x0 x1 x3 (winB0C y) j d).trans (congrArg₂ (· + ·) (window_head y 0 _ 0 rfl leC j d) ?_)
    refine Finset.sum_congr rfl fun r _ => ?_
    rw [scores0C x0 x1 Q K hQ hK r, readG0C x3 G hG r d]
    exact congrArg₂ (· * ·) (wgt_first leC cS (rowAt 2 r).val (row_lt0C r) (Q 0 (rowAt 2 r)) (K 0) j)
      (congrArg (G 0 (rowAt 2 r) d * ·) (inv_first leC cS (rowAt 2 r).val (row_lt0C r) (Q 0 (rowAt 2 r)) (K 0)))
  · refine (dv1C_apply x0 x1 x3 (winB1C y) j d).trans (congrArg₂ (· + ·) (window_head y 1 _ 1 rfl leC j d) ?_)
    refine Finset.sum_congr rfl fun r _ => ?_
    rw [scores1C x0 x1 Q K hQ hK r, readG1C x3 G hG r d]
    exact congrArg₂ (· * ·) (wgt_first leC cS (rowAt 2 r).val (row_lt1C r) (Q 1 (rowAt 2 r)) (K 1) j)
      (congrArg (G 1 (rowAt 2 r) d * ·) (inv_first leC cS (rowAt 2 r).val (row_lt1C r) (Q 1 (rowAt 2 r)) (K 1)))
  · refine ((congrArg (y (ix4 (0 : Fin 1) e j d) + ·) (Finset.sum_eq_zero fun r _ => partV_past cS (Q e) (K e) (G e) (rowAt 2 r) j ?_ d)).trans (add_zero _)).symm
    have := row_lt0C r
    omega

end Cert.KernelIdeal.Gen
-- ==== Proof.EntryD.lean ====
/- What a point of the attention gradient that reads the first 2048 columns computes, entry by entry, at the extended reals. -/
module

public import proofs.«01_k».proof.Proof.Step
public import proofs.«01_k».proof.Proof.Rows

@[expose] public section

set_option maxRecDepth 16384

noncomputable section

namespace Cert.KernelIdeal.Gen

open Idealize.ShloMosaic Idealize.ShloMosaic.ValueIdx Cert.Reads Cert.Attn Cert.Rows

/-- The masked scores of the point's row `r`, from the query's and the keys' windows. -/
def scoreD (q : Vec Ideal S1x1x512x96 .bf16) (kk : Vec Ideal S1x1x2048x96 .bf16) (r : Fin 512) : Fin 2048 → EReal :=
  scoreAt cS (1536 + r.val) (fun d => q (ix4 (0 : Fin 1) (0 : Fin 1) r d)) fun j d => kk (ix4 (0 : Fin 1) (0 : Fin 1) j d)
/-- The row's incoming gradient against the values. -/
def dpD (g : Vec Ideal S1x512x64 .f32) (v : Vec Ideal S1x1x2048x64 .bf16) (r : Fin 512) : Fin 2048 → EReal :=
  dp (fun d => g (ix3 (0 : Fin 1) r d)) fun j d => v (ix4 (0 : Fin 1) (0 : Fin 1) j d)

theorem scoreD_eq (q : Vec Ideal S1x1x512x96 .bf16) (kk : Vec Ideal S1x1x2048x96 .bf16) (hq : S1x1x512x96.ShapeCasts S512x96) (hk : S1x1x2048x96.ShapeCasts S2048x96) (r : Fin 512) (j : Fin 2048) :
    scoreAt cS (1536 + r.val) (fun d => shapeCast S512x96 q hq (ix2 r d)) (fun j d => shapeCast S2048x96 kk hk (ix2 j d)) j = scoreD q kk r j := by
  unfold scoreD
  rw [funext fun d => cast_11ab q hq r d, funext fun j => funext fun d => cast_11ab kk hk j d]

theorem dpD_eq (g : Vec Ideal S1x512x64 .f32) (v : Vec Ideal S1x1x2048x64 .bf16) (hg : S1x512x64.ShapeCasts S512x64) (hv : S1x1x2048x64.ShapeCasts S2048x64) (r : Fin 512) (j : Fin 2048) :
    dp (fun d => shapeCast S512x64 g hg (ix2 r d)) (fun j d => shapeCast S2048x64 v hv (ix2 j d)) j = dpD g v r j := by
  unfold dpD
  rw [funext fun d => shapeCast_1ab_ab_apply g hg r d, funext fun j => funext fun d => cast_11ab v hv j d]

/-! ### Head 0 -/

theorem wgt0D (q : Vec Ideal S1x1x512x96 .bf16) (kk : Vec Ideal S1x1x2048x96 .bf16) (r : Fin 512) (j : Fin 2048) :
    (k0_pay82 q kk : FVec Ideal S512x2048 .f32) (ix2 r j) = wgt (scoreD q kk r) j := by
  unfold k0_pay82 k0_pay79 k0_pay80
  exact wgt_entry _ (scoreD q kk r) r
    (fun j => (score_entry 1536 (by norm_num) (by norm_num) _ _ _ _ _ _ (IdealRules.named_const.ideal_named_scalar κ "neg" _ ⊥ rfl) r j).trans
      (scoreD_eq q kk _ _ r j)) _ _ _ _ _ j

theorem inv0D (q : Vec Ideal S1x1x512x96 .bf16) (kk : Vec Ideal S1x1x2048x96 .bf16) (r : Fin 512) :
    (k0_pay83 q kk : FVec Ideal S512x1 .f32) (ix2 r (0 : Fin 1)) = inv (scoreD q kk r) := by
  unfold k0_pay83
  exact inv_entry _ (scoreD q kk r) r (wgt0D q kk r) _ _ _ _

theorem ds0D (q : Vec Ideal S1x1x512x96 .bf16) (kk : Vec Ideal S1x1x2048x96 .bf16) (v : Vec Ideal S1x1x2048x64 .bf16) (g : Vec Ideal S1x512x64 .f32) (r : Fin 512) (j : Fin 2048) :
    (k0_pay89 (k0_pay81 v) (k0_pay82 q kk) (k0_pay83 q kk) (k0_pay84 g) : FVec Ideal S512x2048 .bf16) (ix2 r j)
      = dsc cS (scoreD q kk r) (dpD g v r) j := by
  unfold k0_pay89 k0_pay81 k0_pay84
  exact ds_entry _ _ _ (scoreD q kk r) (dpD g v r) r (wgt0D q kk r) (inv0D q kk r)
    (fun j => (dp_entry _ _ _ _ r j).trans (dpD_eq g v _ _ r j)) _ _ _ _ _ _ j

theorem dq0D_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq0D x0 x1 x2 x3 (ix4 (0 : Fin 1) (0 : Fin 1) r d)
      = ∑ j, dsc cS (scoreD (winQ0 x0) (winK0D x1) r) (dpD (winG0 x3) (winV0D x2) r) j * winK0D x1 (ix4 (0 : Fin 1) (0 : Fin 1) j d) := by
  unfold dq0D k0_pay90
  refine (dq_entry _ _ _ _ _ r (ds0D (winQ0 x0) (winK0D x1) (winV0D x2) (winG0 x3) r) d).trans ?_
  exact Finset.sum_congr rfl fun j _ => congrArg (dsc cS (scoreD (winQ0 x0) (winK0D x1) r) (dpD (winG0 x3) (winV0D x2) r) j * ·)
    (cast_11ab (winK0D x1) _ j d)

theorem dk0D_apply (x0 : Vec Ideal S1x2x512x96 .bf16) (x1 : Vec Ideal S1x2x2048x96 .bf16) (x2 : Vec Ideal S1x2x2048x64 .bf16) (x3 : Vec Ideal S1x512x128 .f32)
    (y : Vec Ideal S1x1x2048x96 .f32) (j : Fin 2048) (d : Fin 96) :
    dk0D x0 x1 x2 x3 y (ix4 (0 : Fin 1) (0 : Fin 1) j d)
      = y (ix4 (0 : Fin 1) (0 : Fin 1) j d)
        + ∑ r : Fin 512, dsc cS (scoreD (winQ0 x0) (winK0D x1) r) (dpD (winG0 x3) (winV0D x2) r) j * winQ0 x0 (ix4 (0 : Fin 1) (0 : Fin 1) r d) := by
  unfold dk0D k0_pay91
  refine (acc_entry _ _ _ _ _ j d _ _ (fun r => ds0D (winQ0 x0) (winK0D x1) (winV0D x2) (winG0 x3) r j) (fun r => cast_11ab (winQ0 x0) _ r d)).trans ?_
  exact congrArg (· + _) (cast_11ab y _ j d)

theorem dv0D_apply (x0 : Vec Ideal S1x2x512x96 .bf16) (x1 : Vec Ideal S1x2x2048x96 .bf16) (x3 : Vec Ideal S1x512x128 .f32)
    (y : Vec Ideal S1x1x2048x64 .f32) (j : Fin 2048) (d : Fin 64) :
    dv0D x0 x1 x3 y (ix4 (0 : Fin 1) (0 : Fin 1) j d)
      = y (ix4 (0 : Fin 1) (0 : Fin 1) j d)
        + ∑ r : Fin 512, wgt (scoreD (winQ0 x0) (winK0D x1) r) j * (winG0 x3 (ix3 (0 : Fin 1) r d) * inv (scoreD (winQ0 x0) (winK0D x1) r)) := by
  unfold dv0D k0_pay88 k0_pay85 k0_pay86 k0_pay87 k0_pay84
  refine (acc_entry _ _ _ _ _ j d _ _ (fun r => wgt0D (winQ0 x0) (winK0D x1) r j)
    (fun r => (mulf_apply _ _ _).trans (congrArg₂ (· * ·) (shapeCast_1ab_ab_apply (winG0 x3) _ r d)
      ((bcast_col _ _ r d).trans (inv0D (winQ0 x0) (winK0D x1) r))))).trans ?_
  exact congrArg (· + _) (cast_11ab y _ j d)

/-! ### Head 1 -/

theorem wgt1D (q : Vec Ideal S1x1x512x96 .bf16) (kk : Vec Ideal S1x1x2048x96 .bf16) (r : Fin 512) (j : Fin 2048) :
    (k0_pay95 (k0_pay92 q) kk : FVec Ideal S512x2048 .f32) (ix2 r j) = wgt (scoreD q kk r) j := by
  unfold k0_pay95 k0_pay92 k0_pay93
  exact wgt_entry _ (scoreD q kk r) r
    (fun j => (score_entry 1536 (by norm_num) (by norm_num) _ _ _ _ _ _ (IdealRules.named_const.ideal_named_scalar κ "neg" _ ⊥ rfl) r j).trans
      (scoreD_eq q kk _ _ r j)) _ _ _ _ _ j

theorem inv1D (q : Vec Ideal S1x1x512x96 .bf16) (kk : Vec Ideal S1x1x2048x96 .bf16) (r : Fin 512) :
    (k0_pay96 (k0_pay92 q) kk : FVec Ideal S512x1 .f32) (ix2 r (0 : Fin 1)) = inv (scoreD q kk r) := by
  unfold k0_pay96
  exact inv_entry _ (scoreD q kk r) r (wgt1D q kk r) _ _ _ _

theorem ds1D (q : Vec Ideal S1x1x512x96 .bf16) (kk : Vec Ideal S1x1x2048x96 .bf16) (v : Vec Ideal S1x1x2048x64 .bf16) (g : Vec Ideal S1x512x64 .f32) (r : Fin 512) (j : Fin 2048) :
    (k0_pay16 (k0_pay94 v) (k0_pay95 (k0_pay92 q) kk) (k0_pay96 (k0_pay92 q) kk) (k0_pay97 g) : FVec Ideal S512x2048 .bf16) (ix2 r j)
      = dsc cS (scoreD q kk r) (dpD g v r) j := by
  unfold k0_pay16 k0_pay94 k0_pay97
  exact ds_entry _ _ _ (scoreD q kk r) (dpD g v r) r (wgt1D q kk r) (inv1D q kk r)
    (fun j => (dp_entry _ _ _ _ r j).trans (dpD_eq g v _ _ r j)) _ _ _ _ _ _ j

theorem dq1D_apply (x0 : Vec Ideal S1x2x512x96 .bf16) (x1 : Vec Ideal S1x2x2048x96 .bf16) (x2 : Vec Ideal S1x2x2048x64 .bf16) (x3 : Vec Ideal S1x512x128 .f32)
    (r : Fin 512) (d : Fin 96) :
    dq1D x0 x1 x2 x3 (ix4 (0 : Fin 1) (0 : Fin 1) r d)
      = ∑ j, dsc cS (scoreD (winQ1 x0) (winK1D x1) r) (dpD (winG1 x3) (winV1D x2) r) j * winK1D x1 (ix4 (0 : Fin 1) (0 : Fin 1) j d) := by
  unfold dq1D k0_pay17
  refine (dq_entry _ _ _ _ _ r (ds1D (winQ1 x0) (winK1D x1) (winV1D x2) (winG1 x3) r) d).trans ?_
  exact Finset.sum_congr rfl fun j _ => congrArg (dsc cS (scoreD (winQ1 x0) (winK1D x1) r) (dpD (winG1 x3) (winV1D x2) r) j * ·)
    (cast_11ab (winK1D x1) _ j d)

theorem dk1D_apply (x0 : Vec Ideal S1x2x512x96 .bf16) (x1 : Vec Ideal S1x2x2048x96 .bf16) (x2 : Vec Ideal S1x2x2048x64 .bf16) (x3 : Vec Ideal S1x512x128 .f32)
    (y : Vec Ideal S1x1x2048x96 .f32) (j : Fin 2048) (d : Fin 96) :
    dk1D x0 x1 x2 x3 y (ix4 (0 : Fin 1) (0 : Fin 1) j d)
      = y (ix4 (0 : Fin 1) (0 : Fin 1) j d)
        + ∑ r : Fin 512, dsc cS (scoreD (winQ1 x0) (winK1D x1) r) (dpD (winG1 x3) (winV1D x2) r) j * winQ1 x0 (ix4 (0 : Fin 1) (0 : Fin 1) r d) := by
  unfold dk1D k0_pay18
  refine (acc_entry _ _ _ _ _ j d _ _ (fun r => ds1D (winQ1 x0) (winK1D x1) (winV1D x2) (winG1 x3) r j) (fun r => cast_11ab (winQ1 x0) _ r d)).trans ?_
  exact congrArg (· + _) (cast_11ab y _ j d)

theorem dv1D_apply (x0 : Vec Ideal S1x2x512x96 .bf16) (x1 : Vec Ideal S1x2x2048x96 .bf16) (x3 : Vec Ideal S1x512x128 .f32)
    (y : Vec Ideal S1x1x2048x64 .f32) (j : Fin 2048) (d : Fin 64) :
    dv1D x0 x1 x3 y (ix4 (0 : Fin 1) (0 : Fin 1) j d)
      = y (ix4 (0 : Fin 1) (0 : Fin 1) j d)
        + ∑ r : Fin 512, wgt (scoreD (winQ1 x0) (winK1D x1) r) j * (winG1 x3 (ix3 (0 : Fin 1) r d) * inv (scoreD (winQ1 x0) (winK1D x1) r)) := by
  unfold dv1D k0_pay15 k0_pay98 k0_pay97
  refine (acc_entry _ _ _ _ _ j d _ _ (fun r => wgt1D (winQ1 x0) (winK1D x1) r j)
    (fun r => (mulf_apply _ _ _).trans (congrArg₂ (· * ·) (shapeCast_1ab_ab_apply (winG1 x3) _ r d)
      ((bcast_col _ _ r d).trans (inv1D (winQ1 x0) (winK1D x1) r))))).trans ?_
  exact congrArg (· + _) (cast_11ab y _ j d)

end Cert.KernelIdeal.Gen
-- ==== Proof.PointD.lean ====
/- One point of the attention gradient's grid against the heads' whole arrays, 2048 columns read. -/
module

public import proofs.«01_k».proof.Proof.EntryD
public import proofs.«01_k».proof.Proof.Heads

@[expose] public section

set_option maxRecDepth 16384

noncomputable section

namespace Cert.KernelIdeal.Gen

open Idealize.ShloMosaic Idealize.ShloMosaic.ValueIdx Cert.Reads Cert.Attn Cert.Rows Cert.Heads

variable (x0 : Vec Ideal S1x2x512x96 .bf16) (x1 : Vec Ideal S1x2x2048x96 .bf16) (x2 : Vec Ideal S1x2x2048x64 .bf16) (x3 : Vec Ideal S1x512x128 .f32)
variable (Q K : Fin 2 → Fin 2048 → Fin 96 → EReal) (W G : Fin 2 → Fin 2048 → Fin 64 → EReal)

private theorem leD : 2048 ≤ 2048 := by norm_num

theorem readQ0D (hQ : ∀ e r d, x0 (ix4 (0 : Fin 1) e r d) = Q e (rowAt 3 r) d) (r : Fin 512) (d : Fin 96) : winQ0 x0 (ix4 (0 : Fin 1) (0 : Fin 1) r d) = Q 0 (rowAt 3 r) d :=
  (window_head x0 0 _ 0 rfl le_rfl r d).trans (hQ 0 r d)
theorem readK0D (hK : ∀ e j d, x1 (ix4 (0 : Fin 1) e j d) = K e j d) (j : Fin 2048) (d : Fin 96) : winK0D x1 (ix4 (0 : Fin 1) (0 : Fin 1) j d) = K 0 (Fin.castLE (by norm_num) j) d :=
  (window_head x1 0 _ 0 rfl (by norm_num) j d).trans (hK 0 _ d)
theorem readV0D (hV : ∀ e j d, x2 (ix4 (0 : Fin 1) e j d) = W e j d) (j : Fin 2048) (d : Fin 64) : winV0D x2 (ix4 (0 : Fin 1) (0 : Fin 1) j d) = W 0 (Fin.castLE (by norm_num) j) d :=
  (window_head x2 0 _ 0 rfl (by norm_num) j d).trans (hV 0 _ d)
theorem readG0D (hG : ∀ (e : Fin 2) r (d : Fin 64) (c : Fin 128), c.val = 64 * e.val + d.val → x3 (ix3 (0 : Fin 1) r c) = G e (rowAt 3 r) d) (r : Fin 512) (d : Fin 64) : winG0 x3 (ix3 (0 : Fin 1) r d) = G 0 (rowAt 3 r) d :=
  (window_cols x3 0 _ r d ⟨0 + d.val, by omega⟩ rfl).trans (hG 0 r d _ rfl)

theorem scores0D (hQ : ∀ e r d, x0 (ix4 (0 : Fin 1) e r d) = Q e (rowAt 3 r) d) (hK : ∀ e j d, x1 (ix4 (0 : Fin 1) e j d) = K e j d) (r : Fin 512) :
    scoreD (winQ0 x0) (winK0D x1) r = scoreAt cS (rowAt 3 r).val (Q 0 (rowAt 3 r)) fun j : Fin 2048 => K 0 (Fin.castLE (by norm_num) j) := by
  unfold scoreD
  rw [funext fun d => readQ0D x0 Q hQ r d, funext fun j => funext fun d => readK0D x1 K hK j d]
  exact congrArg (fun row => scoreAt cS row (Q 0 (rowAt 3 r)) fun j : Fin 2048 => K 0 (Fin.castLE (by norm_num) j)) (by show 1536 + r.val = 512 * 3 + r.val; omega)

theorem dps0D (hV : ∀ e j d, x2 (ix4 (0 : Fin 1) e j d) = W e j d) (hG : ∀ (e : Fin 2) r (d : Fin 64) (c : Fin 128), c.val = 64 * e.val + d.val → x3 (ix3 (0 : Fin 1) r c) = G e (rowAt 3 r) d) (r : Fin 512) :
    dpD (winG0 x3) (winV0D x2) r = dp (G 0 (rowAt 3 r)) fun j : Fin 2048 => W 0 (Fin.castLE (by norm_num) j) := by
  unfold dpD
  rw [funext fun d => readG0D x3 G hG r d, funext fun j => funext fun d => readV0D x2 W hV j d]

theorem row_lt0D (r : Fin 512) : (rowAt 3 r).val < 2048 := by show 512 * 3 + r.val < 2048; omega

theorem dscs0D (hQ : ∀ e r d, x0 (ix4 (0 : Fin 1) e r d) = Q e (rowAt 3 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 3 r) d) (r : Fin 512) (j : Fin 2048) :
    dsc cS (scoreD (winQ0 x0) (winK0D x1) r) (dpD (winG0 x3) (winV0D x2) r) j
      = dsc cS (scoreAt cS (rowAt 3 r).val (Q 0 (rowAt 3 r)) (K 0)) (dp (G 0 (rowAt 3 r)) (W 0)) (Fin.castLE (by norm_num) j) := by
  rw [scores0D x0 x1 Q K hQ hK r, dps0D x2 x3 W G hV hG r]
  exact dsc_first (by norm_num) cS (rowAt 3 r).val (row_lt0D r) (Q 0 (rowAt 3 r)) (K 0) (G 0 (rowAt 3 r)) (W 0) j

theorem readQ1D (hQ : ∀ e r d, x0 (ix4 (0 : Fin 1) e r d) = Q e (rowAt 3 r) d) (r : Fin 512) (d : Fin 96) : winQ1 x0 (ix4 (0 : Fin 1) (0 : Fin 1) r d) = Q 1 (rowAt 3 r) d :=
  (window_head x0 1 _ 1 rfl le_rfl r d).trans (hQ 1 r d)
theorem readK1D (hK : ∀ e j d, x1 (ix4 (0 : Fin 1) e j d) = K e j d) (j : Fin 2048) (d : Fin 96) : winK1D x1 (ix4 (0 : Fin 1) (0 : Fin 1) j d) = K 1 (Fin.castLE (by norm_num) j) d :=
  (window_head x1 1 _ 1 rfl (by norm_num) j d).trans (hK 1 _ d)
theorem readV1D (hV : ∀ e j d, x2 (ix4 (0 : Fin 1) e j d) = W e j d) (j : Fin 2048) (d : Fin 64) : winV1D x2 (ix4 (0 : Fin 1) (0 : Fin 1) j d) = W 1 (Fin.castLE (by norm_num) j) d :=
  (window_head x2 1 _ 1 rfl (by norm_num) j d).trans (hV 1 _ d)
theorem readG1D (hG : ∀ (e : Fin 2) r (d : Fin 64) (c : Fin 128), c.val = 64 * e.val + d.val → x3 (ix3 (0 : Fin 1) r c) = G e (rowAt 3 r) d) (r : Fin 512) (d : Fin 64) : winG1 x3 (ix3 (0 : Fin 1) r d) = G 1 (rowAt 3 r) d :=
  (window_cols x3 64 _ r d ⟨64 + d.val, by omega⟩ rfl).trans (hG 1 r d _ rfl)

theorem scores1D (hQ : ∀ e r d, x0 (ix4 (0 : Fin 1) e r d) = Q e (rowAt 3 r) d) (hK : ∀ e j d, x1 (ix4 (0 : Fin 1) e j d) = K e j d) (r : Fin 512) :
    scoreD (winQ1 x0) (winK1D x1) r = scoreAt cS (rowAt 3 r).val (Q 1 (rowAt 3 r)) fun j : Fin 2048 => K 1 (Fin.castLE (by norm_num) j) := by
  unfold scoreD
  rw [funext fun d => readQ1D x0 Q hQ r d, funext fun j => funext fun d => readK1D x1 K hK j d]
  exact congrArg (fun row => scoreAt cS row (Q 1 (rowAt 3 r)) fun j : Fin 2048 => K 1 (Fin.castLE (by norm_num) j)) (by show 1536 + r.val = 512 * 3 + r.val; omega)

theorem dps1D (hV : ∀ e j d, x2 (ix4 (0 : Fin 1) e j d) = W e j d) (hG : ∀ (e : Fin 2) r (d : Fin 64) (c : Fin 128), c.val = 64 * e.val + d.val → x3 (ix3 (0 : Fin 1) r c) = G e (rowAt 3 r) d) (r : Fin 512) :
    dpD (winG1 x3) (winV1D x2) r = dp (G 1 (rowAt 3 r)) fun j : Fin 2048 => W 1 (Fin.castLE (by norm_num) j) := by
  unfold dpD
  rw [funext fun d => readG1D x3 G hG r d, funext fun j => funext fun d => readV1D x2 W hV j d]

theorem row_lt1D (r : Fin 512) : (rowAt 3 r).val < 2048 := by show 512 * 3 + r.val < 2048; omega

theorem dscs1D (hQ : ∀ e r d, x0 (ix4 (0 : Fin 1) e r d) = Q e (rowAt 3 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 3 r) d) (r : Fin 512) (j : Fin 2048) :
    dsc cS (scoreD (winQ1 x0) (winK1D x1) r) (dpD (winG1 x3) (winV1D x2) r) j
      = dsc cS (scoreAt cS (rowAt 3 r).val (Q 1 (rowAt 3 r)) (K 1)) (dp (G 1 (rowAt 3 r)) (W 1)) (Fin.castLE (by norm_num) j) := by
  rw [scores1D x0 x1 Q K hQ hK r, dps1D x2 x3 W G hV hG r]
  exact dsc_first (by norm_num) cS (rowAt 3 r).val (row_lt1D r) (Q 1 (rowAt 3 r)) (K 1) (G 1 (rowAt 3 r)) (W 1) j

/-- The query gradient's block after the point. -/
theorem dqStepD_apply (hQ : ∀ e r d, x0 (ix4 (0 : Fin 1) e r d) = Q e (rowAt 3 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 3 r) d) (e : Fin 2) (r : Fin 512) (d : Fin 96) :
    dqStepD x0 x1 x2 x3 (ix4 (0 : Fin 1) e r d) = gradQ cS (Q e) (K e) (W e) (G e) (rowAt 3 r) d := by
  unfold dqStepD
  refine put_two _ _ _ le_rfl (fun e r d => gradQ cS (Q e) (K e) (W e) (G e) (rowAt 3 r) d) (fun r d => ?_) (fun r d => ?_) (fun e r d h => absurd r.isLt (by omega)) e r d
  · refine (dq0D_apply x0 x1 x2 x3 r d).trans ?_
    refine (Finset.sum_congr rfl fun j _ => congrArg₂ (· * ·) (dscs0D x0 x1 x2 x3 Q K W G hQ hK hV hG r j) (readK0D x1 K hK j d)).trans ?_
    refine sum_first leD (fun j => dsc cS (scoreAt cS (rowAt 3 r).val (Q 0 (rowAt 3 r)) (K 0)) (dp (G 0 (rowAt 3 r)) (W 0)) j * K 0 j d) fun j hj => ?_
    have := row_lt0D r
    exact (congrArg (· * _) (dsc_of_wgt _ _ _ _ (wgt_past _ _ _ _ _ (by omega)))).trans (zero_mul _)
  · refine (dq1D_apply x0 x1 x2 x3 r d).trans ?_
    refine (Finset.sum_congr rfl fun j _ => congrArg₂ (· * ·) (dscs1D x0 x1 x2 x3 Q K W G hQ hK hV hG r j) (readK1D x1 K hK j d)).trans ?_
    refine sum_first leD (fun j => dsc cS (scoreAt cS (rowAt 3 r).val (Q 1 (rowAt 3 r)) (K 1)) (dp (G 1 (rowAt 3 r)) (W 1)) j * K 1 j d) fun j hj => ?_
    have := row_lt1D r
    exact (congrArg (· * _) (dsc_of_wgt _ _ _ _ (wgt_past _ _ _ _ _ (by omega)))).trans (zero_mul _)

/-- The key gradient's block after the point: each row of the block adds its part. -/
theorem dkStepD_apply (hQ : ∀ e r d, x0 (ix4 (0 : Fin 1) e r d) = Q e (rowAt 3 r) d) (hK : ∀ e j d, x1 (ix4 (0 : Fin 1) e j d) = K e j d) (hV : ∀ e j d, x2 (ix4 (0 : Fin 1) e j d) = W e j d) (hG : ∀ (e : Fin 2) r (d : Fin 64) (c : Fin 128), c.val = 64 * e.val + d.val → x3 (ix3 (0 : Fin 1) r c) = G e (rowAt 3 r) d) (y : Vec Ideal S1x2x2048x96 .f32) (e : Fin 2) (j : Fin 2048) (d : Fin 96) :
    dkStepD x0 x1 x2 x3 y (ix4 (0 : Fin 1) e j d) = y (ix4 (0 : Fin 1) e j d) + ∑ r, partK cS (Q e) (K e) (W e) (G e) (rowAt 3 r) j d := by
  unfold dkStepD
  refine put_two _ _ _ leD (fun e j d => y (ix4 (0 : Fin 1) e j d) + ∑ r, partK cS (Q e) (K e) (W e) (G e) (rowAt 3 r) j d) (fun j d => ?_) (fun j d => ?_) (fun e j d h => ?_) e j d
  · refine (dk0D_apply x0 x1 x2 x3 (winA0D y) j d).trans (congrArg₂ (· + ·) (window_head y 0 _ 0 rfl leD j d) ?_)
    exact Finset.sum_congr rfl fun r _ => congrArg₂ (· * ·) (dscs0D x0 x1 x2 x3 Q K W G hQ hK hV hG r j) (readQ0D x0 Q hQ r d)
  · refine (dk1D_apply x0 x1 x2 x3 (winA1D y) j d).trans (congrArg₂ (· + ·) (window_head y 1 _ 1 rfl leD j d) ?_)
    exact Finset.sum_congr rfl fun r _ => congrArg₂ (· * ·) (dscs1D x0 x1 x2 x3 Q K W G hQ hK hV hG r j) (readQ1D x0 Q hQ r d)
  · refine ((congrArg (y (ix4 (0 : Fin 1) e j d) + ·) (Finset.sum_eq_zero fun r _ => partK_past cS (Q e) (K e) (W e) (G e) (rowAt 3 r) j ?_ d)).trans (add_zero _)).symm
    have := row_lt0D r
    omega

/-- The value gradient's block after the point. -/
theorem dvStepD_apply (hQ : ∀ e r d, x0 (ix4 (0 : Fin 1) e r d) = Q e (rowAt 3 r) d) (hK : ∀ e j d, x1 (ix4 (0 : Fin 1) e j d) = K e j d) (hG : ∀ (e : Fin 2) r (d : Fin 64) (c : Fin 128), c.val = 64 * e.val + d.val → x3 (ix3 (0 : Fin 1) r c) = G e (rowAt 3 r) d) (y : Vec Ideal S1x2x2048x64 .f32) (e : Fin 2) (j : Fin 2048) (d : Fin 64) :
    dvStepD x0 x1 x3 y (ix4 (0 : Fin 1) e j d) = y (ix4 (0 : Fin 1) e j d) + ∑ r, partV cS (Q e) (K e) (G e) (rowAt 3 r) j d := by
  unfold dvStepD
  refine put_two _ _ _ leD (fun e j d => y (ix4 (0 : Fin 1) e j d) + ∑ r, partV cS (Q e) (K e) (G e) (rowAt 3 r) j d) (fun j d => ?_) (fun j d => ?_) (fun e j d h => ?_) e j d
  · refine (dv0D_apply x0 x1 x3 (winB0D y) j d).trans (congrArg₂ (· + ·) (window_head y 0 _ 0 rfl leD j d) ?_)
    refine Finset.sum_congr rfl fun r _ => ?_
    rw [scores0D x0 x1 Q K hQ hK r, readG0D x3 G hG r d]
    exact congrArg₂ (· * ·) (wgt_first leD cS (rowAt 3 r).val (row_lt0D r) (Q 0 (rowAt 3 r)) (K 0) j)
      (congrArg (G 0 (rowAt 3 r) d * ·) (inv_first leD cS (rowAt 3 r).val (row_lt0D r) (Q 0 (rowAt 3 r)) (K 0)))
  · refine (dv1D_apply x0 x1 x3 (winB1D y) j d).trans (congrArg₂ (· + ·) (window_head y 1 _ 1 rfl leD j d) ?_)
    refine Finset.sum_congr rfl fun r _ => ?_
    rw [scores1D x0 x1 Q K hQ hK r, readG1D x3 G hG r d]
    exact congrArg₂ (· * ·) (wgt_first leD cS (rowAt 3 r).val (row_lt1D r) (Q 1 (rowAt 3 r)) (K 1) j)
      (congrArg (G 1 (rowAt 3 r) d * ·) (inv_first leD cS (rowAt 3 r).val (row_lt1D r) (Q 1 (rowAt 3 r)) (K 1)))
  · refine ((congrArg (y (ix4 (0 : Fin 1) e j d) + ·) (Finset.sum_eq_zero fun r _ => partV_past cS (Q e) (K e) (G e) (rowAt 3 r) j ?_ d)).trans (add_zero _)).symm
    have := row_lt0D r
    omega

end Cert.KernelIdeal.Gen
-- ==== Proof.Final.lean ====
/- The three arrays the attention gradient ends with, entry by entry: each head's gradients over its whole arrays. -/
module

public import proofs.«01_k».proof.Proof.Run
public import proofs.«01_k».proof.Proof.Whole
public import proofs.«01_k».proof.Proof.PointA
public import proofs.«01_k».proof.Proof.PointB
public import proofs.«01_k».proof.Proof.PointC
public import proofs.«01_k».proof.Proof.PointD
public import Idealize.ShloMosaic.Lib.Pipeline.ValueKit.Geometry
public import Idealize.ShloMosaic.Lib.Pointwise

@[expose] public section

set_option maxRecDepth 16384

noncomputable section

namespace Cert.KernelIdeal.Gen

open Idealize.ShloMosaic hiding ix3 ix4
open Idealize.ShloMosaic.TcCoe Idealize.ShloMosaic.ValueIdx Cert.Attn
open Idealize.ShloMosaic.Pipeline (Dat Cfg Window cellOf)

variable (m : (ℓ : Loc nD τ sig) → Buf (Elt Ideal) ℓ) (c : Dev nD)

/-- The four arguments. -/
abbrev in0 : Vec Ideal S2x16x2048x96 .bf16 := m ((c.tc : Thread nD τ).loc main_arg0)
abbrev in1 : Vec Ideal S2x16x2048x96 .bf16 := m ((c.tc : Thread nD τ).loc main_arg1)
abbrev in2 : Vec Ideal S2x16x2048x64 .bf16 := m ((c.tc : Thread nD τ).loc main_arg2)
abbrev in3 : Vec Ideal S2x2048x1024 .f32 := m ((c.tc : Thread nD τ).loc main_arg3)

/-! ## The blocks a point reads and writes -/

theorem idx0 : ∀ t : Fin cfg0.N, win0_0.index t = ![t.val / 32, t.val / 4 % 8, t.val % 4, 0] := by decide +kernel
theorem idx1 : ∀ t : Fin cfg0.N, win0_1.index t = ![t.val / 32, t.val / 4 % 8, 0, 0] := by decide +kernel
theorem idx2 : ∀ t : Fin cfg0.N, win0_2.index t = ![t.val / 32, t.val / 4 % 8, 0, 0] := by decide +kernel
theorem idx3 : ∀ t : Fin cfg0.N, win0_3.index t = ![t.val / 32, t.val % 4, t.val / 4 % 8] := by decide +kernel
theorem idx4 : ∀ t : Fin cfg0.N, win0_4.index t = ![t.val / 32, t.val / 4 % 8, t.val % 4, 0] := by decide +kernel
theorem idx5 : ∀ t : Fin cfg0.N, win0_5.index t = ![t.val / 32, t.val / 4 % 8, 0, 0] := by decide +kernel
theorem idx6 : ∀ t : Fin cfg0.N, win0_6.index t = ![t.val / 32, t.val / 4 % 8, 0, 0] := by decide +kernel

section
variable (t : Fin cfg0.N) (b : Fin 2) (p : Fin 8) (i : Fin 4) (ht : t.val = 32 * b.val + 4 * p.val + i.val)
include ht

theorem of_point : t.val / 32 = b.val ∧ t.val / 4 % 8 = p.val ∧ t.val % 4 = i.val := by omega

theorem blkQ_apply (e : Fin 2) (r : Fin 512) (d : Fin 96) : blkQ m c t (ix4 (0 : Fin 1) e r d) = headOf (in0 m c) b (hd p e) (rowAt i r) d := by
  obtain ⟨h0, h1, h2⟩ := of_point t b p i ht
  unfold blkQ headOf hd rowAt
  blk_ext [iblk, V, idx0 t]
  · show t.val / 4 % 8 * 2 + e.val = 2 * p.val + e.val; omega
  · show t.val % 4 * 512 + r.val = 512 * i.val + r.val; omega

theorem blkK_apply (e : Fin 2) (j : Fin 2048) (d : Fin 96) : blkK m c t (ix4 (0 : Fin 1) e j d) = headOf (in1 m c) b (hd p e) j d := by
  obtain ⟨h0, h1, h2⟩ := of_point t b p i ht
  unfold blkK headOf hd
  blk_ext [iblk, V, idx1 t]
  · show t.val / 4 % 8 * 2 + e.val = 2 * p.val + e.val; omega

theorem blkV_apply (e : Fin 2) (j : Fin 2048) (d : Fin 64) : blkV m c t (ix4 (0 : Fin 1) e j d) = headOf (in2 m c) b (hd p e) j d := by
  obtain ⟨h0, h1, h2⟩ := of_point t b p i ht
  unfold blkV headOf hd
  blk_ext [iblk, V, idx2 t]
  · show t.val / 4 % 8 * 2 + e.val = 2 * p.val + e.val; omega

theorem blkG_apply (e : Fin 2) (r : Fin 512) (d : Fin 64) (k : Fin 128) (hk : k.val = 64 * e.val + d.val) :
    blkG m c t (ix3 (0 : Fin 1) r k) = gradOf (in3 m c) b (hd p e) (rowAt i r) d := by
  obtain ⟨h0, h1, h2⟩ := of_point t b p i ht
  unfold blkG gradOf hd rowAt colOf
  blk_ext [iblk, V, idx3 t]
  · show t.val % 4 * 512 + r.val = 512 * i.val + r.val; omega
  · show t.val / 4 % 8 * 128 + k.val = 64 * (2 * p.val + e.val) + d.val; omega

end

/-! ## The blocks after each point -/

section
variable (b : Fin 2) (p : Fin 8)

theorem leftA (t : Fin cfg0.N) (ht : t.val = 32 * b.val + 4 * p.val + 0) (e : Fin 2) (r : Fin 512) (d : Fin 96) :
    dqStepA (blkQ m c t) (blkK m c t) (blkV m c t) (blkG m c t) (ix4 (0 : Fin 1) e r d) = outQ (in0 m c) (in1 m c) (in2 m c) (in3 m c) b (hd p e) (rowAt 0 r) d :=
  dqStepA_apply _ _ _ _ (fun e => headOf (in0 m c) b (hd p e)) (fun e => headOf (in1 m c) b (hd p e)) (fun e => headOf (in2 m c) b (hd p e)) (fun e => gradOf (in3 m c) b (hd p e)) (blkQ_apply m c t b p 0 ht) (blkK_apply m c t b p 0 ht) (blkV_apply m c t b p 0 ht) (blkG_apply m c t b p 0 ht) e r d

theorem accK0_apply (t : Fin cfg0.N) (ht : t.val = 32 * b.val + 4 * p.val + 0) (e : Fin 2) (j : Fin 2048) (d : Fin 96) :
    accK0 m c t (ix4 (0 : Fin 1) e j d) = (∑ r, partK cS (headOf (in0 m c) b (hd p e)) (headOf (in1 m c) b (hd p e)) (headOf (in2 m c) b (hd p e)) (gradOf (in3 m c) b (hd p e)) (rowAt 0 r) j d) := by
  unfold accK0
  refine (dkStepA_apply _ _ _ _ (fun e => headOf (in0 m c) b (hd p e)) (fun e => headOf (in1 m c) b (hd p e)) (fun e => headOf (in2 m c) b (hd p e)) (fun e => gradOf (in3 m c) b (hd p e)) (blkQ_apply m c t b p 0 ht) (blkK_apply m c t b p 0 ht) (blkV_apply m c t b p 0 ht) (blkG_apply m c t b p 0 ht) (k0_pay1 (F := Ideal)) e j d).trans ?_
  rw [show k0_pay1 (F := Ideal) (ix4 (0 : Fin 1) e j d) = 0 from Ideal.ofBits_zero_f32, zero_add]

theorem accV0_apply (t : Fin cfg0.N) (ht : t.val = 32 * b.val + 4 * p.val + 0) (e : Fin 2) (j : Fin 2048) (d : Fin 64) :
    accV0 m c t (ix4 (0 : Fin 1) e j d) = (∑ r, partV cS (headOf (in0 m c) b (hd p e)) (headOf (in1 m c) b (hd p e)) (gradOf (in3 m c) b (hd p e)) (rowAt 0 r) j d) := by
  unfold accV0
  refine (dvStepA_apply _ _ _ (fun e => headOf (in0 m c) b (hd p e)) (fun e => headOf (in1 m c) b (hd p e)) (fun e => gradOf (in3 m c) b (hd p e)) (blkQ_apply m c t b p 0 ht) (blkK_apply m c t b p 0 ht) (blkG_apply m c t b p 0 ht) (k0_pay2 (F := Ideal)) e j d).trans ?_
  rw [show k0_pay2 (F := Ideal) (ix4 (0 : Fin 1) e j d) = 0 from Ideal.ofBits_zero_f32, zero_add]

theorem leftB (t : Fin cfg0.N) (ht : t.val = 32 * b.val + 4 * p.val + 1) (e : Fin 2) (r : Fin 512) (d : Fin 96) :
    dqStepB (blkQ m c t) (blkK m c t) (blkV m c t) (blkG m c t) (ix4 (0 : Fin 1) e r d) = outQ (in0 m c) (in1 m c) (in2 m c) (in3 m c) b (hd p e) (rowAt 1 r) d :=
  dqStepB_apply _ _ _ _ (fun e => headOf (in0 m c) b (hd p e)) (fun e => headOf (in1 m c) b (hd p e)) (fun e => headOf (in2 m c) b (hd p e)) (fun e => gradOf (in3 m c) b (hd p e)) (blkQ_apply m c t b p 1 ht) (blkK_apply m c t b p 1 ht) (blkV_apply m c t b p 1 ht) (blkG_apply m c t b p 1 ht) e r d

theorem accK1_apply (t : Fin cfg0.N) (ht : t.val = 32 * b.val + 4 * p.val + 1) (e : Fin 2) (j : Fin 2048) (d : Fin 96) :
    accK1 m c t (ix4 (0 : Fin 1) e j d) = ((∑ r, partK cS (headOf (in0 m c) b (hd p e)) (headOf (in1 m c) b (hd p e)) (headOf (in2 m c) b (hd p e)) (gradOf (in3 m c) b (hd p e)) (rowAt 0 r) j d) + ∑ r, partK cS (headOf (in0 m c) b (hd p e)) (headOf (in1 m c) b (hd p e)) (headOf (in2 m c) b (hd p e)) (gradOf (in3 m c) b (hd p e)) (rowAt 1 r) j d) :=
  (dkStepB_apply _ _ _ _ (fun e => headOf (in0 m c) b (hd p e)) (fun e => headOf (in1 m c) b (hd p e)) (fun e => headOf (in2 m c) b (hd p e)) (fun e => gradOf (in3 m c) b (hd p e)) (blkQ_apply m c t b p 1 ht) (blkK_apply m c t b p 1 ht) (blkV_apply m c t b p 1 ht) (blkG_apply m c t b p 1 ht) (accK0 m c (prev t)) e j d).trans
    (congrArg (· + _) (accK0_apply m c b p (prev t) (by simp only [prev]; omega) e j d))

theorem accV1_apply (t : Fin cfg0.N) (ht : t.val = 32 * b.val + 4 * p.val + 1) (e : Fin 2) (j : Fin 2048) (d : Fin 64) :
    accV1 m c t (ix4 (0 : Fin 1) e j d) = ((∑ r, partV cS (headOf (in0 m c) b (hd p e)) (headOf (in1 m c) b (hd p e)) (gradOf (in3 m c) b (hd p e)) (rowAt 0 r) j d) + ∑ r, partV cS (headOf (in0 m c) b (hd p e)) (headOf (in1 m c) b (hd p e)) (gradOf (in3 m c) b (hd p e)) (rowAt 1 r) j d) :=
  (dvStepB_apply _ _ _ (fun e => headOf (in0 m c) b (hd p e)) (fun e => headOf (in1 m c) b (hd p e)) (fun e => gradOf (in3 m c) b (hd p e)) (blkQ_apply m c t b p 1 ht) (blkK_apply m c t b p 1 ht) (blkG_apply m c t b p 1 ht) (accV0 m c (prev t)) e j d).trans
    (congrArg (· + _) (accV0_apply m c b p (prev t) (by simp only [prev]; omega) e j d))

theorem leftC (t : Fin cfg0.N) (ht : t.val = 32 * b.val + 4 * p.val + 2) (e : Fin 2) (r : Fin 512) (d : Fin 96) :
    dqStepC (blkQ m c t) (blkK m c t) (blkV m c t) (blkG m c t) (ix4 (0 : Fin 1) e r d) = outQ (in0 m c) (in1 m c) (in2 m c) (in3 m c) b (hd p e) (rowAt 2 r) d :=
  dqStepC_apply _ _ _ _ (fun e => headOf (in0 m c) b (hd p e)) (fun e => headOf (in1 m c) b (hd p e)) (fun e => headOf (in2 m c) b (hd p e)) (fun e => gradOf (in3 m c) b (hd p e)) (blkQ_apply m c t b p 2 ht) (blkK_apply m c t b p 2 ht) (blkV_apply m c t b p 2 ht) (blkG_apply m c t b p 2 ht) e r d

theorem accK2_apply (t : Fin cfg0.N) (ht : t.val = 32 * b.val + 4 * p.val + 2) (e : Fin 2) (j : Fin 2048) (d : Fin 96) :
    accK2 m c t (ix4 (0 : Fin 1) e j d) = (((∑ r, partK cS (headOf (in0 m c) b (hd p e)) (headOf (in1 m c) b (hd p e)) (headOf (in2 m c) b (hd p e)) (gradOf (in3 m c) b (hd p e)) (rowAt 0 r) j d) + ∑ r, partK cS (headOf (in0 m c) b (hd p e)) (headOf (in1 m c) b (hd p e)) (headOf (in2 m c) b (hd p e)) (gradOf (in3 m c) b (hd p e)) (rowAt 1 r) j d) + ∑ r, partK cS (headOf (in0 m c) b (hd p e)) (headOf (in1 m c) b (hd p e)) (headOf (in2 m c) b (hd p e)) (gradOf (in3 m c) b (hd p e)) (rowAt 2 r) j d) :=
  (dkStepC_apply _ _ _ _ (fun e => headOf (in0 m c) b (hd p e)) (fun e => headOf (in1 m c) b (hd p e)) (fun e => headOf (in2 m c) b (hd p e)) (fun e => gradOf (in3 m c) b (hd p e)) (blkQ_apply m c t b p 2 ht) (blkK_apply m c t b p 2 ht) (blkV_apply m c t b p 2 ht) (blkG_apply m c t b p 2 ht) (accK1 m c (prev t)) e j d).trans
    (congrArg (· + _) (accK1_apply m c b p (prev t) (by simp only [prev]; omega) e j d))

theorem accV2_apply (t : Fin cfg0.N) (ht : t.val = 32 * b.val + 4 * p.val + 2) (e : Fin 2) (j : Fin 2048) (d : Fin 64) :
    accV2 m c t (ix4 (0 : Fin 1) e j d) = (((∑ r, partV cS (headOf (in0 m c) b (hd p e)) (headOf (in1 m c) b (hd p e)) (gradOf (in3 m c) b (hd p e)) (rowAt 0 r) j d) + ∑ r, partV cS (headOf (in0 m c) b (hd p e)) (headOf (in1 m c) b (hd p e)) (gradOf (in3 m c) b (hd p e)) (rowAt 1 r) j d) + ∑ r, partV cS (headOf (in0 m c) b (hd p e)) (headOf (in1 m c) b (hd p e)) (gradOf (in3 m c) b (hd p e)) (rowAt 2 r) j d) :=
  (dvStepC_apply _ _ _ (fun e => headOf (in0 m c) b (hd p e)) (fun e => headOf (in1 m c) b (hd p e)) (fun e => gradOf (in3 m c) b (hd p e)) (blkQ_apply m c t b p 2 ht) (blkK_apply m c t b p 2 ht) (blkG_apply m c t b p 2 ht) (accV1 m c (prev t)) e j d).trans
    (congrArg (· + _) (accV1_apply m c b p (prev t) (by simp only [prev]; omega) e j d))

theorem leftD (t : Fin cfg0.N) (ht : t.val = 32 * b.val + 4 * p.val + 3) (e : Fin 2) (r : Fin 512) (d : Fin 96) :
    dqStepD (blkQ m c t) (blkK m c t) (blkV m c t) (blkG m c t) (ix4 (0 : Fin 1) e r d) = outQ (in0 m c) (in1 m c) (in2 m c) (in3 m c) b (hd p e) (rowAt 3 r) d :=
  dqStepD_apply _ _ _ _ (fun e => headOf (in0 m c) b (hd p e)) (fun e => headOf (in1 m c) b (hd p e)) (fun e => headOf (in2 m c) b (hd p e)) (fun e => gradOf (in3 m c) b (hd p e)) (blkQ_apply m c t b p 3 ht) (blkK_apply m c t b p 3 ht) (blkV_apply m c t b p 3 ht) (blkG_apply m c t b p 3 ht) e r d

theorem accK3_apply (t : Fin cfg0.N) (ht : t.val = 32 * b.val + 4 * p.val + 3) (e : Fin 2) (j : Fin 2048) (d : Fin 96) :
    accK3 m c t (ix4 (0 : Fin 1) e j d) = ((((∑ r, partK cS (headOf (in0 m c) b (hd p e)) (headOf (in1 m c) b (hd p e)) (headOf (in2 m c) b (hd p e)) (gradOf (in3 m c) b (hd p e)) (rowAt 0 r) j d) + ∑ r, partK cS (headOf (in0 m c) b (hd p e)) (headOf (in1 m c) b (hd p e)) (headOf (in2 m c) b (hd p e)) (gradOf (in3 m c) b (hd p e)) (rowAt 1 r) j d) + ∑ r, partK cS (headOf (in0 m c) b (hd p e)) (headOf (in1 m c) b (hd p e)) (headOf (in2 m c) b (hd p e)) (gradOf (in3 m c) b (hd p e)) (rowAt 2 r) j d) + ∑ r, partK cS (headOf (in0 m c) b (hd p e)) (headOf (in1 m c) b (hd p e)) (headOf (in2 m c) b (hd p e)) (gradOf (in3 m c) b (hd p e)) (rowAt 3 r) j d) :=
  (dkStepD_apply _ _ _ _ (fun e => headOf (in0 m c) b (hd p e)) (fun e => headOf (in1 m c) b (hd p e)) (fun e => headOf (in2 m c) b (hd p e)) (fun e => gradOf (in3 m c) b (hd p e)) (blkQ_apply m c t b p 3 ht) (blkK_apply m c t b p 3 ht) (blkV_apply m c t b p 3 ht) (blkG_apply m c t b p 3 ht) (accK2 m c (prev t)) e j d).trans
    (congrArg (· + _) (accK2_apply m c b p (prev t) (by simp only [prev]; omega) e j d))

theorem accV3_apply (t : Fin cfg0.N) (ht : t.val = 32 * b.val + 4 * p.val + 3) (e : Fin 2) (j : Fin 2048) (d : Fin 64) :
    accV3 m c t (ix4 (0 : Fin 1) e j d) = ((((∑ r, partV cS (headOf (in0 m c) b (hd p e)) (headOf (in1 m c) b (hd p e)) (gradOf (in3 m c) b (hd p e)) (rowAt 0 r) j d) + ∑ r, partV cS (headOf (in0 m c) b (hd p e)) (headOf (in1 m c) b (hd p e)) (gradOf (in3 m c) b (hd p e)) (rowAt 1 r) j d) + ∑ r, partV cS (headOf (in0 m c) b (hd p e)) (headOf (in1 m c) b (hd p e)) (gradOf (in3 m c) b (hd p e)) (rowAt 2 r) j d) + ∑ r, partV cS (headOf (in0 m c) b (hd p e)) (headOf (in1 m c) b (hd p e)) (gradOf (in3 m c) b (hd p e)) (rowAt 3 r) j d) :=
  (dvStepD_apply _ _ _ (fun e => headOf (in0 m c) b (hd p e)) (fun e => headOf (in1 m c) b (hd p e)) (fun e => gradOf (in3 m c) b (hd p e)) (blkQ_apply m c t b p 3 ht) (blkK_apply m c t b p 3 ht) (blkG_apply m c t b p 3 ht) (accV2 m c (prev t)) e j d).trans
    (congrArg (· + _) (accV2_apply m c b p (prev t) (by simp only [prev]; omega) e j d))

end

/-! ## The arrays -/

theorem emb4 (t : Fin cfg0.N) (b : Fin 2) (p : Fin 8) (i : Fin 4) (ht : t.val = 32 * b.val + 4 * p.val + i.val) (e : Fin 2) (r : Fin 512) (d : Fin 96) :
    ((win0_4.blk t).view.emb (ix4 (0 : Fin 1) e r d) : S2x16x2048x96.Idx) = ix4 b (hd p e) (rowAt i r) d := by
  obtain ⟨h0, h1, h2⟩ := of_point t b p i ht
  unfold hd rowAt
  blk_ext [idx4 t]
  · show t.val / 4 % 8 * 2 + e.val = 2 * p.val + e.val; omega
  · show t.val % 4 * 512 + r.val = 512 * i.val + r.val; omega

theorem emb5 (t : Fin cfg0.N) (b : Fin 2) (p : Fin 8) (i : Fin 4) (ht : t.val = 32 * b.val + 4 * p.val + i.val) (e : Fin 2) (j : Fin 2048) (d : Fin 96) :
    ((win0_5.blk t).view.emb (ix4 (0 : Fin 1) e j d) : S2x16x2048x96.Idx) = ix4 b (hd p e) j d := by
  obtain ⟨h0, h1, h2⟩ := of_point t b p i ht
  unfold hd
  blk_ext [idx5 t]
  · show t.val / 4 % 8 * 2 + e.val = 2 * p.val + e.val; omega

theorem emb6 (t : Fin cfg0.N) (b : Fin 2) (p : Fin 8) (i : Fin 4) (ht : t.val = 32 * b.val + 4 * p.val + i.val) (e : Fin 2) (j : Fin 2048) (d : Fin 64) :
    ((win0_6.blk t).view.emb (ix4 (0 : Fin 1) e j d) : S2x16x2048x64.Idx) = ix4 b (hd p e) j d := by
  obtain ⟨h0, h1, h2⟩ := of_point t b p i ht
  unfold hd
  blk_ext [idx6 t]
  · show t.val / 4 % 8 * 2 + e.val = 2 * p.val + e.val; omega

/-- Every point is a row block of a pair of heads of a batch entry. -/
theorem point_split (t : Fin cfg0.N) : ∃ (b : Fin 2) (p : Fin 8) (i : Fin 4), t.val = 32 * b.val + 4 * p.val + i.val := by
  have : t.val < 64 := t.isLt
  exact ⟨⟨t.val / 32, by omega⟩, ⟨t.val / 4 % 8, by omega⟩, ⟨t.val % 4, by omega⟩, by show t.val = 32 * (t.val / 32) + 4 * (t.val / 4 % 8) + t.val % 4; omega⟩

theorem idx_eq {D E : ℕ} (y : (⟨4, ![1, 2, D, E]⟩ : Shape).Idx) : y = ix4 (0 : Fin 1) (y 1 : Fin 2) (y 2 : Fin D) (y 3 : Fin E) :=
  (ValueIdx.eq_ix4 y).trans (congrArg (fun a : Fin 1 => ix4 a (y 1 : Fin 2) (y 2 : Fin D) (y 3 : Fin E)) (Subsingleton.elim _ _))

theorem final4 : (datK m 0 c).arrAt 4 (cfgs 0).N = arrOf (outQ (in0 m c) (in1 m c) (in2 m c) (in3 m c)) := by
  refine (datK m 0 c).arrAt_eq_of_covers 4 _ (by decide +kernel) fun t hf y => ?_
  blk_simp
  rw [datK_after4]
  obtain ⟨b, p, i, ht⟩ := point_split t
  obtain ⟨e, r, d, rfl⟩ : ∃ (e : Fin 2) (r : Fin 512) (d : Fin 96), y = ix4 (0 : Fin 1) e r d := ⟨_, _, _, idx_eq y⟩
  refine Eq.trans ?_ (congrArg (arrOf (outQ (in0 m c) (in1 m c) (in2 m c) (in3 m c))) (emb4 t b p i ht e r d)).symm
  unfold leftQ
  match i, ht with
  | ⟨0, _⟩, ht => rw [if_pos (by simp only at ht; omega)]; exact leftA m c b p t ht e r d
  | ⟨1, _⟩, ht => rw [if_neg (by simp only at ht; omega), if_pos (by simp only at ht; omega)]; exact leftB m c b p t ht e r d
  | ⟨2, _⟩, ht => rw [if_neg (by simp only at ht; omega), if_neg (by simp only at ht; omega), if_pos (by simp only at ht; omega)]; exact leftC m c b p t ht e r d
  | ⟨3, _⟩, ht => rw [if_neg (by simp only at ht; omega), if_neg (by simp only at ht; omega), if_neg (by simp only at ht; omega)]; exact leftD m c b p t ht e r d

theorem accK_all (b : Fin 2) (p : Fin 8) (t : Fin cfg0.N) (ht : t.val = 32 * b.val + 4 * p.val + 3) (e : Fin 2) (j : Fin 2048) (d : Fin 96) :
    accK3 m c t (ix4 (0 : Fin 1) e j d) = outK (in0 m c) (in1 m c) (in2 m c) (in3 m c) b (hd p e) j d :=
  (accK3_apply m c b p t ht e j d).trans (sum_rows fun row => partK cS (headOf (in0 m c) b (hd p e)) (headOf (in1 m c) b (hd p e)) (headOf (in2 m c) b (hd p e)) (gradOf (in3 m c) b (hd p e)) row j d).symm

theorem leftK_last (t : Fin cfg0.N) (h : t.val % 4 = 3) : leftK m c t = accK3 m c t :=
  (if_neg (by omega)).trans ((if_neg (by omega)).trans (if_neg (by omega)))

theorem covers5 : (cfg0.win 5).Covers := by decide +kernel

theorem final5 : (datK m 0 c).arrAt 5 (cfgs 0).N = arrOf (outK (in0 m c) (in1 m c) (in2 m c) (in3 m c)) := by
  refine (datK m 0 c).arrAt_eq_of_covers 5 _ covers5 fun t hf y => ?_
  have h3 : t.val % 4 = 3 := (flush0_5 t).mp hf
  blk_simp
  rw [datK_after5]
  obtain ⟨b, p, i, ht⟩ := point_split t
  obtain ⟨e, j, d, rfl⟩ : ∃ (e : Fin 2) (j : Fin 2048) (d : Fin 96), y = ix4 (0 : Fin 1) e j d := ⟨_, _, _, idx_eq y⟩
  refine Eq.trans ?_ (congrArg (arrOf (outK (in0 m c) (in1 m c) (in2 m c) (in3 m c))) (emb5 t b p i ht e j d)).symm
  rw [leftK_last m c t h3]
  exact accK_all m c b p t (by omega) e j d

theorem accV_all (b : Fin 2) (p : Fin 8) (t : Fin cfg0.N) (ht : t.val = 32 * b.val + 4 * p.val + 3) (e : Fin 2) (j : Fin 2048) (d : Fin 64) :
    accV3 m c t (ix4 (0 : Fin 1) e j d) = outV (in0 m c) (in1 m c) (in3 m c) b (hd p e) j d :=
  (accV3_apply m c b p t ht e j d).trans (sum_rows fun row => partV cS (headOf (in0 m c) b (hd p e)) (headOf (in1 m c) b (hd p e)) (gradOf (in3 m c) b (hd p e)) row j d).symm

theorem leftV_last (t : Fin cfg0.N) (h : t.val % 4 = 3) : leftV m c t = accV3 m c t :=
  (if_neg (by omega)).trans ((if_neg (by omega)).trans (if_neg (by omega)))

theorem covers6 : (cfg0.win 6).Covers := by decide +kernel

theorem final6 : (datK m 0 c).arrAt 6 (cfgs 0).N = arrOf (outV (in0 m c) (in1 m c) (in3 m c)) := by
  refine (datK m 0 c).arrAt_eq_of_covers 6 _ covers6 fun t hf y => ?_
  have h3 : t.val % 4 = 3 := (flush0_6 t).mp hf
  blk_simp
  rw [datK_after6]
  obtain ⟨b, p, i, ht⟩ := point_split t
  obtain ⟨e, j, d, rfl⟩ : ∃ (e : Fin 2) (j : Fin 2048) (d : Fin 64), y = ix4 (0 : Fin 1) e j d := ⟨_, _, _, idx_eq y⟩
  refine Eq.trans ?_ (congrArg (arrOf (outV (in0 m c) (in1 m c) (in3 m c))) (emb6 t b p i ht e j d)).symm
  rw [leftV_last m c t h3]
  exact accV_all m c b p t (by omega) e j d

end Cert.KernelIdeal.Gen
-- ==== Proof.RefRead.lean ====
/- The reference's three results, entry by entry: the same gradients of each head over its whole arrays. -/
module

public import proofs.«01_k».proof.Proof.Gen.ReferenceIdeal.Read
public import proofs.«01_k».proof.Proof.Whole
public import proofs.«01_k».proof.Proof.Reads
public import Idealize.ShloMosaic.Lib.KernelVsHost
public import Idealize.ShloMosaic.Lib.WordCmp

@[expose] public section

set_option maxRecDepth 16384

noncomputable section

namespace Cert.ReferenceIdeal.Read

open Idealize.ShloMosaic Idealize.ShloMosaic.ValueIdx Cert.ReferenceIdeal Cert.ReferenceIdeal.Gen Cert.Attn

variable (x0 x1 : (⟨4, ![2, 16, 2048, 96]⟩ : Shape).Idx → EReal) (x2 : (⟨4, ![2, 16, 2048, 64]⟩ : Shape).Idx → EReal) (x3 : (⟨3, ![2, 2048, 1024]⟩ : Shape).Idx → EReal)
variable (b : Fin 2) (h : Fin 16)

/-- Row `r`'s masked scores in head `h` of batch entry `b`. -/
def rowScores (r : Fin 2048) : Fin 2048 → EReal := scoreAt cS r.val (headOf x0 b h r) (headOf x1 b h)
/-- Row `r`'s incoming gradient against every value. -/
def rowDp (r : Fin 2048) : Fin 2048 → EReal := dp (gradOf x3 b h r) (headOf x2 b h)

/-- An index with the given coordinates. -/
theorem idx4 {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun x => match x with
  | ⟨0, _⟩ => Fin.ext h0
  | ⟨1, _⟩ => Fin.ext h1
  | ⟨2, _⟩ => Fin.ext h2
  | ⟨3, _⟩ => Fin.ext h3
theorem idx3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun x => match x with
  | ⟨0, _⟩ => Fin.ext h0
  | ⟨1, _⟩ => Fin.ext h1
  | ⟨2, _⟩ => Fin.ext h2

/-! ## The columns of the two halves of a head -/

def nope (d : Fin 64) : Fin 96 := Fin.castAdd 32 d
def rope (d : Fin 32) : Fin 96 := Fin.natAdd 64 d

theorem v3_at (r : Fin 2048) (d : Fin 64) : val_main_v3 (F := Ideal) x0 (ix4 b h r d) = headOf x0 b h r (nope d) := by
  rw [val_main_v3_apply, val_main_v0_apply]
  exact congrArg x0 (idx4 _ b h r (nope d) rfl rfl rfl rfl)
theorem v4_at (r : Fin 2048) (d : Fin 32) : val_main_v4 (F := Ideal) x0 (ix4 b h r d) = headOf x0 b h r (rope d) := by
  rw [val_main_v4_apply, val_main_v0_apply]
  exact congrArg x0 (idx4 _ b h r (rope d) rfl rfl rfl rfl)
theorem v5_at (r : Fin 2048) (d : Fin 64) : val_main_v5 (F := Ideal) x1 (ix4 b h r d) = headOf x1 b h r (nope d) := by
  rw [val_main_v5_apply, val_main_v1_apply]
  exact congrArg x1 (idx4 _ b h r (nope d) rfl rfl rfl rfl)
theorem v6_at (r : Fin 2048) (d : Fin 32) : val_main_v6 (F := Ideal) x1 (ix4 b h r d) = headOf x1 b h r (rope d) := by
  rw [val_main_v6_apply, val_main_v1_apply]
  exact congrArg x1 (idx4 _ b h r (rope d) rfl rfl rfl rfl)

/-! ## Scores and weights -/

theorem v11_at (r j : Fin 2048) : val_main_v11 (F := Ideal) x0 x1 (ix4 b h r j) = (∑ d, headOf x0 b h r d * headOf x1 b h j d) * cS := by
  rw [val_main_v11_apply, val_main_v10_apply, val_main_v9_apply, val_main_v7_apply, val_main_v8_apply]
  refine congrArg (· * cS) ?_
  refine Eq.trans ?_ (Fin.sum_univ_add (a := 64) (b := 32) fun d : Fin (64 + 32) => headOf x0 b h r d * headOf x1 b h j d).symm
  exact congrArg₂ (· + ·)
    (Finset.sum_congr rfl fun d _ => congrArg₂ (· * ·)
      ((congrArg (val_main_v3 (F := Ideal) x0) (idx4 _ b h r d rfl rfl rfl rfl)).trans (v3_at x0 b h r d))
      ((congrArg (val_main_v5 (F := Ideal) x1) (idx4 _ b h j d rfl rfl rfl rfl)).trans (v5_at x1 b h j d)))
    (Finset.sum_congr rfl fun d _ => congrArg₂ (· * ·)
      ((congrArg (val_main_v4 (F := Ideal) x0) (idx4 _ b h r d rfl rfl rfl rfl)).trans (v4_at x0 b h r d))
      ((congrArg (val_main_v6 (F := Ideal) x1) (idx4 _ b h j d rfl rfl rfl rfl)).trans (v6_at x1 b h j d)))

/-- The causal mask: column `j` is seen from row `r` when `j ≤ r`. -/
theorem v19_1_at (r j : Fin 2048) (x y : EReal) :
    Scalar.select (val_main_v19_1 (F := Ideal) (ix4 b h r j)) x y = if j.val ≤ r.val then x else y := by
  rw [val_main_v19_1_apply, val_main_v18_apply, val_main_v16_apply, val_main_v17_apply, val_main_v13_apply, val_main_v15_apply,
    val_main_v12_apply, val_main_v14_apply]
  show Scalar.select (IntOp.cmpi .sge (BitVec.ofNat 32 r.val) (BitVec.ofNat 32 j.val)) x y = _
  rw [WordCmp.cmpi_sge_ofNat (by omega) (by omega), WordCmp.select_ofBool]
  simp only [decide_eq_true_eq]

theorem v19_0_at (r j : Fin 2048) : val_main_v19_0 (F := Ideal) x0 x1 (ix4 b h r j) = rowScores x0 x1 b h r j := by
  rw [val_main_v19_0_apply, v19_1_at, v11_at, val_main_call0_v2_apply, val_main_call0_v0_apply, val_main_cst_0_apply]
  unfold rowScores scoreAt
  exact congrArg (fun z => if j.val ≤ r.val then (∑ d, headOf x0 b h r d * headOf x1 b h j d) * cS else z) Cert.Reads.ofBits_neg_inf

theorem reduces_last : (⟨4, ![2, 16, 2048, 2048]⟩ : Shape).Reduces [3] ⟨3, ![2, 16, 2048]⟩ := by decide

theorem v20_at (r : Fin 2048) : val_main_v20 (F := Ideal) x0 x1 (ix3 b h r) = topOf (rowScores x0 x1 b h r) := by
  unfold val_main_v20 val_main_cst_1
  refine (congrFun (hostReduce_maximumf_eq_multiReduction (F := Ideal) (φ := .f32) (val_main_v19_0 (F := Ideal) x0 x1) 0xFF800000#32
    reducesTo_S2x16x2048x2048_S2x16x2048_d3 h_S_ reduces_last (.inl rfl) rfl) (ix3 b h r)).trans ?_
  refine (Ideal.multiReduction_maximumf_single _ _ reduces_last _ _ (ix3 b h r)).trans ?_
  show Finset.fold max (Ideal.ofBits .f32 0xFF800000#32) _ _ = _
  rw [Cert.Reads.ofBits_neg_inf]
  unfold topOf
  exact congrArg (Finset.fold max ⊥ · Finset.univ) (funext fun j =>
    (congrArg (val_main_v19_0 (F := Ideal) x0 x1) (idx4 _ b h r j rfl rfl rfl rfl)).trans (v19_0_at x0 x1 b h r j))

theorem v29_at (r j : Fin 2048) : val_main_v29 (F := Ideal) x0 x1 (ix4 b h r j) = wgt (rowScores x0 x1 b h r) j := by
  rw [val_main_v29_apply, val_main_v28_apply, v19_0_at, val_main_v27_apply, val_main_v26_apply]
  exact congrArg (fun z => Ideal.exp (rowScores x0 x1 b h r j - z))
    ((congrArg (val_main_v20 (F := Ideal) x0 x1) (idx3 _ b h r rfl rfl rfl)).trans (v20_at x0 x1 b h r))

theorem v30_at (r : Fin 2048) : val_main_v30 (F := Ideal) x0 x1 (ix3 b h r) = tot (rowScores x0 x1 b h r) := by
  rw [val_main_v30_apply, val_main_cst_3_apply]
  refine (congrArg₂ (· + ·) Ideal.ofBits_zero_f32 (Finset.sum_congr rfl fun j _ => ?_)).trans (zero_add _)
  exact (congrArg (val_main_v29 (F := Ideal) x0 x1) (idx4 _ b h r j rfl rfl rfl rfl)).trans (v29_at x0 x1 b h r j)

theorem v31_at (r : Fin 2048) (z : Fin 1) : val_main_v31 (F := Ideal) x0 x1 (ix4 b h r z) = tot (rowScores x0 x1 b h r) := by
  rw [val_main_v31_apply]
  exact (congrArg (val_main_v30 (F := Ideal) x0 x1) (idx3 _ b h r rfl rfl rfl)).trans (v30_at x0 x1 b h r)

theorem v33_at (r : Fin 2048) (z : Fin 1) : val_main_v33 (F := Ideal) x0 x1 (ix4 b h r z) = inv (rowScores x0 x1 b h r) := by
  rw [val_main_v33_apply, v31_at, val_main_v32_apply, val_main_cst_4_apply]
  exact congrArg (Ideal.div · (tot (rowScores x0 x1 b h r))) Ideal.ofBits_one_f32

theorem v36_at (r : Fin 2048) (z : Fin 1) :
    val_main_v36 (F := Ideal) x0 x1 (ix4 b h r z) = Ideal.div 1 (tot (rowScores x0 x1 b h r) * tot (rowScores x0 x1 b h r)) := by
  rw [val_main_v36_apply, val_main_v34_apply, v31_at, val_main_v35_apply, val_main_cst_5_apply]
  exact congrArg (Ideal.div · (tot (rowScores x0 x1 b h r) * tot (rowScores x0 x1 b h r))) Ideal.ofBits_one_f32

theorem v38_at (r j : Fin 2048) : val_main_v38 (F := Ideal) x0 x1 (ix4 b h r j) = wgt (rowScores x0 x1 b h r) j * inv (rowScores x0 x1 b h r) := by
  rw [val_main_v38_apply, v29_at, val_main_v37_apply]
  exact congrArg (wgt (rowScores x0 x1 b h r) j * ·)
    ((congrArg (val_main_v33 (F := Ideal) x0 x1) (idx4 _ b h r (0 : Fin 1) rfl rfl rfl rfl)).trans (v33_at x0 x1 b h r 0))

/-! ## The incoming gradient and the value gradient -/

theorem v43_at (d : Fin 64) (r : Fin 2048) : val_main_v43 (F := Ideal) x3 (ix4 b h d r) = gradOf x3 b h r d := by
  rw [val_main_v43_apply, val_main_v42_apply]
  refine congrArg x3 (idx3 _ b r (colOf h d) ?_ ?_ ?_)
  · show ((((b.val * 2048 + r.val) * 16 + h.val) * 64 + d.val) / 2097152) = b.val; omega
  · show ((((b.val * 2048 + r.val) * 16 + h.val) * 64 + d.val) / 1024 % 2048) = r.val; omega
  · show ((((b.val * 2048 + r.val) * 16 + h.val) * 64 + d.val) % 1024) = 64 * h.val + d.val; omega

theorem v44_at (r j : Fin 2048) : val_main_v44 (F := Ideal) x2 x3 (ix4 b h r j) = rowDp x2 x3 b h r j := by
  rw [val_main_v44_apply]
  refine Finset.sum_congr rfl fun d _ => congrArg₂ (· * ·)
    ((congrArg (val_main_v43 (F := Ideal) x3) (idx4 _ b h d r rfl rfl rfl rfl)).trans (v43_at x3 b h d r)) ?_
  rw [val_main_v2_apply]
  exact congrArg x2 (idx4 _ b h j d rfl rfl rfl rfl)

theorem v46_at (j : Fin 2048) (d : Fin 64) : val_main_v46 (F := Ideal) x0 x1 x3 (ix4 b h j d) = outV x0 x1 x3 b h j d := by
  rw [val_main_v46_apply]
  refine (congrArg (val_main_v45 (F := Ideal) x0 x1 x3) (idx4 _ b h d j rfl rfl rfl rfl)).trans ?_
  rw [val_main_v45_apply]
  refine Finset.sum_congr rfl fun r _ => (congrArg₂ (· * ·)
    ((congrArg (val_main_v43 (F := Ideal) x3) (idx4 _ b h d r rfl rfl rfl rfl)).trans (v43_at x3 b h d r))
    ((congrArg (val_main_v38 (F := Ideal) x0 x1) (idx4 _ b h r j rfl rfl rfl rfl)).trans (v38_at x0 x1 b h r j))).trans (mul_left_comm _ _ _)

/-! ## The gradient of the scores -/

theorem v48_at (r : Fin 2048) :
    val_main_v48 (F := Ideal) x0 x1 x2 x3 (ix3 b h r) = ∑ j, wgt (rowScores x0 x1 b h r) j * rowDp x2 x3 b h r j := by
  rw [val_main_v48_apply, val_main_cst_6_apply]
  refine (congrArg₂ (· + ·) Ideal.ofBits_zero_f32 (Finset.sum_congr rfl fun j _ => ?_)).trans (zero_add _)
  refine (congrArg (val_main_v47 (F := Ideal) x0 x1 x2 x3) (idx4 _ b h r j rfl rfl rfl rfl)).trans ?_
  rw [val_main_v47_apply, v29_at, v44_at]
  rfl

theorem v55_at (r : Fin 2048) (z : Fin 1) : val_main_v55 (F := Ideal) x0 x1 x2 x3 (ix4 b h r z)
    = -((∑ j, wgt (rowScores x0 x1 b h r) j * rowDp x2 x3 b h r j) * Ideal.div 1 (tot (rowScores x0 x1 b h r) * tot (rowScores x0 x1 b h r)) * 1) := by
  rw [val_main_v55_apply, val_main_v54_apply, val_main_v52_apply, v36_at, val_main_v49_apply, val_main_v53_apply, val_main_cst_7_apply]
  have e : idx_main_v49 (ix4 b h r z) = ix3 b h r := by
    have hz : z.val = 0 := by omega
    refine idx3 _ b h r ?_ ?_ ?_
    · show (((b.val * 16 + h.val) * 2048 + r.val) * 1 + z.val) / 32768 = b.val; omega
    · show (((b.val * 16 + h.val) * 2048 + r.val) * 1 + z.val) / 2048 % 16 = h.val; omega
    · show (((b.val * 16 + h.val) * 2048 + r.val) * 1 + z.val) % 2048 = r.val; omega
  rw [e, v48_at]
  exact congrArg (fun o : EReal => -((∑ j, wgt (rowScores x0 x1 b h r) j * rowDp x2 x3 b h r j) * Ideal.div 1 (tot (rowScores x0 x1 b h r) * tot (rowScores x0 x1 b h r)) * o))
    Ideal.ofBits_one_f32

theorem v57_at (r j : Fin 2048) : val_main_v57 (F := Ideal) x0 x1 x2 x3 (ix4 b h r j)
    = -((∑ j, wgt (rowScores x0 x1 b h r) j * rowDp x2 x3 b h r j) * Ideal.div 1 (tot (rowScores x0 x1 b h r) * tot (rowScores x0 x1 b h r)) * 1) := by
  rw [val_main_v57_apply]
  refine (congrArg (val_main_v56 (F := Ideal) x0 x1 x2 x3) (idx3 _ b h r rfl rfl rfl)).trans ?_
  rw [val_main_v56_apply, val_main_cst_8_apply, Fin.sum_univ_one]
  refine (congrArg₂ (· + ·) Ideal.ofBits_zero_f32 ?_).trans (zero_add _)
  exact (congrArg (val_main_v55 (F := Ideal) x0 x1 x2 x3) (idx4 _ b h r (0 : Fin 1) rfl rfl rfl rfl)).trans (v55_at x0 x1 x2 x3 b h r 0)

theorem v51_at (r j : Fin 2048) : val_main_v51 (F := Ideal) x0 x1 x2 x3 (ix4 b h r j) = rowDp x2 x3 b h r j * inv (rowScores x0 x1 b h r) := by
  rw [val_main_v51_apply, v44_at, val_main_v50_apply]
  exact congrArg (rowDp x2 x3 b h r j * ·)
    ((congrArg (val_main_v33 (F := Ideal) x0 x1) (idx4 _ b h r (0 : Fin 1) rfl rfl rfl rfl)).trans (v33_at x0 x1 b h r 0))

theorem v62_at (r j : Fin 2048) : val_main_v62 (F := Ideal) x0 x1 x2 x3 (ix4 b h r j) = dsc cS (rowScores x0 x1 b h r) (rowDp x2 x3 b h r) j := by
  rw [dsc_eq_dscRef, val_main_v62_apply, val_main_v60_apply, v19_1_at, val_main_v59_apply, val_main_v58_apply, v51_at, v57_at, v29_at,
    val_main_call1_v0_apply, val_main_call1_cst_apply, val_main_v61_apply]
  unfold dscRef
  by_cases hj : j.val ≤ r.val
  · rw [if_pos hj]; rfl
  · rw [if_neg hj]
    have hw : wgt (rowScores x0 x1 b h r) j = 0 := wgt_past _ _ _ _ _ (by omega)
    rw [hw, mul_zero, zero_mul]
    exact (congrArg (· * cS) Ideal.ofBits_zero_f32).trans (zero_mul _)

/-! ## The query and the key gradient -/

theorem v66_at (r : Fin 2048) (d : Fin 64) : val_main_v66 (F := Ideal) x0 x1 x2 x3 (ix4 b h r d) = outQ x0 x1 x2 x3 b h r (nope d) := by
  rw [val_main_v66_apply]
  exact Finset.sum_congr rfl fun j _ => congrArg₂ (· * ·)
    ((congrArg (val_main_v62 (F := Ideal) x0 x1 x2 x3) (idx4 _ b h r j rfl rfl rfl rfl)).trans (v62_at x0 x1 x2 x3 b h r j))
    ((congrArg (val_main_v5 (F := Ideal) x1) (idx4 _ b h j d rfl rfl rfl rfl)).trans (v5_at x1 b h j d))
theorem v64_at (r : Fin 2048) (d : Fin 32) : val_main_v64 (F := Ideal) x0 x1 x2 x3 (ix4 b h r d) = outQ x0 x1 x2 x3 b h r (rope d) := by
  rw [val_main_v64_apply]
  exact Finset.sum_congr rfl fun j _ => congrArg₂ (· * ·)
    ((congrArg (val_main_v62 (F := Ideal) x0 x1 x2 x3) (idx4 _ b h r j rfl rfl rfl rfl)).trans (v62_at x0 x1 x2 x3 b h r j))
    ((congrArg (val_main_v6 (F := Ideal) x1) (idx4 _ b h j d rfl rfl rfl rfl)).trans (v6_at x1 b h j d))
theorem v65_at (j : Fin 2048) (d : Fin 64) : val_main_v65 (F := Ideal) x0 x1 x2 x3 (ix4 b h j d) = outK x0 x1 x2 x3 b h j (nope d) := by
  rw [val_main_v65_apply]
  exact Finset.sum_congr rfl fun r _ => congrArg₂ (· * ·)
    ((congrArg (val_main_v62 (F := Ideal) x0 x1 x2 x3) (idx4 _ b h r j rfl rfl rfl rfl)).trans (v62_at x0 x1 x2 x3 b h r j))
    ((congrArg (val_main_v3 (F := Ideal) x0) (idx4 _ b h r d rfl rfl rfl rfl)).trans (v3_at x0 b h r d))
theorem v63_at (j : Fin 2048) (d : Fin 32) : val_main_v63 (F := Ideal) x0 x1 x2 x3 (ix4 b h j d) = outK x0 x1 x2 x3 b h j (rope d) := by
  rw [val_main_v63_apply]
  exact Finset.sum_congr rfl fun r _ => congrArg₂ (· * ·)
    ((congrArg (val_main_v62 (F := Ideal) x0 x1 x2 x3) (idx4 _ b h r j rfl rfl rfl rfl)).trans (v62_at x0 x1 x2 x3 b h r j))
    ((congrArg (val_main_v4 (F := Ideal) x0) (idx4 _ b h r d rfl rfl rfl rfl)).trans (v4_at x0 b h r d))

/-- The two halves of a head's columns laid side by side. -/
theorem halves (y : (⟨4, ![2, 16, 2048, 64]⟩ : Shape).Idx → EReal) (z : (⟨4, ![2, 16, 2048, 32]⟩ : Shape).Idx → EReal)
    (hc : Shape.Concatenates [⟨4, ![2, 16, 2048, 64]⟩, ⟨4, ![2, 16, 2048, 32]⟩] ⟨4, ![2, 16, 2048, 96]⟩ 3)
    (f : Fin 2 → Fin 16 → Fin 2048 → Fin 96 → EReal) (hy : ∀ b h r d, y (ix4 b h r d) = f b h r (nope d)) (hz : ∀ b h r d, z (ix4 b h r d) = f b h r (rope d)) :
    concatenate ⟨4, ![2, 16, 2048, 96]⟩ 3 [⟨⟨4, ![2, 16, 2048, 64]⟩, y⟩, ⟨⟨4, ![2, 16, 2048, 32]⟩, z⟩] hc = arrOf f := by
  funext i
  obtain ⟨b, h, r, d, rfl⟩ : ∃ (b : Fin 2) (h : Fin 16) (r : Fin 2048) (d : Fin 96), i = ix4 b h r d := ⟨_, _, _, _, ValueIdx.eq_ix4 i⟩
  by_cases hd : d.val < 64
  · refine (concatenate_pair_apply_left _ y z hc (ix4 b h r d) rfl (ix4 b h r (⟨d.val, hd⟩ : Fin 64)) fun a => match a with
      | ⟨0, _⟩ => rfl
      | ⟨1, _⟩ => rfl
      | ⟨2, _⟩ => rfl
      | ⟨3, _⟩ => rfl).trans ((hy b h r _).trans ?_)
    exact congrArg (f b h r) (Fin.ext rfl)
  · refine (concatenate_pair_apply_right _ y z hc (ix4 b h r d) rfl rfl (ix4 b h r (⟨d.val - 64, by omega⟩ : Fin 32)) (fun a ha => match a, ha with
      | ⟨0, _⟩, _ => rfl
      | ⟨1, _⟩, _ => rfl
      | ⟨2, _⟩, _ => rfl
      | ⟨3, _⟩, ha => absurd rfl ha) (by show d.val - 64 + 64 = d.val; omega)).trans ((hz b h r _).trans ?_)
    exact congrArg (f b h r) (Fin.ext (by show 64 + (d.val - 64) = d.val; omega))

theorem v68_all : val_main_v68 (F := Ideal) x0 x1 x2 x3 = arrOf (outQ x0 x1 x2 x3) :=
  halves _ _ _ (outQ x0 x1 x2 x3) (v66_at x0 x1 x2 x3) (v64_at x0 x1 x2 x3)
theorem v67_all : val_main_v67 (F := Ideal) x0 x1 x2 x3 = arrOf (outK x0 x1 x2 x3) :=
  halves _ _ _ (outK x0 x1 x2 x3) (v65_at x0 x1 x2 x3) (v63_at x0 x1 x2 x3)
theorem v46_all : val_main_v46 (F := Ideal) x0 x1 x3 = arrOf (outV x0 x1 x3) := by
  funext i
  obtain ⟨b, h, r, d, rfl⟩ : ∃ (b : Fin 2) (h : Fin 16) (r : Fin 2048) (d : Fin 64), i = ix4 b h r d := ⟨_, _, _, _, ValueIdx.eq_ix4 i⟩
  exact v46_at x0 x1 x3 b h r d

end Cert.ReferenceIdeal.Read
-- ==== Proof.AttnClaims.lean ====
/- The five claims about the attention gradient, from its run, its reference's run and what each leaves entry by entry. -/
module

public import proofs.«01_k».proof.Defs
public import proofs.«01_k».proof.Proof.KernelFrame
public import proofs.«01_k».proof.Proof.Final
public import proofs.«01_k».proof.Proof.RefRead
public import Idealize.ShloMosaic.Lib.Quiescent
public import Idealize.ShloMosaic.Lib.Claim

@[expose] public section

set_option maxRecDepth 16384

noncomputable section

namespace Cert.AttnClaims

open Idealize.ShloMosaic Idealize.ShloMosaic.TcCoe Idealize.SL.Sem Cert.Attn Cert.KernelIdeal.Gen

theorem frameIdeal : Cert.quiescent_KernelIdeal := fun m g _ => Cert.KernelIdeal.Gen.frame_run m g

theorem frameReference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The mask's literal is minus infinity by the certificate's table. -/
theorem maskNamed : Cert.preserves_Kernel_KernelIdeal := IdealRules.named_const.statement _ _ _ _ _ rfl

/-- What the kernel's launch leaves: the three gradients of its four arguments. -/
theorem kernelLeaves (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = arrOf (outQ (in0 m c) (in1 m c) (in2 m c) (in3 m c))
      ∧ r.2.mem ((c.tc : Thread Cert.KernelIdeal.nD Cert.KernelIdeal.τ).loc Cert.KernelIdeal.main_v0_1) = arrOf (outK (in0 m c) (in1 m c) (in2 m c) (in3 m c))
      ∧ r.2.mem ((c.tc : Thread Cert.KernelIdeal.nD Cert.KernelIdeal.τ).loc Cert.KernelIdeal.main_v0_2) = arrOf (outV (in0 m c) (in1 m c) (in3 m c))) :=
  (θ_run Cert.KernelIdeal.defs _ _).mono (fun _ h c => ⟨((h.1 c).1 4).trans (final4 m c), ((h.1 c).1 5).trans (final5 m c), ((h.1 c).1 6).trans (final6 m c)⟩)
    (launch_run (F := Ideal) m g)

/-- What the reference leaves, of the kernel's arguments. -/
theorem referenceLeaves (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (e0 : m' ((c.tc : Thread Cert.ReferenceIdeal.nD Cert.ReferenceIdeal.τ).loc Cert.ReferenceIdeal.main_arg0) = in0 m c)
    (e1 : m' ((c.tc : Thread Cert.ReferenceIdeal.nD Cert.ReferenceIdeal.τ).loc Cert.ReferenceIdeal.main_arg1) = in1 m c)
    (e2 : m' ((c.tc : Thread Cert.ReferenceIdeal.nD Cert.ReferenceIdeal.τ).loc Cert.ReferenceIdeal.main_arg2) = in2 m c)
    (e3 : m' ((c.tc : Thread Cert.ReferenceIdeal.nD Cert.ReferenceIdeal.τ).loc Cert.ReferenceIdeal.main_arg3) = in3 m c) :
    Cert.ReferenceIdeal.Value.res_main_v68 m' c = arrOf (outQ (in0 m c) (in1 m c) (in2 m c) (in3 m c))
      ∧ Cert.ReferenceIdeal.Value.res_main_v67 m' c = arrOf (outK (in0 m c) (in1 m c) (in2 m c) (in3 m c))
      ∧ Cert.ReferenceIdeal.Value.res_main_v46 m' c = arrOf (outV (in0 m c) (in1 m c) (in3 m c)) := by
  rw [Cert.ReferenceIdeal.Read.val_main_v68_eq, Cert.ReferenceIdeal.Read.val_main_v67_eq, Cert.ReferenceIdeal.Read.val_main_v46_eq, e0, e1, e2, e3]
  exact ⟨Cert.ReferenceIdeal.Read.v68_all _ _ _ _, Cert.ReferenceIdeal.Read.v67_all _ _ _ _, Cert.ReferenceIdeal.Read.v46_all _ _ _⟩

/-- The kernel's three gradients are the reference's. -/
theorem equalResults : Cert.algebraic_KernelIdeal_ReferenceIdeal := fun m g m' g' _ ha =>
  ⟨fun c => arrOf (outQ (in0 m c) (in1 m c) (in2 m c) (in3 m c)), fun c => arrOf (outK (in0 m c) (in1 m c) (in2 m c) (in3 m c)), fun c => arrOf (outV (in0 m c) (in1 m c) (in3 m c)),
    (θ_run Cert.KernelIdeal.defs _ _).mono (fun _ h c => ⟨(h.1 c).1, (h.1 c).2.1, (h.1 c).2.2, (h.2.1 c).1, (h.2.1 c).2.1, (h.2.1 c).2.2.1, (h.2.1 c).2.2.2⟩)
      (θ_run_and (kernelLeaves m g) (Cert.KernelIdeal.Gen.frame_run (F := Ideal) m g)),
    (θ_run Cert.ReferenceIdeal.defs _ _).mono (fun _ h c =>
      have L := referenceLeaves m m' c (ha c).1 (ha c).2.1 (ha c).2.2.1 (ha c).2.2.2
      ⟨(h c).1.trans L.1, (h c).2.1.trans L.2.1, (h c).2.2.1.trans L.2.2, (h c).2.2.2⟩)
      (Cert.ReferenceIdeal.Value.run (F := Ideal) m' g')⟩

end Cert.AttnClaims

end
-- ==== Proof.FfnInClaims.lean ====
/- The feed-forward layer's first product and its activation: what the tiles add up to, and the five claims. -/
module

public import proofs.«01_k».proof.Defs
public import proofs.«01_k».proof.Proof.Gen.FfnIn
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Pipeline.ValueKit
public import Idealize.ShloMosaic.Lib.Quiescent

@[expose] public section

set_option maxRecDepth 16384

noncomputable section

namespace Cert.FfnInClaims

open Idealize.ShloMosaic Idealize.ShloMosaic.TcCoe Idealize.SL.Sem
open Cert.FfnInIdeal Cert.FfnInIdeal.Gen

variable (m : (ℓ : Loc nD τ sig) → Buf (Elt Ideal) ℓ)

/-- The gate, column by column of the first half of the weight, -/
def gate (h : S4096x1024.Idx → EReal) (w : S1024x5632.Idx → EReal) : S4096x2816.Idx → EReal :=
  fun i => ∑ k : Fin 1024, h (ix2 (i 0) k) * w (ix2 k ⟨(i 1).val, by have : (i 1).val < 2816 := (i 1).isLt; omega⟩)

/-- and the up projection, of its second half. -/
def up (h : S4096x1024.Idx → EReal) (w : S1024x5632.Idx → EReal) : S4096x2816.Idx → EReal :=
  fun i => ∑ k : Fin 1024, h (ix2 (i 0) k) * w (ix2 k ⟨2816 + (i 1).val, by have : (i 1).val < 2816 := (i 1).isLt; omega⟩)

/-- Which blocks each step stages. -/
theorem places : ∀ t : Fin cfg0.N, win0_0.index t = ![t.val % 8, 0] ∧ win0_1.index t = ![0, t.val / 8] ∧ win0_2.index t = ![0, 2 + t.val / 8]
    ∧ win0_3.index t = ![t.val % 8, t.val / 8] ∧ win0_4.index t = ![t.val % 8, t.val / 8] ∧ win0_5.index t = ![t.val % 8, t.val / 8] :=
  (by decide +kernel : ∀ t : Fin grid0.N, _)

theorem final3 (c : Dev nD) : (dats m 0 c).arrAt 3 cfg0.N
    = gate (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay3, k0_pay1, gate]
  blk_point [iblk, V, places t]

theorem final4 (c : Dev nD) : (dats m 0 c).arrAt 4 cfg0.N
    = up (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay4, k0_pay2, up]
  blk_point [iblk, V, places t]

/-- The activation: the gate by its logistic, by the up projection. -/
def act (g u : S4096x2816.Idx → EReal) : S4096x2816.Idx → EReal := fun i => g i * Ideal.logistic (g i) * u i

theorem final5 (c : Dev nD) : (dats m 0 c).arrAt 5 cfg0.N
    = act (gate (m ((c : Thread nD τ).loc main_arg0)) (m ((c : Thread nD τ).loc main_arg1))) (up (m ((c : Thread nD τ).loc main_arg0)) (m ((c : Thread nD τ).loc main_arg1))) := by
  refine (dats m 0 c).arrAt_eq_of_covers 5 _ (by decide +kernel) fun t hf y => ?_
  blk_simp
  rw [after0_5]
  frame_out
  pointwise [k0_pay5, k0_pay1, k0_pay2, act, gate, up]
  blk_point [iblk, V, places t]

theorem equalResults : Cert.algebraic_FfnInIdeal_FfnInRefIdeal := by
  pair_intro
  · run_from Cert.FfnInIdeal.Value.run_blocks m g
  · run_from Cert.FfnInRefIdeal.Value.run m' g'
    · rw [final3 m c]
      funext i
      pointwise [gate]
    · rw [final4 m c]
      funext i
      pointwise [up]
    · rw [final5 m c]
      funext i
      pointwise [act, gate, up]
      rfl

/-- On words the kernel's table of bodies and its idealized form's are one. -/
theorem table_word : @Cert.FfnIn.defs₀ Bits _ Cert.FfnIn.Gen.facts = @Cert.FfnInIdeal.defs₀ Bits _ Cert.FfnInIdeal.Gen.facts := by
  unfold Cert.FfnIn.defs₀ Cert.FfnInIdeal.defs₀
  refine congrArg Defs.onTc (funext fun l => funext fun a => ?_)
  match l, a with
  | ⟨0, _⟩, (t, s) => rfl

theorem frame : Cert.quiescent_FfnIn := fun m g _ => by
  unfold Cert.FfnIn.defs
  rw [table_word]
  exact Cert.FfnInIdeal.Gen.frame (F := Bits) m g

theorem frameIdeal : Cert.quiescent_FfnInIdeal := fun m g _ => Cert.FfnInIdeal.Gen.frame m g

theorem frameReference : Cert.quiescent_FfnInRefIdeal := fun m g _ =>
  (θ_run Cert.FfnInRefIdeal.defs _ _).mono (fun r h => ⟨fun c => (h c).2.2.2, sem_eq_zero_of_no_sems (by decide) r.2⟩)
    (Cert.FfnInRefIdeal.Value.run (F := Ideal) m g)

theorem same : Cert.preserves_FfnIn_FfnInIdeal := trivial

end Cert.FfnInClaims

end
-- ==== Proof.FfnOutClaims.lean ====
/- The feed-forward layer's second product: what its tiles add up to, and its five claims. -/
module

public import proofs.«01_k».proof.Defs
public import proofs.«01_k».proof.Proof.Gen.FfnOut
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pipeline.ValueKit
public import Idealize.ShloMosaic.Lib.ValueIdx
public import Idealize.ShloMosaic.Lib.Quiescent

@[expose] public section

set_option maxRecDepth 16384

noncomputable section

namespace Cert.FfnOutClaims

open Idealize.ShloMosaic Idealize.ShloMosaic.TcCoe Idealize.SL.Sem
open Cert.FfnOutIdeal Cert.FfnOutIdeal.Gen

/-- The product of a [4096, 2816] and a [2816, 1024] matrix, entry by entry. -/
def product (a : S4096x2816.Idx → EReal) (w : S2816x1024.Idx → EReal) : S4096x1024.Idx → EReal :=
  fun i => ∑ k : Fin 2816, a (ix2 (i 0) k) * w (ix2 k (i 1))

variable (m : (ℓ : Loc nD τ sig) → Buf (Elt Ideal) ℓ)

/-- Which blocks each step stages. -/
theorem places : ∀ t : Fin cfg0.N, win0_0.index t = ![t.val, 0] ∧ win0_1.index t = ![0, 0] ∧ win0_2.index t = ![t.val, 0] :=
  (by decide +kernel : ∀ t : Fin grid0.N, _)

/-- The result array holds the product of the two argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, places t]

/-- On words the kernel's tables of bodies and their idealized form's are one. -/
theorem table_word : @Cert.FfnOut.defs₀ Bits _ Cert.FfnOut.Gen.facts = @Cert.FfnOutIdeal.defs₀ Bits _ Cert.FfnOutIdeal.Gen.facts := by
  unfold Cert.FfnOut.defs₀ Cert.FfnOutIdeal.defs₀
  refine congrArg Defs.onTc (funext fun l => funext fun a => ?_)
  match l, a with
  | ⟨0, _⟩, (t, s) => rfl

theorem frame : Cert.quiescent_FfnOut := fun m g _ => by
  unfold Cert.FfnOut.defs
  rw [table_word]
  exact Cert.FfnOutIdeal.Gen.frame (F := Bits) m g

theorem frameIdeal : Cert.quiescent_FfnOutIdeal := fun m g _ => Cert.FfnOutIdeal.Gen.frame m g

theorem frameReference : Cert.quiescent_FfnOutRefIdeal := fun m g _ =>
  (θ_run Cert.FfnOutRefIdeal.defs _ _).mono (fun r h => ⟨fun c => (h c).2, sem_eq_zero_of_no_sems (by decide) r.2⟩)
    (Cert.FfnOutRefIdeal.Value.run (F := Ideal) m g)

theorem equalResults : Cert.algebraic_FfnOutIdeal_FfnOutRefIdeal := by
  pair_intro
  · run_from Cert.FfnOutIdeal.Value.run_blocks m g
  · run_from Cert.FfnOutRefIdeal.Value.run m' g'
    rw [final m c]
    funext i
    pointwise [product]

theorem same : Cert.preserves_FfnOut_FfnOutIdeal := trivial

end Cert.FfnOutClaims

end
-- ==== Proof.Sums.lean ====
/- A sum over a contracted axis, tile by tile. -/
module

public import Mathlib.Data.EReal.Operations
public import Mathlib.Algebra.BigOperators.Fin

@[expose] public section

namespace Cert.Sums

/-- A sum over an axis is the sum over its first half and the sum over its second. -/
theorem halves (n N : ℕ) (h : n + n = N) (f : Fin N → EReal) :
    ∑ k, f k = (∑ k : Fin n, f ⟨k.val, by omega⟩) + ∑ k : Fin n, f ⟨n + k.val, by omega⟩ := by
  subst h
  exact Fin.sum_univ_add f

/-- A sum over an axis is the sum over its four quarters, one after the other. -/
theorem quarters (n N : ℕ) (h : n + n + n + n = N) (f : Fin N → EReal) :
    ∑ k, f k = (∑ k : Fin n, f ⟨k.val, by omega⟩) + (∑ k : Fin n, f ⟨n + k.val, by omega⟩)
      + (∑ k : Fin n, f ⟨n + n + k.val, by omega⟩) + ∑ k : Fin n, f ⟨n + n + n + k.val, by omega⟩ := by
  subst h
  refine (Fin.sum_univ_add f).trans (congrArg (· + _) ?_)
  refine (Fin.sum_univ_add (fun k : Fin (n + n + n) => f (Fin.castAdd n k))).trans (congrArg (· + _) ?_)
  exact Fin.sum_univ_add (fun k : Fin (n + n) => f (Fin.castAdd n (Fin.castAdd n k)))

end Cert.Sums
-- ==== Proof.FfnOutDwClaims.lean ====
/- The gradient of the feed-forward layer's second weight: what the tiles add up to, and the five claims. -/
module

public import proofs.«01_k».proof.Defs
public import proofs.«01_k».proof.Proof.Gen.FfnOutDw
public import proofs.«01_k».proof.Proof.Gen.FfnOutDwIdeal.Value
public import proofs.«01_k».proof.Proof.Gen.FfnOutDwRefIdeal.Run
public import proofs.«01_k».proof.Proof.Gen.FfnOutDwRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.FfnOutDwClaims

open Idealize.ShloMosaic Idealize.ShloMosaic.TcCoe Idealize.SL.Sem
open Cert.FfnOutDwIdeal Cert.FfnOutDwIdeal.Gen

variable (m : (ℓ : Loc nD τ sig) → Buf (Elt Ideal) ℓ)

/-- The product of the transposed first matrix and the second, entry by entry. -/
def product (a : S4096x2816.Idx → EReal) (d : S4096x1024.Idx → EReal) : S2816x1024.Idx → EReal :=
  fun i => ∑ k : Fin 4096, a (ix2 k (i 0)) * d (ix2 k (i 1))

/-- Which blocks each step stages. -/
theorem places : ∀ t : Fin cfg0.N, win0_0.index t = ![t.val % 2, t.val / 2] ∧ win0_1.index t = ![t.val % 2, 0] ∧ win0_2.index t = ![t.val / 2, 0] :=
  (by decide +kernel : ∀ t : Fin grid0.N, _)

/-- An even step leaves the upper half of the rows' share in the accumulator. -/
theorem held (c : Dev nD) (t : Fin cfg0.N) (h0 : t.val % 2 = 0) :
    (outsAt0 m c t.val t.isLt).2 = k0_pay2 k0_pay1 (iblk m c 0 t) (iblk m c 1 t) := by
  rw [outsAt0_A m c t h0 (by omega)]
  frame_out

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  rw [after0_2, outsAt0_B m c t (by omega) h1]
  frame_out
  simp only [read_unread_whole]
  rw [held m c ⟨t.val - 1, ht⟩ (by dsimp only; omega)]
  pointwise [k0_pay3, k0_pay2, k0_pay1, product]
  refine Eq.trans ?_ (Cert.Sums.halves 2048 4096 rfl _).symm
  blk_point [iblk, V, places t, places ⟨t.val - 1, ht⟩]

theorem equalResults : Cert.algebraic_FfnOutDwIdeal_FfnOutDwRefIdeal := by
  pair_intro
  · run_from Cert.FfnOutDwIdeal.Value.run_blocks m g
  · run_from Cert.FfnOutDwRefIdeal.Value.run m' g'
    rw [final m c]
    funext i
    pointwise [product]
    exact Finset.sum_congr rfl fun k _ => mul_comm _ _

/-- On words the kernel's table of bodies and its idealized form's are one. -/
theorem table_word : @Cert.FfnOutDw.defs₀ Bits _ Cert.FfnOutDw.Gen.facts = @Cert.FfnOutDwIdeal.defs₀ Bits _ Cert.FfnOutDwIdeal.Gen.facts := by
  unfold Cert.FfnOutDw.defs₀ Cert.FfnOutDwIdeal.defs₀
  refine congrArg Defs.onTc (funext fun l => funext fun a => ?_)
  match l, a with
  | ⟨0, _⟩, (t, s) => rfl

theorem frame : Cert.quiescent_FfnOutDw := fun m g _ => by
  unfold Cert.FfnOutDw.defs
  rw [table_word]
  exact Cert.FfnOutDwIdeal.Gen.frame (F := Bits) m g

theorem frameIdeal : Cert.quiescent_FfnOutDwIdeal := fun m g _ => Cert.FfnOutDwIdeal.Gen.frame m g

theorem frameReference : Cert.quiescent_FfnOutDwRefIdeal := fun m g _ =>
  (θ_run Cert.FfnOutDwRefIdeal.defs _ _).mono (fun r h => ⟨fun c => (h c).2, sem_eq_zero_of_no_sems (by decide) r.2⟩)
    (Cert.FfnOutDwRefIdeal.Value.run (F := Ideal) m g)

theorem same : Cert.preserves_FfnOutDw_FfnOutDwIdeal := trivial

end Cert.FfnOutDwClaims

end
-- ==== Proof.FfnOutDxClaims.lean ====
/- The feed-forward layer's second product backwards, through the activation: what the tiles hold, and the five claims. -/
module

public import proofs.«01_k».proof.Defs
public import proofs.«01_k».proof.Proof.Gen.FfnOutDx
public import proofs.«01_k».proof.Proof.Gen.FfnOutDxIdeal.Value
public import proofs.«01_k».proof.Proof.Gen.FfnOutDxRefIdeal.Run
public import proofs.«01_k».proof.Proof.Gen.FfnOutDxRefIdeal.Read
public import Idealize.ShloMosaic.Lib.Pipeline.ValueKit
public import Idealize.ShloMosaic.Lib.Quiescent

@[expose] public section

set_option maxRecDepth 16384

noncomputable section

namespace Cert.FfnOutDxClaims

open Idealize.ShloMosaic Idealize.ShloMosaic.TcCoe Idealize.SL.Sem
open Cert.FfnOutDxIdeal Cert.FfnOutDxIdeal.Gen

variable (m : (ℓ : Loc nD τ sig) → Buf (Elt Ideal) ℓ)

/-- The activation's gradient: the output's gradient by the transposed weight. -/
def dact (dy : S4096x1024.Idx → EReal) (w : S2816x1024.Idx → EReal) : S4096x2816.Idx → EReal :=
  fun i => ∑ k : Fin 1024, dy (ix2 (i 0) k) * w (ix2 (i 1) k)

/-- Which blocks each step stages. -/
theorem places : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

/-- The gate's gradient, of the activation's and of what the forward pass kept, -/
def dgate (d g u : S4096x2816.Idx → EReal) : S4096x2816.Idx → EReal := fun i =>
  d i * u i * Ideal.logistic (g i) + g i * (d i * u i) * (Ideal.logistic (g i) * (1 - Ideal.logistic (g i)))

/-- and the up projection's. -/
def dup (d g : S4096x2816.Idx → EReal) : S4096x2816.Idx → EReal := fun i => g i * Ideal.logistic (g i) * d i

theorem final4 (c : Dev nD) : (dats m 0 c).arrAt 4 cfg0.N
    = dgate (dact (m ((c : Thread nD τ).loc main_arg0)) (m ((c : Thread nD τ).loc main_arg1))) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay4, k0_pay3, k0_pay2, k0_pay1, dgate, dact]
  blk_point [iblk, V, places t]

theorem final5 (c : Dev nD) : (dats m 0 c).arrAt 5 cfg0.N
    = dup (dact (m ((c : Thread nD τ).loc main_arg0)) (m ((c : Thread nD τ).loc main_arg1))) (m ((c : Thread nD τ).loc main_arg2)) := by
  refine (dats m 0 c).arrAt_eq_of_covers 5 _ (by decide +kernel) fun t hf y => ?_
  blk_simp
  rw [after0_5]
  frame_out
  pointwise [k0_pay5, k0_pay3, k0_pay2, k0_pay1, dup, dact]
  blk_point [iblk, V, places t]

theorem equalResults : Cert.algebraic_FfnOutDxIdeal_FfnOutDxRefIdeal := by
  pair_intro
  · run_from Cert.FfnOutDxIdeal.Value.run_blocks m g
  · run_from Cert.FfnOutDxRefIdeal.Value.run m' g'
    · rw [final4 m c]
      funext i
      pointwise [dgate, dact]
      rfl
    · rw [final5 m c]
      funext i
      pointwise [dup, dact]
      rfl

/-- On words the kernel's table of bodies and its idealized form's are one. -/
theorem table_word : @Cert.FfnOutDx.defs₀ Bits _ Cert.FfnOutDx.Gen.facts = @Cert.FfnOutDxIdeal.defs₀ Bits _ Cert.FfnOutDxIdeal.Gen.facts := by
  unfold Cert.FfnOutDx.defs₀ Cert.FfnOutDxIdeal.defs₀
  refine congrArg Defs.onTc (funext fun l => funext fun a => ?_)
  match l, a with
  | ⟨0, _⟩, (t, s) => rfl

theorem frame : Cert.quiescent_FfnOutDx := fun m g _ => by
  unfold Cert.FfnOutDx.defs
  rw [table_word]
  exact Cert.FfnOutDxIdeal.Gen.frame (F := Bits) m g

theorem frameIdeal : Cert.quiescent_FfnOutDxIdeal := fun m g _ => Cert.FfnOutDxIdeal.Gen.frame m g

theorem frameReference : Cert.quiescent_FfnOutDxRefIdeal := fun m g _ =>
  (θ_run Cert.FfnOutDxRefIdeal.defs _ _).mono (fun r h => ⟨fun c => (h c).2.2, sem_eq_zero_of_no_sems (by decide) r.2⟩)
    (Cert.FfnOutDxRefIdeal.Value.run (F := Ideal) m g)

theorem same : Cert.preserves_FfnOutDx_FfnOutDxIdeal := trivial

end Cert.FfnOutDxClaims

end
-- ==== Proof.FfnInDwClaims.lean ====
/- The gradient of one half of the feed-forward layer's first weight: what the tiles add up to, and the five claims. -/
module

public import proofs.«01_k».proof.Defs
public import proofs.«01_k».proof.Proof.Gen.FfnInDw
public import proofs.«01_k».proof.Proof.Gen.FfnInDwIdeal.Value
public import proofs.«01_k».proof.Proof.Gen.FfnInDwRefIdeal.Run
public import proofs.«01_k».proof.Proof.Gen.FfnInDwRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.FfnInDwClaims

open Idealize.ShloMosaic Idealize.ShloMosaic.TcCoe Idealize.SL.Sem
open Cert.FfnInDwIdeal Cert.FfnInDwIdeal.Gen

variable (m : (ℓ : Loc nD τ sig) → Buf (Elt Ideal) ℓ)

/-- The product of the transposed first matrix and the second, entry by entry. -/
def product (a : S4096x1024.Idx → EReal) (d : S4096x2816.Idx → EReal) : S1024x2816.Idx → EReal :=
  fun i => ∑ k : Fin 4096, a (ix2 k (i 0)) * d (ix2 k (i 1))

/-- Which blocks each step stages. -/
theorem places : ∀ t : Fin cfg0.N, win0_0.index t = ![t.val % 2, 0] ∧ win0_1.index t = ![t.val % 2, t.val / 2] ∧ win0_2.index t = ![0, t.val / 2] :=
  (by decide +kernel : ∀ t : Fin grid0.N, _)

/-- An even step leaves the upper half of the rows' share in the accumulator. -/
theorem held (c : Dev nD) (t : Fin cfg0.N) (h0 : t.val % 2 = 0) :
    (outsAt0 m c t.val t.isLt).2 = k0_pay2 k0_pay1 (iblk m c 0 t) (iblk m c 1 t) := by
  rw [outsAt0_A m c t h0 (by omega)]
  frame_out

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  rw [after0_2, outsAt0_B m c t (by omega) h1]
  frame_out
  simp only [read_unread_whole]
  rw [held m c ⟨t.val - 1, ht⟩ (by dsimp only; omega)]
  pointwise [k0_pay3, k0_pay2, k0_pay1, product]
  refine Eq.trans ?_ (Cert.Sums.halves 2048 4096 rfl _).symm
  blk_point [iblk, V, places t, places ⟨t.val - 1, ht⟩]

theorem equalResults : Cert.algebraic_FfnInDwIdeal_FfnInDwRefIdeal := by
  pair_intro
  · run_from Cert.FfnInDwIdeal.Value.run_blocks m g
  · run_from Cert.FfnInDwRefIdeal.Value.run m' g'
    rw [final m c]
    funext i
    pointwise [product]
    exact Finset.sum_congr rfl fun k _ => mul_comm _ _

/-- On words the kernel's table of bodies and its idealized form's are one. -/
theorem table_word : @Cert.FfnInDw.defs₀ Bits _ Cert.FfnInDw.Gen.facts = @Cert.FfnInDwIdeal.defs₀ Bits _ Cert.FfnInDwIdeal.Gen.facts := by
  unfold Cert.FfnInDw.defs₀ Cert.FfnInDwIdeal.defs₀
  refine congrArg Defs.onTc (funext fun l => funext fun a => ?_)
  match l, a with
  | ⟨0, _⟩, (t, s) => rfl

theorem frame : Cert.quiescent_FfnInDw := fun m g _ => by
  unfold Cert.FfnInDw.defs
  rw [table_word]
  exact Cert.FfnInDwIdeal.Gen.frame (F := Bits) m g

theorem frameIdeal : Cert.quiescent_FfnInDwIdeal := fun m g _ => Cert.FfnInDwIdeal.Gen.frame m g

theorem frameReference : Cert.quiescent_FfnInDwRefIdeal := fun m g _ =>
  (θ_run Cert.FfnInDwRefIdeal.defs _ _).mono (fun r h => ⟨fun c => (h c).2, sem_eq_zero_of_no_sems (by decide) r.2⟩)
    (Cert.FfnInDwRefIdeal.Value.run (F := Ideal) m g)

theorem same : Cert.preserves_FfnInDw_FfnInDwIdeal := trivial

end Cert.FfnInDwClaims

end
-- ==== Proof.FfnInDxClaims.lean ====
/- The feed-forward layer's first product backwards, its two halves one after the other: what the tiles add up to, and the five claims. -/
module

public import proofs.«01_k».proof.Defs
public import proofs.«01_k».proof.Proof.Gen.FfnInDx
public import proofs.«01_k».proof.Proof.Gen.FfnInDxIdeal.Value
public import proofs.«01_k».proof.Proof.Gen.FfnInDxRefIdeal.Run
public import proofs.«01_k».proof.Proof.Gen.FfnInDxRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.FfnInDxClaims

open Idealize.ShloMosaic Idealize.ShloMosaic.TcCoe Idealize.SL.Sem
open Cert.FfnInDxIdeal Cert.FfnInDxIdeal.Gen

variable (m : (ℓ : Loc nD τ sig) → Buf (Elt Ideal) ℓ)

/-- The gate's gradient by the first half of the weight, transposed, and the up projection's by the second. -/
def back (dg du : S4096x2816.Idx → EReal) (w : S1024x5632.Idx → EReal) : S4096x1024.Idx → EReal := fun i =>
  (∑ k : Fin 2816, dg (ix2 (i 0) k) * w (ix2 (i 1) ⟨k.val, by omega⟩)) + ∑ k : Fin 2816, du (ix2 (i 0) k) * w (ix2 (i 1) ⟨2816 + k.val, by omega⟩)

/-- Which blocks each step stages. -/
theorem places : ∀ t : Fin cfg0.N, win0_0.index t = ![t.val / 4, min (t.val % 4) 1] ∧ win0_1.index t = ![t.val / 4, t.val % 4 - 2]
    ∧ win0_2.index t = ![0, t.val % 4] ∧ win0_3.index t = ![t.val / 4, 0] :=
  (by decide +kernel : ∀ t : Fin grid0.N, _)

/-- What the first three steps of a block of rows leave in the accumulator. -/
theorem held1 (c : Dev nD) (t : Fin cfg0.N) (h : t.val % 4 = 0) :
    (outsAt0 m c t.val t.isLt).2 = k0_pay2 k0_pay1 (iblk m c 0 t) (iblk m c 2 t) := by
  rw [outsAt0_A m c t h (by omega) (by omega) (by omega)]
  frame_out

theorem held2 (c : Dev nD) (t : Fin cfg0.N) (h : t.val % 4 = 1) : (outsAt0 m c t.val t.isLt).2
    = k0_pay2 (outsAt0 m c (t.val - 1) (Nat.lt_of_le_of_lt (Nat.sub_le _ _) t.isLt)).2 (iblk m c 0 t) (iblk m c 2 t) := by
  rw [outsAt0_B m c t (by omega) (by omega) (by omega) (by omega)]
  frame_out
  simp only [read_unread_whole]

theorem held3 (c : Dev nD) (t : Fin cfg0.N) (h : t.val % 4 = 2) : (outsAt0 m c t.val t.isLt).2
    = k0_pay3 (outsAt0 m c (t.val - 1) (Nat.lt_of_le_of_lt (Nat.sub_le _ _) t.isLt)).2 (iblk m c 1 t) (iblk m c 2 t) := by
  rw [outsAt0_C m c t (by omega) (by omega) (by omega) (by omega)]
  frame_out
  simp only [read_unread_whole]

theorem final (c : Dev nD) : (dats m 0 c).arrAt 3 cfg0.N
    = back (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h1 : t.val % 4 = 3 := (flush0_3 t).mp hf
  have hb : ∀ j, t.val - j < cfg0.N := fun j => Nat.lt_of_le_of_lt (Nat.sub_le _ _) t.isLt
  rw [after0_3, outsAt0_D m c t (by omega) (by omega) (by omega) h1]
  frame_out
  simp only [read_unread_whole]
  rw [held3 m c ⟨t.val - 1, hb 1⟩ (by dsimp only; omega), held2 m c ⟨t.val - 1 - 1, hb 2⟩ (by dsimp only; omega), held1 m c ⟨t.val - 1 - 1 - 1, hb 3⟩ (by dsimp only; omega)]
  pointwise [k0_pay3, k0_pay2, k0_pay1, back]
  rw [add_assoc]
  refine congr (congrArg HAdd.hAdd ?_) ?_
  · refine Eq.trans ?_ (Cert.Sums.halves 1408 2816 rfl _).symm
    blk_point [iblk, V, places t, places ⟨t.val - 1, hb 1⟩, places ⟨t.val - 1 - 1, hb 2⟩, places ⟨t.val - 1 - 1 - 1, hb 3⟩]
  · refine Eq.trans ?_ (Cert.Sums.halves 1408 2816 rfl _).symm
    blk_point [iblk, V, places t, places ⟨t.val - 1, hb 1⟩, places ⟨t.val - 1 - 1, hb 2⟩, places ⟨t.val - 1 - 1 - 1, hb 3⟩]

theorem equalResults : Cert.algebraic_FfnInDxIdeal_FfnInDxRefIdeal := by
  pair_intro
  · run_from Cert.FfnInDxIdeal.Value.run_blocks m g
  · run_from Cert.FfnInDxRefIdeal.Value.run m' g'
    rw [final m c]
    funext i
    pointwise [back]

/-- On words the kernel's table of bodies and its idealized form's are one. -/
theorem table_word : @Cert.FfnInDx.defs₀ Bits _ Cert.FfnInDx.Gen.facts = @Cert.FfnInDxIdeal.defs₀ Bits _ Cert.FfnInDxIdeal.Gen.facts := by
  unfold Cert.FfnInDx.defs₀ Cert.FfnInDxIdeal.defs₀
  refine congrArg Defs.onTc (funext fun l => funext fun a => ?_)
  match l, a with
  | ⟨0, _⟩, (t, s) => rfl

theorem frame : Cert.quiescent_FfnInDx := fun m g _ => by
  unfold Cert.FfnInDx.defs
  rw [table_word]
  exact Cert.FfnInDxIdeal.Gen.frame (F := Bits) m g

theorem frameIdeal : Cert.quiescent_FfnInDxIdeal := fun m g _ => Cert.FfnInDxIdeal.Gen.frame m g

theorem frameReference : Cert.quiescent_FfnInDxRefIdeal := fun m g _ =>
  (θ_run Cert.FfnInDxRefIdeal.defs _ _).mono (fun r h => ⟨fun c => (h c).2, sem_eq_zero_of_no_sems (by decide) r.2⟩)
    (Cert.FfnInDxRefIdeal.Value.run (F := Ideal) m g)

theorem same : Cert.preserves_FfnInDx_FfnInDxIdeal := trivial

end Cert.FfnInDxClaims

end
-- ==== Proof.HgrnInClaims.lean ====
/- The recurrent layer's first product: what its tiles add up to, and the five claims. -/
module

public import proofs.«01_k».proof.Defs
public import proofs.«01_k».proof.Proof.Gen.HgrnIn
public import proofs.«01_k».proof.Proof.Gen.HgrnInIdeal.Value
public import proofs.«01_k».proof.Proof.Gen.HgrnInRefIdeal.Run
public import proofs.«01_k».proof.Proof.Gen.HgrnInRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.HgrnInClaims

open Idealize.ShloMosaic Idealize.ShloMosaic.TcCoe Idealize.SL.Sem
open Cert.HgrnInIdeal Cert.HgrnInIdeal.Gen

variable (m : (ℓ : Loc nD τ sig) → Buf (Elt Ideal) ℓ)

/-- The product of a [4096, 1024] and a [1024, 4096] matrix, entry by entry. -/
def product (a : S4096x1024.Idx → EReal) (w : S1024x4096.Idx → EReal) : S4096x4096.Idx → EReal :=
  fun i => ∑ k : Fin 1024, a (ix2 (i 0) k) * w (ix2 k (i 1))

/-- Which blocks each step stages. -/
theorem places : ∀ t : Fin cfg0.N, win0_0.index t = ![t.val / 4, 0] ∧ win0_1.index t = ![0, t.val % 4] ∧ win0_2.index t = ![t.val / 4, t.val % 4] :=
  (by decide +kernel : ∀ t : Fin grid0.N, _)

/-- The result array holds the product of the two argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, places t]

theorem equalResults : Cert.algebraic_HgrnInIdeal_HgrnInRefIdeal := by
  pair_intro
  · run_from Cert.HgrnInIdeal.Value.run_blocks m g
  · run_from Cert.HgrnInRefIdeal.Value.run m' g'
    rw [final m c]
    funext i
    pointwise [product]

/-- On words the kernel's table of bodies and its idealized form's are one. -/
theorem table_word : @Cert.HgrnIn.defs₀ Bits _ Cert.HgrnIn.Gen.facts = @Cert.HgrnInIdeal.defs₀ Bits _ Cert.HgrnInIdeal.Gen.facts := by
  unfold Cert.HgrnIn.defs₀ Cert.HgrnInIdeal.defs₀
  refine congrArg Defs.onTc (funext fun l => funext fun a => ?_)
  match l, a with
  | ⟨0, _⟩, (t, s) => rfl

theorem frame : Cert.quiescent_HgrnIn := fun m g _ => by
  unfold Cert.HgrnIn.defs
  rw [table_word]
  exact Cert.HgrnInIdeal.Gen.frame (F := Bits) m g

theorem frameIdeal : Cert.quiescent_HgrnInIdeal := fun m g _ => Cert.HgrnInIdeal.Gen.frame m g

theorem frameReference : Cert.quiescent_HgrnInRefIdeal := fun m g _ =>
  (θ_run Cert.HgrnInRefIdeal.defs _ _).mono (fun r h => ⟨fun c => (h c).2, sem_eq_zero_of_no_sems (by decide) r.2⟩)
    (Cert.HgrnInRefIdeal.Value.run (F := Ideal) m g)

theorem same : Cert.preserves_HgrnIn_HgrnInIdeal := trivial

end Cert.HgrnInClaims

end
-- ==== Proof.HgrnInDxClaims.lean ====
/- The recurrent layer's first product backwards, its four parts one after the other: what the tiles add up to, and the five claims. -/
module

public import proofs.«01_k».proof.Defs
public import proofs.«01_k».proof.Proof.Gen.HgrnInDx
public import proofs.«01_k».proof.Proof.Gen.HgrnInDxIdeal.Value
public import proofs.«01_k».proof.Proof.Gen.HgrnInDxRefIdeal.Run
public import proofs.«01_k».proof.Proof.Gen.HgrnInDxRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.HgrnInDxClaims

open Idealize.ShloMosaic Idealize.ShloMosaic.TcCoe Idealize.SL.Sem
open Cert.HgrnInDxIdeal Cert.HgrnInDxIdeal.Gen

variable (m : (ℓ : Loc nD τ sig) → Buf (Elt Ideal) ℓ)

/-- One part's gradient by its quarter of the weight, transposed. -/
def part (n : ℕ) (hn : n + 1024 ≤ 4096) (d : S4096x1024.Idx → EReal) (w : S1024x4096.Idx → EReal) : S4096x1024.Idx → EReal :=
  fun i => ∑ k : Fin 1024, d (ix2 (i 0) k) * w (ix2 (i 1) ⟨n + k.val, by omega⟩)

/-- The four parts' sum. -/
def back (d0 d1 d2 d3 : S4096x1024.Idx → EReal) (w : S1024x4096.Idx → EReal) : S4096x1024.Idx → EReal := fun i =>
  part 0 (by omega) d0 w i + part 1024 (by omega) d1 w i + part 2048 (by omega) d2 w i + part 3072 (by omega) d3 w i

/-- Which blocks each step stages. -/
theorem places : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![0, t.val % 4] ∧ win0_5.index t = ![t.val / 4, 0] :=
  (by decide +kernel : ∀ t : Fin grid0.N, _)

/-- What the first three steps of a block of rows leave in the accumulator. -/
theorem held1 (c : Dev nD) (t : Fin cfg0.N) (h : t.val % 4 = 0) :
    (outsAt0 m c t.val t.isLt).2 = k0_pay2 k0_pay1 (iblk m c 0 t) (iblk m c 4 t) := by
  rw [outsAt0_A m c t (by omega) (by omega) (by omega) (by omega) (by omega) (by omega)]
  frame_out

theorem held2 (c : Dev nD) (t : Fin cfg0.N) (h : t.val % 4 = 1) : (outsAt0 m c t.val t.isLt).2
    = k0_pay3 (outsAt0 m c (t.val - 1) (Nat.lt_of_le_of_lt (Nat.sub_le _ _) t.isLt)).2 (iblk m c 1 t) (iblk m c 4 t) := by
  rw [outsAt0_B m c t (by omega) (by omega) (by omega) (by omega) (by omega) (by omega)]
  frame_out
  simp only [read_unread_whole]

theorem held3 (c : Dev nD) (t : Fin cfg0.N) (h : t.val % 4 = 2) : (outsAt0 m c t.val t.isLt).2
    = k0_pay4 (outsAt0 m c (t.val - 1) (Nat.lt_of_le_of_lt (Nat.sub_le _ _) t.isLt)).2 (iblk m c 2 t) (iblk m c 4 t) := by
  rw [outsAt0_C m c t (by omega) (by omega) (by omega) (by omega) (by omega) (by omega)]
  frame_out
  simp only [read_unread_whole]

/-- The result array holds the four parts' sum. -/
theorem final (c : Dev nD) : (dats m 0 c).arrAt 5 cfg0.N
    = back (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  have h1 : t.val % 4 = 3 := (flush0_5 t).mp hf
  have hb : ∀ j, t.val - j < cfg0.N := fun j => Nat.lt_of_le_of_lt (Nat.sub_le _ _) t.isLt
  rw [after0_5, outsAt0_D m c t (by omega) (by omega) (by omega) (by omega) h1 h1]
  frame_out
  simp only [read_unread_whole]
  rw [held3 m c ⟨t.val - 1, hb 1⟩ (by dsimp only; omega), held2 m c ⟨t.val - 1 - 1, hb 2⟩ (by dsimp only; omega), held1 m c ⟨t.val - 1 - 1 - 1, hb 3⟩ (by dsimp only; omega)]
  pointwise [k0_pay5, k0_pay4, k0_pay3, k0_pay2, k0_pay1, back, part]
  blk_point [iblk, V, places t, places ⟨t.val - 1, hb 1⟩, places ⟨t.val - 1 - 1, hb 2⟩, places ⟨t.val - 1 - 1 - 1, hb 3⟩]

theorem equalResults : Cert.algebraic_HgrnInDxIdeal_HgrnInDxRefIdeal := by
  pair_intro
  · run_from Cert.HgrnInDxIdeal.Value.run_blocks m g
  · run_from Cert.HgrnInDxRefIdeal.Value.run m' g'
    rw [final m c]
    funext i
    pointwise [back, part]
    refine (Cert.Sums.quarters 1024 4096 rfl _).trans ?_
    refine congr (congrArg HAdd.hAdd (congr (congrArg HAdd.hAdd (congr (congrArg HAdd.hAdd ?_) ?_)) ?_)) ?_
    all_goals
      refine Finset.sum_congr rfl fun k _ => ?_
      have hk := k.isLt
      dsimp only
    · rw [dif_pos (by omega)]
    · rw [dif_neg (by omega), dif_pos (by omega)]
      simp only [Nat.add_sub_cancel_left]
    · rw [dif_neg (by omega), dif_neg (by omega), dif_pos (by omega)]
      simp only [show 1024 + 1024 + k.val - 1024 - 1024 = k.val by omega, Nat.reduceAdd]
    · rw [dif_neg (by omega), dif_neg (by omega), dif_neg (by omega)]
      simp only [show 1024 + 1024 + 1024 + k.val - 1024 - 1024 - 1024 = k.val by omega, Nat.reduceAdd]

/-- On words the kernel's table of bodies and its idealized form's are one. -/
theorem table_word : @Cert.HgrnInDx.defs₀ Bits _ Cert.HgrnInDx.Gen.facts = @Cert.HgrnInDxIdeal.defs₀ Bits _ Cert.HgrnInDxIdeal.Gen.facts := by
  unfold Cert.HgrnInDx.defs₀ Cert.HgrnInDxIdeal.defs₀
  refine congrArg Defs.onTc (funext fun l => funext fun a => ?_)
  match l, a with
  | ⟨0, _⟩, (t, s) => rfl

theorem frame : Cert.quiescent_HgrnInDx := fun m g _ => by
  unfold Cert.HgrnInDx.defs
  rw [table_word]
  exact Cert.HgrnInDxIdeal.Gen.frame (F := Bits) m g

theorem frameIdeal : Cert.quiescent_HgrnInDxIdeal := fun m g _ => Cert.HgrnInDxIdeal.Gen.frame m g

theorem frameReference : Cert.quiescent_HgrnInDxRefIdeal := fun m g _ =>
  (θ_run Cert.HgrnInDxRefIdeal.defs _ _).mono (fun r h => ⟨fun c => (h c).2, sem_eq_zero_of_no_sems (by decide) r.2⟩)
    (Cert.HgrnInDxRefIdeal.Value.run (F := Ideal) m g)

theorem same : Cert.preserves_HgrnInDx_HgrnInDxIdeal := trivial

end Cert.HgrnInDxClaims

end
-- ==== Proof.MixDwClaims.lean ====
/- The gradient of a [1024, 1024] weight, or of a quarter of the recurrent layer's first one: what the tiles add up to, and the five claims. -/
module

public import proofs.«01_k».proof.Defs
public import proofs.«01_k».proof.Proof.Gen.MixDw
public import proofs.«01_k».proof.Proof.Gen.MixDwIdeal.Value
public import proofs.«01_k».proof.Proof.Gen.MixDwRefIdeal.Run
public import proofs.«01_k».proof.Proof.Gen.MixDwRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.MixDwClaims

open Idealize.ShloMosaic Idealize.ShloMosaic.TcCoe Idealize.SL.Sem
open Cert.MixDwIdeal Cert.MixDwIdeal.Gen

variable (m : (ℓ : Loc nD τ sig) → Buf (Elt Ideal) ℓ)

/-- The product of the transposed first matrix and the second, entry by entry. -/
def product (a d : S4096x1024.Idx → EReal) : S1024x1024.Idx → EReal :=
  fun i => ∑ k : Fin 4096, a (ix2 k (i 0)) * d (ix2 k (i 1))

/-- Which blocks each step stages. -/
theorem places : ∀ t : Fin cfg0.N, win0_0.index t = ![t.val, 0] ∧ win0_1.index t = ![t.val, 0] ∧ win0_2.index t = ![0, 0] :=
  (by decide +kernel : ∀ t : Fin grid0.N, _)

/-- The first step leaves the upper half of the rows' share in the accumulator. -/
theorem held (c : Dev nD) (t : Fin cfg0.N) (h0 : t.val % 2 = 0) :
    (outsAt0 m c t.val t.isLt).2 = k0_pay2 k0_pay1 (iblk m c 0 t) (iblk m c 1 t) := by
  rw [outsAt0_A m c t h0 (by omega)]
  frame_out

/-- The result array holds the product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  rw [after0_2, outsAt0_B m c t (by omega) h1]
  frame_out
  simp only [read_unread_whole]
  rw [held m c ⟨t.val - 1, ht⟩ (by dsimp only; omega)]
  pointwise [k0_pay3, k0_pay2, k0_pay1, product]
  refine Eq.trans ?_ (Cert.Sums.halves 2048 4096 rfl _).symm
  blk_point [iblk, V, places t, places ⟨t.val - 1, ht⟩]

theorem equalResults : Cert.algebraic_MixDwIdeal_MixDwRefIdeal := by
  pair_intro
  · run_from Cert.MixDwIdeal.Value.run_blocks m g
  · run_from Cert.MixDwRefIdeal.Value.run m' g'
    rw [final m c]
    funext i
    pointwise [product]
    exact Finset.sum_congr rfl fun k _ => mul_comm _ _

/-- On words the kernel's table of bodies and its idealized form's are one. -/
theorem table_word : @Cert.MixDw.defs₀ Bits _ Cert.MixDw.Gen.facts = @Cert.MixDwIdeal.defs₀ Bits _ Cert.MixDwIdeal.Gen.facts := by
  unfold Cert.MixDw.defs₀ Cert.MixDwIdeal.defs₀
  refine congrArg Defs.onTc (funext fun l => funext fun a => ?_)
  match l, a with
  | ⟨0, _⟩, (t, s) => rfl

theorem frame : Cert.quiescent_MixDw := fun m g _ => by
  unfold Cert.MixDw.defs
  rw [table_word]
  exact Cert.MixDwIdeal.Gen.frame (F := Bits) m g

theorem frameIdeal : Cert.quiescent_MixDwIdeal := fun m g _ => Cert.MixDwIdeal.Gen.frame m g

theorem frameReference : Cert.quiescent_MixDwRefIdeal := fun m g _ =>
  (θ_run Cert.MixDwRefIdeal.defs _ _).mono (fun r h => ⟨fun c => (h c).2, sem_eq_zero_of_no_sems (by decide) r.2⟩)
    (Cert.MixDwRefIdeal.Value.run (F := Ideal) m g)

theorem same : Cert.preserves_MixDw_MixDwIdeal := trivial

end Cert.MixDwClaims

end
-- ==== Proof.MixOutClaims.lean ====
/- The product after a mixer: what its tiles add up to, and the five claims. -/
module

public import proofs.«01_k».proof.Defs
public import proofs.«01_k».proof.Proof.Gen.MixOut
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.MixOutClaims

open Idealize.ShloMosaic Idealize.ShloMosaic.TcCoe Idealize.SL.Sem
open Cert.MixOutIdeal Cert.MixOutIdeal.Gen

variable (m : (ℓ : Loc nD τ sig) → Buf (Elt Ideal) ℓ)

/-- The product of a [4096, 1024] and a [1024, 1024] matrix, entry by entry. -/
def product (a : S4096x1024.Idx → EReal) (w : S1024x1024.Idx → EReal) : S4096x1024.Idx → EReal :=
  fun i => ∑ k : Fin 1024, a (ix2 (i 0) k) * w (ix2 k (i 1))

/-- Which blocks each step stages. -/
theorem places : ∀ t : Fin cfg0.N, win0_0.index t = ![t.val, 0] ∧ win0_1.index t = ![0, 0] ∧ win0_2.index t = ![t.val, 0] :=
  (by decide +kernel : ∀ t : Fin grid0.N, _)

/-- The result array holds the product of the two argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, places t]

theorem equalResults : Cert.algebraic_MixOutIdeal_MixOutRefIdeal := by
  pair_intro
  · run_from Cert.MixOutIdeal.Value.run_blocks m g
  · run_from Cert.MixOutRefIdeal.Value.run m' g'
    rw [final m c]
    funext i
    pointwise [product]

/-- On words the kernel's table of bodies and its idealized form's are one. -/
theorem table_word : @Cert.MixOut.defs₀ Bits _ Cert.MixOut.Gen.facts = @Cert.MixOutIdeal.defs₀ Bits _ Cert.MixOutIdeal.Gen.facts := by
  unfold Cert.MixOut.defs₀ Cert.MixOutIdeal.defs₀
  refine congrArg Defs.onTc (funext fun l => funext fun a => ?_)
  match l, a with
  | ⟨0, _⟩, (t, s) => rfl

theorem frame : Cert.quiescent_MixOut := fun m g _ => by
  unfold Cert.MixOut.defs
  rw [table_word]
  exact Cert.MixOutIdeal.Gen.frame (F := Bits) m g

theorem frameIdeal : Cert.quiescent_MixOutIdeal := fun m g _ => Cert.MixOutIdeal.Gen.frame m g

theorem frameReference : Cert.quiescent_MixOutRefIdeal := fun m g _ =>
  (θ_run Cert.MixOutRefIdeal.defs _ _).mono (fun r h => ⟨fun c => (h c).2, sem_eq_zero_of_no_sems (by decide) r.2⟩)
    (Cert.MixOutRefIdeal.Value.run (F := Ideal) m g)

theorem same : Cert.preserves_MixOut_MixOutIdeal := trivial

end Cert.MixOutClaims

end
-- ==== Proof.MixOutDxClaims.lean ====
/- The product after a mixer backwards: what its tiles add up to, and the five claims. -/
module

public import proofs.«01_k».proof.Defs
public import proofs.«01_k».proof.Proof.Gen.MixOutDx
public import proofs.«01_k».proof.Proof.Gen.MixOutDxIdeal.Value
public import proofs.«01_k».proof.Proof.Gen.MixOutDxRefIdeal.Run
public import proofs.«01_k».proof.Proof.Gen.MixOutDxRefIdeal.Read
public import Idealize.ShloMosaic.Lib.Pipeline.ValueKit
public import Idealize.ShloMosaic.Lib.Pipeline.ReadBack
public import proofs.«01_k».proof.Proof.Sums
public import Idealize.ShloMosaic.Lib.Quiescent

@[expose] public section

set_option maxRecDepth 16384

noncomputable section

namespace Cert.MixOutDxClaims

open Idealize.ShloMosaic Idealize.ShloMosaic.TcCoe Idealize.SL.Sem
open Cert.MixOutDxIdeal Cert.MixOutDxIdeal.Gen

variable (m : (ℓ : Loc nD τ sig) → Buf (Elt Ideal) ℓ)

/-- The product of a [4096, 1024] matrix and a transposed [1024, 1024] one, entry by entry. -/
def product (a : S4096x1024.Idx → EReal) (w : S1024x1024.Idx → EReal) : S4096x1024.Idx → EReal :=
  fun i => ∑ k : Fin 1024, a (ix2 (i 0) k) * w (ix2 (i 1) k)

/-- Which blocks each step stages. -/
theorem places : ∀ t : Fin cfg0.N, win0_0.index t = ![t.val, 0] ∧ win0_1.index t = ![0, 0] ∧ win0_2.index t = ![t.val, 0] :=
  (by decide +kernel : ∀ t : Fin grid0.N, _)

/-- The result array holds the product of the two argument arrays. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, places t]

theorem equalResults : Cert.algebraic_MixOutDxIdeal_MixOutDxRefIdeal := by
  pair_intro
  · run_from Cert.MixOutDxIdeal.Value.run_blocks m g
  · run_from Cert.MixOutDxRefIdeal.Value.run m' g'
    rw [final m c]
    funext i
    pointwise [product]

/-- On words the kernel's table of bodies and its idealized form's are one. -/
theorem table_word : @Cert.MixOutDx.defs₀ Bits _ Cert.MixOutDx.Gen.facts = @Cert.MixOutDxIdeal.defs₀ Bits _ Cert.MixOutDxIdeal.Gen.facts := by
  unfold Cert.MixOutDx.defs₀ Cert.MixOutDxIdeal.defs₀
  refine congrArg Defs.onTc (funext fun l => funext fun a => ?_)
  match l, a with
  | ⟨0, _⟩, (t, s) => rfl

theorem frame : Cert.quiescent_MixOutDx := fun m g _ => by
  unfold Cert.MixOutDx.defs
  rw [table_word]
  exact Cert.MixOutDxIdeal.Gen.frame (F := Bits) m g

theorem frameIdeal : Cert.quiescent_MixOutDxIdeal := fun m g _ => Cert.MixOutDxIdeal.Gen.frame m g

theorem frameReference : Cert.quiescent_MixOutDxRefIdeal := fun m g _ =>
  (θ_run Cert.MixOutDxRefIdeal.defs _ _).mono (fun r h => ⟨fun c => (h c).2, sem_eq_zero_of_no_sems (by decide) r.2⟩)
    (Cert.MixOutDxRefIdeal.Value.run (F := Ideal) m g)

theorem same : Cert.preserves_MixOutDx_MixOutDxIdeal := trivial

end Cert.MixOutDxClaims

end
-- ==== Proof.Adam.lean ====
/- The optimiser's step on one entry of a weight. -/
module

public import Idealize.ShloMosaic.PureOps.Ideal

@[expose] public section

noncomputable section

namespace Cert.Adam

open Idealize.ShloMosaic

/-- The new first moment, from the gradient `g` and the old one. -/
def first (g m : EReal) : EReal :=
  Ideal.ofBits FTy.f32 0x3F666666#32 * m + Ideal.ofBits FTy.f32 0x3DCCCCCD#32 * g

/-- The new second moment, from the gradient `g` and the old one. -/
def second (g v : EReal) : EReal :=
  Ideal.ofBits FTy.f32 0x3F7FBE77#32 * v + Ideal.ofBits FTy.f32 0x3A83126F#32 * (g * g)

/-- The weight's change: the corrected first moment over the corrected second one's root, with the decay of the weight. -/
def change (g w m v : EReal) : EReal :=
  Ideal.ofBits FTy.f32 0xBA83126F#32
    * (Ideal.div (Ideal.div (first g m) (Ideal.ofBits FTy.f32 0x3F26BD02#32))
        (Ideal.sqrt (Ideal.div (second g v) (Ideal.ofBits FTy.f32 0x3C231ACC#32)) + Ideal.ofBits FTy.f32 0x322BCC77#32)
      + Ideal.ofBits FTy.f32 0x3C23D70A#32 * w)

end Cert.Adam

end
-- ==== Proof.AdamQNormClaims.lean ====
/- The optimiser's step for the query latent's norm: what its tiles hold, and the five claims. -/
module

public import proofs.«01_k».proof.Defs
public import proofs.«01_k».proof.Proof.Gen.AdamQNorm
public import proofs.«01_k».proof.Proof.Gen.AdamQNormIdeal.Value
public import proofs.«01_k».proof.Proof.Gen.AdamQNormRefIdeal.Run
public import proofs.«01_k».proof.Proof.Gen.AdamQNormRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamQNormClaims

open Idealize.ShloMosaic Idealize.ShloMosaic.TcCoe Idealize.SL.Sem
open Cert.AdamQNormIdeal Cert.AdamQNormIdeal.Gen

variable (m : (ℓ : Loc nD τ sig) → Buf (Elt Ideal) ℓ)

/-- The gradient's stack, summed. -/
def total (g : S8x2x768.Idx → EReal) (i : S2x768.Idx) : EReal := ∑ d : Fin 8, g (ix3 d (i 0) (i 1))

/-- Which blocks each step stages. -/
theorem places : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four result arrays hold the summed gradient, the weight's change and the two new moments. -/
theorem final (c : Dev nD) :
    let g := total (m ((c : Thread nD τ).loc main_arg0)); let w := m ((c : Thread nD τ).loc main_arg1)
    let u := m ((c : Thread nD τ).loc main_arg2); let v := m ((c : Thread nD τ).loc main_arg3)
    (dats m 0 c).arrAt 4 cfg0.N = g ∧ (dats m 0 c).arrAt 5 cfg0.N = (fun i => Cert.Adam.change (g i) (w i) (u i) (v i))
      ∧ (dats m 0 c).arrAt 6 cfg0.N = (fun i => Cert.Adam.first (g i) (u i)) ∧ (dats m 0 c).arrAt 7 cfg0.N = fun i => Cert.Adam.second (g i) (v i) := by
  intro g w u v
  have hg : ∀ (t : Fin cfg0.N) (y : S2x768.Idx), k0_pay6 (iblk m c 0 t) (iblk m c 1 t) (iblk m c 2 t) (iblk m c 3 t) y
      = g (((View.whole main_v0_1).slice (win0_5.rect t)).emb y) := fun t y => by
    pointwise [k0_pay6, k0_pay4, g, total]
    simp only [Fin.sum_univ_eight]
    blk_point [iblk, V, places t]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · blk_simp
    rw [after0_4]
    frame_out
    exact hg t y
  · blk_simp
    rw [after0_5]
    frame_out
    refine Eq.trans (b := Cert.Adam.change (k0_pay6 (iblk m c 0 t) (iblk m c 1 t) (iblk m c 2 t) (iblk m c 3 t) y)
      (iblk m c 1 t y) (iblk m c 2 t y) (iblk m c 3 t y)) (by pointwise [k0_pay3, k0_pay2, k0_pay1, k0_pay7, k0_pay5, Cert.Adam.change, Cert.Adam.first, Cert.Adam.second]) ?_
    refine congr (congr (congr (congrArg Cert.Adam.change (hg t y)) ?_) ?_) ?_
    all_goals blk_point [iblk, V, places t, w, u, v]
  · blk_simp
    rw [after0_6]
    frame_out
    refine Eq.trans (b := Cert.Adam.first (k0_pay6 (iblk m c 0 t) (iblk m c 1 t) (iblk m c 2 t) (iblk m c 3 t) y)
      (iblk m c 2 t y)) (by pointwise [k0_pay1, k0_pay7, k0_pay5, Cert.Adam.first]) ?_
    refine congr (congrArg Cert.Adam.first (hg t y)) ?_
    blk_point [iblk, V, places t, u]
  · blk_simp
    rw [after0_7]
    frame_out
    refine Eq.trans (b := Cert.Adam.second (k0_pay6 (iblk m c 0 t) (iblk m c 1 t) (iblk m c 2 t) (iblk m c 3 t) y)
      (iblk m c 3 t y)) (by pointwise [k0_pay2, Cert.Adam.second]) ?_
    refine congr (congrArg Cert.Adam.second (hg t y)) ?_
    blk_point [iblk, V, places t, v]

theorem equalResults : Cert.algebraic_AdamQNormIdeal_AdamQNormRefIdeal := by
  pair_intro
  · run_from Cert.AdamQNormIdeal.Value.run_blocks m g
  · refine θ_run_mono (Cert.AdamQNormRefIdeal.Value.run m' g') fun r hr c => ?_
    refine ⟨(hr c).1.trans ?_, (hr c).2.1.trans ?_, (hr c).2.2.1.trans ?_, (hr c).2.2.2.1.trans ?_, (hr c).2.2.2.2⟩
    all_goals simp only [hagree c]
    · rw [(final m c).1]
      funext i
      pointwise [total]
    · rw [(final m c).2.1]
      funext i
      pointwise [Cert.Adam.change, Cert.Adam.first, Cert.Adam.second, total]
    · rw [(final m c).2.2.1]
      funext i
      pointwise [Cert.Adam.first, total]
    · rw [(final m c).2.2.2]
      funext i
      pointwise [Cert.Adam.second, total]

/-- On words the kernel's table of bodies and its idealized form's are one. -/
theorem table_word : @Cert.AdamQNorm.defs₀ Bits _ Cert.AdamQNorm.Gen.facts = @Cert.AdamQNormIdeal.defs₀ Bits _ Cert.AdamQNormIdeal.Gen.facts := by
  unfold Cert.AdamQNorm.defs₀ Cert.AdamQNormIdeal.defs₀
  refine congrArg Defs.onTc (funext fun l => funext fun a => ?_)
  match l, a with
  | ⟨0, _⟩, (t, s) => rfl

theorem frame : Cert.quiescent_AdamQNorm := fun m g _ => by
  unfold Cert.AdamQNorm.defs
  rw [table_word]
  exact Cert.AdamQNormIdeal.Gen.frame (F := Bits) m g

theorem frameIdeal : Cert.quiescent_AdamQNormIdeal := fun m g _ => Cert.AdamQNormIdeal.Gen.frame m g

theorem frameReference : Cert.quiescent_AdamQNormRefIdeal := fun m g _ =>
  (θ_run Cert.AdamQNormRefIdeal.defs _ _).mono (fun r h => ⟨fun c => (h c).2.2.2.2, sem_eq_zero_of_no_sems (by decide) r.2⟩)
    (Cert.AdamQNormRefIdeal.Value.run (F := Ideal) m g)

theorem same : Cert.preserves_AdamQNorm_AdamQNormIdeal := trivial

end Cert.AdamQNormClaims

end
-- ==== Proof.AdamKvNormClaims.lean ====
/- The optimiser's step for the key and value latent's norm: what its tiles hold, and the five claims. -/
module

public import proofs.«01_k».proof.Defs
public import proofs.«01_k».proof.Proof.Gen.AdamKvNorm
public import proofs.«01_k».proof.Proof.Gen.AdamKvNormIdeal.Value
public import proofs.«01_k».proof.Proof.Gen.AdamKvNormRefIdeal.Run
public import proofs.«01_k».proof.Proof.Gen.AdamKvNormRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamKvNormClaims

open Idealize.ShloMosaic Idealize.ShloMosaic.TcCoe Idealize.SL.Sem
open Cert.AdamKvNormIdeal Cert.AdamKvNormIdeal.Gen

variable (m : (ℓ : Loc nD τ sig) → Buf (Elt Ideal) ℓ)

/-- The gradient's stack, summed. -/
def total (g : S8x2x256.Idx → EReal) (i : S2x256.Idx) : EReal := ∑ d : Fin 8, g (ix3 d (i 0) (i 1))

/-- Which blocks each step stages. -/
theorem places : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four result arrays hold the summed gradient, the weight's change and the two new moments. -/
theorem final (c : Dev nD) :
    let g := total (m ((c : Thread nD τ).loc main_arg0)); let w := m ((c : Thread nD τ).loc main_arg1)
    let u := m ((c : Thread nD τ).loc main_arg2); let v := m ((c : Thread nD τ).loc main_arg3)
    (dats m 0 c).arrAt 4 cfg0.N = g ∧ (dats m 0 c).arrAt 5 cfg0.N = (fun i => Cert.Adam.change (g i) (w i) (u i) (v i))
      ∧ (dats m 0 c).arrAt 6 cfg0.N = (fun i => Cert.Adam.first (g i) (u i)) ∧ (dats m 0 c).arrAt 7 cfg0.N = fun i => Cert.Adam.second (g i) (v i) := by
  intro g w u v
  have hg : ∀ (t : Fin cfg0.N) (y : S2x256.Idx), k0_pay6 (iblk m c 0 t) (iblk m c 1 t) (iblk m c 2 t) (iblk m c 3 t) y
      = g (((View.whole main_v0_1).slice (win0_5.rect t)).emb y) := fun t y => by
    pointwise [k0_pay6, k0_pay4, g, total]
    simp only [Fin.sum_univ_eight]
    blk_point [iblk, V, places t]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · blk_simp
    rw [after0_4]
    frame_out
    exact hg t y
  · blk_simp
    rw [after0_5]
    frame_out
    refine Eq.trans (b := Cert.Adam.change (k0_pay6 (iblk m c 0 t) (iblk m c 1 t) (iblk m c 2 t) (iblk m c 3 t) y)
      (iblk m c 1 t y) (iblk m c 2 t y) (iblk m c 3 t y)) (by pointwise [k0_pay3, k0_pay2, k0_pay1, k0_pay7, k0_pay5, Cert.Adam.change, Cert.Adam.first, Cert.Adam.second]) ?_
    refine congr (congr (congr (congrArg Cert.Adam.change (hg t y)) ?_) ?_) ?_
    all_goals blk_point [iblk, V, places t, w, u, v]
  · blk_simp
    rw [after0_6]
    frame_out
    refine Eq.trans (b := Cert.Adam.first (k0_pay6 (iblk m c 0 t) (iblk m c 1 t) (iblk m c 2 t) (iblk m c 3 t) y)
      (iblk m c 2 t y)) (by pointwise [k0_pay1, k0_pay7, k0_pay5, Cert.Adam.first]) ?_
    refine congr (congrArg Cert.Adam.first (hg t y)) ?_
    blk_point [iblk, V, places t, u]
  · blk_simp
    rw [after0_7]
    frame_out
    refine Eq.trans (b := Cert.Adam.second (k0_pay6 (iblk m c 0 t) (iblk m c 1 t) (iblk m c 2 t) (iblk m c 3 t) y)
      (iblk m c 3 t y)) (by pointwise [k0_pay2, Cert.Adam.second]) ?_
    refine congr (congrArg Cert.Adam.second (hg t y)) ?_
    blk_point [iblk, V, places t, v]

theorem equalResults : Cert.algebraic_AdamKvNormIdeal_AdamKvNormRefIdeal := by
  pair_intro
  · run_from Cert.AdamKvNormIdeal.Value.run_blocks m g
  · refine θ_run_mono (Cert.AdamKvNormRefIdeal.Value.run m' g') fun r hr c => ?_
    refine ⟨(hr c).1.trans ?_, (hr c).2.1.trans ?_, (hr c).2.2.1.trans ?_, (hr c).2.2.2.1.trans ?_, (hr c).2.2.2.2⟩
    all_goals simp only [hagree c]
    · rw [(final m c).1]
      funext i
      pointwise [total]
    · rw [(final m c).2.1]
      funext i
      pointwise [Cert.Adam.change, Cert.Adam.first, Cert.Adam.second, total]
    · rw [(final m c).2.2.1]
      funext i
      pointwise [Cert.Adam.first, total]
    · rw [(final m c).2.2.2]
      funext i
      pointwise [Cert.Adam.second, total]

/-- On words the kernel's table of bodies and its idealized form's are one. -/
theorem table_word : @Cert.AdamKvNorm.defs₀ Bits _ Cert.AdamKvNorm.Gen.facts = @Cert.AdamKvNormIdeal.defs₀ Bits _ Cert.AdamKvNormIdeal.Gen.facts := by
  unfold Cert.AdamKvNorm.defs₀ Cert.AdamKvNormIdeal.defs₀
  refine congrArg Defs.onTc (funext fun l => funext fun a => ?_)
  match l, a with
  | ⟨0, _⟩, (t, s) => rfl

theorem frame : Cert.quiescent_AdamKvNorm := fun m g _ => by
  unfold Cert.AdamKvNorm.defs
  rw [table_word]
  exact Cert.AdamKvNormIdeal.Gen.frame (F := Bits) m g

theorem frameIdeal : Cert.quiescent_AdamKvNormIdeal := fun m g _ => Cert.AdamKvNormIdeal.Gen.frame m g

theorem frameReference : Cert.quiescent_AdamKvNormRefIdeal := fun m g _ =>
  (θ_run Cert.AdamKvNormRefIdeal.defs _ _).mono (fun r h => ⟨fun c => (h c).2.2.2.2, sem_eq_zero_of_no_sems (by decide) r.2⟩)
    (Cert.AdamKvNormRefIdeal.Value.run (F := Ideal) m g)

theorem same : Cert.preserves_AdamKvNorm_AdamKvNormIdeal := trivial

end Cert.AdamKvNormClaims

end
-- ==== Proof.AdamGNormClaims.lean ====
/- The optimiser's step for the recurrent layer's norm: what its tiles hold, and the five claims. -/
module

public import proofs.«01_k».proof.Defs
public import proofs.«01_k».proof.Proof.Gen.AdamGNorm
public import proofs.«01_k».proof.Proof.Gen.AdamGNormIdeal.Value
public import proofs.«01_k».proof.Proof.Gen.AdamGNormRefIdeal.Run
public import proofs.«01_k».proof.Proof.Gen.AdamGNormRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamGNormClaims

open Idealize.ShloMosaic Idealize.ShloMosaic.TcCoe Idealize.SL.Sem
open Cert.AdamGNormIdeal Cert.AdamGNormIdeal.Gen

variable (m : (ℓ : Loc nD τ sig) → Buf (Elt Ideal) ℓ)

/-- The gradient's stack, summed. -/
def total (g : S8x2x128.Idx → EReal) (i : S2x128.Idx) : EReal := ∑ d : Fin 8, g (ix3 d (i 0) (i 1))

/-- Which blocks each step stages. -/
theorem places : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four result arrays hold the summed gradient, the weight's change and the two new moments. -/
theorem final (c : Dev nD) :
    let g := total (m ((c : Thread nD τ).loc main_arg0)); let w := m ((c : Thread nD τ).loc main_arg1)
    let u := m ((c : Thread nD τ).loc main_arg2); let v := m ((c : Thread nD τ).loc main_arg3)
    (dats m 0 c).arrAt 4 cfg0.N = g ∧ (dats m 0 c).arrAt 5 cfg0.N = (fun i => Cert.Adam.change (g i) (w i) (u i) (v i))
      ∧ (dats m 0 c).arrAt 6 cfg0.N = (fun i => Cert.Adam.first (g i) (u i)) ∧ (dats m 0 c).arrAt 7 cfg0.N = fun i => Cert.Adam.second (g i) (v i) := by
  intro g w u v
  have hg : ∀ (t : Fin cfg0.N) (y : S2x128.Idx), k0_pay6 (iblk m c 0 t) (iblk m c 1 t) (iblk m c 2 t) (iblk m c 3 t) y
      = g (((View.whole main_v0_1).slice (win0_5.rect t)).emb y) := fun t y => by
    pointwise [k0_pay6, k0_pay4, g, total]
    simp only [Fin.sum_univ_eight]
    blk_point [iblk, V, places t]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · blk_simp
    rw [after0_4]
    frame_out
    exact hg t y
  · blk_simp
    rw [after0_5]
    frame_out
    refine Eq.trans (b := Cert.Adam.change (k0_pay6 (iblk m c 0 t) (iblk m c 1 t) (iblk m c 2 t) (iblk m c 3 t) y)
      (iblk m c 1 t y) (iblk m c 2 t y) (iblk m c 3 t y)) (by pointwise [k0_pay3, k0_pay2, k0_pay1, k0_pay7, k0_pay5, Cert.Adam.change, Cert.Adam.first, Cert.Adam.second]) ?_
    refine congr (congr (congr (congrArg Cert.Adam.change (hg t y)) ?_) ?_) ?_
    all_goals blk_point [iblk, V, places t, w, u, v]
  · blk_simp
    rw [after0_6]
    frame_out
    refine Eq.trans (b := Cert.Adam.first (k0_pay6 (iblk m c 0 t) (iblk m c 1 t) (iblk m c 2 t) (iblk m c 3 t) y)
      (iblk m c 2 t y)) (by pointwise [k0_pay1, k0_pay7, k0_pay5, Cert.Adam.first]) ?_
    refine congr (congrArg Cert.Adam.first (hg t y)) ?_
    blk_point [iblk, V, places t, u]
  · blk_simp
    rw [after0_7]
    frame_out
    refine Eq.trans (b := Cert.Adam.second (k0_pay6 (iblk m c 0 t) (iblk m c 1 t) (iblk m c 2 t) (iblk m c 3 t) y)
      (iblk m c 3 t y)) (by pointwise [k0_pay2, Cert.Adam.second]) ?_
    refine congr (congrArg Cert.Adam.second (hg t y)) ?_
    blk_point [iblk, V, places t, v]

theorem equalResults : Cert.algebraic_AdamGNormIdeal_AdamGNormRefIdeal := by
  pair_intro
  · run_from Cert.AdamGNormIdeal.Value.run_blocks m g
  · refine θ_run_mono (Cert.AdamGNormRefIdeal.Value.run m' g') fun r hr c => ?_
    refine ⟨(hr c).1.trans ?_, (hr c).2.1.trans ?_, (hr c).2.2.1.trans ?_, (hr c).2.2.2.1.trans ?_, (hr c).2.2.2.2⟩
    all_goals simp only [hagree c]
    · rw [(final m c).1]
      funext i
      pointwise [total]
    · rw [(final m c).2.1]
      funext i
      pointwise [Cert.Adam.change, Cert.Adam.first, Cert.Adam.second, total]
    · rw [(final m c).2.2.1]
      funext i
      pointwise [Cert.Adam.first, total]
    · rw [(final m c).2.2.2]
      funext i
      pointwise [Cert.Adam.second, total]

/-- On words the kernel's table of bodies and its idealized form's are one. -/
theorem table_word : @Cert.AdamGNorm.defs₀ Bits _ Cert.AdamGNorm.Gen.facts = @Cert.AdamGNormIdeal.defs₀ Bits _ Cert.AdamGNormIdeal.Gen.facts := by
  unfold Cert.AdamGNorm.defs₀ Cert.AdamGNormIdeal.defs₀
  refine congrArg Defs.onTc (funext fun l => funext fun a => ?_)
  match l, a with
  | ⟨0, _⟩, (t, s) => rfl

theorem frame : Cert.quiescent_AdamGNorm := fun m g _ => by
  unfold Cert.AdamGNorm.defs
  rw [table_word]
  exact Cert.AdamGNormIdeal.Gen.frame (F := Bits) m g

theorem frameIdeal : Cert.quiescent_AdamGNormIdeal := fun m g _ => Cert.AdamGNormIdeal.Gen.frame m g

theorem frameReference : Cert.quiescent_AdamGNormRefIdeal := fun m g _ =>
  (θ_run Cert.AdamGNormRefIdeal.defs _ _).mono (fun r h => ⟨fun c => (h c).2.2.2.2, sem_eq_zero_of_no_sems (by decide) r.2⟩)
    (Cert.AdamGNormRefIdeal.Value.run (F := Ideal) m g)

theorem same : Cert.preserves_AdamGNorm_AdamGNormIdeal := trivial

end Cert.AdamGNormClaims

end
-- ==== Proof.AdamNormClaims.lean ====
/- The optimiser's step for a norm's weights: what its tiles hold, and the five claims. -/
module

public import proofs.«01_k».proof.Defs
public import proofs.«01_k».proof.Proof.Gen.AdamNorm
public import proofs.«01_k».proof.Proof.Gen.AdamNormIdeal.Value
public import proofs.«01_k».proof.Proof.Gen.AdamNormRefIdeal.Run
public import proofs.«01_k».proof.Proof.Gen.AdamNormRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamNormClaims

open Idealize.ShloMosaic Idealize.ShloMosaic.TcCoe Idealize.SL.Sem
open Cert.AdamNormIdeal Cert.AdamNormIdeal.Gen

variable (m : (ℓ : Loc nD τ sig) → Buf (Elt Ideal) ℓ)

/-- The gradient's stack, summed. -/
def total (g : S8x8x128.Idx → EReal) (i : S8x128.Idx) : EReal := ∑ d : Fin 8, g (ix3 d (i 0) (i 1))

/-- Which blocks each step stages. -/
theorem places : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four result arrays hold the summed gradient, the weight's change and the two new moments. -/
theorem final (c : Dev nD) :
    let g := total (m ((c : Thread nD τ).loc main_arg0)); let w := m ((c : Thread nD τ).loc main_arg1)
    let u := m ((c : Thread nD τ).loc main_arg2); let v := m ((c : Thread nD τ).loc main_arg3)
    (dats m 0 c).arrAt 4 cfg0.N = g ∧ (dats m 0 c).arrAt 5 cfg0.N = (fun i => Cert.Adam.change (g i) (w i) (u i) (v i))
      ∧ (dats m 0 c).arrAt 6 cfg0.N = (fun i => Cert.Adam.first (g i) (u i)) ∧ (dats m 0 c).arrAt 7 cfg0.N = fun i => Cert.Adam.second (g i) (v i) := by
  intro g w u v
  have hg : ∀ (t : Fin cfg0.N) (y : S8x128.Idx), k0_pay6 (iblk m c 0 t) (iblk m c 1 t) (iblk m c 2 t) (iblk m c 3 t) y
      = g (((View.whole main_v0_1).slice (win0_5.rect t)).emb y) := fun t y => by
    pointwise [k0_pay6, k0_pay4, g, total]
    simp only [Fin.sum_univ_eight]
    blk_point [iblk, V, places t]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · blk_simp
    rw [after0_4]
    frame_out
    exact hg t y
  · blk_simp
    rw [after0_5]
    frame_out
    refine Eq.trans (b := Cert.Adam.change (k0_pay6 (iblk m c 0 t) (iblk m c 1 t) (iblk m c 2 t) (iblk m c 3 t) y)
      (iblk m c 1 t y) (iblk m c 2 t y) (iblk m c 3 t y)) (by pointwise [k0_pay3, k0_pay2, k0_pay1, k0_pay7, k0_pay5, Cert.Adam.change, Cert.Adam.first, Cert.Adam.second]) ?_
    refine congr (congr (congr (congrArg Cert.Adam.change (hg t y)) ?_) ?_) ?_
    all_goals blk_point [iblk, V, places t, w, u, v]
  · blk_simp
    rw [after0_6]
    frame_out
    refine Eq.trans (b := Cert.Adam.first (k0_pay6 (iblk m c 0 t) (iblk m c 1 t) (iblk m c 2 t) (iblk m c 3 t) y)
      (iblk m c 2 t y)) (by pointwise [k0_pay1, k0_pay7, k0_pay5, Cert.Adam.first]) ?_
    refine congr (congrArg Cert.Adam.first (hg t y)) ?_
    blk_point [iblk, V, places t, u]
  · blk_simp
    rw [after0_7]
    frame_out
    refine Eq.trans (b := Cert.Adam.second (k0_pay6 (iblk m c 0 t) (iblk m c 1 t) (iblk m c 2 t) (iblk m c 3 t) y)
      (iblk m c 3 t y)) (by pointwise [k0_pay2, Cert.Adam.second]) ?_
    refine congr (congrArg Cert.Adam.second (hg t y)) ?_
    blk_point [iblk, V, places t, v]

theorem equalResults : Cert.algebraic_AdamNormIdeal_AdamNormRefIdeal := by
  pair_intro
  · run_from Cert.AdamNormIdeal.Value.run_blocks m g
  · refine θ_run_mono (Cert.AdamNormRefIdeal.Value.run m' g') fun r hr c => ?_
    refine ⟨(hr c).1.trans ?_, (hr c).2.1.trans ?_, (hr c).2.2.1.trans ?_, (hr c).2.2.2.1.trans ?_, (hr c).2.2.2.2⟩
    all_goals simp only [hagree c]
    · rw [(final m c).1]
      funext i
      pointwise [total]
    · rw [(final m c).2.1]
      funext i
      pointwise [Cert.Adam.change, Cert.Adam.first, Cert.Adam.second, total]
    · rw [(final m c).2.2.1]
      funext i
      pointwise [Cert.Adam.first, total]
    · rw [(final m c).2.2.2]
      funext i
      pointwise [Cert.Adam.second, total]

/-- On words the kernel's table of bodies and its idealized form's are one. -/
theorem table_word : @Cert.AdamNorm.defs₀ Bits _ Cert.AdamNorm.Gen.facts = @Cert.AdamNormIdeal.defs₀ Bits _ Cert.AdamNormIdeal.Gen.facts := by
  unfold Cert.AdamNorm.defs₀ Cert.AdamNormIdeal.defs₀
  refine congrArg Defs.onTc (funext fun l => funext fun a => ?_)
  match l, a with
  | ⟨0, _⟩, (t, s) => rfl

theorem frame : Cert.quiescent_AdamNorm := fun m g _ => by
  unfold Cert.AdamNorm.defs
  rw [table_word]
  exact Cert.AdamNormIdeal.Gen.frame (F := Bits) m g

theorem frameIdeal : Cert.quiescent_AdamNormIdeal := fun m g _ => Cert.AdamNormIdeal.Gen.frame m g

theorem frameReference : Cert.quiescent_AdamNormRefIdeal := fun m g _ =>
  (θ_run Cert.AdamNormRefIdeal.defs _ _).mono (fun r h => ⟨fun c => (h c).2.2.2.2, sem_eq_zero_of_no_sems (by decide) r.2⟩)
    (Cert.AdamNormRefIdeal.Value.run (F := Ideal) m g)

theorem same : Cert.preserves_AdamNorm_AdamNormIdeal := trivial

end Cert.AdamNormClaims

end
-- ==== Proof.AdamAdaWClaims.lean ====
/- The optimiser's step for the modulation's weight: what its tiles hold, and the five claims. -/
module

public import proofs.«01_k».proof.Defs
public import proofs.«01_k».proof.Proof.Gen.AdamAdaW
public import proofs.«01_k».proof.Proof.Gen.AdamAdaWIdeal.Value
public import proofs.«01_k».proof.Proof.Gen.AdamAdaWRefIdeal.Run
public import proofs.«01_k».proof.Proof.Gen.AdamAdaWRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamAdaWClaims

open Idealize.ShloMosaic Idealize.ShloMosaic.TcCoe Idealize.SL.Sem
open Cert.AdamAdaWIdeal Cert.AdamAdaWIdeal.Gen

variable (m : (ℓ : Loc nD τ sig) → Buf (Elt Ideal) ℓ)

/-- The gradient's stack, summed. -/
def total (g : S1x8192x384.Idx → EReal) (i : S8192x384.Idx) : EReal := ∑ d : Fin 1, g (ix3 d (i 0) (i 1))

/-- Which blocks each step stages. -/
theorem places : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four result arrays hold the summed gradient, the weight's change and the two new moments. -/
theorem final (c : Dev nD) :
    let g := total (m ((c : Thread nD τ).loc main_arg0)); let w := m ((c : Thread nD τ).loc main_arg1)
    let u := m ((c : Thread nD τ).loc main_arg2); let v := m ((c : Thread nD τ).loc main_arg3)
    (dats m 0 c).arrAt 4 cfg0.N = g ∧ (dats m 0 c).arrAt 5 cfg0.N = (fun i => Cert.Adam.change (g i) (w i) (u i) (v i))
      ∧ (dats m 0 c).arrAt 6 cfg0.N = (fun i => Cert.Adam.first (g i) (u i)) ∧ (dats m 0 c).arrAt 7 cfg0.N = fun i => Cert.Adam.second (g i) (v i) := by
  intro g w u v
  have hg : ∀ (t : Fin cfg0.N) (y : S1024x384.Idx), k0_pay1 (iblk m c 0 t) y
      = g (((View.whole main_v0_1).slice (win0_5.rect t)).emb y) := fun t y => by
    pointwise [k0_pay1, g, total]
    simp only [Fin.sum_univ_one]
    blk_point [iblk, V, places t]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · blk_simp
    rw [after0_4]
    frame_out
    exact hg t y
  · blk_simp
    rw [after0_5]
    frame_out
    refine Eq.trans (b := Cert.Adam.change (k0_pay1 (iblk m c 0 t) y)
      (iblk m c 1 t y) (iblk m c 2 t y) (iblk m c 3 t y)) (by pointwise [k0_pay4, k0_pay3, k0_pay2, k0_pay1, Cert.Adam.change, Cert.Adam.first, Cert.Adam.second]) ?_
    refine congr (congr (congr (congrArg Cert.Adam.change (hg t y)) ?_) ?_) ?_
    all_goals blk_point [iblk, V, places t, w, u, v]
  · blk_simp
    rw [after0_6]
    frame_out
    refine Eq.trans (b := Cert.Adam.first (k0_pay1 (iblk m c 0 t) y)
      (iblk m c 2 t y)) (by pointwise [k0_pay2, k0_pay1, Cert.Adam.first]) ?_
    refine congr (congrArg Cert.Adam.first (hg t y)) ?_
    blk_point [iblk, V, places t, u]
  · blk_simp
    rw [after0_7]
    frame_out
    refine Eq.trans (b := Cert.Adam.second (k0_pay1 (iblk m c 0 t) y)
      (iblk m c 3 t y)) (by pointwise [k0_pay3, k0_pay1, Cert.Adam.second]) ?_
    refine congr (congrArg Cert.Adam.second (hg t y)) ?_
    blk_point [iblk, V, places t, v]

theorem equalResults : Cert.algebraic_AdamAdaWIdeal_AdamAdaWRefIdeal := by
  pair_intro
  · run_from Cert.AdamAdaWIdeal.Value.run_blocks m g
  · refine θ_run_mono (Cert.AdamAdaWRefIdeal.Value.run m' g') fun r hr c => ?_
    refine ⟨(hr c).1.trans ?_, (hr c).2.1.trans ?_, (hr c).2.2.1.trans ?_, (hr c).2.2.2.1.trans ?_, (hr c).2.2.2.2⟩
    all_goals simp only [hagree c]
    · rw [(final m c).1]
      funext i
      pointwise [total]
    · rw [(final m c).2.1]
      funext i
      pointwise [Cert.Adam.change, Cert.Adam.first, Cert.Adam.second, total]
    · rw [(final m c).2.2.1]
      funext i
      pointwise [Cert.Adam.first, total]
    · rw [(final m c).2.2.2]
      funext i
      pointwise [Cert.Adam.second, total]

/-- On words the kernel's table of bodies and its idealized form's are one. -/
theorem table_word : @Cert.AdamAdaW.defs₀ Bits _ Cert.AdamAdaW.Gen.facts = @Cert.AdamAdaWIdeal.defs₀ Bits _ Cert.AdamAdaWIdeal.Gen.facts := by
  unfold Cert.AdamAdaW.defs₀ Cert.AdamAdaWIdeal.defs₀
  refine congrArg Defs.onTc (funext fun l => funext fun a => ?_)
  match l, a with
  | ⟨0, _⟩, (t, s) => rfl

theorem frame : Cert.quiescent_AdamAdaW := fun m g _ => by
  unfold Cert.AdamAdaW.defs
  rw [table_word]
  exact Cert.AdamAdaWIdeal.Gen.frame (F := Bits) m g

theorem frameIdeal : Cert.quiescent_AdamAdaWIdeal := fun m g _ => Cert.AdamAdaWIdeal.Gen.frame m g

theorem frameReference : Cert.quiescent_AdamAdaWRefIdeal := fun m g _ =>
  (θ_run Cert.AdamAdaWRefIdeal.defs _ _).mono (fun r h => ⟨fun c => (h c).2.2.2.2, sem_eq_zero_of_no_sems (by decide) r.2⟩)
    (Cert.AdamAdaWRefIdeal.Value.run (F := Ideal) m g)

theorem same : Cert.preserves_AdamAdaW_AdamAdaWIdeal := trivial

end Cert.AdamAdaWClaims

end
-- ==== Proof.AdamAdaBClaims.lean ====
/- The optimiser's step for the modulation's bias: what its tiles hold, and the five claims. -/
module

public import proofs.«01_k».proof.Defs
public import proofs.«01_k».proof.Proof.Gen.AdamAdaB
public import proofs.«01_k».proof.Proof.Gen.AdamAdaBIdeal.Value
public import proofs.«01_k».proof.Proof.Gen.AdamAdaBRefIdeal.Run
public import proofs.«01_k».proof.Proof.Gen.AdamAdaBRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamAdaBClaims

open Idealize.ShloMosaic Idealize.ShloMosaic.TcCoe Idealize.SL.Sem
open Cert.AdamAdaBIdeal Cert.AdamAdaBIdeal.Gen

variable (m : (ℓ : Loc nD τ sig) → Buf (Elt Ideal) ℓ)

/-- The gradient's stack, summed. -/
def total (g : S1x8x384.Idx → EReal) (i : S8x384.Idx) : EReal := ∑ d : Fin 1, g (ix3 d (i 0) (i 1))

/-- Which blocks each step stages. -/
theorem places : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four result arrays hold the summed gradient, the weight's change and the two new moments. -/
theorem final (c : Dev nD) :
    let g := total (m ((c : Thread nD τ).loc main_arg0)); let w := m ((c : Thread nD τ).loc main_arg1)
    let u := m ((c : Thread nD τ).loc main_arg2); let v := m ((c : Thread nD τ).loc main_arg3)
    (dats m 0 c).arrAt 4 cfg0.N = g ∧ (dats m 0 c).arrAt 5 cfg0.N = (fun i => Cert.Adam.change (g i) (w i) (u i) (v i))
      ∧ (dats m 0 c).arrAt 6 cfg0.N = (fun i => Cert.Adam.first (g i) (u i)) ∧ (dats m 0 c).arrAt 7 cfg0.N = fun i => Cert.Adam.second (g i) (v i) := by
  intro g w u v
  have hg : ∀ (t : Fin cfg0.N) (y : S8x384.Idx), k0_pay1 (iblk m c 0 t) y
      = g (((View.whole main_v0_1).slice (win0_5.rect t)).emb y) := fun t y => by
    pointwise [k0_pay1, g, total]
    simp only [Fin.sum_univ_one]
    blk_point [iblk, V, places t]
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · blk_simp
    rw [after0_4]
    frame_out
    exact hg t y
  · blk_simp
    rw [after0_5]
    frame_out
    refine Eq.trans (b := Cert.Adam.change (k0_pay1 (iblk m c 0 t) y)
      (iblk m c 1 t y) (iblk m c 2 t y) (iblk m c 3 t y)) (by pointwise [k0_pay4, k0_pay3, k0_pay2, k0_pay1, Cert.Adam.change, Cert.Adam.first, Cert.Adam.second]) ?_
    refine congr (congr (congr (congrArg Cert.Adam.change (hg t y)) ?_) ?_) ?_
    all_goals blk_point [iblk, V, places t, w, u, v]
  · blk_simp
    rw [after0_6]
    frame_out
    refine Eq.trans (b := Cert.Adam.first (k0_pay1 (iblk m c 0 t) y)
      (iblk m c 2 t y)) (by pointwise [k0_pay2, k0_pay1, Cert.Adam.first]) ?_
    refine congr (congrArg Cert.Adam.first (hg t y)) ?_
    blk_point [iblk, V, places t, u]
  · blk_simp
    rw [after0_7]
    frame_out
    refine Eq.trans (b := Cert.Adam.second (k0_pay1 (iblk m c 0 t) y)
      (iblk m c 3 t y)) (by pointwise [k0_pay3, k0_pay1, Cert.Adam.second]) ?_
    refine congr (congrArg Cert.Adam.second (hg t y)) ?_
    blk_point [iblk, V, places t, v]

theorem equalResults : Cert.algebraic_AdamAdaBIdeal_AdamAdaBRefIdeal := by
  pair_intro
  · run_from Cert.AdamAdaBIdeal.Value.run_blocks m g
  · refine θ_run_mono (Cert.AdamAdaBRefIdeal.Value.run m' g') fun r hr c => ?_
    refine ⟨(hr c).1.trans ?_, (hr c).2.1.trans ?_, (hr c).2.2.1.trans ?_, (hr c).2.2.2.1.trans ?_, (hr c).2.2.2.2⟩
    all_goals simp only [hagree c]
    · rw [(final m c).1]
      funext i
      pointwise [total]
    · rw [(final m c).2.1]
      funext i
      pointwise [Cert.Adam.change, Cert.Adam.first, Cert.Adam.second, total]
    · rw [(final m c).2.2.1]
      funext i
      pointwise [Cert.Adam.first, total]
    · rw [(final m c).2.2.2]
      funext i
      pointwise [Cert.Adam.second, total]

/-- On words the kernel's table of bodies and its idealized form's are one. -/
theorem table_word : @Cert.AdamAdaB.defs₀ Bits _ Cert.AdamAdaB.Gen.facts = @Cert.AdamAdaBIdeal.defs₀ Bits _ Cert.AdamAdaBIdeal.Gen.facts := by
  unfold Cert.AdamAdaB.defs₀ Cert.AdamAdaBIdeal.defs₀
  refine congrArg Defs.onTc (funext fun l => funext fun a => ?_)
  match l, a with
  | ⟨0, _⟩, (t, s) => rfl

theorem frame : Cert.quiescent_AdamAdaB := fun m g _ => by
  unfold Cert.AdamAdaB.defs
  rw [table_word]
  exact Cert.AdamAdaBIdeal.Gen.frame (F := Bits) m g

theorem frameIdeal : Cert.quiescent_AdamAdaBIdeal := fun m g _ => Cert.AdamAdaBIdeal.Gen.frame m g

theorem frameReference : Cert.quiescent_AdamAdaBRefIdeal := fun m g _ =>
  (θ_run Cert.AdamAdaBRefIdeal.defs _ _).mono (fun r h => ⟨fun c => (h c).2.2.2.2, sem_eq_zero_of_no_sems (by decide) r.2⟩)
    (Cert.AdamAdaBRefIdeal.Value.run (F := Ideal) m g)

theorem same : Cert.preserves_AdamAdaB_AdamAdaBIdeal := trivial

end Cert.AdamAdaBClaims

end
-- ==== Proof.AdamMlaInClaims.lean ====
/- The optimiser's step for the attention's input projection: what its tiles hold, and the five claims. -/
module

public import proofs.«01_k».proof.Defs
public import proofs.«01_k».proof.Proof.Gen.AdamMlaIn
public import proofs.«01_k».proof.Proof.Gen.AdamMlaInIdeal.Value
public import proofs.«01_k».proof.Proof.Gen.AdamMlaInRefIdeal.Run
public import proofs.«01_k».proof.Proof.Gen.AdamMlaInRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamMlaInClaims

open Idealize.ShloMosaic Idealize.ShloMosaic.TcCoe Idealize.SL.Sem
open Cert.AdamMlaInIdeal Cert.AdamMlaInIdeal.Gen

variable (m : (ℓ : Loc nD τ sig) → Buf (Elt Ideal) ℓ)

/-- The layers' stacks of gradients, each summed, one layer under the other. -/
def total (g0 g1 : S8x1024x132.Idx → EReal) (i : S2048x132.Idx) : EReal :=
  if h : (i 0).val < 1024 then ∑ d : Fin 8, g0 (ix3 d ⟨(i 0).val, h⟩ (i 1))
  else ∑ d : Fin 8, g1 (ix3 d ⟨(i 0).val - 1024, by have : (i 0).val < 2048 := (i 0).isLt; omega⟩ (i 1))

/-- Which blocks each step stages. -/
theorem places : ∀ t : Fin cfg0.N, win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- A layer's stack is staged while its rows are stepped. -/
theorem staged : ∀ t : Fin cfg0.N, (t.val < 4 → win0_0.index t = ![0, t.val, 0])
    ∧ (4 ≤ t.val → win0_1.index t = ![0, t.val - 4, 0]) :=
  (by decide +kernel : ∀ t : Fin grid0.N, _)

/-- A tile of the first result is the summed gradient. -/
theorem grads (c : Dev nD) (t : Fin cfg0.N) (y : S256x132.Idx) : (outsAt0 m c t.val t.isLt).1 y
    = total (m ((c : Thread nD τ).loc main_arg0)) (m ((c : Thread nD τ).loc main_arg1)) (((View.whole main_v0_1).slice (win0_6.rect t)).emb y) := by
  have ht : t.val < 8 := t.isLt
  have hy : (y 0).val < 256 := (y 0).isLt
  have hr : ((((View.whole main_v0_1).slice (win0_6.rect t)).emb y) 0).val = t.val * 256 + (y 0).val := by blk_simp [places t]
  rcases (by omega : t.val < 4 ∨ 4 ≤ t.val) with h|h
  · rw [outsAt0_A m c t (by omega) (by omega)]
    frame_out
    pointwise [k0_pay7, total]
    rw [dif_pos (by omega)]
    simp only [Fin.sum_univ_eight]
    blk_point [iblk, V, places t, (staged t).1 h]
  · rw [outsAt0_B m c t (by omega) (by omega)]
    frame_out
    pointwise [k0_pay8, total]
    rw [dif_neg (by omega)]
    simp only [Fin.sum_univ_eight]
    blk_point [iblk, V, places t, (staged t).2 h]

/-- The tiles of the other results are the step at that gradient. -/
theorem steps (c : Dev nD) (t : Fin cfg0.N) (y : S256x132.Idx) :
    (outsAt0 m c t.val t.isLt).2.1 y = Cert.Adam.change ((outsAt0 m c t.val t.isLt).1 y) (iblk m c 2 t y) (iblk m c 3 t y) (iblk m c 4 t y)
      ∧ (outsAt0 m c t.val t.isLt).2.2.1 y = Cert.Adam.first ((outsAt0 m c t.val t.isLt).1 y) (iblk m c 3 t y)
      ∧ (outsAt0 m c t.val t.isLt).2.2.2 y = Cert.Adam.second ((outsAt0 m c t.val t.isLt).1 y) (iblk m c 4 t y) := by
  have ht : t.val < 8 := t.isLt
  rcases (by omega : t.val < 4 ∨ 4 ≤ t.val) with h|h
  · rw [outsAt0_A m c t (by omega) (by omega)]
    frame_out
    pointwise [k0_pay1, k0_pay2, k0_pay3, Cert.Adam.change, Cert.Adam.first, Cert.Adam.second]
  · rw [outsAt0_B m c t (by omega) (by omega)]
    frame_out
    pointwise [k0_pay4, k0_pay5, k0_pay6, Cert.Adam.change, Cert.Adam.first, Cert.Adam.second]

/-- The four result arrays hold the summed gradient, the weight's change and the two new moments. -/
theorem final (c : Dev nD) :
    let g := total (m ((c : Thread nD τ).loc main_arg0)) (m ((c : Thread nD τ).loc main_arg1)); let w := m ((c : Thread nD τ).loc main_arg2)
    let u := m ((c : Thread nD τ).loc main_arg3); let v := m ((c : Thread nD τ).loc main_arg4)
    (dats m 0 c).arrAt 5 cfg0.N = g ∧ (dats m 0 c).arrAt 6 cfg0.N = (fun i => Cert.Adam.change (g i) (w i) (u i) (v i))
      ∧ (dats m 0 c).arrAt 7 cfg0.N = (fun i => Cert.Adam.first (g i) (u i)) ∧ (dats m 0 c).arrAt 8 cfg0.N = fun i => Cert.Adam.second (g i) (v i) := by
  intro g w u v
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  · blk_simp
    rw [after0_5]
    exact grads m c t y
  · blk_simp
    rw [after0_6]
    refine (steps m c t y).1.trans (congr (congr (congr (congrArg Cert.Adam.change (grads m c t y)) ?_) ?_) ?_)
    all_goals blk_point [iblk, V, places t, w, u, v]
  · blk_simp
    rw [after0_7]
    refine (steps m c t y).2.1.trans (congr (congrArg Cert.Adam.first (grads m c t y)) ?_)
    blk_point [iblk, V, places t, u]
  · blk_simp
    rw [after0_8]
    refine (steps m c t y).2.2.trans (congr (congrArg Cert.Adam.second (grads m c t y)) ?_)
    blk_point [iblk, V, places t, v]

theorem equalResults : Cert.algebraic_AdamMlaInIdeal_AdamMlaInRefIdeal := by
  pair_intro
  · run_from Cert.AdamMlaInIdeal.Value.run_blocks m g
  · refine θ_run_mono (Cert.AdamMlaInRefIdeal.Value.run m' g') fun r hr c => ?_
    refine ⟨(hr c).1.trans ?_, (hr c).2.1.trans ?_, (hr c).2.2.1.trans ?_, (hr c).2.2.2.1.trans ?_, (hr c).2.2.2.2⟩
    · rw [(final m c).1, (hagree c).1, (hagree c).2.1]
      funext i
      pointwise [total]
    · rw [(final m c).2.1, (hagree c).1, (hagree c).2.1, (hagree c).2.2.1, (hagree c).2.2.2.1, (hagree c).2.2.2.2]
      funext i
      pointwise [Cert.Adam.change, Cert.Adam.first, Cert.Adam.second, total]
    · rw [(final m c).2.2.1, (hagree c).1, (hagree c).2.1, (hagree c).2.2.2.1]
      funext i
      pointwise [Cert.Adam.first, total]
    · rw [(final m c).2.2.2, (hagree c).1, (hagree c).2.1, (hagree c).2.2.2.2]
      funext i
      pointwise [Cert.Adam.second, total]

/-- On words the kernel's table of bodies and its idealized form's are one. -/
theorem table_word : @Cert.AdamMlaIn.defs₀ Bits _ Cert.AdamMlaIn.Gen.facts = @Cert.AdamMlaInIdeal.defs₀ Bits _ Cert.AdamMlaInIdeal.Gen.facts := by
  unfold Cert.AdamMlaIn.defs₀ Cert.AdamMlaInIdeal.defs₀
  refine congrArg Defs.onTc (funext fun l => funext fun a => ?_)
  match l, a with
  | ⟨0, _⟩, (t, s) => rfl

theorem frame : Cert.quiescent_AdamMlaIn := fun m g _ => by
  unfold Cert.AdamMlaIn.defs
  rw [table_word]
  exact Cert.AdamMlaInIdeal.Gen.frame (F := Bits) m g

theorem frameIdeal : Cert.quiescent_AdamMlaInIdeal := fun m g _ => Cert.AdamMlaInIdeal.Gen.frame m g

theorem frameReference : Cert.quiescent_AdamMlaInRefIdeal := fun m g _ =>
  (θ_run Cert.AdamMlaInRefIdeal.defs _ _).mono (fun r h => ⟨fun c => (h c).2.2.2.2, sem_eq_zero_of_no_sems (by decide) r.2⟩)
    (Cert.AdamMlaInRefIdeal.Value.run (F := Ideal) m g)

theorem same : Cert.preserves_AdamMlaIn_AdamMlaInIdeal := trivial

end Cert.AdamMlaInClaims

end
-- ==== Proof.AdamMlaQClaims.lean ====
/- The optimiser's step for the query's second projection: what its tiles hold, and the five claims. -/
module

public import proofs.«01_k».proof.Defs
public import proofs.«01_k».proof.Proof.Gen.AdamMlaQ
public import proofs.«01_k».proof.Proof.Gen.AdamMlaQIdeal.Value
public import proofs.«01_k».proof.Proof.Gen.AdamMlaQRefIdeal.Run
public import proofs.«01_k».proof.Proof.Gen.AdamMlaQRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamMlaQClaims

open Idealize.ShloMosaic Idealize.ShloMosaic.TcCoe Idealize.SL.Sem
open Cert.AdamMlaQIdeal Cert.AdamMlaQIdeal.Gen

variable (m : (ℓ : Loc nD τ sig) → Buf (Elt Ideal) ℓ)

/-- The layers' stacks of gradients, each summed, one layer under the other. -/
def total (g0 g1 : S8x768x192.Idx → EReal) (i : S1536x192.Idx) : EReal :=
  if h : (i 0).val < 768 then ∑ d : Fin 8, g0 (ix3 d ⟨(i 0).val, h⟩ (i 1))
  else ∑ d : Fin 8, g1 (ix3 d ⟨(i 0).val - 768, by have : (i 0).val < 1536 := (i 0).isLt; omega⟩ (i 1))

/-- Which blocks each step stages. -/
theorem places : ∀ t : Fin cfg0.N, win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- A layer's stack is staged while its rows are stepped. -/
theorem staged : ∀ t : Fin cfg0.N, (t.val < 3 → win0_0.index t = ![0, t.val, 0])
    ∧ (3 ≤ t.val → win0_1.index t = ![0, t.val - 3, 0]) :=
  (by decide +kernel : ∀ t : Fin grid0.N, _)

/-- A tile of the first result is the summed gradient. -/
theorem grads (c : Dev nD) (t : Fin cfg0.N) (y : S256x192.Idx) : (outsAt0 m c t.val t.isLt).1 y
    = total (m ((c : Thread nD τ).loc main_arg0)) (m ((c : Thread nD τ).loc main_arg1)) (((View.whole main_v0_1).slice (win0_6.rect t)).emb y) := by
  have ht : t.val < 6 := t.isLt
  have hy : (y 0).val < 256 := (y 0).isLt
  have hr : ((((View.whole main_v0_1).slice (win0_6.rect t)).emb y) 0).val = t.val * 256 + (y 0).val := by blk_simp [places t]
  rcases (by omega : t.val < 3 ∨ 3 ≤ t.val) with h|h
  · rw [outsAt0_A m c t (by omega) (by omega)]
    frame_out
    pointwise [k0_pay7, total]
    rw [dif_pos (by omega)]
    simp only [Fin.sum_univ_eight]
    blk_point [iblk, V, places t, (staged t).1 h]
  · rw [outsAt0_B m c t (by omega) (by omega)]
    frame_out
    pointwise [k0_pay8, total]
    rw [dif_neg (by omega)]
    simp only [Fin.sum_univ_eight]
    blk_point [iblk, V, places t, (staged t).2 h]

/-- The tiles of the other results are the step at that gradient. -/
theorem steps (c : Dev nD) (t : Fin cfg0.N) (y : S256x192.Idx) :
    (outsAt0 m c t.val t.isLt).2.1 y = Cert.Adam.change ((outsAt0 m c t.val t.isLt).1 y) (iblk m c 2 t y) (iblk m c 3 t y) (iblk m c 4 t y)
      ∧ (outsAt0 m c t.val t.isLt).2.2.1 y = Cert.Adam.first ((outsAt0 m c t.val t.isLt).1 y) (iblk m c 3 t y)
      ∧ (outsAt0 m c t.val t.isLt).2.2.2 y = Cert.Adam.second ((outsAt0 m c t.val t.isLt).1 y) (iblk m c 4 t y) := by
  have ht : t.val < 6 := t.isLt
  rcases (by omega : t.val < 3 ∨ 3 ≤ t.val) with h|h
  · rw [outsAt0_A m c t (by omega) (by omega)]
    frame_out
    pointwise [k0_pay1, k0_pay2, k0_pay3, Cert.Adam.change, Cert.Adam.first, Cert.Adam.second]
  · rw [outsAt0_B m c t (by omega) (by omega)]
    frame_out
    pointwise [k0_pay4, k0_pay5, k0_pay6, Cert.Adam.change, Cert.Adam.first, Cert.Adam.second]

/-- The four result arrays hold the summed gradient, the weight's change and the two new moments. -/
theorem final (c : Dev nD) :
    let g := total (m ((c : Thread nD τ).loc main_arg0)) (m ((c : Thread nD τ).loc main_arg1)); let w := m ((c : Thread nD τ).loc main_arg2)
    let u := m ((c : Thread nD τ).loc main_arg3); let v := m ((c : Thread nD τ).loc main_arg4)
    (dats m 0 c).arrAt 5 cfg0.N = g ∧ (dats m 0 c).arrAt 6 cfg0.N = (fun i => Cert.Adam.change (g i) (w i) (u i) (v i))
      ∧ (dats m 0 c).arrAt 7 cfg0.N = (fun i => Cert.Adam.first (g i) (u i)) ∧ (dats m 0 c).arrAt 8 cfg0.N = fun i => Cert.Adam.second (g i) (v i) := by
  intro g w u v
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  · blk_simp
    rw [after0_5]
    exact grads m c t y
  · blk_simp
    rw [after0_6]
    refine (steps m c t y).1.trans (congr (congr (congr (congrArg Cert.Adam.change (grads m c t y)) ?_) ?_) ?_)
    all_goals blk_point [iblk, V, places t, w, u, v]
  · blk_simp
    rw [after0_7]
    refine (steps m c t y).2.1.trans (congr (congrArg Cert.Adam.first (grads m c t y)) ?_)
    blk_point [iblk, V, places t, u]
  · blk_simp
    rw [after0_8]
    refine (steps m c t y).2.2.trans (congr (congrArg Cert.Adam.second (grads m c t y)) ?_)
    blk_point [iblk, V, places t, v]

theorem equalResults : Cert.algebraic_AdamMlaQIdeal_AdamMlaQRefIdeal := by
  pair_intro
  · run_from Cert.AdamMlaQIdeal.Value.run_blocks m g
  · refine θ_run_mono (Cert.AdamMlaQRefIdeal.Value.run m' g') fun r hr c => ?_
    refine ⟨(hr c).1.trans ?_, (hr c).2.1.trans ?_, (hr c).2.2.1.trans ?_, (hr c).2.2.2.1.trans ?_, (hr c).2.2.2.2⟩
    · rw [(final m c).1, (hagree c).1, (hagree c).2.1]
      funext i
      pointwise [total]
    · rw [(final m c).2.1, (hagree c).1, (hagree c).2.1, (hagree c).2.2.1, (hagree c).2.2.2.1, (hagree c).2.2.2.2]
      funext i
      pointwise [Cert.Adam.change, Cert.Adam.first, Cert.Adam.second, total]
    · rw [(final m c).2.2.1, (hagree c).1, (hagree c).2.1, (hagree c).2.2.2.1]
      funext i
      pointwise [Cert.Adam.first, total]
    · rw [(final m c).2.2.2, (hagree c).1, (hagree c).2.1, (hagree c).2.2.2.2]
      funext i
      pointwise [Cert.Adam.second, total]

/-- On words the kernel's table of bodies and its idealized form's are one. -/
theorem table_word : @Cert.AdamMlaQ.defs₀ Bits _ Cert.AdamMlaQ.Gen.facts = @Cert.AdamMlaQIdeal.defs₀ Bits _ Cert.AdamMlaQIdeal.Gen.facts := by
  unfold Cert.AdamMlaQ.defs₀ Cert.AdamMlaQIdeal.defs₀
  refine congrArg Defs.onTc (funext fun l => funext fun a => ?_)
  match l, a with
  | ⟨0, _⟩, (t, s) => rfl

theorem frame : Cert.quiescent_AdamMlaQ := fun m g _ => by
  unfold Cert.AdamMlaQ.defs
  rw [table_word]
  exact Cert.AdamMlaQIdeal.Gen.frame (F := Bits) m g

theorem frameIdeal : Cert.quiescent_AdamMlaQIdeal := fun m g _ => Cert.AdamMlaQIdeal.Gen.frame m g

theorem frameReference : Cert.quiescent_AdamMlaQRefIdeal := fun m g _ =>
  (θ_run Cert.AdamMlaQRefIdeal.defs _ _).mono (fun r h => ⟨fun c => (h c).2.2.2.2, sem_eq_zero_of_no_sems (by decide) r.2⟩)
    (Cert.AdamMlaQRefIdeal.Value.run (F := Ideal) m g)

theorem same : Cert.preserves_AdamMlaQ_AdamMlaQIdeal := trivial

end Cert.AdamMlaQClaims

end
-- ==== Proof.AdamMlaKvClaims.lean ====
/- The optimiser's step for the keys' and values' second projection: what its tiles hold, and the five claims. -/
module

public import proofs.«01_k».proof.Defs
public import proofs.«01_k».proof.Proof.Gen.AdamMlaKv
public import proofs.«01_k».proof.Proof.Gen.AdamMlaKvIdeal.Value
public import proofs.«01_k».proof.Proof.Gen.AdamMlaKvRefIdeal.Run
public import proofs.«01_k».proof.Proof.Gen.AdamMlaKvRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamMlaKvClaims

open Idealize.ShloMosaic Idealize.ShloMosaic.TcCoe Idealize.SL.Sem
open Cert.AdamMlaKvIdeal Cert.AdamMlaKvIdeal.Gen

variable (m : (ℓ : Loc nD τ sig) → Buf (Elt Ideal) ℓ)

/-- The layers' stacks of gradients, each summed, one layer under the other. -/
def total (g0 g1 : S8x256x256.Idx → EReal) (i : S512x256.Idx) : EReal :=
  if h : (i 0).val < 256 then ∑ d : Fin 8, g0 (ix3 d ⟨(i 0).val, h⟩ (i 1))
  else ∑ d : Fin 8, g1 (ix3 d ⟨(i 0).val - 256, by have : (i 0).val < 512 := (i 0).isLt; omega⟩ (i 1))

/-- Which blocks each step stages. -/
theorem places : ∀ t : Fin cfg0.N, win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- A layer's stack is staged while its rows are stepped. -/
theorem staged : ∀ t : Fin cfg0.N, (t.val < 1 → win0_0.index t = ![0, t.val, 0])
    ∧ (1 ≤ t.val → win0_1.index t = ![0, t.val - 1, 0]) :=
  (by decide +kernel : ∀ t : Fin grid0.N, _)

/-- A tile of the first result is the summed gradient. -/
theorem grads (c : Dev nD) (t : Fin cfg0.N) (y : S256x256.Idx) : (outsAt0 m c t.val t.isLt).1 y
    = total (m ((c : Thread nD τ).loc main_arg0)) (m ((c : Thread nD τ).loc main_arg1)) (((View.whole main_v0_1).slice (win0_6.rect t)).emb y) := by
  have ht : t.val < 2 := t.isLt
  have hy : (y 0).val < 256 := (y 0).isLt
  have hr : ((((View.whole main_v0_1).slice (win0_6.rect t)).emb y) 0).val = t.val * 256 + (y 0).val := by blk_simp [places t]
  rcases (by omega : t.val < 1 ∨ 1 ≤ t.val) with h|h
  · rw [outsAt0_A m c t (by omega) (by omega)]
    frame_out
    pointwise [k0_pay7, total]
    rw [dif_pos (by omega)]
    simp only [Fin.sum_univ_eight]
    blk_point [iblk, V, places t, (staged t).1 h]
  · rw [outsAt0_B m c t (by omega) (by omega)]
    frame_out
    pointwise [k0_pay8, total]
    rw [dif_neg (by omega)]
    simp only [Fin.sum_univ_eight]
    blk_point [iblk, V, places t, (staged t).2 h]

/-- The tiles of the other results are the step at that gradient. -/
theorem steps (c : Dev nD) (t : Fin cfg0.N) (y : S256x256.Idx) :
    (outsAt0 m c t.val t.isLt).2.1 y = Cert.Adam.change ((outsAt0 m c t.val t.isLt).1 y) (iblk m c 2 t y) (iblk m c 3 t y) (iblk m c 4 t y)
      ∧ (outsAt0 m c t.val t.isLt).2.2.1 y = Cert.Adam.first ((outsAt0 m c t.val t.isLt).1 y) (iblk m c 3 t y)
      ∧ (outsAt0 m c t.val t.isLt).2.2.2 y = Cert.Adam.second ((outsAt0 m c t.val t.isLt).1 y) (iblk m c 4 t y) := by
  have ht : t.val < 2 := t.isLt
  rcases (by omega : t.val < 1 ∨ 1 ≤ t.val) with h|h
  · rw [outsAt0_A m c t (by omega) (by omega)]
    frame_out
    pointwise [k0_pay1, k0_pay2, k0_pay3, Cert.Adam.change, Cert.Adam.first, Cert.Adam.second]
  · rw [outsAt0_B m c t (by omega) (by omega)]
    frame_out
    pointwise [k0_pay4, k0_pay5, k0_pay6, Cert.Adam.change, Cert.Adam.first, Cert.Adam.second]

/-- The four result arrays hold the summed gradient, the weight's change and the two new moments. -/
theorem final (c : Dev nD) :
    let g := total (m ((c : Thread nD τ).loc main_arg0)) (m ((c : Thread nD τ).loc main_arg1)); let w := m ((c : Thread nD τ).loc main_arg2)
    let u := m ((c : Thread nD τ).loc main_arg3); let v := m ((c : Thread nD τ).loc main_arg4)
    (dats m 0 c).arrAt 5 cfg0.N = g ∧ (dats m 0 c).arrAt 6 cfg0.N = (fun i => Cert.Adam.change (g i) (w i) (u i) (v i))
      ∧ (dats m 0 c).arrAt 7 cfg0.N = (fun i => Cert.Adam.first (g i) (u i)) ∧ (dats m 0 c).arrAt 8 cfg0.N = fun i => Cert.Adam.second (g i) (v i) := by
  intro g w u v
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  · blk_simp
    rw [after0_5]
    exact grads m c t y
  · blk_simp
    rw [after0_6]
    refine (steps m c t y).1.trans (congr (congr (congr (congrArg Cert.Adam.change (grads m c t y)) ?_) ?_) ?_)
    all_goals blk_point [iblk, V, places t, w, u, v]
  · blk_simp
    rw [after0_7]
    refine (steps m c t y).2.1.trans (congr (congrArg Cert.Adam.first (grads m c t y)) ?_)
    blk_point [iblk, V, places t, u]
  · blk_simp
    rw [after0_8]
    refine (steps m c t y).2.2.trans (congr (congrArg Cert.Adam.second (grads m c t y)) ?_)
    blk_point [iblk, V, places t, v]

theorem equalResults : Cert.algebraic_AdamMlaKvIdeal_AdamMlaKvRefIdeal := by
  pair_intro
  · run_from Cert.AdamMlaKvIdeal.Value.run_blocks m g
  · refine θ_run_mono (Cert.AdamMlaKvRefIdeal.Value.run m' g') fun r hr c => ?_
    refine ⟨(hr c).1.trans ?_, (hr c).2.1.trans ?_, (hr c).2.2.1.trans ?_, (hr c).2.2.2.1.trans ?_, (hr c).2.2.2.2⟩
    · rw [(final m c).1, (hagree c).1, (hagree c).2.1]
      funext i
      pointwise [total]
    · rw [(final m c).2.1, (hagree c).1, (hagree c).2.1, (hagree c).2.2.1, (hagree c).2.2.2.1, (hagree c).2.2.2.2]
      funext i
      pointwise [Cert.Adam.change, Cert.Adam.first, Cert.Adam.second, total]
    · rw [(final m c).2.2.1, (hagree c).1, (hagree c).2.1, (hagree c).2.2.2.1]
      funext i
      pointwise [Cert.Adam.first, total]
    · rw [(final m c).2.2.2, (hagree c).1, (hagree c).2.1, (hagree c).2.2.2.2]
      funext i
      pointwise [Cert.Adam.second, total]

/-- On words the kernel's table of bodies and its idealized form's are one. -/
theorem table_word : @Cert.AdamMlaKv.defs₀ Bits _ Cert.AdamMlaKv.Gen.facts = @Cert.AdamMlaKvIdeal.defs₀ Bits _ Cert.AdamMlaKvIdeal.Gen.facts := by
  unfold Cert.AdamMlaKv.defs₀ Cert.AdamMlaKvIdeal.defs₀
  refine congrArg Defs.onTc (funext fun l => funext fun a => ?_)
  match l, a with
  | ⟨0, _⟩, (t, s) => rfl

theorem frame : Cert.quiescent_AdamMlaKv := fun m g _ => by
  unfold Cert.AdamMlaKv.defs
  rw [table_word]
  exact Cert.AdamMlaKvIdeal.Gen.frame (F := Bits) m g

theorem frameIdeal : Cert.quiescent_AdamMlaKvIdeal := fun m g _ => Cert.AdamMlaKvIdeal.Gen.frame m g

theorem frameReference : Cert.quiescent_AdamMlaKvRefIdeal := fun m g _ =>
  (θ_run Cert.AdamMlaKvRefIdeal.defs _ _).mono (fun r h => ⟨fun c => (h c).2.2.2.2, sem_eq_zero_of_no_sems (by decide) r.2⟩)
    (Cert.AdamMlaKvRefIdeal.Value.run (F := Ideal) m g)

theorem same : Cert.preserves_AdamMlaKv_AdamMlaKvIdeal := trivial

end Cert.AdamMlaKvClaims

end
-- ==== Proof.AdamOutClaims.lean ====
/- The optimiser's step for an output projection's weight: what its tiles hold, and the five claims. -/
module

public import proofs.«01_k».proof.Defs
public import proofs.«01_k».proof.Proof.Gen.AdamOut
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamOutClaims

open Idealize.ShloMosaic Idealize.ShloMosaic.TcCoe Idealize.SL.Sem
open Cert.AdamOutIdeal Cert.AdamOutIdeal.Gen

variable (m : (ℓ : Loc nD τ sig) → Buf (Elt Ideal) ℓ)

/-- The layers' stacks of gradients, each summed, one layer under the other. -/
def total (g0 g1 : S8x128x1024.Idx → EReal) (i : S256x1024.Idx) : EReal :=
  if h : (i 0).val < 128 then ∑ d : Fin 8, g0 (ix3 d ⟨(i 0).val, h⟩ (i 1))
  else ∑ d : Fin 8, g1 (ix3 d ⟨(i 0).val - 128, by have : (i 0).val < 256 := (i 0).isLt; omega⟩ (i 1))

/-- Which blocks each step stages. -/
theorem places : ∀ t : Fin cfg0.N, win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- A layer's stack is staged while its rows are stepped. -/
theorem staged : ∀ t : Fin cfg0.N, (t.val < 2 → win0_0.index t = ![0, t.val, 0])
    ∧ (2 ≤ t.val → win0_1.index t = ![0, t.val - 2, 0]) :=
  (by decide +kernel : ∀ t : Fin grid0.N, _)

/-- A tile of the first result is the summed gradient. -/
theorem grads (c : Dev nD) (t : Fin cfg0.N) (y : S64x1024.Idx) : (outsAt0 m c t.val t.isLt).1 y
    = total (m ((c : Thread nD τ).loc main_arg0)) (m ((c : Thread nD τ).loc main_arg1)) (((View.whole main_v0_1).slice (win0_6.rect t)).emb y) := by
  have ht : t.val < 4 := t.isLt
  have hy : (y 0).val < 64 := (y 0).isLt
  have hr : ((((View.whole main_v0_1).slice (win0_6.rect t)).emb y) 0).val = t.val * 64 + (y 0).val := by blk_simp [places t]
  rcases (by omega : t.val < 2 ∨ 2 ≤ t.val) with h|h
  · rw [outsAt0_A m c t (by omega) (by omega)]
    frame_out
    pointwise [k0_pay7, total]
    rw [dif_pos (by omega)]
    simp only [Fin.sum_univ_eight]
    blk_point [iblk, V, places t, (staged t).1 h]
  · rw [outsAt0_B m c t (by omega) (by omega)]
    frame_out
    pointwise [k0_pay8, total]
    rw [dif_neg (by omega)]
    simp only [Fin.sum_univ_eight]
    blk_point [iblk, V, places t, (staged t).2 h]

/-- The tiles of the other results are the step at that gradient. -/
theorem steps (c : Dev nD) (t : Fin cfg0.N) (y : S64x1024.Idx) :
    (outsAt0 m c t.val t.isLt).2.1 y = Cert.Adam.change ((outsAt0 m c t.val t.isLt).1 y) (iblk m c 2 t y) (iblk m c 3 t y) (iblk m c 4 t y)
      ∧ (outsAt0 m c t.val t.isLt).2.2.1 y = Cert.Adam.first ((outsAt0 m c t.val t.isLt).1 y) (iblk m c 3 t y)
      ∧ (outsAt0 m c t.val t.isLt).2.2.2 y = Cert.Adam.second ((outsAt0 m c t.val t.isLt).1 y) (iblk m c 4 t y) := by
  have ht : t.val < 4 := t.isLt
  rcases (by omega : t.val < 2 ∨ 2 ≤ t.val) with h|h
  · rw [outsAt0_A m c t (by omega) (by omega)]
    frame_out
    pointwise [k0_pay1, k0_pay2, k0_pay3, Cert.Adam.change, Cert.Adam.first, Cert.Adam.second]
  · rw [outsAt0_B m c t (by omega) (by omega)]
    frame_out
    pointwise [k0_pay4, k0_pay5, k0_pay6, Cert.Adam.change, Cert.Adam.first, Cert.Adam.second]

/-- The four result arrays hold the summed gradient, the weight's change and the two new moments. -/
theorem final (c : Dev nD) :
    let g := total (m ((c : Thread nD τ).loc main_arg0)) (m ((c : Thread nD τ).loc main_arg1)); let w := m ((c : Thread nD τ).loc main_arg2)
    let u := m ((c : Thread nD τ).loc main_arg3); let v := m ((c : Thread nD τ).loc main_arg4)
    (dats m 0 c).arrAt 5 cfg0.N = g ∧ (dats m 0 c).arrAt 6 cfg0.N = (fun i => Cert.Adam.change (g i) (w i) (u i) (v i))
      ∧ (dats m 0 c).arrAt 7 cfg0.N = (fun i => Cert.Adam.first (g i) (u i)) ∧ (dats m 0 c).arrAt 8 cfg0.N = fun i => Cert.Adam.second (g i) (v i) := by
  intro g w u v
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  · blk_simp
    rw [after0_5]
    exact grads m c t y
  · blk_simp
    rw [after0_6]
    refine (steps m c t y).1.trans (congr (congr (congr (congrArg Cert.Adam.change (grads m c t y)) ?_) ?_) ?_)
    all_goals blk_point [iblk, V, places t, w, u, v]
  · blk_simp
    rw [after0_7]
    refine (steps m c t y).2.1.trans (congr (congrArg Cert.Adam.first (grads m c t y)) ?_)
    blk_point [iblk, V, places t, u]
  · blk_simp
    rw [after0_8]
    refine (steps m c t y).2.2.trans (congr (congrArg Cert.Adam.second (grads m c t y)) ?_)
    blk_point [iblk, V, places t, v]

theorem equalResults : Cert.algebraic_AdamOutIdeal_AdamOutRefIdeal := by
  pair_intro
  · run_from Cert.AdamOutIdeal.Value.run_blocks m g
  · refine θ_run_mono (Cert.AdamOutRefIdeal.Value.run m' g') fun r hr c => ?_
    refine ⟨(hr c).1.trans ?_, (hr c).2.1.trans ?_, (hr c).2.2.1.trans ?_, (hr c).2.2.2.1.trans ?_, (hr c).2.2.2.2⟩
    · rw [(final m c).1, (hagree c).1, (hagree c).2.1]
      funext i
      pointwise [total]
    · rw [(final m c).2.1, (hagree c).1, (hagree c).2.1, (hagree c).2.2.1, (hagree c).2.2.2.1, (hagree c).2.2.2.2]
      funext i
      pointwise [Cert.Adam.change, Cert.Adam.first, Cert.Adam.second, total]
    · rw [(final m c).2.2.1, (hagree c).1, (hagree c).2.1, (hagree c).2.2.2.1]
      funext i
      pointwise [Cert.Adam.first, total]
    · rw [(final m c).2.2.2, (hagree c).1, (hagree c).2.1, (hagree c).2.2.2.2]
      funext i
      pointwise [Cert.Adam.second, total]

/-- On words the kernel's table of bodies and its idealized form's are one. -/
theorem table_word : @Cert.AdamOut.defs₀ Bits _ Cert.AdamOut.Gen.facts = @Cert.AdamOutIdeal.defs₀ Bits _ Cert.AdamOutIdeal.Gen.facts := by
  unfold Cert.AdamOut.defs₀ Cert.AdamOutIdeal.defs₀
  refine congrArg Defs.onTc (funext fun l => funext fun a => ?_)
  match l, a with
  | ⟨0, _⟩, (t, s) => rfl

theorem frame : Cert.quiescent_AdamOut := fun m g _ => by
  unfold Cert.AdamOut.defs
  rw [table_word]
  exact Cert.AdamOutIdeal.Gen.frame (F := Bits) m g

theorem frameIdeal : Cert.quiescent_AdamOutIdeal := fun m g _ => Cert.AdamOutIdeal.Gen.frame m g

theorem frameReference : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run (F := Ideal) m g)

theorem same : Cert.preserves_AdamOut_AdamOutIdeal := trivial

end Cert.AdamOutClaims

end
-- ==== Proof.AdamHgrnInClaims.lean ====
/- The optimiser's step for the recurrent layer's input projection: what its tiles hold, and the five claims. -/
module

public import proofs.«01_k».proof.Defs
public import proofs.«01_k».proof.Proof.Gen.AdamHgrnIn
public import proofs.«01_k».proof.Proof.Gen.AdamHgrnInIdeal.Value
public import proofs.«01_k».proof.Proof.Gen.AdamHgrnInRefIdeal.Run
public import proofs.«01_k».proof.Proof.Gen.AdamHgrnInRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamHgrnInClaims

open Idealize.ShloMosaic Idealize.ShloMosaic.TcCoe Idealize.SL.Sem
open Cert.AdamHgrnInIdeal Cert.AdamHgrnInIdeal.Gen

variable (m : (ℓ : Loc nD τ sig) → Buf (Elt Ideal) ℓ)

/-- The layers' stacks of gradients, each summed, one layer under the other. -/
def total (g0 g1 : S8x1024x512.Idx → EReal) (i : S2048x512.Idx) : EReal :=
  if h : (i 0).val < 1024 then ∑ d : Fin 8, g0 (ix3 d ⟨(i 0).val, h⟩ (i 1))
  else ∑ d : Fin 8, g1 (ix3 d ⟨(i 0).val - 1024, by have : (i 0).val < 2048 := (i 0).isLt; omega⟩ (i 1))

/-- Which blocks each step stages. -/
theorem places : ∀ t : Fin cfg0.N, win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- A layer's stack is staged while its rows are stepped. -/
theorem staged : ∀ t : Fin cfg0.N, (t.val < 8 → win0_0.index t = ![0, t.val, 0])
    ∧ (8 ≤ t.val → win0_1.index t = ![0, t.val - 8, 0]) :=
  (by decide +kernel : ∀ t : Fin grid0.N, _)

/-- A tile of the first result is the summed gradient. -/
theorem grads (c : Dev nD) (t : Fin cfg0.N) (y : S128x512.Idx) : (outsAt0 m c t.val t.isLt).1 y
    = total (m ((c : Thread nD τ).loc main_arg0)) (m ((c : Thread nD τ).loc main_arg1)) (((View.whole main_v0_1).slice (win0_6.rect t)).emb y) := by
  have ht : t.val < 16 := t.isLt
  have hy : (y 0).val < 128 := (y 0).isLt
  have hr : ((((View.whole main_v0_1).slice (win0_6.rect t)).emb y) 0).val = t.val * 128 + (y 0).val := by blk_simp [places t]
  rcases (by omega : t.val < 8 ∨ 8 ≤ t.val) with h|h
  · rw [outsAt0_A m c t (by omega) (by omega)]
    frame_out
    pointwise [k0_pay7, total]
    rw [dif_pos (by omega)]
    simp only [Fin.sum_univ_eight]
    blk_point [iblk, V, places t, (staged t).1 h]
  · rw [outsAt0_B m c t (by omega) (by omega)]
    frame_out
    pointwise [k0_pay8, total]
    rw [dif_neg (by omega)]
    simp only [Fin.sum_univ_eight]
    blk_point [iblk, V, places t, (staged t).2 h]

/-- The tiles of the other results are the step at that gradient. -/
theorem steps (c : Dev nD) (t : Fin cfg0.N) (y : S128x512.Idx) :
    (outsAt0 m c t.val t.isLt).2.1 y = Cert.Adam.change ((outsAt0 m c t.val t.isLt).1 y) (iblk m c 2 t y) (iblk m c 3 t y) (iblk m c 4 t y)
      ∧ (outsAt0 m c t.val t.isLt).2.2.1 y = Cert.Adam.first ((outsAt0 m c t.val t.isLt).1 y) (iblk m c 3 t y)
      ∧ (outsAt0 m c t.val t.isLt).2.2.2 y = Cert.Adam.second ((outsAt0 m c t.val t.isLt).1 y) (iblk m c 4 t y) := by
  have ht : t.val < 16 := t.isLt
  rcases (by omega : t.val < 8 ∨ 8 ≤ t.val) with h|h
  · rw [outsAt0_A m c t (by omega) (by omega)]
    frame_out
    pointwise [k0_pay1, k0_pay2, k0_pay3, Cert.Adam.change, Cert.Adam.first, Cert.Adam.second]
  · rw [outsAt0_B m c t (by omega) (by omega)]
    frame_out
    pointwise [k0_pay4, k0_pay5, k0_pay6, Cert.Adam.change, Cert.Adam.first, Cert.Adam.second]

/-- The four result arrays hold the summed gradient, the weight's change and the two new moments. -/
theorem final (c : Dev nD) :
    let g := total (m ((c : Thread nD τ).loc main_arg0)) (m ((c : Thread nD τ).loc main_arg1)); let w := m ((c : Thread nD τ).loc main_arg2)
    let u := m ((c : Thread nD τ).loc main_arg3); let v := m ((c : Thread nD τ).loc main_arg4)
    (dats m 0 c).arrAt 5 cfg0.N = g ∧ (dats m 0 c).arrAt 6 cfg0.N = (fun i => Cert.Adam.change (g i) (w i) (u i) (v i))
      ∧ (dats m 0 c).arrAt 7 cfg0.N = (fun i => Cert.Adam.first (g i) (u i)) ∧ (dats m 0 c).arrAt 8 cfg0.N = fun i => Cert.Adam.second (g i) (v i) := by
  intro g w u v
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩
  · blk_simp
    rw [after0_5]
    exact grads m c t y
  · blk_simp
    rw [after0_6]
    refine (steps m c t y).1.trans (congr (congr (congr (congrArg Cert.Adam.change (grads m c t y)) ?_) ?_) ?_)
    all_goals blk_point [iblk, V, places t, w, u, v]
  · blk_simp
    rw [after0_7]
    refine (steps m c t y).2.1.trans (congr (congrArg Cert.Adam.first (grads m c t y)) ?_)
    blk_point [iblk, V, places t, u]
  · blk_simp
    rw [after0_8]
    refine (steps m c t y).2.2.trans (congr (congrArg Cert.Adam.second (grads m c t y)) ?_)
    blk_point [iblk, V, places t, v]

theorem equalResults : Cert.algebraic_AdamHgrnInIdeal_AdamHgrnInRefIdeal := by
  pair_intro
  · run_from Cert.AdamHgrnInIdeal.Value.run_blocks m g
  · refine θ_run_mono (Cert.AdamHgrnInRefIdeal.Value.run m' g') fun r hr c => ?_
    refine ⟨(hr c).1.trans ?_, (hr c).2.1.trans ?_, (hr c).2.2.1.trans ?_, (hr c).2.2.2.1.trans ?_, (hr c).2.2.2.2⟩
    · rw [(final m c).1, (hagree c).1, (hagree c).2.1]
      funext i
      pointwise [total]
    · rw [(final m c).2.1, (hagree c).1, (hagree c).2.1, (hagree c).2.2.1, (hagree c).2.2.2.1, (hagree c).2.2.2.2]
      funext i
      pointwise [Cert.Adam.change, Cert.Adam.first, Cert.Adam.second, total]
    · rw [(final m c).2.2.1, (hagree c).1, (hagree c).2.1, (hagree c).2.2.2.1]
      funext i
      pointwise [Cert.Adam.first, total]
    · rw [(final m c).2.2.2, (hagree c).1, (hagree c).2.1, (hagree c).2.2.2.2]
      funext i
      pointwise [Cert.Adam.second, total]

/-- On words the kernel's table of bodies and its idealized form's are one. -/
theorem table_word : @Cert.AdamHgrnIn.defs₀ Bits _ Cert.AdamHgrnIn.Gen.facts = @Cert.AdamHgrnInIdeal.defs₀ Bits _ Cert.AdamHgrnInIdeal.Gen.facts := by
  unfold Cert.AdamHgrnIn.defs₀ Cert.AdamHgrnInIdeal.defs₀
  refine congrArg Defs.onTc (funext fun l => funext fun a => ?_)
  match l, a with
  | ⟨0, _⟩, (t, s) => rfl

theorem frame : Cert.quiescent_AdamHgrnIn := fun m g _ => by
  unfold Cert.AdamHgrnIn.defs
  rw [table_word]
  exact Cert.AdamHgrnInIdeal.Gen.frame (F := Bits) m g

theorem frameIdeal : Cert.quiescent_AdamHgrnInIdeal := fun m g _ => Cert.AdamHgrnInIdeal.Gen.frame m g

theorem frameReference : Cert.quiescent_AdamHgrnInRefIdeal := fun m g _ =>
  (θ_run Cert.AdamHgrnInRefIdeal.defs _ _).mono (fun r h => ⟨fun c => (h c).2.2.2.2, sem_eq_zero_of_no_sems (by decide) r.2⟩)
    (Cert.AdamHgrnInRefIdeal.Value.run (F := Ideal) m g)

theorem same : Cert.preserves_AdamHgrnIn_AdamHgrnInIdeal := trivial

end Cert.AdamHgrnInClaims

end
-- ==== Proof.AdamFfnInClaims.lean ====
/- The optimiser's step for the feed-forward layer's input weight: what its tiles hold, and the five claims. -/
module

public import proofs.«01_k».proof.Defs
public import proofs.«01_k».proof.Proof.Gen.AdamFfnIn
public import proofs.«01_k».proof.Proof.Gen.AdamFfnInIdeal.Value
public import proofs.«01_k».proof.Proof.Gen.AdamFfnInRefIdeal.Run
public import proofs.«01_k».proof.Proof.Gen.AdamFfnInRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamFfnInClaims

open Idealize.ShloMosaic Idealize.ShloMosaic.TcCoe Idealize.SL.Sem
open Cert.AdamFfnInIdeal Cert.AdamFfnInIdeal.Gen

variable (m : (ℓ : Loc nD τ sig) → Buf (Elt Ideal) ℓ)

/-- The layers' stacks of gradients, each summed, one layer under the other. -/
def total (g0 g1 g2 g3 : S8x1024x704.Idx → EReal) (i : S4096x704.Idx) : EReal :=
  if h : (i 0).val < 1024 then ∑ d : Fin 8, g0 (ix3 d ⟨(i 0).val, h⟩ (i 1))
  else if h : (i 0).val - 1024 < 1024 then ∑ d : Fin 8, g1 (ix3 d ⟨(i 0).val - 1024, h⟩ (i 1))
  else if h : (i 0).val - 1024 - 1024 < 1024 then ∑ d : Fin 8, g2 (ix3 d ⟨(i 0).val - 1024 - 1024, h⟩ (i 1))
  else ∑ d : Fin 8, g3 (ix3 d ⟨(i 0).val - 1024 - 1024 - 1024, by have : (i 0).val < 4096 := (i 0).isLt; omega⟩ (i 1))

/-- Which blocks each step stages. -/
theorem places : ∀ t : Fin cfg0.N, win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

/-- A layer's stack is staged while its rows are stepped. -/
theorem staged : ∀ t : Fin cfg0.N, (t.val < 16 → win0_0.index t = ![0, t.val, 0])
    ∧ (16 ≤ t.val ∧ t.val < 32 → win0_1.index t = ![0, t.val - 16, 0])
    ∧ (32 ≤ t.val ∧ t.val < 48 → win0_2.index t = ![0, t.val - 32, 0])
    ∧ (48 ≤ t.val → win0_3.index t = ![0, t.val - 48, 0]) :=
  (by decide +kernel : ∀ t : Fin grid0.N, _)

/-- A tile of the first result is the summed gradient. -/
theorem grads (c : Dev nD) (t : Fin cfg0.N) (y : S64x704.Idx) : (outsAt0 m c t.val t.isLt).1 y
    = total (m ((c : Thread nD τ).loc main_arg0)) (m ((c : Thread nD τ).loc main_arg1)) (m ((c : Thread nD τ).loc main_arg2)) (m ((c : Thread nD τ).loc main_arg3)) (((View.whole main_v0_1).slice (win0_8.rect t)).emb y) := by
  have ht : t.val < 64 := t.isLt
  have hy : (y 0).val < 64 := (y 0).isLt
  have hr : ((((View.whole main_v0_1).slice (win0_8.rect t)).emb y) 0).val = t.val * 64 + (y 0).val := by blk_simp [places t]
  rcases (by omega : t.val < 16 ∨ 16 ≤ t.val ∧ t.val < 32 ∨ 32 ≤ t.val ∧ t.val < 48 ∨ 48 ≤ t.val) with h|h|h|h
  · rw [outsAt0_A m c t (by omega) (by omega) (by omega) (by omega)]
    frame_out
    pointwise [k0_pay13, total]
    rw [dif_pos (by omega)]
    simp only [Fin.sum_univ_eight]
    blk_point [iblk, V, places t, (staged t).1 h]
  · rw [outsAt0_B m c t (by omega) (by omega) (by omega) (by omega)]
    frame_out
    pointwise [k0_pay14, total]
    rw [dif_neg (by omega), dif_pos (by omega)]
    simp only [Fin.sum_univ_eight]
    blk_point [iblk, V, places t, (staged t).2.1 h]
  · rw [outsAt0_C m c t (by omega) (by omega) (by omega) (by omega)]
    frame_out
    pointwise [k0_pay15, total]
    rw [dif_neg (by omega), dif_neg (by omega), dif_pos (by omega)]
    simp only [Fin.sum_univ_eight]
    blk_point [iblk, V, places t, (staged t).2.2.1 h]
  · rw [outsAt0_D m c t (by omega) (by omega) (by omega) (by omega)]
    frame_out
    pointwise [k0_pay16, total]
    rw [dif_neg (by omega), dif_neg (by omega), dif_neg (by omega)]
    simp only [Fin.sum_univ_eight]
    blk_point [iblk, V, places t, (staged t).2.2.2 h]

/-- The tiles of the other results are the step at that gradient. -/
theorem steps (c : Dev nD) (t : Fin cfg0.N) (y : S64x704.Idx) :
    (outsAt0 m c t.val t.isLt).2.1 y = Cert.Adam.change ((outsAt0 m c t.val t.isLt).1 y) (iblk m c 4 t y) (iblk m c 5 t y) (iblk m c 6 t y)
      ∧ (outsAt0 m c t.val t.isLt).2.2.1 y = Cert.Adam.first ((outsAt0 m c t.val t.isLt).1 y) (iblk m c 5 t y)
      ∧ (outsAt0 m c t.val t.isLt).2.2.2 y = Cert.Adam.second ((outsAt0 m c t.val t.isLt).1 y) (iblk m c 6 t y) := by
  have ht : t.val < 64 := t.isLt
  rcases (by omega : t.val < 16 ∨ 16 ≤ t.val ∧ t.val < 32 ∨ 32 ≤ t.val ∧ t.val < 48 ∨ 48 ≤ t.val) with h|h|h|h
  · rw [outsAt0_A m c t (by omega) (by omega) (by omega) (by omega)]
    frame_out
    pointwise [k0_pay1, k0_pay2, k0_pay3, Cert.Adam.change, Cert.Adam.first, Cert.Adam.second]
  · rw [outsAt0_B m c t (by omega) (by omega) (by omega) (by omega)]
    frame_out
    pointwise [k0_pay4, k0_pay5, k0_pay6, Cert.Adam.change, Cert.Adam.first, Cert.Adam.second]
  · rw [outsAt0_C m c t (by omega) (by omega) (by omega) (by omega)]
    frame_out
    pointwise [k0_pay7, k0_pay8, k0_pay9, Cert.Adam.change, Cert.Adam.first, Cert.Adam.second]
  · rw [outsAt0_D m c t (by omega) (by omega) (by omega) (by omega)]
    frame_out
    pointwise [k0_pay10, k0_pay11, k0_pay12, Cert.Adam.change, Cert.Adam.first, Cert.Adam.second]

/-- The four result arrays hold the summed gradient, the weight's change and the two new moments. -/
theorem final (c : Dev nD) :
    let g := total (m ((c : Thread nD τ).loc main_arg0)) (m ((c : Thread nD τ).loc main_arg1)) (m ((c : Thread nD τ).loc main_arg2)) (m ((c : Thread nD τ).loc main_arg3)); let w := m ((c : Thread nD τ).loc main_arg4)
    let u := m ((c : Thread nD τ).loc main_arg5); let v := m ((c : Thread nD τ).loc main_arg6)
    (dats m 0 c).arrAt 7 cfg0.N = g ∧ (dats m 0 c).arrAt 8 cfg0.N = (fun i => Cert.Adam.change (g i) (w i) (u i) (v i))
      ∧ (dats m 0 c).arrAt 9 cfg0.N = (fun i => Cert.Adam.first (g i) (u i)) ∧ (dats m 0 c).arrAt 10 cfg0.N = fun i => Cert.Adam.second (g i) (v i) := by
  intro g w u v
  refine ⟨(dats m 0 c).arrAt_eq_of_covers 7 _ (by decide +kernel) fun t hf y => ?_,
    (dats m 0 c).arrAt_eq_of_covers 8 _ (by decide +kernel) fun t hf y => ?_,
    (dats m 0 c).arrAt_eq_of_covers 9 _ (by decide +kernel) fun t hf y => ?_,
    (dats m 0 c).arrAt_eq_of_covers 10 _ (by decide +kernel) fun t hf y => ?_⟩
  · blk_simp
    rw [after0_7]
    exact grads m c t y
  · blk_simp
    rw [after0_8]
    refine (steps m c t y).1.trans (congr (congr (congr (congrArg Cert.Adam.change (grads m c t y)) ?_) ?_) ?_)
    all_goals blk_point [iblk, V, places t, w, u, v]
  · blk_simp
    rw [after0_9]
    refine (steps m c t y).2.1.trans (congr (congrArg Cert.Adam.first (grads m c t y)) ?_)
    blk_point [iblk, V, places t, u]
  · blk_simp
    rw [after0_10]
    refine (steps m c t y).2.2.trans (congr (congrArg Cert.Adam.second (grads m c t y)) ?_)
    blk_point [iblk, V, places t, v]

theorem equalResults : Cert.algebraic_AdamFfnInIdeal_AdamFfnInRefIdeal := by
  pair_intro
  · run_from Cert.AdamFfnInIdeal.Value.run_blocks m g
  · refine θ_run_mono (Cert.AdamFfnInRefIdeal.Value.run m' g') fun r hr c => ?_
    refine ⟨(hr c).1.trans ?_, (hr c).2.1.trans ?_, (hr c).2.2.1.trans ?_, (hr c).2.2.2.1.trans ?_, (hr c).2.2.2.2⟩
    · rw [(final m c).1, (hagree c).1, (hagree c).2.1, (hagree c).2.2.1, (hagree c).2.2.2.1]
      funext i
      pointwise [total]
    · unfold Cert.AdamFfnInRefIdeal.Value.res_main_v32
      rw [(final m c).2.1, (hagree c).1, (hagree c).2.1, (hagree c).2.2.1, (hagree c).2.2.2.1, (hagree c).2.2.2.2.1, (hagree c).2.2.2.2.2.1, (hagree c).2.2.2.2.2.2]
      funext i
      pointwise [Cert.Adam.change, Cert.Adam.first, Cert.Adam.second, total]
    · rw [(final m c).2.2.1, (hagree c).1, (hagree c).2.1, (hagree c).2.2.1, (hagree c).2.2.2.1, (hagree c).2.2.2.2.2.1]
      funext i
      pointwise [Cert.Adam.first, total]
    · rw [(final m c).2.2.2, (hagree c).1, (hagree c).2.1, (hagree c).2.2.1, (hagree c).2.2.2.1, (hagree c).2.2.2.2.2.2]
      funext i
      pointwise [Cert.Adam.second, total]

/-- On words the kernel's table of bodies and its idealized form's are one. -/
theorem table_word : @Cert.AdamFfnIn.defs₀ Bits _ Cert.AdamFfnIn.Gen.facts = @Cert.AdamFfnInIdeal.defs₀ Bits _ Cert.AdamFfnInIdeal.Gen.facts := by
  unfold Cert.AdamFfnIn.defs₀ Cert.AdamFfnInIdeal.defs₀
  refine congrArg Defs.onTc (funext fun l => funext fun a => ?_)
  match l, a with
  | ⟨0, _⟩, (t, s) => rfl

theorem frame : Cert.quiescent_AdamFfnIn := fun m g _ => by
  unfold Cert.AdamFfnIn.defs
  rw [table_word]
  exact Cert.AdamFfnInIdeal.Gen.frame (F := Bits) m g

theorem frameIdeal : Cert.quiescent_AdamFfnInIdeal := fun m g _ => Cert.AdamFfnInIdeal.Gen.frame m g

theorem frameReference : Cert.quiescent_AdamFfnInRefIdeal := fun m g _ =>
  (θ_run Cert.AdamFfnInRefIdeal.defs _ _).mono (fun r h => ⟨fun c => (h c).2.2.2.2, sem_eq_zero_of_no_sems (by decide) r.2⟩)
    (Cert.AdamFfnInRefIdeal.Value.run (F := Ideal) m g)

theorem same : Cert.preserves_AdamFfnIn_AdamFfnInIdeal := trivial

end Cert.AdamFfnInClaims

end
-- ==== Proof.AdamFfnOutClaims.lean ====
/- The optimiser's step for the feed-forward layer's output weight: what its tiles hold, and the five claims. -/
module

public import proofs.«01_k».proof.Defs
public import proofs.«01_k».proof.Proof.Gen.AdamFfnOut
public import proofs.«01_k».proof.Proof.Gen.AdamFfnOutIdeal.Value
public import proofs.«01_k».proof.Proof.Gen.AdamFfnOutRefIdeal.Run
public import proofs.«01_k».proof.Proof.Gen.AdamFfnOutRefIdeal.Read
public import Idealize.ShloMosaic.Lib.Pipeline.ValueKit
public import Idealize.ShloMosaic.Lib.Pipeline.ReadBack
public import proofs.«01_k».proof.Proof.Adam
public import Idealize.ShloMosaic.Lib.Quiescent

@[expose] public section

set_option maxRecDepth 16384

noncomputable section

namespace Cert.AdamFfnOutClaims

open Idealize.ShloMosaic Idealize.ShloMosaic.TcCoe Idealize.SL.Sem
open Cert.AdamFfnOutIdeal Cert.AdamFfnOutIdeal.Gen

variable (m : (ℓ : Loc nD τ sig) → Buf (Elt Ideal) ℓ)

/-- The layers' stacks of gradients, each summed, one layer under the other. -/
def total (g0 g1 g2 g3 : S8x352x1024.Idx → EReal) (i : S1408x1024.Idx) : EReal :=
  if h : (i 0).val < 352 then ∑ d : Fin 8, g0 (ix3 d ⟨(i 0).val, h⟩ (i 1))
  else if h : (i 0).val - 352 < 352 then ∑ d : Fin 8, g1 (ix3 d ⟨(i 0).val - 352, h⟩ (i 1))
  else if h : (i 0).val - 352 - 352 < 352 then ∑ d : Fin 8, g2 (ix3 d ⟨(i 0).val - 352 - 352, h⟩ (i 1))
  else ∑ d : Fin 8, g3 (ix3 d ⟨(i 0).val - 352 - 352 - 352, by have : (i 0).val < 1408 := (i 0).isLt; omega⟩ (i 1))

/-- Which blocks each step stages. -/
theorem places : ∀ t : Fin cfg0.N, win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

/-- A layer's stack is staged while its rows are stepped. -/
theorem staged : ∀ t : Fin cfg0.N, (t.val < 11 → win0_0.index t = ![0, t.val, 0])
    ∧ (11 ≤ t.val ∧ t.val < 22 → win0_1.index t = ![0, t.val - 11, 0])
    ∧ (22 ≤ t.val ∧ t.val < 33 → win0_2.index t = ![0, t.val - 22, 0])
    ∧ (33 ≤ t.val → win0_3.index t = ![0, t.val - 33, 0]) :=
  (by decide +kernel : ∀ t : Fin grid0.N, _)

/-- A tile of the first result is the summed gradient. -/
theorem grads (c : Dev nD) (t : Fin cfg0.N) (y : S32x1024.Idx) : (outsAt0 m c t.val t.isLt).1 y
    = total (m ((c : Thread nD τ).loc main_arg0)) (m ((c : Thread nD τ).loc main_arg1)) (m ((c : Thread nD τ).loc main_arg2)) (m ((c : Thread nD τ).loc main_arg3)) (((View.whole main_v0_1).slice (win0_8.rect t)).emb y) := by
  have ht : t.val < 44 := t.isLt
  have hy : (y 0).val < 32 := (y 0).isLt
  have hr : ((((View.whole main_v0_1).slice (win0_8.rect t)).emb y) 0).val = t.val * 32 + (y 0).val := by blk_simp [places t]
  rcases (by omega : t.val < 11 ∨ 11 ≤ t.val ∧ t.val < 22 ∨ 22 ≤ t.val ∧ t.val < 33 ∨ 33 ≤ t.val) with h|h|h|h
  · rw [outsAt0_A m c t (by omega) (by omega) (by omega) (by omega)]
    frame_out
    pointwise [k0_pay13, total]
    rw [dif_pos (by omega)]
    simp only [Fin.sum_univ_eight]
    blk_point [iblk, V, places t, (staged t).1 h]
  · rw [outsAt0_B m c t (by omega) (by omega) (by omega) (by omega)]
    frame_out
    pointwise [k0_pay14, total]
    rw [dif_neg (by omega), dif_pos (by omega)]
    simp only [Fin.sum_univ_eight]
    blk_point [iblk, V, places t, (staged t).2.1 h]
  · rw [outsAt0_C m c t (by omega) (by omega) (by omega) (by omega)]
    frame_out
    pointwise [k0_pay15, total]
    rw [dif_neg (by omega), dif_neg (by omega), dif_pos (by omega)]
    simp only [Fin.sum_univ_eight]
    blk_point [iblk, V, places t, (staged t).2.2.1 h]
  · rw [outsAt0_D m c t (by omega) (by omega) (by omega) (by omega)]
    frame_out
    pointwise [k0_pay16, total]
    rw [dif_neg (by omega), dif_neg (by omega), dif_neg (by omega)]
    simp only [Fin.sum_univ_eight]
    blk_point [iblk, V, places t, (staged t).2.2.2 h]

/-- The tiles of the other results are the step at that gradient. -/
theorem steps (c : Dev nD) (t : Fin cfg0.N) (y : S32x1024.Idx) :
    (outsAt0 m c t.val t.isLt).2.1 y = Cert.Adam.change ((outsAt0 m c t.val t.isLt).1 y) (iblk m c 4 t y) (iblk m c 5 t y) (iblk m c 6 t y)
      ∧ (outsAt0 m c t.val t.isLt).2.2.1 y = Cert.Adam.first ((outsAt0 m c t.val t.isLt).1 y) (iblk m c 5 t y)
      ∧ (outsAt0 m c t.val t.isLt).2.2.2 y = Cert.Adam.second ((outsAt0 m c t.val t.isLt).1 y) (iblk m c 6 t y) := by
  have ht : t.val < 44 := t.isLt
  rcases (by omega : t.val < 11 ∨ 11 ≤ t.val ∧ t.val < 22 ∨ 22 ≤ t.val ∧ t.val < 33 ∨ 33 ≤ t.val) with h|h|h|h
  · rw [outsAt0_A m c t (by omega) (by omega) (by omega) (by omega)]
    frame_out
    pointwise [k0_pay1, k0_pay2, k0_pay3, Cert.Adam.change, Cert.Adam.first, Cert.Adam.second]
  · rw [outsAt0_B m c t (by omega) (by omega) (by omega) (by omega)]
    frame_out
    pointwise [k0_pay4, k0_pay5, k0_pay6, Cert.Adam.change, Cert.Adam.first, Cert.Adam.second]
  · rw [outsAt0_C m c t (by omega) (by omega) (by omega) (by omega)]
    frame_out
    pointwise [k0_pay7, k0_pay8, k0_pay9, Cert.Adam.change, Cert.Adam.first, Cert.Adam.second]
  · rw [outsAt0_D m c t (by omega) (by omega) (by omega) (by omega)]
    frame_out
    pointwise [k0_pay10, k0_pay11, k0_pay12, Cert.Adam.change, Cert.Adam.first, Cert.Adam.second]

/-- The four result arrays hold the summed gradient, the weight's change and the two new moments. -/
theorem final (c : Dev nD) :
    let g := total (m ((c : Thread nD τ).loc main_arg0)) (m ((c : Thread nD τ).loc main_arg1)) (m ((c : Thread nD τ).loc main_arg2)) (m ((c : Thread nD τ).loc main_arg3)); let w := m ((c : Thread nD τ).loc main_arg4)
    let u := m ((c : Thread nD τ).loc main_arg5); let v := m ((c : Thread nD τ).loc main_arg6)
    (dats m 0 c).arrAt 7 cfg0.N = g ∧ (dats m 0 c).arrAt 8 cfg0.N = (fun i => Cert.Adam.change (g i) (w i) (u i) (v i))
      ∧ (dats m 0 c).arrAt 9 cfg0.N = (fun i => Cert.Adam.first (g i) (u i)) ∧ (dats m 0 c).arrAt 10 cfg0.N = fun i => Cert.Adam.second (g i) (v i) := by
  intro g w u v
  refine ⟨(dats m 0 c).arrAt_eq_of_covers 7 _ (by decide +kernel) fun t hf y => ?_,
    (dats m 0 c).arrAt_eq_of_covers 8 _ (by decide +kernel) fun t hf y => ?_,
    (dats m 0 c).arrAt_eq_of_covers 9 _ (by decide +kernel) fun t hf y => ?_,
    (dats m 0 c).arrAt_eq_of_covers 10 _ (by decide +kernel) fun t hf y => ?_⟩
  · blk_simp
    rw [after0_7]
    exact grads m c t y
  · blk_simp
    rw [after0_8]
    refine (steps m c t y).1.trans (congr (congr (congr (congrArg Cert.Adam.change (grads m c t y)) ?_) ?_) ?_)
    all_goals blk_point [iblk, V, places t, w, u, v]
  · blk_simp
    rw [after0_9]
    refine (steps m c t y).2.1.trans (congr (congrArg Cert.Adam.first (grads m c t y)) ?_)
    blk_point [iblk, V, places t, u]
  · blk_simp
    rw [after0_10]
    refine (steps m c t y).2.2.trans (congr (congrArg Cert.Adam.second (grads m c t y)) ?_)
    blk_point [iblk, V, places t, v]

theorem equalResults : Cert.algebraic_AdamFfnOutIdeal_AdamFfnOutRefIdeal := by
  pair_intro
  · run_from Cert.AdamFfnOutIdeal.Value.run_blocks m g
  · refine θ_run_mono (Cert.AdamFfnOutRefIdeal.Value.run m' g') fun r hr c => ?_
    refine ⟨(hr c).1.trans ?_, (hr c).2.1.trans ?_, (hr c).2.2.1.trans ?_, (hr c).2.2.2.1.trans ?_, (hr c).2.2.2.2⟩
    · rw [(final m c).1, (hagree c).1, (hagree c).2.1, (hagree c).2.2.1, (hagree c).2.2.2.1]
      funext i
      pointwise [total]
    · unfold Cert.AdamFfnOutRefIdeal.Value.res_main_v32
      rw [(final m c).2.1, (hagree c).1, (hagree c).2.1, (hagree c).2.2.1, (hagree c).2.2.2.1, (hagree c).2.2.2.2.1, (hagree c).2.2.2.2.2.1, (hagree c).2.2.2.2.2.2]
      funext i
      pointwise [Cert.Adam.change, Cert.Adam.first, Cert.Adam.second, total]
    · rw [(final m c).2.2.1, (hagree c).1, (hagree c).2.1, (hagree c).2.2.1, (hagree c).2.2.2.1, (hagree c).2.2.2.2.2.1]
      funext i
      pointwise [Cert.Adam.first, total]
    · rw [(final m c).2.2.2, (hagree c).1, (hagree c).2.1, (hagree c).2.2.1, (hagree c).2.2.2.1, (hagree c).2.2.2.2.2.2]
      funext i
      pointwise [Cert.Adam.second, total]

/-- On words the kernel's table of bodies and its idealized form's are one. -/
theorem table_word : @Cert.AdamFfnOut.defs₀ Bits _ Cert.AdamFfnOut.Gen.facts = @Cert.AdamFfnOutIdeal.defs₀ Bits _ Cert.AdamFfnOutIdeal.Gen.facts := by
  unfold Cert.AdamFfnOut.defs₀ Cert.AdamFfnOutIdeal.defs₀
  refine congrArg Defs.onTc (funext fun l => funext fun a => ?_)
  match l, a with
  | ⟨0, _⟩, (t, s) => rfl

theorem frame : Cert.quiescent_AdamFfnOut := fun m g _ => by
  unfold Cert.AdamFfnOut.defs
  rw [table_word]
  exact Cert.AdamFfnOutIdeal.Gen.frame (F := Bits) m g

theorem frameIdeal : Cert.quiescent_AdamFfnOutIdeal := fun m g _ => Cert.AdamFfnOutIdeal.Gen.frame m g

theorem frameReference : Cert.quiescent_AdamFfnOutRefIdeal := fun m g _ =>
  (θ_run Cert.AdamFfnOutRefIdeal.defs _ _).mono (fun r h => ⟨fun c => (h c).2.2.2.2, sem_eq_zero_of_no_sems (by decide) r.2⟩)
    (Cert.AdamFfnOutRefIdeal.Value.run (F := Ideal) m g)

theorem same : Cert.preserves_AdamFfnOut_AdamFfnOutIdeal := trivial

end Cert.AdamFfnOutClaims

end
-- ==== Proof.ModFirstClaims.lean ====
/- The first modulation backwards: what each step adds, what the sums over a sequence's rows come to, and the five claims. -/
module

public import proofs.«01_k».proof.Defs
public import proofs.«01_k».proof.Proof.Gen.ModFirst
public import proofs.«01_k».proof.Proof.Gen.ModFirstIdeal.Value
public import proofs.«01_k».proof.Proof.Gen.ModFirstRefIdeal.Run
public import proofs.«01_k».proof.Proof.Gen.ModFirstRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ModFirstClaims

open Idealize.ShloMosaic Idealize.ShloMosaic.TcCoe Idealize.SL.Sem
open Cert.ModFirstIdeal Cert.ModFirstIdeal.Gen

variable (m : (ℓ : Loc nD τ sig) → Buf (Elt Ideal) ℓ)

/-- The gradient of the step's input: what comes past the modulation, and what comes through it, scaled. -/
def input (s : S2x1x1024.Idx → EReal) (dh dx : S2x2048x1024.Idx → EReal) : S2x2048x1024.Idx → EReal := fun i =>
  dx i + dh i * (1 + s (ix3 (i 0) 0 (i 2)))

/-- A sum over the rows of a sequence, for each column. -/
def rows (f : S2x2048x1024.Idx → EReal) : S2x1x1024.Idx → EReal := fun i => ∑ k : Fin 2048, f (ix3 (i 0) k (i 2))

/-- The sum over a sequence's rows below `n`. -/
def below (f : S2x2048x1024.Idx → EReal) (b : Fin 2) (col : Fin 1024) (n : ℕ) : EReal :=
  ∑ k ∈ Finset.range n, f (ix3 b ⟨k % 2048, Nat.mod_lt _ (by decide)⟩ col)

theorem below_zero (f : S2x2048x1024.Idx → EReal) (b : Fin 2) (col : Fin 1024) : below f b col 0 = 0 := rfl

/-- One more block of rows. -/
theorem below_add (f : S2x2048x1024.Idx → EReal) (b : Fin 2) (col : Fin 1024) (n : ℕ) :
    below f b col (n + 256) = below f b col n + ∑ k : Fin 256, f (ix3 b ⟨(n + k.val) % 2048, Nat.mod_lt _ (by decide)⟩ col) := by
  unfold below
  rw [Finset.sum_range_add, Finset.sum_range (n := 256)]

/-- All blocks of rows together. -/
theorem below_all (f : S2x2048x1024.Idx → EReal) (i : S2x1x1024.Idx) : below f (i 0) (i 2) 2048 = rows f i := by
  unfold below rows
  rw [Finset.sum_range]
  refine Finset.sum_congr rfl fun k _ => ?_
  congr 2
  exact Fin.ext (Nat.mod_eq_of_lt k.isLt)

/-- Which blocks each step stages. -/
theorem places : ∀ t : Fin cfg0.N, win0_0.index t = ![t.val / 8, t.val % 8, 0] ∧ win0_1.index t = ![t.val / 8, 0, 0]
    ∧ win0_3.index t = ![t.val / 8, t.val % 8, 0] ∧ win0_4.index t = ![t.val / 8, t.val % 8, 0] ∧ win0_5.index t = ![t.val / 8, t.val % 8, 0]
    ∧ win0_6.index t = ![t.val / 8, 0, 0] ∧ win0_7.index t = ![t.val / 8, 0, 0] :=
  (by decide +kernel : ∀ t : Fin grid0.N, _)

/-- The gradient times the input, entry by entry. -/
def scaled (x dh : S2x2048x1024.Idx → EReal) : S2x2048x1024.Idx → EReal := fun i => x i * dh i

/-- The sequence of a step. -/
def seq (t : Fin cfg0.N) : Fin 2 := ⟨t.val / 8, by have : t.val < 16 := lt_of_lt_of_eq t.isLt N_0; omega⟩

theorem shiftTile (c : Dev nD) (t : Fin cfg0.N) (y : S1x1x1024.Idx) (v : S1x1x1024.Idx → EReal) (n : ℕ) (hn : n = t.val % 8 * 256)
    (hv : v y = below (m ((c : Thread nD τ).loc main_arg3)) (seq t) (y 2) n) :
    k0_pay2 (k0_pay5 (iblk m c 3 t)) v y = below (m ((c : Thread nD τ).loc main_arg3)) (seq t) (y 2) (n + 256) := by
  refine Eq.trans ?_ ((congrArg (· + _) hv).trans (below_add _ _ _ n).symm)
  subst hn
  pointwise [k0_pay2, k0_pay5, k0_pay3]
  blk_point [iblk, V, places t, seq]

theorem scaleTile (c : Dev nD) (t : Fin cfg0.N) (y : S1x1x1024.Idx) (v : S1x1x1024.Idx → EReal) (n : ℕ) (hn : n = t.val % 8 * 256)
    (hv : v y = below (scaled (m ((c : Thread nD τ).loc main_arg0)) (m ((c : Thread nD τ).loc main_arg3))) (seq t) (y 2) n) :
    k0_pay1 (k0_pay9 (iblk m c 0 t) (iblk m c 3 t) v) y
      = below (scaled (m ((c : Thread nD τ).loc main_arg0)) (m ((c : Thread nD τ).loc main_arg3))) (seq t) (y 2) (n + 256) := by
  refine Eq.trans ?_ ((congrArg (· + _) hv).trans (below_add _ _ _ n).symm)
  subst hn
  pointwise [k0_pay1, k0_pay9, k0_pay4, k0_pay3, scaled]
  blk_point [iblk, V, places t, seq]

theorem inputTile (c : Dev nD) (t : Fin cfg0.N) (hf : (cfg0.win 5).flush t = true) (y : S1x256x1024.Idx) : k0_pay6 (iblk m c 1 t) (iblk m c 3 t) (iblk m c 4 t) y
      = input (m ((c : Thread nD τ).loc main_arg1)) (m ((c : Thread nD τ).loc main_arg3)) (m ((c : Thread nD τ).loc main_arg4))
        (((View.whole main_v0_0).slice (win0_5.rect t)).emb y) := by
  pointwise [k0_pay6, k0_pay4, k0_pay3, input]
  blk_point [iblk, V, places t]

/-- What the first step of a sequence leaves in the two sums. -/
theorem first (c : Dev nD) (t : Fin cfg0.N) (h : t.val % 8 = 0) (y : S1x1x1024.Idx) :
    (outsAt0 m c t.val t.isLt).2.1 y = below (scaled (m ((c : Thread nD τ).loc main_arg0)) (m ((c : Thread nD τ).loc main_arg3))) (seq t) (y 2) (t.val % 8 * 256 + 256)
    ∧ (outsAt0 m c t.val t.isLt).2.2 y = below (m ((c : Thread nD τ).loc main_arg3)) (seq t) (y 2) (t.val % 8 * 256 + 256) := by
  rw [outsAt0_A m c t h]
  constructor
  · frame_out
    exact scaleTile m c t y _ _ rfl (by rw [h]; exact Eq.trans (b := (0 : EReal)) (by pointwise [k0_pay7]) (below_zero _ _ _).symm)
  · frame_out
    exact shiftTile m c t y _ _ rfl (by rw [h]; exact Eq.trans (b := (0 : EReal)) (by pointwise [k0_pay8]) (below_zero _ _ _).symm)

/-- What the sums over rows hold after each step. -/
theorem held (c : Dev nD) : ∀ (n : ℕ) (hn : n < cfg0.N) (y : S1x1x1024.Idx),
    (outsAt0 m c n hn).2.1 y = below (scaled (m ((c : Thread nD τ).loc main_arg0)) (m ((c : Thread nD τ).loc main_arg3))) (seq ⟨n, hn⟩) (y 2) (n % 8 * 256 + 256)
    ∧ (outsAt0 m c n hn).2.2 y = below (m ((c : Thread nD τ).loc main_arg3)) (seq ⟨n, hn⟩) (y 2) (n % 8 * 256 + 256) := by
  intro n
  induction n with
  | zero =>
    intro hn y
    exact first m c ⟨0, hn⟩ rfl y
  | succ n ih =>
    intro hn y
    by_cases h : (n + 1) % 8 = 0
    · exact first m c ⟨n + 1, hn⟩ h y
    · rw [outsAt0_B m c ⟨n + 1, hn⟩ h]
      have hs : seq ⟨n + 1, hn⟩ = seq ⟨n, Nat.lt_of_succ_lt hn⟩ := Fin.ext (by dsimp only [seq]; omega)
      have he : (n + 1) % 8 * 256 = n % 8 * 256 + 256 := by omega
      constructor
      · frame_out
        refine scaleTile m c ⟨n + 1, hn⟩ y _ _ rfl ?_
        rw [hs]
        exact ((ih _ y).1).trans (congrArg _ he.symm)
      · frame_out
        refine shiftTile m c ⟨n + 1, hn⟩ y _ _ rfl ?_
        rw [hs]
        exact ((ih _ y).2).trans (congrArg _ he.symm)

theorem final5 (c : Dev nD) : (dats m 0 c).arrAt 5 cfg0.N
    = input (m ((c : Thread nD τ).loc main_arg1)) (m ((c : Thread nD τ).loc main_arg3)) (m ((c : Thread nD τ).loc main_arg4)) := by
  refine (dats m 0 c).arrAt_eq_of_covers 5 _ (by decide +kernel) fun t hf y => ?_
  blk_simp
  rw [after0_5]
  by_cases h : t.val % 8 = 0
  · rw [outsAt0_A m c t h]
    frame_out
    exact inputTile m c t hf y
  · rw [outsAt0_B m c t h]
    frame_out
    exact inputTile m c t hf y

theorem final6 (c : Dev nD) : (dats m 0 c).arrAt 6 cfg0.N = rows (scaled (m ((c : Thread nD τ).loc main_arg0)) (m ((c : Thread nD τ).loc main_arg3))) := by
  refine (dats m 0 c).arrAt_eq_of_covers 6 _ (by decide +kernel) fun t hf y => ?_
  blk_simp
  have h : t.val % 8 = 7 := (flush0_6 t).mp hf
  rw [after0_6]
  refine ((held m c t.val t.isLt y).1).trans ?_
  rw [h]
  refine Eq.trans ?_ (below_all _ _)
  refine congr (congr (congrArg _ ?_) ?_) rfl
  all_goals
    apply Fin.ext
    blk_point [places t, seq]

theorem final7 (c : Dev nD) : (dats m 0 c).arrAt 7 cfg0.N = rows (m ((c : Thread nD τ).loc main_arg3)) := by
  refine (dats m 0 c).arrAt_eq_of_covers 7 _ (by decide +kernel) fun t hf y => ?_
  blk_simp
  have h : t.val % 8 = 7 := (flush0_7 t).mp hf
  rw [after0_7]
  refine ((held m c t.val t.isLt y).2).trans ?_
  rw [h]
  refine Eq.trans ?_ (below_all _ _)
  refine congr (congr (congrArg _ ?_) ?_) rfl
  all_goals
    apply Fin.ext
    blk_point [places t, seq]

theorem equalResults : Cert.algebraic_ModFirstIdeal_ModFirstRefIdeal := by
  pair_intro
  · run_from Cert.ModFirstIdeal.Value.run_blocks m g
  · refine θ_run_mono (Cert.ModFirstRefIdeal.Value.run m' g') fun r hr c => ?_
    refine ⟨(hr c).1.trans ?_, (hr c).2.1.trans ?_, (hr c).2.2.1.trans ?_, (hr c).2.2.2⟩
    · rw [final5 m c, (hagree c).2.1, (hagree c).2.2.2.1, (hagree c).2.2.2.2]
      funext i
      pointwise [input]
    · rw [final6 m c, (hagree c).1, (hagree c).2.2.2.1]
      funext i
      pointwise [rows, scaled]
    · rw [final7 m c, (hagree c).2.2.2.1]
      funext i
      pointwise [rows]

/-- On words the kernel's table of bodies and its idealized form's are one. -/
theorem table_word : @Cert.ModFirst.defs₀ Bits _ Cert.ModFirst.Gen.facts = @Cert.ModFirstIdeal.defs₀ Bits _ Cert.ModFirstIdeal.Gen.facts := by
  unfold Cert.ModFirst.defs₀ Cert.ModFirstIdeal.defs₀
  refine congrArg Defs.onTc (funext fun l => funext fun a => ?_)
  match l, a with
  | ⟨0, _⟩, (t, s) => rfl

theorem frame : Cert.quiescent_ModFirst := fun m g _ => by
  unfold Cert.ModFirst.defs
  rw [table_word]
  exact Cert.ModFirstIdeal.Gen.frame (F := Bits) m g

theorem frameIdeal : Cert.quiescent_ModFirstIdeal := fun m g _ => Cert.ModFirstIdeal.Gen.frame m g

theorem frameReference : Cert.quiescent_ModFirstRefIdeal := fun m g _ =>
  (θ_run Cert.ModFirstRefIdeal.defs _ _).mono (fun r h => ⟨fun c => (h c).2.2.2, sem_eq_zero_of_no_sems (by decide) r.2⟩)
    (Cert.ModFirstRefIdeal.Value.run (F := Ideal) m g)

theorem same : Cert.preserves_ModFirst_ModFirstIdeal := trivial

end Cert.ModFirstClaims

end
-- ==== Proof.LnLossClaims.lean ====
/- The loss: what each step adds, what the sum over the tokens comes to, and the five claims. -/
module

public import proofs.«01_k».proof.Defs
public import proofs.«01_k».proof.Proof.Gen.LnLoss
public import proofs.«01_k».proof.Proof.Gen.LnLossIdeal.Value
public import proofs.«01_k».proof.Proof.Gen.LnLossRefIdeal.Run
public import proofs.«01_k».proof.Proof.Gen.LnLossRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.LnLossClaims

open Idealize.ShloMosaic Idealize.ShloMosaic.TcCoe Idealize.SL.Sem
open Cert.LnLossIdeal Cert.LnLossIdeal.Gen

variable (m : (ℓ : Loc nD τ sig) → Buf (Elt Ideal) ℓ)

/-- The residual sum before the last norm: the stream, scaled, and the gated branch. -/
def mix (x y : S2x2048x1024.Idx → EReal) (gate : S2x1x1024.Idx → EReal) : S2x2048x1024.Idx → EReal := fun i =>
  Ideal.ofBits .f32 0x3FD744FD#32 * x i + (1 + gate (ix3 (i 0) 0 (i 2))) * y i

/-- A token's mean over its features. -/
def mean (f : S2x2048x1024.Idx → EReal) (b : Fin 2) (s : Fin 2048) : EReal :=
  Ideal.div (∑ k : Fin 1024, f (ix3 b s k)) (Ideal.ofBits .f32 0x44800000#32)

/-- Less the token's mean. -/
def centred (f : S2x2048x1024.Idx → EReal) : S2x2048x1024.Idx → EReal := fun i => f i - mean f (i 0) (i 1)

/-- The square, entry by entry. -/
def squared (f : S2x2048x1024.Idx → EReal) : S2x2048x1024.Idx → EReal := fun i => f i * f i

/-- The layer norm, and its distance from the target. -/
def off (f target : S2x2048x1024.Idx → EReal) (g b : S1x1024.Idx → EReal) : S2x2048x1024.Idx → EReal := fun i =>
  centred f i * Ideal.rsqrt (mean (squared (centred f)) (i 0) (i 1) + Ideal.ofBits .f32 0x3727C5AC#32) * g (ix2 0 (i 2))
    + b (ix2 0 (i 2)) - target i

/-- One half. -/
def half : EReal := Ideal.ofBits .f32 0x3F000000#32

/-- A token's error: the mean squared distance from its target. -/
def err (c : Dev nD) : Fin 2 → Fin 2048 → EReal :=
  mean (squared (off (mix (m ((c : Thread nD τ).loc main_arg0)) (m ((c : Thread nD τ).loc main_arg1)) (m ((c : Thread nD τ).loc main_arg3)))
    (m ((c : Thread nD τ).loc main_arg2)) (m ((c : Thread nD τ).loc main_arg4)) (m ((c : Thread nD τ).loc main_arg5))))

/-- The halved errors of the tokens below `n`, in order. -/
def below (f : Fin 2 → Fin 2048 → EReal) (n : ℕ) : EReal :=
  ∑ k ∈ Finset.range n, half * f ⟨k / 2048 % 2, Nat.mod_lt _ (by decide)⟩ ⟨k % 2048, Nat.mod_lt _ (by decide)⟩

theorem below_zero (f : Fin 2 → Fin 2048 → EReal) : below f 0 = 0 := rfl

/-- One more block of tokens. -/
theorem below_add (f : Fin 2 → Fin 2048 → EReal) (n : ℕ) :
    below f (n + 256) = below f n
      + ∑ k : Fin 256, half * f ⟨(n + k.val) / 2048 % 2, Nat.mod_lt _ (by decide)⟩ ⟨(n + k.val) % 2048, Nat.mod_lt _ (by decide)⟩ := by
  unfold below
  rw [Finset.sum_range_add, Finset.sum_range (n := 256)]

theorem half_nonneg : 0 ≤ half := by
  unfold half
  simp [Ideal.ofBits, Ideal.ieee]
  norm_cast
  positivity

theorem half_ne_top : half ≠ ⊤ := by
  unfold half
  simp [Ideal.ofBits, Ideal.ieee]
  exact EReal.coe_ne_top _

/-- Halving goes past a sum. -/
theorem half_sum {ι : Type} (s : Finset ι) (f : ι → EReal) : half * ∑ k ∈ s, f k = ∑ k ∈ s, half * f k := by
  classical
  induction s using Finset.induction_on with
  | empty => rw [Finset.sum_empty, Finset.sum_empty, mul_zero]
  | insert a s ha ih =>
    rw [Finset.sum_insert ha, Finset.sum_insert ha, EReal.left_distrib_of_nonneg_of_ne_top half_nonneg half_ne_top, ih]

/-- All tokens together. -/
theorem below_all (f : Fin 2 → Fin 2048 → EReal) : below f 4096 = half * ∑ b : Fin 2, ∑ s : Fin 2048, f b s := by
  rw [half_sum, Fin.sum_univ_two, half_sum, half_sum]
  unfold below
  rw [show 4096 = 2048 + 2048 from rfl, Finset.sum_range_add, Finset.sum_range, Finset.sum_range]
  refine congrArg₂ (· + ·) (Finset.sum_congr rfl fun k _ => ?_) (Finset.sum_congr rfl fun k _ => ?_)
  · refine congrArg (half * ·) (congrArg₂ f (Fin.ext ?_) (Fin.ext ?_))
    · show k.val / 2048 % 2 = 0
      omega
    · show k.val % 2048 = k.val
      omega
  · refine congrArg (half * ·) (congrArg₂ f (Fin.ext ?_) (Fin.ext ?_))
    · show (2048 + k.val) / 2048 % 2 = 1
      omega
    · show (2048 + k.val) % 2048 = k.val
      omega

/-- Which blocks each step stages. -/
theorem places : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0] ∧ win0_4.index t = ![0, 0] ∧ win0_5.index t = ![0, 0] :=
  (by decide +kernel : ∀ t : Fin grid0.N, _)

/-- The sequence of a step. -/
def seq (t : Fin cfg0.N) : Fin 2 := ⟨t.val / 8, by have : t.val < 16 := lt_of_lt_of_eq t.isLt N_0; omega⟩

/-- The place in its sequence of a row of a step. -/
def row (t : Fin cfg0.N) (r : Fin 256) : Fin 2048 := ⟨t.val % 8 * 256 + r.val, by have := r.isLt; omega⟩

theorem read0 (c : Dev nD) (t : Fin cfg0.N) (r : Fin 256) (k : Fin 1024) :
    iblk m c 0 t (ix3 0 r k) = m ((c : Thread nD τ).loc main_arg0) (ix3 (seq t) (row t r) k) := by
  blk_point [iblk, V, places t, seq, row]

theorem read1 (c : Dev nD) (t : Fin cfg0.N) (r : Fin 256) (k : Fin 1024) :
    iblk m c 1 t (ix3 0 r k) = m ((c : Thread nD τ).loc main_arg1) (ix3 (seq t) (row t r) k) := by
  blk_point [iblk, V, places t, seq, row]

theorem read2 (c : Dev nD) (t : Fin cfg0.N) (r : Fin 256) (k : Fin 1024) :
    iblk m c 2 t (ix3 0 r k) = m ((c : Thread nD τ).loc main_arg2) (ix3 (seq t) (row t r) k) := by
  blk_point [iblk, V, places t, seq, row]

theorem read3 (c : Dev nD) (t : Fin cfg0.N) (k : Fin 1024) :
    iblk m c 3 t (ix3 0 0 k) = m ((c : Thread nD τ).loc main_arg3) (ix3 (seq t) 0 k) := by
  blk_point [iblk, V, places t, seq]

theorem read4 (c : Dev nD) (t : Fin cfg0.N) (k : Fin 1024) :
    iblk m c 4 t (ix2 0 k) = m ((c : Thread nD τ).loc main_arg4) (ix2 0 k) := by
  blk_point [iblk, V, places t]

theorem read5 (c : Dev nD) (t : Fin cfg0.N) (k : Fin 1024) :
    iblk m c 5 t (ix2 0 k) = m ((c : Thread nD τ).loc main_arg5) (ix2 0 k) := by
  blk_point [iblk, V, places t]

/-- The error of a row of a step, over the blocks staged. -/
theorem tileErr (c : Dev nD) (t : Fin cfg0.N) (v : S1x128.Idx → EReal) (y : S1x128.Idx) :
    k0_pay2 (k0_pay3 (iblk m c 2 t)) (iblk m c 4 t) (iblk m c 5 t) (k0_pay4 (iblk m c 0 t) (iblk m c 1 t) (iblk m c 3 t)) v y
      = v y + ∑ r : Fin 256, half * err m c (seq t) (row t r) := by
  pointwise [k0_pay2, k0_pay3, k0_pay4]
  simp only [read0, read1, read2, read3, read4, read5, Finset.univ_unique, Finset.sum_singleton]
  pointwise [half, err, mean, squared, off, centred, mix]

theorem tile (c : Dev nD) (t : Fin cfg0.N) (v : S1x128.Idx → EReal) (y : S1x128.Idx) (hv : v y = below (err m c) (t.val * 256)) :
    k0_pay2 (k0_pay3 (iblk m c 2 t)) (iblk m c 4 t) (iblk m c 5 t) (k0_pay4 (iblk m c 0 t) (iblk m c 1 t) (iblk m c 3 t)) v y
      = below (err m c) (t.val * 256 + 256) := by
  rw [tileErr, hv, below_add]
  refine congrArg (below (err m c) (t.val * 256) + ·) (Finset.sum_congr rfl fun r _ => ?_)
  have ht : t.val < 16 := lt_of_lt_of_eq t.isLt N_0
  have hr := r.isLt
  refine congrArg (half * ·) (congrArg₂ (err m c) (Fin.ext ?_) (Fin.ext ?_))
  · show t.val / 8 = (t.val * 256 + r.val) / 2048 % 2
    omega
  · show t.val % 8 * 256 + r.val = (t.val * 256 + r.val) % 2048
    omega

/-- What the sum over the tokens holds after each step. -/
theorem held (c : Dev nD) : ∀ (n : ℕ) (hn : n < cfg0.N) (y : S1x128.Idx), outsAt0 m c n hn y = below (err m c) (n * 256 + 256) := by
  intro n
  induction n with
  | zero =>
    intro hn y
    refine (congrFun (outsAt0_A m c ⟨0, hn⟩ rfl) y).trans ?_
    rw [Cert.LnLossIdeal.Value.out_A_6_eq]
    exact tile m c ⟨0, hn⟩ _ y (Eq.trans (b := (0 : EReal)) (by pointwise [k0_pay1]) (below_zero _).symm)
  | succ n ih =>
    intro hn y
    have hN : n + 1 < 16 := lt_of_lt_of_eq hn N_0
    refine (congrFun (outsAt0_B m c ⟨n + 1, hn⟩ (by show ¬(n + 1) % 16 = 0; omega)) y).trans ?_
    rw [Cert.LnLossIdeal.Value.out_B_6_eq]
    refine tile m c ⟨n + 1, hn⟩ _ y ((ih _ y).trans (congrArg _ ?_))
    show n * 256 + 256 = (n + 1) * 256
    omega

/-- The loss, in every lane. -/
def loss (c : Dev nD) : S1x128.Idx → EReal := fun _ => half * ∑ b : Fin 2, ∑ s : Fin 2048, err m c b s

theorem final6 (c : Dev nD) : (dats m 0 c).arrAt 6 cfg0.N = loss m c := by
  refine (dats m 0 c).arrAt_eq_of_covers 6 _ (by decide +kernel) fun t hf y => ?_
  blk_simp
  have ht : t.val < 16 := lt_of_lt_of_eq t.isLt N_0
  have h : t.val = 15 := by have := (flush0_6 t).mp hf; omega
  rw [after0_6]
  refine (held m c t.val t.isLt y).trans ?_
  rw [h]
  exact below_all _

theorem equalResults : Cert.algebraic_LnLossIdeal_LnLossRefIdeal := by
  pair_intro
  · run_from Cert.LnLossIdeal.Value.run_blocks m g
  · refine θ_run_mono (Cert.LnLossRefIdeal.Value.run m' g') fun r hr c => ?_
    refine ⟨(hr c).1.trans ?_, (hr c).2⟩
    unfold Cert.LnLossRefIdeal.Value.res_main_v38
    rw [final6 m c, (hagree c).1, (hagree c).2.1, (hagree c).2.2.1, (hagree c).2.2.2.1, (hagree c).2.2.2.2.1, (hagree c).2.2.2.2.2]
    funext i
    pointwise [loss, half, err, mean, squared, off, centred, mix]

/-- On words the kernel's table of bodies and its idealized form's are one. -/
theorem table_word : @Cert.LnLoss.defs₀ Bits _ Cert.LnLoss.Gen.facts = @Cert.LnLossIdeal.defs₀ Bits _ Cert.LnLossIdeal.Gen.facts := by
  unfold Cert.LnLoss.defs₀ Cert.LnLossIdeal.defs₀
  refine congrArg Defs.onTc (funext fun l => funext fun a => ?_)
  match l, a with
  | ⟨0, _⟩, (t, s) => rfl

theorem frame : Cert.quiescent_LnLoss := fun m g _ => by
  unfold Cert.LnLoss.defs
  rw [table_word]
  exact Cert.LnLossIdeal.Gen.frame (F := Bits) m g

theorem frameIdeal : Cert.quiescent_LnLossIdeal := fun m g _ => Cert.LnLossIdeal.Gen.frame m g

theorem frameReference : Cert.quiescent_LnLossRefIdeal := fun m g _ =>
  (θ_run Cert.LnLossRefIdeal.defs _ _).mono (fun r h => ⟨fun c => (h c).2, sem_eq_zero_of_no_sems (by decide) r.2⟩)
    (Cert.LnLossRefIdeal.Value.run (F := Ideal) m g)

theorem same : Cert.preserves_LnLoss_LnLossIdeal := trivial

end Cert.LnLossClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnInIdeal.Value
public import proofs.«01_k».proof.Proof.Gen.FfnOutIdeal.Value
public import proofs.«01_k».proof.Proof.Gen.FfnOutDwIdeal.Value
public import proofs.«01_k».proof.Proof.Gen.FfnOutDxIdeal.Value
public import proofs.«01_k».proof.Proof.Gen.FfnInDwIdeal.Value
public import proofs.«01_k».proof.Proof.Gen.FfnInDxIdeal.Value
public import proofs.«01_k».proof.Proof.Gen.FfnIn
public import proofs.«01_k».proof.Proof.Gen.FfnInIdeal
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.FfnOut
public import proofs.«01_k».proof.Proof.Gen.FfnOutIdeal
public import proofs.«01_k».proof.Proof.Gen.FfnOutIdeal.Frame
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.FfnOutDw
public import proofs.«01_k».proof.Proof.Gen.FfnOutDwIdeal
public import proofs.«01_k».proof.Proof.Gen.FfnOutDwIdeal.Frame
public import proofs.«01_k».proof.Proof.Gen.FfnOutDwRefIdeal
public import proofs.«01_k».proof.Proof.Gen.FfnOutDwRefIdeal.Run
public import proofs.«01_k».proof.Proof.Gen.FfnOutDwRefIdeal.Read
public import proofs.«01_k».proof.Proof.Gen.FfnOutDx
public import proofs.«01_k».proof.Proof.Gen.FfnOutDxIdeal
public import proofs.«01_k».proof.Proof.Gen.FfnOutDxIdeal.Frame
public import proofs.«01_k».proof.Proof.Gen.FfnOutDxRefIdeal
public import proofs.«01_k».proof.Proof.Gen.FfnOutDxRefIdeal.Run
public import proofs.«01_k».proof.Proof.Gen.FfnOutDxRefIdeal.Read
public import proofs.«01_k».proof.Proof.Gen.FfnInDw
public import proofs.«01_k».proof.Proof.Gen.FfnInDwIdeal
public import proofs.«01_k».proof.Proof.Gen.FfnInDwIdeal.Frame
public import proofs.«01_k».proof.Proof.Gen.FfnInDwRefIdeal
public import proofs.«01_k».proof.Proof.Gen.FfnInDwRefIdeal.Run
public import proofs.«01_k».proof.Proof.Gen.FfnInDwRefIdeal.Read
public import proofs.«01_k».proof.Proof.Gen.FfnInDx
public import proofs.«01_k».proof.Proof.Gen.FfnInDxIdeal
public import proofs.«01_k».proof.Proof.Gen.FfnInDxIdeal.Frame
public import proofs.«01_k».proof.Proof.Gen.FfnInDxRefIdeal
public import proofs.«01_k».proof.Proof.Gen.FfnInDxRefIdeal.Run
public import proofs.«01_k».proof.Proof.Gen.FfnInDxRefIdeal.Read
public import proofs.«01_k».proof.Proof.Gen.HgrnInIdeal.Value
public import proofs.«01_k».proof.Proof.Gen.HgrnIn
public import proofs.«01_k».proof.Proof.Gen.HgrnInIdeal
public import proofs.«01_k».proof.Proof.Gen.HgrnInIdeal.Frame
public import proofs.«01_k».proof.Proof.Gen.HgrnInRefIdeal
public import proofs.«01_k».proof.Proof.Gen.HgrnInRefIdeal.Run
public import proofs.«01_k».proof.Proof.Gen.HgrnInRefIdeal.Read
public import proofs.«01_k».proof.Proof.Gen.HgrnInDxIdeal.Value
public import proofs.«01_k».proof.Proof.Gen.HgrnInDx
public import proofs.«01_k».proof.Proof.Gen.HgrnInDxIdeal
public import proofs.«01_k».proof.Proof.Gen.HgrnInDxIdeal.Frame
public import proofs.«01_k».proof.Proof.Gen.HgrnInDxRefIdeal
public import proofs.«01_k».proof.Proof.Gen.HgrnInDxRefIdeal.Run
public import proofs.«01_k».proof.Proof.Gen.HgrnInDxRefIdeal.Read
public import proofs.«01_k».proof.Proof.Gen.MixDwIdeal.Value
public import proofs.«01_k».proof.Proof.Gen.MixDw
public import proofs.«01_k».proof.Proof.Gen.MixDwIdeal
public import proofs.«01_k».proof.Proof.Gen.MixDwIdeal.Frame
public import proofs.«01_k».proof.Proof.Gen.MixDwRefIdeal
public import proofs.«01_k».proof.Proof.Gen.MixDwRefIdeal.Run
public import proofs.«01_k».proof.Proof.Gen.MixDwRefIdeal.Read
public import proofs.«01_k».proof.Proof.Gen.MixOutIdeal.Value
public import proofs.«01_k».proof.Proof.Gen.MixOut
public import proofs.«01_k».proof.Proof.Gen.MixOutIdeal
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixOutDxIdeal.Value
public import proofs.«01_k».proof.Proof.Gen.MixOutDx
public import proofs.«01_k».proof.Proof.Gen.MixOutDxIdeal
public import proofs.«01_k».proof.Proof.Gen.MixOutDxIdeal.Frame
public import proofs.«01_k».proof.Proof.Gen.MixOutDxRefIdeal
public import proofs.«01_k».proof.Proof.Gen.MixOutDxRefIdeal.Run
public import proofs.«01_k».proof.Proof.Gen.MixOutDxRefIdeal.Read
public import proofs.«01_k».proof.Proof.Gen.AdamQNormIdeal.Value
public import proofs.«01_k».proof.Proof.Gen.AdamQNorm
public import proofs.«01_k».proof.Proof.Gen.AdamQNormIdeal
public import proofs.«01_k».proof.Proof.Gen.AdamQNormIdeal.Frame
public import proofs.«01_k».proof.Proof.Gen.AdamQNormRefIdeal
public import proofs.«01_k».proof.Proof.Gen.AdamQNormRefIdeal.Run
public import proofs.«01_k».proof.Proof.Gen.AdamQNormRefIdeal.Read
public import proofs.«01_k».proof.Proof.Gen.AdamKvNormIdeal.Value
public import proofs.«01_k».proof.Proof.Gen.AdamKvNorm
public import proofs.«01_k».proof.Proof.Gen.AdamKvNormIdeal
public import proofs.«01_k».proof.Proof.Gen.AdamKvNormIdeal.Frame
public import proofs.«01_k».proof.Proof.Gen.AdamKvNormRefIdeal
public import proofs.«01_k».proof.Proof.Gen.AdamKvNormRefIdeal.Run
public import proofs.«01_k».proof.Proof.Gen.AdamKvNormRefIdeal.Read
public import proofs.«01_k».proof.Proof.Gen.AdamGNormIdeal.Value
public import proofs.«01_k».proof.Proof.Gen.AdamGNorm
public import proofs.«01_k».proof.Proof.Gen.AdamGNormIdeal
public import proofs.«01_k».proof.Proof.Gen.AdamGNormIdeal.Frame
public import proofs.«01_k».proof.Proof.Gen.AdamGNormRefIdeal
public import proofs.«01_k».proof.Proof.Gen.AdamGNormRefIdeal.Run
public import proofs.«01_k».proof.Proof.Gen.AdamGNormRefIdeal.Read
public import proofs.«01_k».proof.Proof.Gen.AdamNormIdeal.Value
public import proofs.«01_k».proof.Proof.Gen.AdamNorm
public import proofs.«01_k».proof.Proof.Gen.AdamNormIdeal
public import proofs.«01_k».proof.Proof.Gen.AdamNormIdeal.Frame
public import proofs.«01_k».proof.Proof.Gen.AdamNormRefIdeal
public import proofs.«01_k».proof.Proof.Gen.AdamNormRefIdeal.Run
public import proofs.«01_k».proof.Proof.Gen.AdamNormRefIdeal.Read
public import proofs.«01_k».proof.Proof.Gen.AdamAdaWIdeal.Value
public import proofs.«01_k».proof.Proof.Gen.AdamAdaW
public import proofs.«01_k».proof.Proof.Gen.AdamAdaWIdeal
public import proofs.«01_k».proof.Proof.Gen.AdamAdaWIdeal.Frame
public import proofs.«01_k».proof.Proof.Gen.AdamAdaWRefIdeal
public import proofs.«01_k».proof.Proof.Gen.AdamAdaWRefIdeal.Run
public import proofs.«01_k».proof.Proof.Gen.AdamAdaWRefIdeal.Read
public import proofs.«01_k».proof.Proof.Gen.AdamAdaBIdeal.Value
public import proofs.«01_k».proof.Proof.Gen.AdamAdaB
public import proofs.«01_k».proof.Proof.Gen.AdamAdaBIdeal
public import proofs.«01_k».proof.Proof.Gen.AdamAdaBIdeal.Frame
public import proofs.«01_k».proof.Proof.Gen.AdamAdaBRefIdeal
public import proofs.«01_k».proof.Proof.Gen.AdamAdaBRefIdeal.Run
public import proofs.«01_k».proof.Proof.Gen.AdamAdaBRefIdeal.Read
public import proofs.«01_k».proof.Proof.Gen.AdamMlaInIdeal.Value
public import proofs.«01_k».proof.Proof.Gen.AdamMlaIn
public import proofs.«01_k».proof.Proof.Gen.AdamMlaInIdeal
public import proofs.«01_k».proof.Proof.Gen.AdamMlaInIdeal.Frame
public import proofs.«01_k».proof.Proof.Gen.AdamMlaInRefIdeal
public import proofs.«01_k».proof.Proof.Gen.AdamMlaInRefIdeal.Run
public import proofs.«01_k».proof.Proof.Gen.AdamMlaInRefIdeal.Read
public import proofs.«01_k».proof.Proof.Gen.AdamMlaQIdeal.Value
public import proofs.«01_k».proof.Proof.Gen.AdamMlaQ
public import proofs.«01_k».proof.Proof.Gen.AdamMlaQIdeal
public import proofs.«01_k».proof.Proof.Gen.AdamMlaQIdeal.Frame
public import proofs.«01_k».proof.Proof.Gen.AdamMlaQRefIdeal
public import proofs.«01_k».proof.Proof.Gen.AdamMlaQRefIdeal.Run
public import proofs.«01_k».proof.Proof.Gen.AdamMlaQRefIdeal.Read
public import proofs.«01_k».proof.Proof.Gen.AdamMlaKvIdeal.Value
public import proofs.«01_k».proof.Proof.Gen.AdamMlaKv
public import proofs.«01_k».proof.Proof.Gen.AdamMlaKvIdeal
public import proofs.«01_k».proof.Proof.Gen.AdamMlaKvIdeal.Frame
public import proofs.«01_k».proof.Proof.Gen.AdamMlaKvRefIdeal
public import proofs.«01_k».proof.Proof.Gen.AdamMlaKvRefIdeal.Run
public import proofs.«01_k».proof.Proof.Gen.AdamMlaKvRefIdeal.Read
public import proofs.«01_k».proof.Proof.Gen.AdamOutIdeal.Value
public import proofs.«01_k».proof.Proof.Gen.AdamOut
public import proofs.«01_k».proof.Proof.Gen.AdamOutIdeal
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamHgrnInIdeal.Value
public import proofs.«01_k».proof.Proof.Gen.AdamHgrnIn
public import proofs.«01_k».proof.Proof.Gen.AdamHgrnInIdeal
public import proofs.«01_k».proof.Proof.Gen.AdamHgrnInIdeal.Frame
public import proofs.«01_k».proof.Proof.Gen.AdamHgrnInRefIdeal
public import proofs.«01_k».proof.Proof.Gen.AdamHgrnInRefIdeal.Run
public import proofs.«01_k».proof.Proof.Gen.AdamHgrnInRefIdeal.Read
public import proofs.«01_k».proof.Proof.Gen.AdamFfnInIdeal.Value
public import proofs.«01_k».proof.Proof.Gen.AdamFfnIn
public import proofs.«01_k».proof.Proof.Gen.AdamFfnInIdeal
public import proofs.«01_k».proof.Proof.Gen.AdamFfnInIdeal.Frame
public import proofs.«01_k».proof.Proof.Gen.AdamFfnInRefIdeal
public import proofs.«01_k».proof.Proof.Gen.AdamFfnInRefIdeal.Run
public import proofs.«01_k».proof.Proof.Gen.AdamFfnInRefIdeal.Read
public import proofs.«01_k».proof.Proof.Gen.AdamFfnOutIdeal.Value
public import proofs.«01_k».proof.Proof.Gen.ModFirstIdeal.Value
public import proofs.«01_k».proof.Proof.Gen.ModFirst
public import proofs.«01_k».proof.Proof.Gen.ModFirstIdeal
public import proofs.«01_k».proof.Proof.Gen.ModFirstIdeal.Frame
public import proofs.«01_k».proof.Proof.Gen.ModFirstRefIdeal
public import proofs.«01_k».proof.Proof.Gen.ModFirstRefIdeal.Run
public import proofs.«01_k».proof.Proof.Gen.ModFirstRefIdeal.Read
public import proofs.«01_k».proof.Proof.Gen.LnLossIdeal.Value
public import proofs.«01_k».proof.Proof.Gen.LnLoss
public import proofs.«01_k».proof.Proof.Gen.LnLossIdeal
public import proofs.«01_k».proof.Proof.Gen.LnLossIdeal.Frame
public import proofs.«01_k».proof.Proof.Gen.LnLossRefIdeal
public import proofs.«01_k».proof.Proof.Gen.LnLossRefIdeal.Run
public import proofs.«01_k».proof.Proof.Gen.LnLossRefIdeal.Read
public import proofs.«01_k».proof.Proof.Gen.AdamFfnOut
public import proofs.«01_k».proof.Proof.Gen.AdamFfnOutIdeal
public import proofs.«01_k».proof.Proof.Gen.AdamFfnOutIdeal.Frame
public import proofs.«01_k».proof.Proof.Gen.AdamFfnOutRefIdeal
public import proofs.«01_k».proof.Proof.Gen.AdamFfnOutRefIdeal.Run
public import proofs.«01_k».proof.Proof.Gen.AdamFfnOutRefIdeal.Read
public import proofs.«01_k».proof.Proof.AttnClaims
public import proofs.«01_k».proof.Proof.FfnInClaims
public import proofs.«01_k».proof.Proof.FfnOutClaims
public import proofs.«01_k».proof.Proof.FfnOutDwClaims
public import proofs.«01_k».proof.Proof.FfnOutDxClaims
public import proofs.«01_k».proof.Proof.FfnInDwClaims
public import proofs.«01_k».proof.Proof.FfnInDxClaims
public import proofs.«01_k».proof.Proof.HgrnInClaims
public import proofs.«01_k».proof.Proof.HgrnInDxClaims
public import proofs.«01_k».proof.Proof.MixDwClaims
public import proofs.«01_k».proof.Proof.MixOutClaims
public import proofs.«01_k».proof.Proof.MixOutDxClaims
public import proofs.«01_k».proof.Proof.AdamQNormClaims
public import proofs.«01_k».proof.Proof.AdamKvNormClaims
public import proofs.«01_k».proof.Proof.AdamGNormClaims
public import proofs.«01_k».proof.Proof.AdamNormClaims
public import proofs.«01_k».proof.Proof.AdamAdaWClaims
public import proofs.«01_k».proof.Proof.AdamAdaBClaims
public import proofs.«01_k».proof.Proof.AdamMlaInClaims
public import proofs.«01_k».proof.Proof.AdamMlaQClaims
public import proofs.«01_k».proof.Proof.AdamMlaKvClaims
public import proofs.«01_k».proof.Proof.AdamOutClaims
public import proofs.«01_k».proof.Proof.AdamHgrnInClaims
public import proofs.«01_k».proof.Proof.AdamFfnInClaims
public import proofs.«01_k».proof.Proof.AdamFfnOutClaims
public import proofs.«01_k».proof.Proof.ModFirstClaims
public import proofs.«01_k».proof.Proof.LnLossClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.FfnOutDw.Gen.facts, Cert.FfnOutDwIdeal.Gen.facts, Cert.FfnOutDwRefIdeal.Gen.facts,
  Cert.FfnOutDx.Gen.facts, Cert.FfnOutDxIdeal.Gen.facts, Cert.FfnOutDxRefIdeal.Gen.facts,
  Cert.FfnInDw.Gen.facts, Cert.FfnInDwIdeal.Gen.facts, Cert.FfnInDwRefIdeal.Gen.facts,
  Cert.FfnInDx.Gen.facts, Cert.FfnInDxIdeal.Gen.facts, Cert.FfnInDxRefIdeal.Gen.facts,
  Cert.HgrnIn.Gen.facts, Cert.HgrnInIdeal.Gen.facts, Cert.HgrnInRefIdeal.Gen.facts,
  Cert.HgrnInDx.Gen.facts, Cert.HgrnInDxIdeal.Gen.facts, Cert.HgrnInDxRefIdeal.Gen.facts,
  Cert.MixDw.Gen.facts, Cert.MixDwIdeal.Gen.facts, Cert.MixDwRefIdeal.Gen.facts,
  Cert.MixOut.Gen.facts, Cert.MixOutIdeal.Gen.facts, Cert.MixOutRefIdeal.Gen.facts,
  Cert.MixOutDx.Gen.facts, Cert.MixOutDxIdeal.Gen.facts, Cert.MixOutDxRefIdeal.Gen.facts,
  Cert.AdamQNorm.Gen.facts, Cert.AdamQNormIdeal.Gen.facts, Cert.AdamQNormRefIdeal.Gen.facts,
  Cert.AdamKvNorm.Gen.facts, Cert.AdamKvNormIdeal.Gen.facts, Cert.AdamKvNormRefIdeal.Gen.facts,
  Cert.AdamGNorm.Gen.facts, Cert.AdamGNormIdeal.Gen.facts, Cert.AdamGNormRefIdeal.Gen.facts,
  Cert.AdamNorm.Gen.facts, Cert.AdamNormIdeal.Gen.facts, Cert.AdamNormRefIdeal.Gen.facts,
  Cert.AdamAdaW.Gen.facts, Cert.AdamAdaWIdeal.Gen.facts, Cert.AdamAdaWRefIdeal.Gen.facts,
  Cert.AdamAdaB.Gen.facts, Cert.AdamAdaBIdeal.Gen.facts, Cert.AdamAdaBRefIdeal.Gen.facts,
  Cert.AdamMlaIn.Gen.facts, Cert.AdamMlaInIdeal.Gen.facts, Cert.AdamMlaInRefIdeal.Gen.facts,
  Cert.AdamMlaQ.Gen.facts, Cert.AdamMlaQIdeal.Gen.facts, Cert.AdamMlaQRefIdeal.Gen.facts,
  Cert.AdamMlaKv.Gen.facts, Cert.AdamMlaKvIdeal.Gen.facts, Cert.AdamMlaKvRefIdeal.Gen.facts,
  Cert.AdamOut.Gen.facts, Cert.AdamOutIdeal.Gen.facts, Cert.AdamOutRefIdeal.Gen.facts,
  Cert.AdamHgrnIn.Gen.facts, Cert.AdamHgrnInIdeal.Gen.facts, Cert.AdamHgrnInRefIdeal.Gen.facts,
  Cert.AdamFfnIn.Gen.facts, Cert.AdamFfnInIdeal.Gen.facts, Cert.AdamFfnInRefIdeal.Gen.facts,
  Cert.AdamFfnOut.Gen.facts, Cert.AdamFfnOutIdeal.Gen.facts, Cert.AdamFfnOutRefIdeal.Gen.facts,
  Cert.ModFirst.Gen.facts, Cert.ModFirstIdeal.Gen.facts, Cert.ModFirstRefIdeal.Gen.facts,
  Cert.LnLoss.Gen.facts, Cert.LnLossIdeal.Gen.facts, Cert.LnLossRefIdeal.Gen.facts,
  Cert.AttnClaims.frameKernel, Cert.AttnClaims.frameIdeal, Cert.AttnClaims.frameReference,
  Cert.FfnInClaims.frame, Cert.FfnInClaims.frameIdeal, Cert.FfnInClaims.frameReference,
  Cert.FfnOutClaims.frame, Cert.FfnOutClaims.frameIdeal, Cert.FfnOutClaims.frameReference,
  Cert.FfnOutDwClaims.frame, Cert.FfnOutDwClaims.frameIdeal, Cert.FfnOutDwClaims.frameReference,
  Cert.FfnOutDxClaims.frame, Cert.FfnOutDxClaims.frameIdeal, Cert.FfnOutDxClaims.frameReference,
  Cert.FfnInDwClaims.frame, Cert.FfnInDwClaims.frameIdeal, Cert.FfnInDwClaims.frameReference,
  Cert.FfnInDxClaims.frame, Cert.FfnInDxClaims.frameIdeal, Cert.FfnInDxClaims.frameReference,
  Cert.HgrnInClaims.frame, Cert.HgrnInClaims.frameIdeal, Cert.HgrnInClaims.frameReference,
  Cert.HgrnInDxClaims.frame, Cert.HgrnInDxClaims.frameIdeal, Cert.HgrnInDxClaims.frameReference,
  Cert.MixDwClaims.frame, Cert.MixDwClaims.frameIdeal, Cert.MixDwClaims.frameReference,
  Cert.MixOutClaims.frame, Cert.MixOutClaims.frameIdeal, Cert.MixOutClaims.frameReference,
  Cert.MixOutDxClaims.frame, Cert.MixOutDxClaims.frameIdeal, Cert.MixOutDxClaims.frameReference,
  Cert.AdamQNormClaims.frame, Cert.AdamQNormClaims.frameIdeal, Cert.AdamQNormClaims.frameReference,
  Cert.AdamKvNormClaims.frame, Cert.AdamKvNormClaims.frameIdeal, Cert.AdamKvNormClaims.frameReference,
  Cert.AdamGNormClaims.frame, Cert.AdamGNormClaims.frameIdeal, Cert.AdamGNormClaims.frameReference,
  Cert.AdamNormClaims.frame, Cert.AdamNormClaims.frameIdeal, Cert.AdamNormClaims.frameReference,
  Cert.AdamAdaWClaims.frame, Cert.AdamAdaWClaims.frameIdeal, Cert.AdamAdaWClaims.frameReference,
  Cert.AdamAdaBClaims.frame, Cert.AdamAdaBClaims.frameIdeal, Cert.AdamAdaBClaims.frameReference,
  Cert.AdamMlaInClaims.frame, Cert.AdamMlaInClaims.frameIdeal, Cert.AdamMlaInClaims.frameReference,
  Cert.AdamMlaQClaims.frame, Cert.AdamMlaQClaims.frameIdeal, Cert.AdamMlaQClaims.frameReference,
  Cert.AdamMlaKvClaims.frame, Cert.AdamMlaKvClaims.frameIdeal, Cert.AdamMlaKvClaims.frameReference,
  Cert.AdamOutClaims.frame, Cert.AdamOutClaims.frameIdeal, Cert.AdamOutClaims.frameReference,
  Cert.AdamHgrnInClaims.frame, Cert.AdamHgrnInClaims.frameIdeal, Cert.AdamHgrnInClaims.frameReference,
  Cert.AdamFfnInClaims.frame, Cert.AdamFfnInClaims.frameIdeal, Cert.AdamFfnInClaims.frameReference,
  Cert.AdamFfnOutClaims.frame, Cert.AdamFfnOutClaims.frameIdeal, Cert.AdamFfnOutClaims.frameReference,
  Cert.ModFirstClaims.frame, Cert.ModFirstClaims.frameIdeal, Cert.ModFirstClaims.frameReference,
  Cert.LnLossClaims.frame, Cert.LnLossClaims.frameIdeal, Cert.LnLossClaims.frameReference,
  Cert.AttnClaims.maskNamed, Cert.AttnClaims.equalResults,
  Cert.FfnInClaims.same, Cert.FfnInClaims.equalResults,
  Cert.FfnOutClaims.same, Cert.FfnOutClaims.equalResults,
  Cert.FfnOutDwClaims.same, Cert.FfnOutDwClaims.equalResults,
  Cert.FfnOutDxClaims.same, Cert.FfnOutDxClaims.equalResults,
  Cert.FfnInDwClaims.same, Cert.FfnInDwClaims.equalResults,
  Cert.FfnInDxClaims.same, Cert.FfnInDxClaims.equalResults,
  Cert.HgrnInClaims.same, Cert.HgrnInClaims.equalResults,
  Cert.HgrnInDxClaims.same, Cert.HgrnInDxClaims.equalResults,
  Cert.MixDwClaims.same, Cert.MixDwClaims.equalResults,
  Cert.MixOutClaims.same, Cert.MixOutClaims.equalResults,
  Cert.MixOutDxClaims.same, Cert.MixOutDxClaims.equalResults,
  Cert.AdamQNormClaims.same, Cert.AdamQNormClaims.equalResults,
  Cert.AdamKvNormClaims.same, Cert.AdamKvNormClaims.equalResults,
  Cert.AdamGNormClaims.same, Cert.AdamGNormClaims.equalResults,
  Cert.AdamNormClaims.same, Cert.AdamNormClaims.equalResults,
  Cert.AdamAdaWClaims.same, Cert.AdamAdaWClaims.equalResults,
  Cert.AdamAdaBClaims.same, Cert.AdamAdaBClaims.equalResults,
  Cert.AdamMlaInClaims.same, Cert.AdamMlaInClaims.equalResults,
  Cert.AdamMlaQClaims.same, Cert.AdamMlaQClaims.equalResults,
  Cert.AdamMlaKvClaims.same, Cert.AdamMlaKvClaims.equalResults,
  Cert.AdamOutClaims.same, Cert.AdamOutClaims.equalResults,
  Cert.AdamHgrnInClaims.same, Cert.AdamHgrnInClaims.equalResults,
  Cert.AdamFfnInClaims.same, Cert.AdamFfnInClaims.equalResults,
  Cert.AdamFfnOutClaims.same, Cert.AdamFfnOutClaims.equalResults,
  Cert.ModFirstClaims.same, Cert.ModFirstClaims.equalResults,
  Cert.LnLossClaims.same, Cert.LnLossClaims.equalResults⟩

end Cert.Proof

end
